-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite [hPre_finite : Cert.Pre_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite [hPre_finite : Cert.Pre_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite [hPre_finite : Cert.Pre_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite [hPre_finite : Cert.Pre_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite [hPre_finite : Cert.Pre_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite [hPre_finite : Cert.Pre_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite [hKernel10Ideal : Cert.Kernel10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite [hReference10Ideal : Cert.Reference10Ideal.Facts] [hPre_finite : Cert.Pre_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_finite [hKernel11Ideal : Cert.Kernel11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_finite [hReference11Ideal : Cert.Reference11Ideal.Facts] [hPre_finite : Cert.Pre_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite [hKernel12Ideal : Cert.Kernel12Ideal.Facts] [hPre_finite : Cert.Pre_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite [hReference12Ideal : Cert.Reference12Ideal.Facts] [hPre_finite : Cert.Pre_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)) (v4 : (c : Dev Cert.Kernel2Ideal.nD) → Buf (Elt Ideal) ((c.tc : Thread Cert.Kernel2Ideal.nD Cert.Kernel2Ideal.τ).loc Cert.Kernel2Ideal.main_v27_4)) (v5 : (c : Dev Cert.Kernel2Ideal.nD) → Buf (Elt Ideal) ((c.tc : Thread Cert.Kernel2Ideal.nD Cert.Kernel2Ideal.τ).loc Cert.Kernel2Ideal.main_v27_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_v27_4) = v4 c
          ∧ r.2.mem ((c.tc : Thread Cert.Kernel2Ideal.nD Cert.Kernel2Ideal.τ).loc Cert.Kernel2Ideal.main_v27_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_v50) = v4 c
          ∧ r.2.mem ((c.tc : Thread Cert.Reference2Ideal.nD Cert.Reference2Ideal.τ).loc Cert.Reference2Ideal.main_v91) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v40)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v40) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v107) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v20_0)) (v1 : (c : Dev Cert.Kernel7Ideal.nD) → Buf (Elt Ideal) ((c.tc : Thread Cert.Kernel7Ideal.nD Cert.Kernel7Ideal.τ).loc Cert.Kernel7Ideal.main_v20_1)) (v2 : (c : Dev Cert.Kernel7Ideal.nD) → Buf (Elt Ideal) ((c.tc : Thread Cert.Kernel7Ideal.nD Cert.Kernel7Ideal.τ).loc Cert.Kernel7Ideal.main_v20_2)) (v3 : (c : Dev Cert.Kernel7Ideal.nD) → Buf (Elt Ideal) ((c.tc : Thread Cert.Kernel7Ideal.nD Cert.Kernel7Ideal.τ).loc Cert.Kernel7Ideal.main_v20_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20_0) = v0 c
          ∧ r.2.mem ((c.tc : Thread Cert.Kernel7Ideal.nD Cert.Kernel7Ideal.τ).loc Cert.Kernel7Ideal.main_v20_1) = v1 c
          ∧ r.2.mem ((c.tc : Thread Cert.Kernel7Ideal.nD Cert.Kernel7Ideal.τ).loc Cert.Kernel7Ideal.main_v20_2) = v2 c
          ∧ r.2.mem ((c.tc : Thread Cert.Kernel7Ideal.nD Cert.Kernel7Ideal.τ).loc Cert.Kernel7Ideal.main_v20_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v76) = v0 c
          ∧ r.2.mem ((c.tc : Thread Cert.Reference7Ideal.nD Cert.Reference7Ideal.τ).loc Cert.Reference7Ideal.main_v72) = v1 c
          ∧ r.2.mem ((c.tc : Thread Cert.Reference7Ideal.nD Cert.Reference7Ideal.τ).loc Cert.Reference7Ideal.main_v77) = v2 c
          ∧ r.2.mem ((c.tc : Thread Cert.Reference7Ideal.nD Cert.Reference7Ideal.τ).loc Cert.Reference7Ideal.main_v78) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v20_0)) (v1 : (c : Dev Cert.Kernel8Ideal.nD) → Buf (Elt Ideal) ((c.tc : Thread Cert.Kernel8Ideal.nD Cert.Kernel8Ideal.τ).loc Cert.Kernel8Ideal.main_v20_1)) (v2 : (c : Dev Cert.Kernel8Ideal.nD) → Buf (Elt Ideal) ((c.tc : Thread Cert.Kernel8Ideal.nD Cert.Kernel8Ideal.τ).loc Cert.Kernel8Ideal.main_v20_2)) (v3 : (c : Dev Cert.Kernel8Ideal.nD) → Buf (Elt Ideal) ((c.tc : Thread Cert.Kernel8Ideal.nD Cert.Kernel8Ideal.τ).loc Cert.Kernel8Ideal.main_v20_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_0) = v0 c
          ∧ r.2.mem ((c.tc : Thread Cert.Kernel8Ideal.nD Cert.Kernel8Ideal.τ).loc Cert.Kernel8Ideal.main_v20_1) = v1 c
          ∧ r.2.mem ((c.tc : Thread Cert.Kernel8Ideal.nD Cert.Kernel8Ideal.τ).loc Cert.Kernel8Ideal.main_v20_2) = v2 c
          ∧ r.2.mem ((c.tc : Thread Cert.Kernel8Ideal.nD Cert.Kernel8Ideal.τ).loc Cert.Kernel8Ideal.main_v20_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v76) = v0 c
          ∧ r.2.mem ((c.tc : Thread Cert.Reference8Ideal.nD Cert.Reference8Ideal.τ).loc Cert.Reference8Ideal.main_v72) = v1 c
          ∧ r.2.mem ((c.tc : Thread Cert.Reference8Ideal.nD Cert.Reference8Ideal.τ).loc Cert.Reference8Ideal.main_v77) = v2 c
          ∧ r.2.mem ((c.tc : Thread Cert.Reference8Ideal.nD Cert.Reference8Ideal.τ).loc Cert.Reference8Ideal.main_v78) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v20_0)) (v1 : (c : Dev Cert.Kernel9Ideal.nD) → Buf (Elt Ideal) ((c.tc : Thread Cert.Kernel9Ideal.nD Cert.Kernel9Ideal.τ).loc Cert.Kernel9Ideal.main_v20_1)) (v2 : (c : Dev Cert.Kernel9Ideal.nD) → Buf (Elt Ideal) ((c.tc : Thread Cert.Kernel9Ideal.nD Cert.Kernel9Ideal.τ).loc Cert.Kernel9Ideal.main_v20_2)) (v3 : (c : Dev Cert.Kernel9Ideal.nD) → Buf (Elt Ideal) ((c.tc : Thread Cert.Kernel9Ideal.nD Cert.Kernel9Ideal.τ).loc Cert.Kernel9Ideal.main_v20_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v20_0) = v0 c
          ∧ r.2.mem ((c.tc : Thread Cert.Kernel9Ideal.nD Cert.Kernel9Ideal.τ).loc Cert.Kernel9Ideal.main_v20_1) = v1 c
          ∧ r.2.mem ((c.tc : Thread Cert.Kernel9Ideal.nD Cert.Kernel9Ideal.τ).loc Cert.Kernel9Ideal.main_v20_2) = v2 c
          ∧ r.2.mem ((c.tc : Thread Cert.Kernel9Ideal.nD Cert.Kernel9Ideal.τ).loc Cert.Kernel9Ideal.main_v20_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v76) = v0 c
          ∧ r.2.mem ((c.tc : Thread Cert.Reference9Ideal.nD Cert.Reference9Ideal.τ).loc Cert.Reference9Ideal.main_v72) = v1 c
          ∧ r.2.mem ((c.tc : Thread Cert.Reference9Ideal.nD Cert.Reference9Ideal.τ).loc Cert.Reference9Ideal.main_v77) = v2 c
          ∧ r.2.mem ((c.tc : Thread Cert.Reference9Ideal.nD Cert.Reference9Ideal.τ).loc Cert.Reference9Ideal.main_v78) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite [hKernel10Ideal : Cert.Kernel10Ideal.Facts] [hReference10Ideal : Cert.Reference10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v27_0)) (v1 : (c : Dev Cert.Kernel10Ideal.nD) → Buf (Elt Ideal) ((c.tc : Thread Cert.Kernel10Ideal.nD Cert.Kernel10Ideal.τ).loc Cert.Kernel10Ideal.main_v27_1)) (v2 : (c : Dev Cert.Kernel10Ideal.nD) → Buf (Elt Ideal) ((c.tc : Thread Cert.Kernel10Ideal.nD Cert.Kernel10Ideal.τ).loc Cert.Kernel10Ideal.main_v27_2)) (v3 : (c : Dev Cert.Kernel10Ideal.nD) → Buf (Elt Ideal) ((c.tc : Thread Cert.Kernel10Ideal.nD Cert.Kernel10Ideal.τ).loc Cert.Kernel10Ideal.main_v27_3)) (v4 : (c : Dev Cert.Kernel10Ideal.nD) → Buf (Elt Ideal) ((c.tc : Thread Cert.Kernel10Ideal.nD Cert.Kernel10Ideal.τ).loc Cert.Kernel10Ideal.main_v27_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v27_0) = v0 c
          ∧ r.2.mem ((c.tc : Thread Cert.Kernel10Ideal.nD Cert.Kernel10Ideal.τ).loc Cert.Kernel10Ideal.main_v27_1) = v1 c
          ∧ r.2.mem ((c.tc : Thread Cert.Kernel10Ideal.nD Cert.Kernel10Ideal.τ).loc Cert.Kernel10Ideal.main_v27_2) = v2 c
          ∧ r.2.mem ((c.tc : Thread Cert.Kernel10Ideal.nD Cert.Kernel10Ideal.τ).loc Cert.Kernel10Ideal.main_v27_3) = v3 c
          ∧ r.2.mem ((c.tc : Thread Cert.Kernel10Ideal.nD Cert.Kernel10Ideal.τ).loc Cert.Kernel10Ideal.main_v27_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v125) = v0 c
          ∧ r.2.mem ((c.tc : Thread Cert.Reference10Ideal.nD Cert.Reference10Ideal.τ).loc Cert.Reference10Ideal.main_v126) = v1 c
          ∧ r.2.mem ((c.tc : Thread Cert.Reference10Ideal.nD Cert.Reference10Ideal.τ).loc Cert.Reference10Ideal.main_v86) = v2 c
          ∧ r.2.mem ((c.tc : Thread Cert.Reference10Ideal.nD Cert.Reference10Ideal.τ).loc Cert.Reference10Ideal.main_v99) = v3 c
          ∧ r.2.mem ((c.tc : Thread Cert.Reference10Ideal.nD Cert.Reference10Ideal.τ).loc Cert.Reference10Ideal.main_v96) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite [hKernel11Ideal : Cert.Kernel11Ideal.Facts] [hReference11Ideal : Cert.Reference11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v27_0)) (v1 : (c : Dev Cert.Kernel11Ideal.nD) → Buf (Elt Ideal) ((c.tc : Thread Cert.Kernel11Ideal.nD Cert.Kernel11Ideal.τ).loc Cert.Kernel11Ideal.main_v27_1)) (v2 : (c : Dev Cert.Kernel11Ideal.nD) → Buf (Elt Ideal) ((c.tc : Thread Cert.Kernel11Ideal.nD Cert.Kernel11Ideal.τ).loc Cert.Kernel11Ideal.main_v27_2)) (v3 : (c : Dev Cert.Kernel11Ideal.nD) → Buf (Elt Ideal) ((c.tc : Thread Cert.Kernel11Ideal.nD Cert.Kernel11Ideal.τ).loc Cert.Kernel11Ideal.main_v27_3)) (v4 : (c : Dev Cert.Kernel11Ideal.nD) → Buf (Elt Ideal) ((c.tc : Thread Cert.Kernel11Ideal.nD Cert.Kernel11Ideal.τ).loc Cert.Kernel11Ideal.main_v27_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v27_0) = v0 c
          ∧ r.2.mem ((c.tc : Thread Cert.Kernel11Ideal.nD Cert.Kernel11Ideal.τ).loc Cert.Kernel11Ideal.main_v27_1) = v1 c
          ∧ r.2.mem ((c.tc : Thread Cert.Kernel11Ideal.nD Cert.Kernel11Ideal.τ).loc Cert.Kernel11Ideal.main_v27_2) = v2 c
          ∧ r.2.mem ((c.tc : Thread Cert.Kernel11Ideal.nD Cert.Kernel11Ideal.τ).loc Cert.Kernel11Ideal.main_v27_3) = v3 c
          ∧ r.2.mem ((c.tc : Thread Cert.Kernel11Ideal.nD Cert.Kernel11Ideal.τ).loc Cert.Kernel11Ideal.main_v27_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v125) = v0 c
          ∧ r.2.mem ((c.tc : Thread Cert.Reference11Ideal.nD Cert.Reference11Ideal.τ).loc Cert.Reference11Ideal.main_v126) = v1 c
          ∧ r.2.mem ((c.tc : Thread Cert.Reference11Ideal.nD Cert.Reference11Ideal.τ).loc Cert.Reference11Ideal.main_v86) = v2 c
          ∧ r.2.mem ((c.tc : Thread Cert.Reference11Ideal.nD Cert.Reference11Ideal.τ).loc Cert.Reference11Ideal.main_v99) = v3 c
          ∧ r.2.mem ((c.tc : Thread Cert.Reference11Ideal.nD Cert.Reference11Ideal.τ).loc Cert.Reference11Ideal.main_v96) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal_pre_finite [hKernel12Ideal : Cert.Kernel12Ideal.Facts] [hReference12Ideal : Cert.Reference12Ideal.Facts] [hPre_finite : Cert.Pre_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v27_0)) (v1 : (c : Dev Cert.Kernel12Ideal.nD) → Buf (Elt Ideal) ((c.tc : Thread Cert.Kernel12Ideal.nD Cert.Kernel12Ideal.τ).loc Cert.Kernel12Ideal.main_v27_1)) (v2 : (c : Dev Cert.Kernel12Ideal.nD) → Buf (Elt Ideal) ((c.tc : Thread Cert.Kernel12Ideal.nD Cert.Kernel12Ideal.τ).loc Cert.Kernel12Ideal.main_v27_2)) (v3 : (c : Dev Cert.Kernel12Ideal.nD) → Buf (Elt Ideal) ((c.tc : Thread Cert.Kernel12Ideal.nD Cert.Kernel12Ideal.τ).loc Cert.Kernel12Ideal.main_v27_3)) (v4 : (c : Dev Cert.Kernel12Ideal.nD) → Buf (Elt Ideal) ((c.tc : Thread Cert.Kernel12Ideal.nD Cert.Kernel12Ideal.τ).loc Cert.Kernel12Ideal.main_v27_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v27_0) = v0 c
          ∧ r.2.mem ((c.tc : Thread Cert.Kernel12Ideal.nD Cert.Kernel12Ideal.τ).loc Cert.Kernel12Ideal.main_v27_1) = v1 c
          ∧ r.2.mem ((c.tc : Thread Cert.Kernel12Ideal.nD Cert.Kernel12Ideal.τ).loc Cert.Kernel12Ideal.main_v27_2) = v2 c
          ∧ r.2.mem ((c.tc : Thread Cert.Kernel12Ideal.nD Cert.Kernel12Ideal.τ).loc Cert.Kernel12Ideal.main_v27_3) = v3 c
          ∧ r.2.mem ((c.tc : Thread Cert.Kernel12Ideal.nD Cert.Kernel12Ideal.τ).loc Cert.Kernel12Ideal.main_v27_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v125) = v0 c
          ∧ r.2.mem ((c.tc : Thread Cert.Reference12Ideal.nD Cert.Reference12Ideal.τ).loc Cert.Reference12Ideal.main_v126) = v1 c
          ∧ r.2.mem ((c.tc : Thread Cert.Reference12Ideal.nD Cert.Reference12Ideal.τ).loc Cert.Reference12Ideal.main_v86) = v2 c
          ∧ r.2.mem ((c.tc : Thread Cert.Reference12Ideal.nD Cert.Reference12Ideal.τ).loc Cert.Reference12Ideal.main_v99) = v3 c
          ∧ r.2.mem ((c.tc : Thread Cert.Reference12Ideal.nD Cert.Reference12Ideal.τ).loc Cert.Reference12Ideal.main_v96) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite (hKernel10Ideal := hKernel10Ideal) (hPre_finite := hPre_finite)
    ∧ quiescent_Reference10Ideal (hReference10Ideal := hReference10Ideal)
    ∧ quiescent_Reference10Ideal_pre_finite (hReference10Ideal := hReference10Ideal) (hPre_finite := hPre_finite)
    ∧ quiescent_Kernel11 (hKernel11 := hKernel11)
    ∧ quiescent_Kernel11Ideal (hKernel11Ideal := hKernel11Ideal)
    ∧ quiescent_Kernel11Ideal_pre_finite (hKernel11Ideal := hKernel11Ideal) (hPre_finite := hPre_finite)
    ∧ quiescent_Reference11Ideal (hReference11Ideal := hReference11Ideal)
    ∧ quiescent_Reference11Ideal_pre_finite (hReference11Ideal := hReference11Ideal) (hPre_finite := hPre_finite)
    ∧ quiescent_Kernel12 (hKernel12 := hKernel12)
    ∧ quiescent_Kernel12Ideal (hKernel12Ideal := hKernel12Ideal)
    ∧ quiescent_Kernel12Ideal_pre_finite (hKernel12Ideal := hKernel12Ideal) (hPre_finite := hPre_finite)
    ∧ quiescent_Reference12Ideal (hReference12Ideal := hReference12Ideal)
    ∧ quiescent_Reference12Ideal_pre_finite (hReference12Ideal := hReference12Ideal) (hPre_finite := hPre_finite)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite (hKernel10Ideal := hKernel10Ideal) (hReference10Ideal := hReference10Ideal) (hPre_finite := hPre_finite)
    ∧ preserves_Kernel11_Kernel11Ideal
    ∧ algebraic_Kernel11Ideal_Reference11Ideal_pre_finite (hKernel11Ideal := hKernel11Ideal) (hReference11Ideal := hReference11Ideal) (hPre_finite := hPre_finite)
    ∧ preserves_Kernel12_Kernel12Ideal
    ∧ algebraic_Kernel12Ideal_Reference12Ideal_pre_finite (hKernel12Ideal := hKernel12Ideal) (hReference12Ideal := hReference12Ideal) (hPre_finite := hPre_finite)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩

class Facts : Prop where
  bcast_S_S16384x5632 : S_.BroadcastsInDim S16384x5632 (![] : Fin 0 → Fin S16384x5632.rank)
  reducesTo_S16384x5632_S_d0_1 : S16384x5632.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S4x3x5632 : S_.BroadcastsInDim S4x3x5632 (![] : Fin 0 → Fin S4x3x5632.rank)
  reducesTo_S4x3x5632_S_d0_1_2 : S4x3x5632.ReducesTo [0, 1, 2] S_

variable [Facts]

def fn_part1 {F : FTy → Type} [FloatOps F] (main_arg5 : FVec F S1x1024x5632 .f32) (main_arg6 : FVec F S4x3x5632 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x5632 .f32 := Host.absf main_arg5
  let main_cst_6 : FVec F S_ .f32 := constant S_ .f32 0x7F800000#32
  let main_v20 : FVec F S1x1024x5632 .f32 := broadcastInDim S1x1024x5632 ![] bcast_S_S1x1024x5632 main_cst_6
  let main_v21 : IVec S1x1024x5632 1 := cmpf .olt main_v19 main_v20
  let main_c_7 : IVec S_ 1 := constantI S_ 1 1#1
  let main_v22 : IVec S_ 1 := (fun x v => Host.reduce IntOp.andi x v reducesTo_S1x1024x5632_S_d0_1_2 h_S_) main_v21 main_c_7
  let main_v23 : IVec S_ 1 := andi main_v18 main_v22
  let main_v24 : FVec F S4x3x5632 .f32 := Host.absf main_arg6
  let main_cst_8 : FVec F S_ .f32 := constant S_ .f32 0x7F800000#32
  let main_v25 : FVec F S4x3x5632 .f32 := broadcastInDim S4x3x5632 ![] bcast_S_S4x3x5632 main_cst_8
  let main_v26 : IVec S4x3x5632 1 := cmpf .olt main_v24 main_v25
  let main_c_9 : IVec S_ 1 := constantI S_ 1 1#1
  let main_v27 : IVec S_ 1 := (fun x v => Host.reduce IntOp.andi x v reducesTo_S4x3x5632_S_d0_1_2 h_S_) main_v26 main_c_9
  let main_v28 : IVec S_ 1 := andi main_v23 main_v27
  main_v28

def fn {F : FTy → Type} [FloatOps F] (main_arg0 : FVec F S16384x5632 .f32) (main_arg1 : FVec F S16384x1024 .f32) (main_arg2 : FVec F S16384x1024 .f32) (main_arg3 : FVec F S1x1024 .f32) (main_arg4 : FVec F S1x1024 .f32) (main_arg5 : FVec F S1x1024x5632 .f32) (main_arg6 : FVec F S4x3x5632 .f32) : IVec S_ 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_c : IVec S_ 1 := constantI S_ 1 1#1
  let main_v3 : IVec S_ 1 := (fun x v => Host.reduce IntOp.andi x v reducesTo_S16384x5632_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_v13 main_v16
-- ==== Pre_finite2.lean ====
abbrev S16384x1024 : Shape := ⟨2, ![16384, 1024]⟩
abbrev S16384x5632 : Shape := ⟨2, ![16384, 5632]⟩
abbrev S1x2816x1024 : Shape := ⟨3, ![1, 2816, 1024]⟩
abbrev S1x1024 : Shape := ⟨2, ![1, 1024]⟩
abbrev S3x2816x1024 : Shape := ⟨3, ![3, 2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x5632 : S_.BroadcastsInDim S16384x5632 (![] : Fin 0 → Fin S16384x5632.rank)
  reducesTo_S16384x5632_S_d0_1 : S16384x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S16384x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S16384x5632 .f32) (main_arg2 : FVec F S1x2816x1024 .f32) (main_arg3 : FVec F S1x1024 .f32) (main_arg4 : FVec F S1x1024 .f32) (main_arg5 : FVec F S16384x1024 .f32) (main_arg6 : FVec F S3x2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x5632 .f32 := Host.absf main_arg1
  let main_cst_0 : FVec F S_ .f32 := constant S_ .f32 0x7F800000#32
  let main_v5 : FVec F S16384x5632 .f32 := broadcastInDim S16384x5632 ![] bcast_S_S16384x5632 main_cst_0
  let main_v6 : IVec S16384x5632 1 := cmpf .olt main_v4 main_v5
  let main_c_1 : IVec S_ 1 := constantI S_ 1 1#1
  let main_v7 : IVec S_ 1 := (fun x v => Host.reduce IntOp.andi x v reducesTo_S16384x5632_S_d0_1 h_S_) main_v6 main_c_1
  let main_v8 : IVec S_ 1 := andi main_v3 main_v7
  let main_v9 : FVec F S1x2816x1024 .f32 := Host.absf main_arg2
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S3x5632 : Shape := ⟨2, ![3, 5632]⟩
abbrev S512x5632 : Shape := ⟨2, ![512, 5632]⟩
abbrev S16x5632 : Shape := ⟨2, ![16, 5632]⟩
abbrev S512x1024 : Shape := ⟨2, ![512, 1024]⟩
abbrev S1x3x5632 : Shape := ⟨3, ![1, 3, 5632]⟩
abbrev S512x1 : Shape := ⟨2, ![512, 1]⟩
abbrev S512x512 : Shape := ⟨2, ![512, 512]⟩
abbrev S16x512 : Shape := ⟨2, ![16, 512]⟩
abbrev S1x512 : Shape := ⟨2, ![1, 512]⟩
abbrev S8x512 : Shape := ⟨2, ![8, 512]⟩
abbrev S504x512 : Shape := ⟨2, ![504, 512]⟩
abbrev S512 : Shape := ⟨1, ![512]⟩
abbrev S1x1x512 : Shape := ⟨3, ![1, 1, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 44
  | .vmem => 22
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S4x3x5632, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x5632, .f32⟩
  | .hbm, ⟨35, _⟩ => ⟨S16384x5632, .f32⟩
  | .hbm, ⟨36, _⟩ => ⟨S16384x5632, .bf16⟩
  | .hbm, ⟨37, _⟩ => ⟨S16384x5632, .bf16⟩
  | .hbm, ⟨38, _⟩ => ⟨S1x1024x5632, .bf16⟩
  | .hbm, ⟨39, _⟩ => ⟨S16384x1024, .f32⟩
  | .hbm, ⟨40, _⟩ => ⟨S16384x5632, .bf16⟩
  | .hbm, ⟨41, _⟩ => ⟨S3x5632, .f32⟩
  | .hbm, ⟨42, _⟩ => ⟨S1x1024, .f32⟩
  | .hbm, ⟨43, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .f32⟩
  | .local _ .vmem, ⟨7, _⟩ => ⟨S512x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x5632, .bf16⟩
  | .local _ .vmem, ⟨18, _⟩ => ⟨S512x5632, .bf16⟩
  | .local _ .vmem, ⟨19, _⟩ => ⟨S3x5632, .f32⟩
  | .local _ .vmem, ⟨20, _⟩ => ⟨S1x1024, .f32⟩
  | .local _ .vmem, ⟨21, _⟩ => ⟨S1x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S1024 : Shape := ⟨1, ![1024]⟩

abbrev nBuf : Space → Nat
  | .hbm => 166
  | .vmem => 0
  | .smem => 0
  | _ => 0

abbrev hbmTy0_0 (i : Nat) : BufTy := match i % 128 with
  | 0 => ⟨S16384x5632, .f32⟩
  | 1 => ⟨S16384x1024, .f32⟩
  | 2 => ⟨S16384x1024, .f32⟩
  | 3 => ⟨S1x1024, .f32⟩
  | 4 => ⟨S1x1024, .f32⟩
  | 5 => ⟨S1x1024x5632, .f32⟩
  | 6 => ⟨S4x3x5632, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S_, .f32⟩
  | 28 => ⟨S16384x1, .f32⟩
  | 29 => ⟨S16384x1, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S1024x5632, .f32⟩
  | 42 => ⟨S16384x5632, .f32⟩
  | 43 => ⟨S1x3x5632, .f32⟩
  | 44 => ⟨S3x5632, .f32⟩
  | 45 => ⟨S_, .f32⟩
  | 46 => ⟨S2x5632, .f32⟩
  | 47 => ⟨S16386x5632, .f32⟩
  | 48 => ⟨S_, .f32⟩
  | 49 => ⟨S2x5632, .f32⟩
  | 50 => ⟨S16384x5632, .f32⟩
  | 51 => ⟨S1x5632, .f32⟩
  | 52 => ⟨S5632, .f32⟩
  | 53 => ⟨S1x5632, .f32⟩
  | 54 => ⟨S16384x5632, .f32⟩
  | 55 => ⟨S16384x5632, .f32⟩
  | 56 => ⟨S_, .f32⟩
  | 57 => ⟨S16384x5632, .f32⟩
  | 58 => ⟨S16384x5632, .f32⟩
  | 59 => ⟨S16384x5632, .f32⟩
  | 60 => ⟨S1x5632, .f32⟩
  | 61 => ⟨S5632, .f32⟩
  | 62 => ⟨S1x5632, .f32⟩
  | 63 => ⟨S16384x5632, .f32⟩
  | 64 => ⟨S16384x5632, .f32⟩
  | 65 => ⟨S16384x5632, .f32⟩
  | 66 => ⟨S16384x5632, .f32⟩
  | 67 => ⟨S1x5632, .f32⟩
  | 68 => ⟨S5632, .f32⟩
  | 69 => ⟨S1x5632, .f32⟩
  | 70 => ⟨S16384x5632, .f32⟩
  | 71 => ⟨S16384x5632, .f32⟩
  | 72 => ⟨S16384x5632, .f32⟩
  | 73 => ⟨S16384x5632, .f32⟩
  | 74 => ⟨S16384x5632, .f32⟩
  | 75 => ⟨S16384x5632, .f32⟩
  | 76 => ⟨S_, .f32⟩
  | 77 => ⟨S5632, .f32⟩
  | 78 => ⟨S1x5632, .f32⟩
  | 79 => ⟨S16384x5632, .f32⟩
  | 80 => ⟨S16384x5632, .f32⟩
  | 81 => ⟨S_, .f32⟩
  | 82 => ⟨S5632, .f32⟩
  | 83 => ⟨S1x5632, .f32⟩
  | 84 => ⟨S_, .f32⟩
  | 85 => ⟨S3x5632, .f32⟩
  | 86 => ⟨S_, .f32⟩
  | 87 => ⟨S16386x5632, .f32⟩
  | 88 => ⟨S16384x5632, .f32⟩
  | 89 => ⟨S_, .f32⟩
  | 90 => ⟨S5632, .f32⟩
  | 91 => ⟨S1x5632, .f32⟩
  | 92 => ⟨S16384x5632, .f32⟩
  | 93 => ⟨S16384x5632, .f32⟩
  | 94 => ⟨S_, .f32⟩
  | 95 => ⟨S5632, .f32⟩
  | 96 => ⟨S1x5632, .f32⟩
  | 97 => ⟨S_, .f32⟩
  | 98 => ⟨S3x5632, .f32⟩
  | 99 => ⟨S3x5632, .f32⟩
  | 100 => ⟨S_, .f32⟩
  | 101 => ⟨S16386x5632, .f32⟩
  | 102 => ⟨S16386x5632, .f32⟩
  | 103 => ⟨S16384x5632, .f32⟩
  | 104 => ⟨S_, .f32⟩
  | 105 => ⟨S5632, .f32⟩
  | 106 => ⟨S1x5632, .f32⟩
  | 107 => ⟨S16384x5632, .f32⟩
  | 108 => ⟨S16384x5632, .f32⟩
  | 109 => ⟨S_, .f32⟩
  | 110 => ⟨S5632, .f32⟩
  | 111 => ⟨S1x5632, .f32⟩
  | 112 => ⟨S_, .f32⟩
  | 113 => ⟨S3x5632, .f32⟩
  | 114 => ⟨S3x5632, .f32⟩
  | 115 => ⟨S_, .f32⟩
  | 116 => ⟨S16386x5632, .f32⟩
  | 117 => ⟨S16386x5632, .f32⟩
  | 118 => ⟨S2x5632, .f32⟩
  | 119 => ⟨S16384x5632, .f32⟩
  | 120 => ⟨S16384x1024, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S1024, .f32⟩
  | 127 => ⟨S1x1024, .f32⟩
  | _ => ⟨S16384x5632, .f32⟩

abbrev hbmTy0_1 (i : Nat) : BufTy := match i % 128 with
  | 0 => ⟨S16384x1024, .f32⟩
  | 1 => ⟨S_, .f32⟩
  | 2 => ⟨S1024, .f32⟩
  | 3 => ⟨S1x1024, .f32⟩
  | 4 => ⟨S16384x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S16384x1024, .f32⟩
  | 11 => ⟨S16384x1024, .f32⟩
  | 12 => ⟨S16384x1, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384, .f32⟩
  | 22 => ⟨S16384x1024, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S16384x1024, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384, .f32⟩
  | 35 => ⟨S16384x1024, .f32⟩
  | 36 => ⟨S16384x1024, .f32⟩
  | 37 => ⟨S16384x5632, .bf16⟩
  | _ => ⟨S16384x5632, .f32⟩

abbrev hbmTy (i : Nat) : BufTy := match i / 128 with
  | 0 => hbmTy0_0 i
  | 1 => hbmTy0_1 i
  | _ => ⟨S16384x5632, .f32⟩

abbrev bufTy : (tb : Table) → Fin (tcTables nBuf tb) → BufTy
  | .hbm, ⟨i, _⟩ => hbmTy i
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_cst_11 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_21 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_23 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_24 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_25 : Ref sig .tc := ⟨.hbm, 142, rfl⟩
abbrev main_v109 : Ref sig .tc := ⟨.hbm, 143, rfl⟩
abbrev main_v110 : Ref sig .tc := ⟨.hbm, 144, rfl⟩
abbrev main_cst_26 : Ref sig .tc := ⟨.hbm, 145, rfl⟩
abbrev main_v111 : Ref sig .tc := ⟨.hbm, 146, rfl⟩
abbrev main_v112 : Ref sig .tc := ⟨.hbm, 147, rfl⟩
abbrev main_cst_27 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_29 : Ref sig .tc := ⟨.hbm, 158, rfl⟩
abbrev main_v121 : Ref sig .tc := ⟨.hbm, 159, rfl⟩
abbrev main_v122 : Ref sig .tc := ⟨.hbm, 160, rfl⟩
abbrev main_cst_30 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩

abbrev nD : Nat := 1
abbrev τ : Topo := Topo.v7x

variable {F : FTy → Type} [FloatOps F]
-- ==== Kernel2.lean ====
abbrev S16384x1024 : Shape := ⟨2, ![16384, 1024]⟩
abbrev S16384x5632 : Shape := ⟨2, ![16384, 5632]⟩
abbrev S1x2816x1024 : Shape := ⟨3, ![1, 2816, 1024]⟩
abbrev S1x1024 : Shape := ⟨2, ![1, 1024]⟩
abbrev S3x2816x1024 : Shape := ⟨3, ![3, 2816, 1024]⟩
abbrev S16384x2816 : Shape := ⟨2, ![16384, 2816]⟩
abbrev S_ : Shape := ⟨0, ![]⟩
abbrev S2816x1024 : Shape := ⟨2, ![2816, 1024]⟩
abbrev S16384 : Shape := ⟨1, ![16384]⟩
abbrev S16384x1 : Shape := ⟨2, ![16384, 1]⟩
abbrev S1x1 : Shape := ⟨2, ![1, 1]⟩
abbrev S256x1024 : Shape := ⟨2, ![256, 1024]⟩
abbrev S256x1 : Shape := ⟨2, ![256, 1]⟩
abbrev S256x5632 : Shape := ⟨2, ![256, 5632]⟩
abbrev S1024 : Shape := ⟨1, ![1024]⟩
abbrev S1 : Shape := ⟨1, ![1]⟩
abbrev S256 : Shape := ⟨1, ![256]⟩
abbrev S1x256x1024 : Shape := ⟨3, ![1, 256, 1024]⟩
abbrev S256x256 : Shape := ⟨2, ![256, 256]⟩

abbrev nBuf : Space → Nat
  | .hbm => 53
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S3x2816x1024, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S2816x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x5632, .bf16⟩
  | .hbm, ⟨46, _⟩ => ⟨S1x2816x1024, .bf16⟩
  | .hbm, ⟨47, _⟩ => ⟨S16384x1024, .f32⟩
  | .hbm, ⟨48, _⟩ => ⟨S16384x5632, .bf16⟩
  | .hbm, ⟨49, _⟩ => ⟨S3x2816x1024, .f32⟩
  | .hbm, ⟨50, _⟩ => ⟨S1x1024, .f32⟩
  | .hbm, ⟨51, _⟩ => ⟨S1x1024, .f32⟩
  | .hbm, ⟨52, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S1x1024, .f32⟩
  | .local _ .vmem, ⟨8, _⟩ => ⟨S256x5632, .bf16⟩
  | .local _ .vmem, ⟨9, _⟩ => ⟨S256x5632, .bf16⟩
  | .local _ .vmem, ⟨10, _⟩ => ⟨S1x2816x1024, .bf16⟩
  | .local _ .vmem, ⟨11, _⟩ => ⟨S256x1024, .f32⟩
  | .local _ .vmem, ⟨12, _⟩ => ⟨S256x1024, .f32⟩
  | .local _ .vmem, ⟨13, _⟩ => ⟨S256x5632, .bf16⟩
  | .local _ .vmem, ⟨14, _⟩ => ⟨S256x5632, .bf16⟩
  | .local _ .vmem, ⟨15, _⟩ => ⟨S1x2816x1024, .f32⟩
  | .local _ .vmem, ⟨16, _⟩ => ⟨S1x1024, .f32⟩
  | .local _ .vmem, ⟨17, _⟩ => ⟨S1x1024, .f32⟩
  | .local _ .vmem, ⟨18, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev main_v27_4 : Ref sig .tc := ⟨.hbm, 51, rfl⟩
abbrev main_v27_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2816x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S16384x1024 : Shape := ⟨2, ![16384, 1024]⟩
abbrev S16384x5632 : Shape := ⟨2, ![16384, 5632]⟩
abbrev S1x2816x1024 : Shape := ⟨3, ![1, 2816, 1024]⟩
abbrev S1x1024 : Shape := ⟨2, ![1, 1024]⟩
abbrev S3x2816x1024 : Shape := ⟨3, ![3, 2816, 1024]⟩
abbrev S2816x1024 : Shape := ⟨2, ![2816, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x2816 : Shape := ⟨2, ![1024, 2816]⟩
abbrev S2x2816x1024 : Shape := ⟨3, ![2, 2816, 1024]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S16384x1024, .f32⟩
  | 1 => ⟨S16384x5632, .f32⟩
  | 2 => ⟨S1x2816x1024, .f32⟩
  | 3 => ⟨S1x1024, .f32⟩
  | 4 => ⟨S1x1024, .f32⟩
  | 5 => ⟨S16384x1024, .f32⟩
  | 6 => ⟨S3x2816x1024, .f32⟩
  | 7 => ⟨S2816x1024, .f32⟩
  | 8 => ⟨S16384x2816, .f32⟩
  | 9 => ⟨S16384x2816, .f32⟩
  | 10 => ⟨S16384x2816, .f32⟩
  | 11 => ⟨S16384x2816, .f32⟩
  | 12 => ⟨S_, .f32⟩
  | 13 => ⟨S16384x2816, .f32⟩
  | 14 => ⟨S16384x2816, .f32⟩
  | 15 => ⟨S_, .f32⟩
  | 16 => ⟨S16384x2816, .f32⟩
  | 17 => ⟨S16384x2816, .f32⟩
  | 18 => ⟨S_, .f32⟩
  | 19 => ⟨S16384x2816, .f32⟩
  | 20 => ⟨S16384x2816, .f32⟩
  | 21 => ⟨S16384x2816, .f32⟩
  | 22 => ⟨S16384x2816, .f32⟩
  | 23 => ⟨S16384x2816, .f32⟩
  | 24 => ⟨S16384x1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S16384x1024, .f32⟩
  | 45 => ⟨S16384x1024, .f32⟩
  | 46 => ⟨S_, .f32⟩
  | 47 => ⟨S16384x1, .f32⟩
  | 48 => ⟨S16384x1, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S_, .f32⟩
  | 66 => ⟨S16384, .f32⟩
  | 67 => ⟨S_, .f32⟩
  | 68 => ⟨S16384, .f32⟩
  | 69 => ⟨S16384, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S16384, .f32⟩
  | 78 => ⟨S_, .f32⟩
  | 79 => ⟨S16384, .f32⟩
  | 80 => ⟨S16384, .f32⟩
  | 81 => ⟨S16384x1024, .f32⟩
  | 82 => ⟨S16384x1024, .f32⟩
  | 83 => ⟨S_, .f32⟩
  | 84 => ⟨S1024, .f32⟩
  | 85 => ⟨S1x1024, .f32⟩
  | 86 => ⟨S16384x1024, .f32⟩
  | 87 => ⟨S_, .f32⟩
  | 88 => ⟨S1024, .f32⟩
  | 89 => ⟨S1x1024, .f32⟩
  | 90 => ⟨S16384x1024, .f32⟩
  | 91 => ⟨S16384x1024, .f32⟩
  | 92 => ⟨S16384x1024, .f32⟩
  | 93 => ⟨S_, .f32⟩
  | 94 => ⟨S16384, .f32⟩
  | 95 => ⟨S16384x1, .f32⟩
  | 96 => ⟨S16384x1024, .f32⟩
  | 97 => ⟨S16384x1024, .f32⟩
  | 98 => ⟨S16384x1, .f32⟩
  | 99 => ⟨S16384x1024, .f32⟩
  | 100 => ⟨S_, .f32⟩
  | 101 => ⟨S16384, .f32⟩
  | 102 => ⟨S16384x1, .f32⟩
  | 103 => ⟨S_, .f32⟩
  | 104 => ⟨S16384x1, .f32⟩
  | 105 => ⟨S16384x1, .f32⟩
  | 106 => ⟨S_, .f32⟩
  | 107 => ⟨S16384, .f32⟩
  | 108 => ⟨S16384x1024, .f32⟩
  | 109 => ⟨S16384x1024, .f32⟩
  | 110 => ⟨S16384x1024, .f32⟩
  | 111 => ⟨S_, .f32⟩
  | 112 => ⟨S16384, .f32⟩
  | 113 => ⟨S16384x1, .f32⟩
  | 114 => ⟨S16384x1024, .f32⟩
  | 115 => ⟨S16384x1, .f32⟩
  | 116 => ⟨S_, .f32⟩
  | 117 => ⟨S16384x1, .f32⟩
  | 118 => ⟨S16384x1, .f32⟩
  | 119 => ⟨S_, .f32⟩
  | 120 => ⟨S16384, .f32⟩
  | 121 => ⟨S16384x1024, .f32⟩
  | 122 => ⟨S16384x1024, .f32⟩
  | 123 => ⟨S1024x2816, .f32⟩
  | 124 => ⟨S2816x1024, .f32⟩
  | 125 => ⟨S16384x2816, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S16384x5632, .f32⟩
  | 5 => ⟨S16384x5632, .bf16⟩
  | 6 => ⟨S2x2816x1024, .f32⟩
  | 7 => ⟨S1x2816x1024, .f32⟩
  | 8 => ⟨S3x2816x1024, .f32⟩
  | 9 => ⟨S1x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v3_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v3_1 : Ref sig .tc := ⟨.hbm, 21, rfl⟩
abbrev main_v3_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_cst_11 : Ref sig .tc := ⟨.hbm, 74, rfl⟩
abbrev main_cst_12 : Ref sig .tc := ⟨.hbm, 75, rfl⟩
abbrev main_v43 : Ref sig .tc := ⟨.hbm, 76, rfl⟩
abbrev main_v44 : Ref sig .tc := ⟨.hbm, 77, rfl⟩
abbrev main_cst_13 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_15 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_17 : Ref sig .tc := ⟨.hbm, 100, rfl⟩
abbrev main_v63 : Ref sig .tc := ⟨.hbm, 101, rfl⟩
abbrev main_v64 : Ref sig .tc := ⟨.hbm, 102, rfl⟩
abbrev main_cst_18 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_20 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_21 : Ref sig .tc := ⟨.hbm, 116, rfl⟩
abbrev main_v75 : Ref sig .tc := ⟨.hbm, 117, rfl⟩
abbrev main_v76 : Ref sig .tc := ⟨.hbm, 118, rfl⟩
abbrev main_cst_22 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 31
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x5632, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x5632, .bf16⟩
  | .hbm, ⟨28, _⟩ => ⟨S_, .f32⟩
  | .hbm, ⟨29, _⟩ => ⟨S1x1024x5632, .f32⟩
  | .hbm, ⟨30, _⟩ => ⟨S1x1024x5632, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .f32⟩
  | .local _ .vmem, ⟨7, _⟩ => ⟨S1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S16384x1024 : Shape := ⟨2, ![16384, 1024]⟩
abbrev S1x1024 : Shape := ⟨2, ![1, 1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S5632x1024 : Shape := ⟨2, ![5632, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x5632, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1x1024x5632, .f32⟩
  | .hbm, ⟨33, _⟩ => ⟨S1024x5632, .f32⟩
  | .hbm, ⟨34, _⟩ => ⟨S16384x5632, .f32⟩
  | .hbm, ⟨35, _⟩ => ⟨S5632x1024, .f32⟩
  | .hbm, ⟨36, _⟩ => ⟨S1024x5632, .f32⟩
  | .hbm, ⟨37, _⟩ => ⟨S1x1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S512x1024 : Shape := ⟨2, ![512, 1024]⟩
abbrev S1x3x5632 : Shape := ⟨3, ![1, 3, 5632]⟩
abbrev S512x1 : Shape := ⟨2, ![512, 1]⟩
abbrev S512x5632 : Shape := ⟨2, ![512, 5632]⟩
abbrev S8x5632 : Shape := ⟨2, ![8, 5632]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S1x1x256 : Shape := ⟨3, ![1, 1, 256]⟩
abbrev S1x256x1024 : Shape := ⟨3, ![1, 256, 1024]⟩
abbrev S256x1024 : Shape := ⟨2, ![256, 1024]⟩
abbrev S512 : Shape := ⟨1, ![512]⟩

abbrev nBuf : Space → Nat
  | .hbm => 35
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024x5632, .bf16⟩
  | .hbm, ⟨30, _⟩ => ⟨S1x2816x1024, .bf16⟩
  | .hbm, ⟨31, _⟩ => ⟨S16384x1024, .f32⟩
  | .hbm, ⟨32, _⟩ => ⟨S16384x1, .f32⟩
  | .hbm, ⟨33, _⟩ => ⟨S16384x5632, .bf16⟩
  | .hbm, ⟨34, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x5632, .bf16⟩
  | .local _ .vmem, ⟨5, _⟩ => ⟨S1x3x5632, .f32⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x5632, .bf16⟩
  | .local _ .vmem, ⟨12, _⟩ => ⟨S512x5632, .bf16⟩
  | .local _ .vmem, ⟨13, _⟩ => ⟨S512x5632, .bf16⟩
  | .local _ .vmem, ⟨14, _⟩ => ⟨S512x5632, .bf16⟩
  | .local _ .vmem, ⟨15, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S16384x2816 : Shape := ⟨2, ![16384, 2816]⟩
abbrev S2816x1024 : Shape := ⟨2, ![2816, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x5632, .f32⟩
  | .hbm, ⟨34, _⟩ => ⟨S16384x5632, .f32⟩
  | .hbm, ⟨35, _⟩ => ⟨S1x3x5632, .f32⟩
  | .hbm, ⟨36, _⟩ => ⟨S3x5632, .f32⟩
  | .hbm, ⟨37, _⟩ => ⟨S_, .f32⟩
  | .hbm, ⟨38, _⟩ => ⟨S2x5632, .f32⟩
  | .hbm, ⟨39, _⟩ => ⟨S16386x5632, .f32⟩
  | .hbm, ⟨40, _⟩ => ⟨S16384x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S16384x5632, .f32⟩
  | .hbm, ⟨45, _⟩ => ⟨S16384x5632, .f32⟩
  | .hbm, ⟨46, _⟩ => ⟨S_, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S1x5632, .f32⟩
  | .hbm, ⟨51, _⟩ => ⟨S5632, .f32⟩
  | .hbm, ⟨52, _⟩ => ⟨S1x5632, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S1x5632, .f32⟩
  | .hbm, ⟨58, _⟩ => ⟨S5632, .f32⟩
  | .hbm, ⟨59, _⟩ => ⟨S1x5632, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S_, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S2816x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x5632, .bf16⟩
  | .hbm, ⟨105, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Kernel5.lean ====
abbrev S3x16384x1024 : Shape := ⟨3, ![3, 16384, 1024]⟩
abbrev S4x1024 : Shape := ⟨2, ![4, 1024]⟩
abbrev S3x16384x5632 : Shape := ⟨3, ![3, 16384, 5632]⟩
abbrev S_ : Shape := ⟨0, ![]⟩
abbrev S3x16384 : Shape := ⟨2, ![3, 16384]⟩
abbrev S3x16384x1 : Shape := ⟨3, ![3, 16384, 1]⟩
abbrev S3x1024x5632 : Shape := ⟨3, ![3, 1024, 5632]⟩
abbrev S1x16384x1024 : Shape := ⟨3, ![1, 16384, 1024]⟩
abbrev S16384x1024 : Shape := ⟨2, ![16384, 1024]⟩
abbrev S1x1024 : Shape := ⟨2, ![1, 1024]⟩
abbrev S1x16384x5632 : Shape := ⟨3, ![1, 16384, 5632]⟩
abbrev S16384x5632 : Shape := ⟨2, ![16384, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 51
  | .vmem => 24
  | .smem => 0
  | _ => 0

abbrev bufTy : (tb : Table) → Fin (tcTables nBuf tb) → BufTy
  | .hbm, ⟨0, _⟩ => ⟨S3x16384x1024, .f32⟩
  | .hbm, ⟨1, _⟩ => ⟨S4x1024, .f32⟩
  | .hbm, ⟨2, _⟩ => ⟨S4x1024, .f32⟩
  | .hbm, ⟨3, _⟩ => ⟨S3x16384x5632, .f32⟩
  | .hbm, ⟨4, _⟩ => ⟨S_, .f32⟩
  | .hbm, ⟨5, _⟩ => ⟨S3x16384, .f32⟩
  | .hbm, ⟨6, _⟩ => ⟨S3x16384x1, .f32⟩
  | .hbm, ⟨7, _⟩ => ⟨S_, .f32⟩
  | .hbm, ⟨8, _⟩ => ⟨S3x16384x1, .f32⟩
  | .hbm, ⟨9, _⟩ => ⟨S3x16384x1, .f32⟩
  | .hbm, ⟨10, _⟩ => ⟨S3x16384x1024, .f32⟩
  | .hbm, ⟨11, _⟩ => ⟨S3x16384x1024, .f32⟩
  | .hbm, ⟨12, _⟩ => ⟨S3x16384x1024, .f32⟩
  | .hbm, ⟨13, _⟩ => ⟨S_, .f32⟩
  | .hbm, ⟨14, _⟩ => ⟨S3x16384, .f32⟩
  | .hbm, ⟨15, _⟩ => ⟨S3x16384x1, .f32⟩
  | .hbm, ⟨16, _⟩ => ⟨S_, .f32⟩
  | .hbm, ⟨17, _⟩ => ⟨S3x16384x1, .f32⟩
  | .hbm, ⟨18, _⟩ => ⟨S3x16384x1, .f32⟩
  | .hbm, ⟨19, _⟩ => ⟨S3x16384x1024, .f32⟩
  | .hbm, ⟨20, _⟩ => ⟨S3x16384x1024, .f32⟩
  | .hbm, ⟨21, _⟩ => ⟨S_, .f32⟩
  | .hbm, ⟨22, _⟩ => ⟨S3x16384x1, .f32⟩
  | .hbm, ⟨23, _⟩ => ⟨S3x16384x1, .f32⟩
  | .hbm, ⟨24, _⟩ => ⟨S3x16384x1, .f32⟩
  | .hbm, ⟨25, _⟩ => ⟨S3x16384x1024, .f32⟩
  | .hbm, ⟨26, _⟩ => ⟨S3x16384x1024, .f32⟩
  | .hbm, ⟨27, _⟩ => ⟨S3x16384x5632, .bf16⟩
  | .hbm, ⟨28, _⟩ => ⟨S_, .f32⟩
  | .hbm, ⟨29, _⟩ => ⟨S3x1024x5632, .f32⟩
  | .hbm, ⟨30, _⟩ => ⟨S1x16384x1024, .f32⟩
  | .hbm, ⟨31, _⟩ => ⟨S16384x1024, .f32⟩
  | .hbm, ⟨32, _⟩ => ⟨S1x1024, .f32⟩
  | .hbm, ⟨33, _⟩ => ⟨S1x1024, .f32⟩
  | .hbm, ⟨34, _⟩ => ⟨S1x16384x5632, .bf16⟩
  | .hbm, ⟨35, _⟩ => ⟨S16384x5632, .bf16⟩
  | .hbm, ⟨36, _⟩ => ⟨S3x1024x5632, .f32⟩
  | .hbm, ⟨37, _⟩ => ⟨S1x16384x1024, .f32⟩
  | .hbm, ⟨38, _⟩ => ⟨S16384x1024, .f32⟩
  | .hbm, ⟨39, _⟩ => ⟨S1x1024, .f32⟩
  | .hbm, ⟨40, _⟩ => ⟨S1x1024, .f32⟩
  | .hbm, ⟨41, _⟩ => ⟨S1x16384x5632, .bf16⟩
  | .hbm, ⟨42, _⟩ => ⟨S16384x5632, .bf16⟩
  | .hbm, ⟨43, _⟩ => ⟨S3x1024x5632, .f32⟩
  | .hbm, ⟨44, _⟩ => ⟨S1x16384x1024, .f32⟩
  | .hbm, ⟨45, _⟩ => ⟨S16384x1024, .f32⟩
  | .hbm, ⟨46, _⟩ => ⟨S1x1024, .f32⟩
  | .hbm, ⟨47, _⟩ => ⟨S1x1024, .f32⟩
  | .hbm, ⟨48, _⟩ => ⟨S1x16384x5632, .bf16⟩
  | .hbm, ⟨49, _⟩ => ⟨S16384x5632, .bf16⟩
  | .hbm, ⟨50, _⟩ => ⟨S3x1024x5632, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .f32⟩
  | .local _ .vmem, ⟨7, _⟩ => ⟨S1x1024x1408, .f32⟩
  | .local _ .vmem, ⟨8, _⟩ => ⟨S2048x1024, .f32⟩
  | .local _ .vmem, ⟨9, _⟩ => ⟨S2048x1024, .f32⟩
  | .local _ .vmem, ⟨10, _⟩ => ⟨S1x1024, .f32⟩
  | .local _ .vmem, ⟨11, _⟩ => ⟨S1x1024, .f32⟩
  | .local _ .vmem, ⟨12, _⟩ => ⟨S2048x1408, .bf16⟩
  | .local _ .vmem, ⟨13, _⟩ => ⟨S2048x1408, .bf16⟩
  | .local _ .vmem, ⟨14, _⟩ => ⟨S1x1024x1408, .f32⟩
  | .local _ .vmem, ⟨15, _⟩ => ⟨S1x1024x1408, .f32⟩
  | .local _ .vmem, ⟨16, _⟩ => ⟨S2048x1024, .f32⟩
  | .local _ .vmem, ⟨17, _⟩ => ⟨S2048x1024, .f32⟩
  | .local _ .vmem, ⟨18, _⟩ => ⟨S1x1024, .f32⟩
  | .local _ .vmem, ⟨19, _⟩ => ⟨S1x1024, .f32⟩
  | .local _ .vmem, ⟨20, _⟩ => ⟨S2048x1408, .bf16⟩
  | .local _ .vmem, ⟨21, _⟩ => ⟨S2048x1408, .bf16⟩
  | .local _ .vmem, ⟨22, _⟩ => ⟨S1x1024x1408, .f32⟩
  | .local _ .vmem, ⟨23, _⟩ => ⟨S1x1024x1408, .f32⟩
  | _, _ => ⟨S3x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]
-- ==== Reference5Ideal.lean ====
abbrev S3x16384x1024 : Shape := ⟨3, ![3, 16384, 1024]⟩
abbrev S4x1024 : Shape := ⟨2, ![4, 1024]⟩
abbrev S3x16384x5632 : Shape := ⟨3, ![3, 16384, 5632]⟩
abbrev S_ : Shape := ⟨0, ![]⟩
abbrev S3x1024x5632 : Shape := ⟨3, ![3, 1024, 5632]⟩
abbrev S1x16384x1024 : Shape := ⟨3, ![1, 16384, 1024]⟩
abbrev S16384x1024 : Shape := ⟨2, ![16384, 1024]⟩
abbrev S1x1024 : Shape := ⟨2, ![1, 1024]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S1x16384x5632 : Shape := ⟨3, ![1, 16384, 5632]⟩
abbrev S5632x1024 : Shape := ⟨2, ![5632, 1024]⟩

abbrev nBuf : Space → Nat
  | .hbm => 131
  | .vmem => 0
  | .smem => 0
  | _ => 0

abbrev hbmTy0_0 (i : Nat) : BufTy := match i % 128 with
  | 0 => ⟨S3x16384x1024, .f32⟩
  | 1 => ⟨S4x1024, .f32⟩
  | 2 => ⟨S4x1024, .f32⟩
  | 3 => ⟨S3x16384x5632, .f32⟩
  | 4 => ⟨S_, .f32⟩
  | 5 => ⟨S3x1024x5632, .f32⟩
  | 6 => ⟨S1x16384x1024, .f32⟩
  | 7 => ⟨S16384x1024, .f32⟩
  | 8 => ⟨S1x1024, .f32⟩
  | 9 => ⟨S1x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S16384x1024, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S_, .f32⟩
  | 28 => ⟨S16384x1, .f32⟩
  | 29 => ⟨S16384x1, .f32⟩
  | 30 => ⟨S16384x1, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S1x1024x5632, .f32⟩
  | 38 => ⟨S1024x5632, .f32⟩
  | 39 => ⟨S16384x5632, .f32⟩
  | 40 => ⟨S1x16384x1024, .f32⟩
  | 41 => ⟨S16384x1024, .f32⟩
  | 42 => ⟨S1x1024, .f32⟩
  | 43 => ⟨S1x1024, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S16384x1024, .f32⟩
  | 51 => ⟨S16384x1024, .f32⟩
  | 52 => ⟨S16384x1024, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S16384x1024, .f32⟩
  | 60 => ⟨S16384x1024, .f32⟩
  | 61 => ⟨S_, .f32⟩
  | 62 => ⟨S16384x1, .f32⟩
  | 63 => ⟨S16384x1, .f32⟩
  | 64 => ⟨S16384x1, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S1x1024x5632, .f32⟩
  | 72 => ⟨S1024x5632, .f32⟩
  | 73 => ⟨S16384x5632, .f32⟩
  | 74 => ⟨S1x16384x1024, .f32⟩
  | 75 => ⟨S16384x1024, .f32⟩
  | 76 => ⟨S1x1024, .f32⟩
  | 77 => ⟨S1x1024, .f32⟩
  | 78 => ⟨S_, .f32⟩
  | 79 => ⟨S16384, .f32⟩
  | 80 => ⟨S16384x1, .f32⟩
  | 81 => ⟨S_, .f32⟩
  | 82 => ⟨S16384x1, .f32⟩
  | 83 => ⟨S16384x1, .f32⟩
  | 84 => ⟨S16384x1024, .f32⟩
  | 85 => ⟨S16384x1024, .f32⟩
  | 86 => ⟨S16384x1024, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S16384x1024, .f32⟩
  | 94 => ⟨S16384x1024, .f32⟩
  | 95 => ⟨S_, .f32⟩
  | 96 => ⟨S16384x1, .f32⟩
  | 97 => ⟨S16384x1, .f32⟩
  | 98 => ⟨S16384x1, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S1x1024x5632, .f32⟩
  | 106 => ⟨S1024x5632, .f32⟩
  | 107 => ⟨S16384x5632, .f32⟩
  | 108 => ⟨S1x16384x5632, .f32⟩
  | 109 => ⟨S16384x5632, .f32⟩
  | 110 => ⟨S1x16384x5632, .f32⟩
  | 111 => ⟨S16384x5632, .f32⟩
  | 112 => ⟨S1x16384x5632, .f32⟩
  | 113 => ⟨S16384x5632, .f32⟩
  | 114 => ⟨S5632x1024, .f32⟩
  | 115 => ⟨S1024x5632, .f32⟩
  | 116 => ⟨S1x1024x5632, .f32⟩
  | 117 => ⟨S_, .f32⟩
  | 118 => ⟨S3x1024x5632, .f32⟩
  | 119 => ⟨S5632x1024, .f32⟩
  | 120 => ⟨S1024x5632, .f32⟩
  | 121 => ⟨S1x1024x5632, .f32⟩
  | 122 => ⟨S_, .f32⟩
  | 123 => ⟨S3x1024x5632, .f32⟩
  | 124 => ⟨S3x1024x5632, .f32⟩
  | 125 => ⟨S5632x1024, .f32⟩
  | 126 => ⟨S1024x5632, .f32⟩
  | 127 => ⟨S1x1024x5632, .f32⟩
  | _ => ⟨S3x16384x1024, .f32⟩

abbrev hbmTy0_1 (i : Nat) : BufTy := match i % 128 with
  | 0 => ⟨S_, .f32⟩
  | 1 => ⟨S3x1024x5632, .f32⟩
  | 2 => ⟨S3x1024x5632, .f32⟩
  | _ => ⟨S3x16384x1024, .f32⟩

abbrev hbmTy (i : Nat) : BufTy := match i / 128 with
  | 0 => hbmTy0_0 i
  | 1 => hbmTy0_1 i
  | _ => ⟨S3x16384x1024, .f32⟩

abbrev bufTy : (tb : Table) → Fin (tcTables nBuf tb) → BufTy
  | .hbm, ⟨i, _⟩ => hbmTy i
  | _, _ => ⟨S3x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_15 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_16 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_17 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]
-- ==== Kernel6.lean ====
abbrev S16384x2048 : Shape := ⟨2, ![16384, 2048]⟩
abbrev S16384x1024 : Shape := ⟨2, ![16384, 1024]⟩
abbrev S2x1024x2048 : Shape := ⟨3, ![2, 1024, 2048]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S2x1024x2048, .f32⟩
  | .hbm, ⟨3, _⟩ => ⟨S16384x2048, .bf16⟩
  | .hbm, ⟨4, _⟩ => ⟨S2x1024x2048, .bf16⟩
  | .hbm, ⟨5, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x1024x2048, .bf16⟩
  | .local _ .vmem, ⟨5, _⟩ => ⟨S512x1024, .f32⟩
  | .local _ .vmem, ⟨6, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x2048 : Shape := ⟨2, ![16384, 2048]⟩
abbrev S16384x1024 : Shape := ⟨2, ![16384, 1024]⟩
abbrev S2x1024x2048 : Shape := ⟨3, ![2, 1024, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S2x1024x2048, .f32⟩
  | .hbm, ⟨3, _⟩ => ⟨S_, .f32⟩
  | .hbm, ⟨4, _⟩ => ⟨S16384x1024, .f32⟩
  | .hbm, ⟨5, _⟩ => ⟨S1x1024x2048, .f32⟩
  | .hbm, ⟨6, _⟩ => ⟨S1024x2048, .f32⟩
  | .hbm, ⟨7, _⟩ => ⟨S16384x2048, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel7.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S512x1024 : Shape := ⟨2, ![512, 1024]⟩
abbrev S1x3x5632 : Shape := ⟨3, ![1, 3, 5632]⟩
abbrev S512x1 : Shape := ⟨2, ![512, 1]⟩
abbrev S512x5632 : Shape := ⟨2, ![512, 5632]⟩
abbrev S8x5632 : Shape := ⟨2, ![8, 5632]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S1x1x256 : Shape := ⟨3, ![1, 1, 256]⟩
abbrev S1x256x1024 : Shape := ⟨3, ![1, 256, 1024]⟩
abbrev S256x1024 : Shape := ⟨2, ![256, 1024]⟩
abbrev S512 : Shape := ⟨1, ![512]⟩

abbrev nBuf : Space → Nat
  | .hbm => 35
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024x5632, .bf16⟩
  | .hbm, ⟨30, _⟩ => ⟨S1x2816x1024, .bf16⟩
  | .hbm, ⟨31, _⟩ => ⟨S16384x1024, .f32⟩
  | .hbm, ⟨32, _⟩ => ⟨S16384x1, .f32⟩
  | .hbm, ⟨33, _⟩ => ⟨S16384x5632, .bf16⟩
  | .hbm, ⟨34, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x5632, .bf16⟩
  | .local _ .vmem, ⟨5, _⟩ => ⟨S1x3x5632, .f32⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x5632, .bf16⟩
  | .local _ .vmem, ⟨12, _⟩ => ⟨S512x5632, .bf16⟩
  | .local _ .vmem, ⟨13, _⟩ => ⟨S512x5632, .bf16⟩
  | .local _ .vmem, ⟨14, _⟩ => ⟨S512x5632, .bf16⟩
  | .local _ .vmem, ⟨15, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S16384x2816 : Shape := ⟨2, ![16384, 2816]⟩
abbrev S2816x1024 : Shape := ⟨2, ![2816, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x5632, .f32⟩
  | .hbm, ⟨34, _⟩ => ⟨S16384x5632, .f32⟩
  | .hbm, ⟨35, _⟩ => ⟨S1x3x5632, .f32⟩
  | .hbm, ⟨36, _⟩ => ⟨S3x5632, .f32⟩
  | .hbm, ⟨37, _⟩ => ⟨S_, .f32⟩
  | .hbm, ⟨38, _⟩ => ⟨S2x5632, .f32⟩
  | .hbm, ⟨39, _⟩ => ⟨S16386x5632, .f32⟩
  | .hbm, ⟨40, _⟩ => ⟨S16384x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S16384x5632, .f32⟩
  | .hbm, ⟨45, _⟩ => ⟨S16384x5632, .f32⟩
  | .hbm, ⟨46, _⟩ => ⟨S_, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S1x5632, .f32⟩
  | .hbm, ⟨51, _⟩ => ⟨S5632, .f32⟩
  | .hbm, ⟨52, _⟩ => ⟨S1x5632, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S1x5632, .f32⟩
  | .hbm, ⟨58, _⟩ => ⟨S5632, .f32⟩
  | .hbm, ⟨59, _⟩ => ⟨S1x5632, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S_, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S2816x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x5632, .bf16⟩
  | .hbm, ⟨105, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Kernel8.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S512x1024 : Shape := ⟨2, ![512, 1024]⟩
abbrev S1x3x5632 : Shape := ⟨3, ![1, 3, 5632]⟩
abbrev S512x1 : Shape := ⟨2, ![512, 1]⟩
abbrev S512x5632 : Shape := ⟨2, ![512, 5632]⟩
abbrev S8x5632 : Shape := ⟨2, ![8, 5632]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S1x1x256 : Shape := ⟨3, ![1, 1, 256]⟩
abbrev S1x256x1024 : Shape := ⟨3, ![1, 256, 1024]⟩
abbrev S256x1024 : Shape := ⟨2, ![256, 1024]⟩
abbrev S512 : Shape := ⟨1, ![512]⟩

abbrev nBuf : Space → Nat
  | .hbm => 35
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024x5632, .bf16⟩
  | .hbm, ⟨30, _⟩ => ⟨S1x2816x1024, .bf16⟩
  | .hbm, ⟨31, _⟩ => ⟨S16384x1024, .f32⟩
  | .hbm, ⟨32, _⟩ => ⟨S16384x1, .f32⟩
  | .hbm, ⟨33, _⟩ => ⟨S16384x5632, .bf16⟩
  | .hbm, ⟨34, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x5632, .bf16⟩
  | .local _ .vmem, ⟨5, _⟩ => ⟨S1x3x5632, .f32⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x5632, .bf16⟩
  | .local _ .vmem, ⟨12, _⟩ => ⟨S512x5632, .bf16⟩
  | .local _ .vmem, ⟨13, _⟩ => ⟨S512x5632, .bf16⟩
  | .local _ .vmem, ⟨14, _⟩ => ⟨S512x5632, .bf16⟩
  | .local _ .vmem, ⟨15, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S16384x2816 : Shape := ⟨2, ![16384, 2816]⟩
abbrev S2816x1024 : Shape := ⟨2, ![2816, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x5632, .f32⟩
  | .hbm, ⟨34, _⟩ => ⟨S16384x5632, .f32⟩
  | .hbm, ⟨35, _⟩ => ⟨S1x3x5632, .f32⟩
  | .hbm, ⟨36, _⟩ => ⟨S3x5632, .f32⟩
  | .hbm, ⟨37, _⟩ => ⟨S_, .f32⟩
  | .hbm, ⟨38, _⟩ => ⟨S2x5632, .f32⟩
  | .hbm, ⟨39, _⟩ => ⟨S16386x5632, .f32⟩
  | .hbm, ⟨40, _⟩ => ⟨S16384x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S16384x5632, .f32⟩
  | .hbm, ⟨45, _⟩ => ⟨S16384x5632, .f32⟩
  | .hbm, ⟨46, _⟩ => ⟨S_, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S1x5632, .f32⟩
  | .hbm, ⟨51, _⟩ => ⟨S5632, .f32⟩
  | .hbm, ⟨52, _⟩ => ⟨S1x5632, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S1x5632, .f32⟩
  | .hbm, ⟨58, _⟩ => ⟨S5632, .f32⟩
  | .hbm, ⟨59, _⟩ => ⟨S1x5632, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S_, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S2816x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x5632, .bf16⟩
  | .hbm, ⟨105, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Kernel9.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S512x1024 : Shape := ⟨2, ![512, 1024]⟩
abbrev S1x3x5632 : Shape := ⟨3, ![1, 3, 5632]⟩
abbrev S512x1 : Shape := ⟨2, ![512, 1]⟩
abbrev S512x5632 : Shape := ⟨2, ![512, 5632]⟩
abbrev S8x5632 : Shape := ⟨2, ![8, 5632]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S1x1x256 : Shape := ⟨3, ![1, 1, 256]⟩
abbrev S1x256x1024 : Shape := ⟨3, ![1, 256, 1024]⟩
abbrev S256x1024 : Shape := ⟨2, ![256, 1024]⟩
abbrev S512 : Shape := ⟨1, ![512]⟩

abbrev nBuf : Space → Nat
  | .hbm => 35
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024x5632, .bf16⟩
  | .hbm, ⟨30, _⟩ => ⟨S1x2816x1024, .bf16⟩
  | .hbm, ⟨31, _⟩ => ⟨S16384x1024, .f32⟩
  | .hbm, ⟨32, _⟩ => ⟨S16384x1, .f32⟩
  | .hbm, ⟨33, _⟩ => ⟨S16384x5632, .bf16⟩
  | .hbm, ⟨34, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x5632, .bf16⟩
  | .local _ .vmem, ⟨5, _⟩ => ⟨S1x3x5632, .f32⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x5632, .bf16⟩
  | .local _ .vmem, ⟨12, _⟩ => ⟨S512x5632, .bf16⟩
  | .local _ .vmem, ⟨13, _⟩ => ⟨S512x5632, .bf16⟩
  | .local _ .vmem, ⟨14, _⟩ => ⟨S512x5632, .bf16⟩
  | .local _ .vmem, ⟨15, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S16384x2816 : Shape := ⟨2, ![16384, 2816]⟩
abbrev S2816x1024 : Shape := ⟨2, ![2816, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S4x3x5632, .f32⟩
  | .hbm, ⟨5, _⟩ => ⟨S1x2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x5632, .f32⟩
  | .hbm, ⟨34, _⟩ => ⟨S16384x5632, .f32⟩
  | .hbm, ⟨35, _⟩ => ⟨S1x3x5632, .f32⟩
  | .hbm, ⟨36, _⟩ => ⟨S3x5632, .f32⟩
  | .hbm, ⟨37, _⟩ => ⟨S_, .f32⟩
  | .hbm, ⟨38, _⟩ => ⟨S2x5632, .f32⟩
  | .hbm, ⟨39, _⟩ => ⟨S16386x5632, .f32⟩
  | .hbm, ⟨40, _⟩ => ⟨S16384x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S16384x5632, .f32⟩
  | .hbm, ⟨45, _⟩ => ⟨S16384x5632, .f32⟩
  | .hbm, ⟨46, _⟩ => ⟨S_, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S1x5632, .f32⟩
  | .hbm, ⟨51, _⟩ => ⟨S5632, .f32⟩
  | .hbm, ⟨52, _⟩ => ⟨S1x5632, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S1x5632, .f32⟩
  | .hbm, ⟨58, _⟩ => ⟨S5632, .f32⟩
  | .hbm, ⟨59, _⟩ => ⟨S1x5632, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S_, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S2816x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x5632, .bf16⟩
  | .hbm, ⟨105, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Kernel10.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S3x5632 : Shape := ⟨2, ![3, 5632]⟩
abbrev S512x5632 : Shape := ⟨2, ![512, 5632]⟩
abbrev S16x5632 : Shape := ⟨2, ![16, 5632]⟩
abbrev S512x1024 : Shape := ⟨2, ![512, 1024]⟩
abbrev S1x3x5632 : Shape := ⟨3, ![1, 3, 5632]⟩
abbrev S512x1 : Shape := ⟨2, ![512, 1]⟩
abbrev S512x512 : Shape := ⟨2, ![512, 512]⟩
abbrev S16x512 : Shape := ⟨2, ![16, 512]⟩
abbrev S1x512 : Shape := ⟨2, ![1, 512]⟩
abbrev S8x512 : Shape := ⟨2, ![8, 512]⟩
abbrev S504x512 : Shape := ⟨2, ![504, 512]⟩
abbrev S512 : Shape := ⟨1, ![512]⟩
abbrev S1x1x512 : Shape := ⟨3, ![1, 1, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 44
  | .vmem => 22
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S4x3x5632, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x5632, .f32⟩
  | .hbm, ⟨35, _⟩ => ⟨S16384x5632, .f32⟩
  | .hbm, ⟨36, _⟩ => ⟨S16384x5632, .bf16⟩
  | .hbm, ⟨37, _⟩ => ⟨S16384x5632, .bf16⟩
  | .hbm, ⟨38, _⟩ => ⟨S1x1024x5632, .bf16⟩
  | .hbm, ⟨39, _⟩ => ⟨S16384x1024, .f32⟩
  | .hbm, ⟨40, _⟩ => ⟨S16384x5632, .bf16⟩
  | .hbm, ⟨41, _⟩ => ⟨S3x5632, .f32⟩
  | .hbm, ⟨42, _⟩ => ⟨S1x1024, .f32⟩
  | .hbm, ⟨43, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .f32⟩
  | .local _ .vmem, ⟨7, _⟩ => ⟨S512x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x5632, .bf16⟩
  | .local _ .vmem, ⟨18, _⟩ => ⟨S512x5632, .bf16⟩
  | .local _ .vmem, ⟨19, _⟩ => ⟨S3x5632, .f32⟩
  | .local _ .vmem, ⟨20, _⟩ => ⟨S1x1024, .f32⟩
  | .local _ .vmem, ⟨21, _⟩ => ⟨S1x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference10Ideal.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S1024 : Shape := ⟨1, ![1024]⟩

abbrev nBuf : Space → Nat
  | .hbm => 166
  | .vmem => 0
  | .smem => 0
  | _ => 0

abbrev hbmTy0_0 (i : Nat) : BufTy := match i % 128 with
  | 0 => ⟨S16384x5632, .f32⟩
  | 1 => ⟨S16384x1024, .f32⟩
  | 2 => ⟨S16384x1024, .f32⟩
  | 3 => ⟨S1x1024, .f32⟩
  | 4 => ⟨S1x1024, .f32⟩
  | 5 => ⟨S1x1024x5632, .f32⟩
  | 6 => ⟨S4x3x5632, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S_, .f32⟩
  | 28 => ⟨S16384x1, .f32⟩
  | 29 => ⟨S16384x1, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S1024x5632, .f32⟩
  | 42 => ⟨S16384x5632, .f32⟩
  | 43 => ⟨S1x3x5632, .f32⟩
  | 44 => ⟨S3x5632, .f32⟩
  | 45 => ⟨S_, .f32⟩
  | 46 => ⟨S2x5632, .f32⟩
  | 47 => ⟨S16386x5632, .f32⟩
  | 48 => ⟨S_, .f32⟩
  | 49 => ⟨S2x5632, .f32⟩
  | 50 => ⟨S16384x5632, .f32⟩
  | 51 => ⟨S1x5632, .f32⟩
  | 52 => ⟨S5632, .f32⟩
  | 53 => ⟨S1x5632, .f32⟩
  | 54 => ⟨S16384x5632, .f32⟩
  | 55 => ⟨S16384x5632, .f32⟩
  | 56 => ⟨S_, .f32⟩
  | 57 => ⟨S16384x5632, .f32⟩
  | 58 => ⟨S16384x5632, .f32⟩
  | 59 => ⟨S16384x5632, .f32⟩
  | 60 => ⟨S1x5632, .f32⟩
  | 61 => ⟨S5632, .f32⟩
  | 62 => ⟨S1x5632, .f32⟩
  | 63 => ⟨S16384x5632, .f32⟩
  | 64 => ⟨S16384x5632, .f32⟩
  | 65 => ⟨S16384x5632, .f32⟩
  | 66 => ⟨S16384x5632, .f32⟩
  | 67 => ⟨S1x5632, .f32⟩
  | 68 => ⟨S5632, .f32⟩
  | 69 => ⟨S1x5632, .f32⟩
  | 70 => ⟨S16384x5632, .f32⟩
  | 71 => ⟨S16384x5632, .f32⟩
  | 72 => ⟨S16384x5632, .f32⟩
  | 73 => ⟨S16384x5632, .f32⟩
  | 74 => ⟨S16384x5632, .f32⟩
  | 75 => ⟨S16384x5632, .f32⟩
  | 76 => ⟨S_, .f32⟩
  | 77 => ⟨S5632, .f32⟩
  | 78 => ⟨S1x5632, .f32⟩
  | 79 => ⟨S16384x5632, .f32⟩
  | 80 => ⟨S16384x5632, .f32⟩
  | 81 => ⟨S_, .f32⟩
  | 82 => ⟨S5632, .f32⟩
  | 83 => ⟨S1x5632, .f32⟩
  | 84 => ⟨S_, .f32⟩
  | 85 => ⟨S3x5632, .f32⟩
  | 86 => ⟨S_, .f32⟩
  | 87 => ⟨S16386x5632, .f32⟩
  | 88 => ⟨S16384x5632, .f32⟩
  | 89 => ⟨S_, .f32⟩
  | 90 => ⟨S5632, .f32⟩
  | 91 => ⟨S1x5632, .f32⟩
  | 92 => ⟨S16384x5632, .f32⟩
  | 93 => ⟨S16384x5632, .f32⟩
  | 94 => ⟨S_, .f32⟩
  | 95 => ⟨S5632, .f32⟩
  | 96 => ⟨S1x5632, .f32⟩
  | 97 => ⟨S_, .f32⟩
  | 98 => ⟨S3x5632, .f32⟩
  | 99 => ⟨S3x5632, .f32⟩
  | 100 => ⟨S_, .f32⟩
  | 101 => ⟨S16386x5632, .f32⟩
  | 102 => ⟨S16386x5632, .f32⟩
  | 103 => ⟨S16384x5632, .f32⟩
  | 104 => ⟨S_, .f32⟩
  | 105 => ⟨S5632, .f32⟩
  | 106 => ⟨S1x5632, .f32⟩
  | 107 => ⟨S16384x5632, .f32⟩
  | 108 => ⟨S16384x5632, .f32⟩
  | 109 => ⟨S_, .f32⟩
  | 110 => ⟨S5632, .f32⟩
  | 111 => ⟨S1x5632, .f32⟩
  | 112 => ⟨S_, .f32⟩
  | 113 => ⟨S3x5632, .f32⟩
  | 114 => ⟨S3x5632, .f32⟩
  | 115 => ⟨S_, .f32⟩
  | 116 => ⟨S16386x5632, .f32⟩
  | 117 => ⟨S16386x5632, .f32⟩
  | 118 => ⟨S2x5632, .f32⟩
  | 119 => ⟨S16384x5632, .f32⟩
  | 120 => ⟨S16384x1024, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S1024, .f32⟩
  | 127 => ⟨S1x1024, .f32⟩
  | _ => ⟨S16384x5632, .f32⟩

abbrev hbmTy0_1 (i : Nat) : BufTy := match i % 128 with
  | 0 => ⟨S16384x1024, .f32⟩
  | 1 => ⟨S_, .f32⟩
  | 2 => ⟨S1024, .f32⟩
  | 3 => ⟨S1x1024, .f32⟩
  | 4 => ⟨S16384x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S16384x1024, .f32⟩
  | 11 => ⟨S16384x1024, .f32⟩
  | 12 => ⟨S16384x1, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384, .f32⟩
  | 22 => ⟨S16384x1024, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S16384x1024, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384, .f32⟩
  | 35 => ⟨S16384x1024, .f32⟩
  | 36 => ⟨S16384x1024, .f32⟩
  | 37 => ⟨S16384x5632, .bf16⟩
  | _ => ⟨S16384x5632, .f32⟩

abbrev hbmTy (i : Nat) : BufTy := match i / 128 with
  | 0 => hbmTy0_0 i
  | 1 => hbmTy0_1 i
  | _ => ⟨S16384x5632, .f32⟩

abbrev bufTy : (tb : Table) → Fin (tcTables nBuf tb) → BufTy
  | .hbm, ⟨i, _⟩ => hbmTy i
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_cst_11 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_21 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_23 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_24 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_25 : Ref sig .tc := ⟨.hbm, 142, rfl⟩
abbrev main_v109 : Ref sig .tc := ⟨.hbm, 143, rfl⟩
abbrev main_v110 : Ref sig .tc := ⟨.hbm, 144, rfl⟩
abbrev main_cst_26 : Ref sig .tc := ⟨.hbm, 145, rfl⟩
abbrev main_v111 : Ref sig .tc := ⟨.hbm, 146, rfl⟩
abbrev main_v112 : Ref sig .tc := ⟨.hbm, 147, rfl⟩
abbrev main_cst_27 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_29 : Ref sig .tc := ⟨.hbm, 158, rfl⟩
abbrev main_v121 : Ref sig .tc := ⟨.hbm, 159, rfl⟩
abbrev main_v122 : Ref sig .tc := ⟨.hbm, 160, rfl⟩
abbrev main_cst_30 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩

abbrev nD : Nat := 1
abbrev τ : Topo := Topo.v7x

variable {F : FTy → Type} [FloatOps F]
-- ==== Kernel11.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S3x5632 : Shape := ⟨2, ![3, 5632]⟩
abbrev S512x5632 : Shape := ⟨2, ![512, 5632]⟩
abbrev S16x5632 : Shape := ⟨2, ![16, 5632]⟩
abbrev S512x1024 : Shape := ⟨2, ![512, 1024]⟩
abbrev S1x3x5632 : Shape := ⟨3, ![1, 3, 5632]⟩
abbrev S512x1 : Shape := ⟨2, ![512, 1]⟩
abbrev S512x512 : Shape := ⟨2, ![512, 512]⟩
abbrev S16x512 : Shape := ⟨2, ![16, 512]⟩
abbrev S1x512 : Shape := ⟨2, ![1, 512]⟩
abbrev S8x512 : Shape := ⟨2, ![8, 512]⟩
abbrev S504x512 : Shape := ⟨2, ![504, 512]⟩
abbrev S512 : Shape := ⟨1, ![512]⟩
abbrev S1x1x512 : Shape := ⟨3, ![1, 1, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 44
  | .vmem => 22
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S4x3x5632, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x5632, .f32⟩
  | .hbm, ⟨35, _⟩ => ⟨S16384x5632, .f32⟩
  | .hbm, ⟨36, _⟩ => ⟨S16384x5632, .bf16⟩
  | .hbm, ⟨37, _⟩ => ⟨S16384x5632, .bf16⟩
  | .hbm, ⟨38, _⟩ => ⟨S1x1024x5632, .bf16⟩
  | .hbm, ⟨39, _⟩ => ⟨S16384x1024, .f32⟩
  | .hbm, ⟨40, _⟩ => ⟨S16384x5632, .bf16⟩
  | .hbm, ⟨41, _⟩ => ⟨S3x5632, .f32⟩
  | .hbm, ⟨42, _⟩ => ⟨S1x1024, .f32⟩
  | .hbm, ⟨43, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .f32⟩
  | .local _ .vmem, ⟨7, _⟩ => ⟨S512x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x5632, .bf16⟩
  | .local _ .vmem, ⟨18, _⟩ => ⟨S512x5632, .bf16⟩
  | .local _ .vmem, ⟨19, _⟩ => ⟨S3x5632, .f32⟩
  | .local _ .vmem, ⟨20, _⟩ => ⟨S1x1024, .f32⟩
  | .local _ .vmem, ⟨21, _⟩ => ⟨S1x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference11Ideal.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S1024 : Shape := ⟨1, ![1024]⟩

abbrev nBuf : Space → Nat
  | .hbm => 166
  | .vmem => 0
  | .smem => 0
  | _ => 0

abbrev hbmTy0_0 (i : Nat) : BufTy := match i % 128 with
  | 0 => ⟨S16384x5632, .f32⟩
  | 1 => ⟨S16384x1024, .f32⟩
  | 2 => ⟨S16384x1024, .f32⟩
  | 3 => ⟨S1x1024, .f32⟩
  | 4 => ⟨S1x1024, .f32⟩
  | 5 => ⟨S1x1024x5632, .f32⟩
  | 6 => ⟨S4x3x5632, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S_, .f32⟩
  | 28 => ⟨S16384x1, .f32⟩
  | 29 => ⟨S16384x1, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S1024x5632, .f32⟩
  | 42 => ⟨S16384x5632, .f32⟩
  | 43 => ⟨S1x3x5632, .f32⟩
  | 44 => ⟨S3x5632, .f32⟩
  | 45 => ⟨S_, .f32⟩
  | 46 => ⟨S2x5632, .f32⟩
  | 47 => ⟨S16386x5632, .f32⟩
  | 48 => ⟨S_, .f32⟩
  | 49 => ⟨S2x5632, .f32⟩
  | 50 => ⟨S16384x5632, .f32⟩
  | 51 => ⟨S1x5632, .f32⟩
  | 52 => ⟨S5632, .f32⟩
  | 53 => ⟨S1x5632, .f32⟩
  | 54 => ⟨S16384x5632, .f32⟩
  | 55 => ⟨S16384x5632, .f32⟩
  | 56 => ⟨S_, .f32⟩
  | 57 => ⟨S16384x5632, .f32⟩
  | 58 => ⟨S16384x5632, .f32⟩
  | 59 => ⟨S16384x5632, .f32⟩
  | 60 => ⟨S1x5632, .f32⟩
  | 61 => ⟨S5632, .f32⟩
  | 62 => ⟨S1x5632, .f32⟩
  | 63 => ⟨S16384x5632, .f32⟩
  | 64 => ⟨S16384x5632, .f32⟩
  | 65 => ⟨S16384x5632, .f32⟩
  | 66 => ⟨S16384x5632, .f32⟩
  | 67 => ⟨S1x5632, .f32⟩
  | 68 => ⟨S5632, .f32⟩
  | 69 => ⟨S1x5632, .f32⟩
  | 70 => ⟨S16384x5632, .f32⟩
  | 71 => ⟨S16384x5632, .f32⟩
  | 72 => ⟨S16384x5632, .f32⟩
  | 73 => ⟨S16384x5632, .f32⟩
  | 74 => ⟨S16384x5632, .f32⟩
  | 75 => ⟨S16384x5632, .f32⟩
  | 76 => ⟨S_, .f32⟩
  | 77 => ⟨S5632, .f32⟩
  | 78 => ⟨S1x5632, .f32⟩
  | 79 => ⟨S16384x5632, .f32⟩
  | 80 => ⟨S16384x5632, .f32⟩
  | 81 => ⟨S_, .f32⟩
  | 82 => ⟨S5632, .f32⟩
  | 83 => ⟨S1x5632, .f32⟩
  | 84 => ⟨S_, .f32⟩
  | 85 => ⟨S3x5632, .f32⟩
  | 86 => ⟨S_, .f32⟩
  | 87 => ⟨S16386x5632, .f32⟩
  | 88 => ⟨S16384x5632, .f32⟩
  | 89 => ⟨S_, .f32⟩
  | 90 => ⟨S5632, .f32⟩
  | 91 => ⟨S1x5632, .f32⟩
  | 92 => ⟨S16384x5632, .f32⟩
  | 93 => ⟨S16384x5632, .f32⟩
  | 94 => ⟨S_, .f32⟩
  | 95 => ⟨S5632, .f32⟩
  | 96 => ⟨S1x5632, .f32⟩
  | 97 => ⟨S_, .f32⟩
  | 98 => ⟨S3x5632, .f32⟩
  | 99 => ⟨S3x5632, .f32⟩
  | 100 => ⟨S_, .f32⟩
  | 101 => ⟨S16386x5632, .f32⟩
  | 102 => ⟨S16386x5632, .f32⟩
  | 103 => ⟨S16384x5632, .f32⟩
  | 104 => ⟨S_, .f32⟩
  | 105 => ⟨S5632, .f32⟩
  | 106 => ⟨S1x5632, .f32⟩
  | 107 => ⟨S16384x5632, .f32⟩
  | 108 => ⟨S16384x5632, .f32⟩
  | 109 => ⟨S_, .f32⟩
  | 110 => ⟨S5632, .f32⟩
  | 111 => ⟨S1x5632, .f32⟩
  | 112 => ⟨S_, .f32⟩
  | 113 => ⟨S3x5632, .f32⟩
  | 114 => ⟨S3x5632, .f32⟩
  | 115 => ⟨S_, .f32⟩
  | 116 => ⟨S16386x5632, .f32⟩
  | 117 => ⟨S16386x5632, .f32⟩
  | 118 => ⟨S2x5632, .f32⟩
  | 119 => ⟨S16384x5632, .f32⟩
  | 120 => ⟨S16384x1024, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S1024, .f32⟩
  | 127 => ⟨S1x1024, .f32⟩
  | _ => ⟨S16384x5632, .f32⟩

abbrev hbmTy0_1 (i : Nat) : BufTy := match i % 128 with
  | 0 => ⟨S16384x1024, .f32⟩
  | 1 => ⟨S_, .f32⟩
  | 2 => ⟨S1024, .f32⟩
  | 3 => ⟨S1x1024, .f32⟩
  | 4 => ⟨S16384x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S16384x1024, .f32⟩
  | 11 => ⟨S16384x1024, .f32⟩
  | 12 => ⟨S16384x1, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384, .f32⟩
  | 22 => ⟨S16384x1024, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S16384x1024, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384, .f32⟩
  | 35 => ⟨S16384x1024, .f32⟩
  | 36 => ⟨S16384x1024, .f32⟩
  | 37 => ⟨S16384x5632, .bf16⟩
  | _ => ⟨S16384x5632, .f32⟩

abbrev hbmTy (i : Nat) : BufTy := match i / 128 with
  | 0 => hbmTy0_0 i
  | 1 => hbmTy0_1 i
  | _ => ⟨S16384x5632, .f32⟩

abbrev bufTy : (tb : Table) → Fin (tcTables nBuf tb) → BufTy
  | .hbm, ⟨i, _⟩ => hbmTy i
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_cst_11 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_21 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_23 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_24 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_25 : Ref sig .tc := ⟨.hbm, 142, rfl⟩
abbrev main_v109 : Ref sig .tc := ⟨.hbm, 143, rfl⟩
abbrev main_v110 : Ref sig .tc := ⟨.hbm, 144, rfl⟩
abbrev main_cst_26 : Ref sig .tc := ⟨.hbm, 145, rfl⟩
abbrev main_v111 : Ref sig .tc := ⟨.hbm, 146, rfl⟩
abbrev main_v112 : Ref sig .tc := ⟨.hbm, 147, rfl⟩
abbrev main_cst_27 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_29 : Ref sig .tc := ⟨.hbm, 158, rfl⟩
abbrev main_v121 : Ref sig .tc := ⟨.hbm, 159, rfl⟩
abbrev main_v122 : Ref sig .tc := ⟨.hbm, 160, rfl⟩
abbrev main_cst_30 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩

abbrev nD : Nat := 1
abbrev τ : Topo := Topo.v7x

variable {F : FTy → Type} [FloatOps F]
-- ==== Kernel12.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S3x5632 : Shape := ⟨2, ![3, 5632]⟩
abbrev S512x5632 : Shape := ⟨2, ![512, 5632]⟩
abbrev S16x5632 : Shape := ⟨2, ![16, 5632]⟩
abbrev S512x1024 : Shape := ⟨2, ![512, 1024]⟩
abbrev S1x3x5632 : Shape := ⟨3, ![1, 3, 5632]⟩
abbrev S512x1 : Shape := ⟨2, ![512, 1]⟩
abbrev S512x512 : Shape := ⟨2, ![512, 512]⟩
abbrev S16x512 : Shape := ⟨2, ![16, 512]⟩
abbrev S1x512 : Shape := ⟨2, ![1, 512]⟩
abbrev S8x512 : Shape := ⟨2, ![8, 512]⟩
abbrev S504x512 : Shape := ⟨2, ![504, 512]⟩
abbrev S512 : Shape := ⟨1, ![512]⟩
abbrev S1x1x512 : Shape := ⟨3, ![1, 1, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 44
  | .vmem => 22
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S4x3x5632, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x5632, .f32⟩
  | .hbm, ⟨35, _⟩ => ⟨S16384x5632, .f32⟩
  | .hbm, ⟨36, _⟩ => ⟨S16384x5632, .bf16⟩
  | .hbm, ⟨37, _⟩ => ⟨S16384x5632, .bf16⟩
  | .hbm, ⟨38, _⟩ => ⟨S1x1024x5632, .bf16⟩
  | .hbm, ⟨39, _⟩ => ⟨S16384x1024, .f32⟩
  | .hbm, ⟨40, _⟩ => ⟨S16384x5632, .bf16⟩
  | .hbm, ⟨41, _⟩ => ⟨S3x5632, .f32⟩
  | .hbm, ⟨42, _⟩ => ⟨S1x1024, .f32⟩
  | .hbm, ⟨43, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .f32⟩
  | .local _ .vmem, ⟨7, _⟩ => ⟨S512x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x5632, .bf16⟩
  | .local _ .vmem, ⟨18, _⟩ => ⟨S512x5632, .bf16⟩
  | .local _ .vmem, ⟨19, _⟩ => ⟨S3x5632, .f32⟩
  | .local _ .vmem, ⟨20, _⟩ => ⟨S1x1024, .f32⟩
  | .local _ .vmem, ⟨21, _⟩ => ⟨S1x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference12Ideal.lean ====
abbrev S16384x5632 : Shape := ⟨2, ![16384, 5632]⟩
abbrev S16384x1024 : Shape := ⟨2, ![16384, 1024]⟩
abbrev S1x1024 : Shape := ⟨2, ![1, 1024]⟩
abbrev S1x1024x5632 : Shape := ⟨3, ![1, 1024, 5632]⟩
abbrev S4x3x5632 : Shape := ⟨3, ![4, 3, 5632]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S1x3x5632 : Shape := ⟨3, ![1, 3, 5632]⟩
abbrev S3x5632 : Shape := ⟨2, ![3, 5632]⟩
abbrev S2x5632 : Shape := ⟨2, ![2, 5632]⟩
abbrev S16386x5632 : Shape := ⟨2, ![16386, 5632]⟩
abbrev S1x5632 : Shape := ⟨2, ![1, 5632]⟩
abbrev S5632 : Shape := ⟨1, ![5632]⟩
abbrev S1024 : Shape := ⟨1, ![1024]⟩

abbrev nBuf : Space → Nat
  | .hbm => 166
  | .vmem => 0
  | .smem => 0
  | _ => 0

abbrev hbmTy0_0 (i : Nat) : BufTy := match i % 128 with
  | 0 => ⟨S16384x5632, .f32⟩
  | 1 => ⟨S16384x1024, .f32⟩
  | 2 => ⟨S16384x1024, .f32⟩
  | 3 => ⟨S1x1024, .f32⟩
  | 4 => ⟨S1x1024, .f32⟩
  | 5 => ⟨S1x1024x5632, .f32⟩
  | 6 => ⟨S4x3x5632, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S_, .f32⟩
  | 28 => ⟨S16384x1, .f32⟩
  | 29 => ⟨S16384x1, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S1024x5632, .f32⟩
  | 42 => ⟨S16384x5632, .f32⟩
  | 43 => ⟨S1x3x5632, .f32⟩
  | 44 => ⟨S3x5632, .f32⟩
  | 45 => ⟨S_, .f32⟩
  | 46 => ⟨S2x5632, .f32⟩
  | 47 => ⟨S16386x5632, .f32⟩
  | 48 => ⟨S_, .f32⟩
  | 49 => ⟨S2x5632, .f32⟩
  | 50 => ⟨S16384x5632, .f32⟩
  | 51 => ⟨S1x5632, .f32⟩
  | 52 => ⟨S5632, .f32⟩
  | 53 => ⟨S1x5632, .f32⟩
  | 54 => ⟨S16384x5632, .f32⟩
  | 55 => ⟨S16384x5632, .f32⟩
  | 56 => ⟨S_, .f32⟩
  | 57 => ⟨S16384x5632, .f32⟩
  | 58 => ⟨S16384x5632, .f32⟩
  | 59 => ⟨S16384x5632, .f32⟩
  | 60 => ⟨S1x5632, .f32⟩
  | 61 => ⟨S5632, .f32⟩
  | 62 => ⟨S1x5632, .f32⟩
  | 63 => ⟨S16384x5632, .f32⟩
  | 64 => ⟨S16384x5632, .f32⟩
  | 65 => ⟨S16384x5632, .f32⟩
  | 66 => ⟨S16384x5632, .f32⟩
  | 67 => ⟨S1x5632, .f32⟩
  | 68 => ⟨S5632, .f32⟩
  | 69 => ⟨S1x5632, .f32⟩
  | 70 => ⟨S16384x5632, .f32⟩
  | 71 => ⟨S16384x5632, .f32⟩
  | 72 => ⟨S16384x5632, .f32⟩
  | 73 => ⟨S16384x5632, .f32⟩
  | 74 => ⟨S16384x5632, .f32⟩
  | 75 => ⟨S16384x5632, .f32⟩
  | 76 => ⟨S_, .f32⟩
  | 77 => ⟨S5632, .f32⟩
  | 78 => ⟨S1x5632, .f32⟩
  | 79 => ⟨S16384x5632, .f32⟩
  | 80 => ⟨S16384x5632, .f32⟩
  | 81 => ⟨S_, .f32⟩
  | 82 => ⟨S5632, .f32⟩
  | 83 => ⟨S1x5632, .f32⟩
  | 84 => ⟨S_, .f32⟩
  | 85 => ⟨S3x5632, .f32⟩
  | 86 => ⟨S_, .f32⟩
  | 87 => ⟨S16386x5632, .f32⟩
  | 88 => ⟨S16384x5632, .f32⟩
  | 89 => ⟨S_, .f32⟩
  | 90 => ⟨S5632, .f32⟩
  | 91 => ⟨S1x5632, .f32⟩
  | 92 => ⟨S16384x5632, .f32⟩
  | 93 => ⟨S16384x5632, .f32⟩
  | 94 => ⟨S_, .f32⟩
  | 95 => ⟨S5632, .f32⟩
  | 96 => ⟨S1x5632, .f32⟩
  | 97 => ⟨S_, .f32⟩
  | 98 => ⟨S3x5632, .f32⟩
  | 99 => ⟨S3x5632, .f32⟩
  | 100 => ⟨S_, .f32⟩
  | 101 => ⟨S16386x5632, .f32⟩
  | 102 => ⟨S16386x5632, .f32⟩
  | 103 => ⟨S16384x5632, .f32⟩
  | 104 => ⟨S_, .f32⟩
  | 105 => ⟨S5632, .f32⟩
  | 106 => ⟨S1x5632, .f32⟩
  | 107 => ⟨S16384x5632, .f32⟩
  | 108 => ⟨S16384x5632, .f32⟩
  | 109 => ⟨S_, .f32⟩
  | 110 => ⟨S5632, .f32⟩
  | 111 => ⟨S1x5632, .f32⟩
  | 112 => ⟨S_, .f32⟩
  | 113 => ⟨S3x5632, .f32⟩
  | 114 => ⟨S3x5632, .f32⟩
  | 115 => ⟨S_, .f32⟩
  | 116 => ⟨S16386x5632, .f32⟩
  | 117 => ⟨S16386x5632, .f32⟩
  | 118 => ⟨S2x5632, .f32⟩
  | 119 => ⟨S16384x5632, .f32⟩
  | 120 => ⟨S16384x1024, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S1024, .f32⟩
  | 127 => ⟨S1x1024, .f32⟩
  | _ => ⟨S16384x5632, .f32⟩

abbrev hbmTy0_1 (i : Nat) : BufTy := match i % 128 with
  | 0 => ⟨S16384x1024, .f32⟩
  | 1 => ⟨S_, .f32⟩
  | 2 => ⟨S1024, .f32⟩
  | 3 => ⟨S1x1024, .f32⟩
  | 4 => ⟨S16384x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S16384x1024, .f32⟩
  | 11 => ⟨S16384x1024, .f32⟩
  | 12 => ⟨S16384x1, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384, .f32⟩
  | 22 => ⟨S16384x1024, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S16384x1024, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384, .f32⟩
  | 35 => ⟨S16384x1024, .f32⟩
  | 36 => ⟨S16384x1024, .f32⟩
  | 37 => ⟨S16384x5632, .bf16⟩
  | _ => ⟨S16384x5632, .f32⟩

abbrev hbmTy (i : Nat) : BufTy := match i / 128 with
  | 0 => hbmTy0_0 i
  | 1 => hbmTy0_1 i
  | _ => ⟨S16384x5632, .f32⟩

abbrev bufTy : (tb : Table) → Fin (tcTables nBuf tb) → BufTy
  | .hbm, ⟨i, _⟩ => hbmTy i
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_cst_11 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_21 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_23 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_24 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_25 : Ref sig .tc := ⟨.hbm, 142, rfl⟩
abbrev main_v109 : Ref sig .tc := ⟨.hbm, 143, rfl⟩
abbrev main_v110 : Ref sig .tc := ⟨.hbm, 144, rfl⟩
abbrev main_cst_26 : Ref sig .tc := ⟨.hbm, 145, rfl⟩
abbrev main_v111 : Ref sig .tc := ⟨.hbm, 146, rfl⟩
abbrev main_v112 : Ref sig .tc := ⟨.hbm, 147, rfl⟩
abbrev main_cst_27 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_29 : Ref sig .tc := ⟨.hbm, 158, rfl⟩
abbrev main_v121 : Ref sig .tc := ⟨.hbm, 159, rfl⟩
abbrev main_v122 : Ref sig .tc := ⟨.hbm, 160, rfl⟩
abbrev main_cst_30 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩

abbrev nD : Nat := 1
abbrev τ : Topo := Topo.v7x

variable {F : FTy → Type} [FloatOps F]
-- ==== Kernel13.lean ====
abbrev S16384x2048 : Shape := ⟨2, ![16384, 2048]⟩
abbrev S16384x1024 : Shape := ⟨2, ![16384, 1024]⟩
abbrev S2x1024x2048 : Shape := ⟨3, ![2, 1024, 2048]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S2x1024x2048, .f32⟩
  | .hbm, ⟨3, _⟩ => ⟨S16384x2048, .bf16⟩
  | .hbm, ⟨4, _⟩ => ⟨S2x1024x2048, .bf16⟩
  | .hbm, ⟨5, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x1024x2048, .bf16⟩
  | .local _ .vmem, ⟨5, _⟩ => ⟨S512x1024, .f32⟩
  | .local _ .vmem, ⟨6, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S16384x2048 : Shape := ⟨2, ![16384, 2048]⟩
abbrev S16384x1024 : Shape := ⟨2, ![16384, 1024]⟩
abbrev S2x1024x2048 : Shape := ⟨3, ![2, 1024, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S2x1024x2048, .f32⟩
  | .hbm, ⟨3, _⟩ => ⟨S_, .f32⟩
  | .hbm, ⟨4, _⟩ => ⟨S16384x1024, .f32⟩
  | .hbm, ⟨5, _⟩ => ⟨S1x1024x2048, .f32⟩
  | .hbm, ⟨6, _⟩ => ⟨S1024x2048, .f32⟩
  | .hbm, ⟨7, _⟩ => ⟨S16384x2048, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel14.lean ====
abbrev S16384x2048 : Shape := ⟨2, ![16384, 2048]⟩
abbrev S16384x1024 : Shape := ⟨2, ![16384, 1024]⟩
abbrev S1x1024x2048 : Shape := ⟨3, ![1, 1024, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S1x1024x2048, .f32⟩
  | .hbm, ⟨3, _⟩ => ⟨S16384x2048, .bf16⟩
  | .hbm, ⟨4, _⟩ => ⟨S1x1024x2048, .bf16⟩
  | .hbm, ⟨5, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x1024x2048, .bf16⟩
  | .local _ .vmem, ⟨5, _⟩ => ⟨S512x1024, .f32⟩
  | .local _ .vmem, ⟨6, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S16384x2048 : Shape := ⟨2, ![16384, 2048]⟩
abbrev S16384x1024 : Shape := ⟨2, ![16384, 1024]⟩
abbrev S1x1024x2048 : Shape := ⟨3, ![1, 1024, 2048]⟩
abbrev S_ : Shape := ⟨0, ![]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S1x1024x2048, .f32⟩
  | .hbm, ⟨3, _⟩ => ⟨S_, .f32⟩
  | .hbm, ⟨4, _⟩ => ⟨S16384x1024, .f32⟩
  | .hbm, ⟨5, _⟩ => ⟨S1024x2048, .f32⟩
  | .hbm, ⟨6, _⟩ => ⟨S16384x2048, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel15.lean ====
abbrev S16384x1024 : Shape := ⟨2, ![16384, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024x1024, .f32⟩
  | .hbm, ⟨3, _⟩ => ⟨S16384x1024, .bf16⟩
  | .hbm, ⟨4, _⟩ => ⟨S1x1024x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S16384x1024 : Shape := ⟨2, ![16384, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024x1024, .f32⟩
  | .hbm, ⟨3, _⟩ => ⟨S_, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Blocks.lean ====
module

public import proofs.«01_k».proof.Proof.Gen.KernelIdeal.Skeleton
public import Idealize.ShloMosaic.Lib.Pipeline.ValueKit
public import Idealize.ShloMosaic.Lib.Pointwise

/-! The blocks the kernel works on, one chunk of 512 columns at a time: every chunk's operations are those of the
first chunk at another column offset, and each is read here at one entry. -/

@[expose] public section

set_option maxRecDepth 16384

noncomputable section
open Idealize.ShloMosaic Idealize.ShloMosaic.TcCoe Idealize.SL.Sem
namespace Cert.KernelIdeal.Up
open Cert.KernelIdeal Cert.KernelIdeal.Gen

section
variable {F : FTy → Type} [FloatOps F]

/-- Columns `512 j …` of a block of 512 rows. -/
def colD {e : EltTy} (X : Vec F S512x5632 e) (j : Fin 11) : Vec F S512x512 e :=
  View.ld X (Rect.unit ![0, 512 * j.val] S512x512.size (by
    have := j.isLt; intro a; fin_cases a <;> simp [S512x512, S512x5632] <;> omega))

/-- The same columns of the 16 rows that follow the block. -/
def colH {e : EltTy} (X : Vec F S16x5632 e) (j : Fin 11) : Vec F S16x512 e :=
  View.ld X (Rect.unit ![0, 512 * j.val] S16x512.size (by
    have := j.isLt; intro a; fin_cases a <;> simp [S16x512, S16x5632] <;> omega))

/-- The same columns of one row of the convolution's weights. -/
def colK {e : EltTy} (X : Vec F S1x3x5632 e) (k : Fin 3) (j : Fin 11) : Vec F S1x1x512 e :=
  View.ld X (Rect.unit ![0, k.val, 512 * j.val] S1x1x512.size (by
    have := j.isLt; have := k.isLt; intro a; fin_cases a <;> simp [S1x1x512, S1x3x5632] <;> omega))

/-- The same columns of the up-projection. -/
def colW {e : EltTy} (X : Vec F S1x1024x5632 e) (j : Fin 11) : Vec F S1x1024x512 e :=
  View.ld X (Rect.unit ![0, 0, 512 * j.val] S1x1024x512.size (by
    have := j.isLt; intro a; fin_cases a <;> simp [S1x1024x512, S1x1024x5632] <;> omega))

/-- The gradient that reaches the convolution's output, as it stands and moved up by one and by two rows. -/
def u0 (X0 : Vec F S512x5632 .bf16) (j : Fin 11) : FVec F S512x512 .f32 := k0_pay6 (colD X0 j)
def u1 (i : grid0.Coords) (X0 : Vec F S512x5632 .bf16) (X1 : Vec F S16x5632 .bf16) (j : Fin 11) : FVec F S512x512 .f32 :=
  k0_pay9 i (colD X0 j) (colH X1 j)
def u2 (i : grid0.Coords) (X0 : Vec F S512x5632 .bf16) (X1 : Vec F S16x5632 .bf16) (j : Fin 11) : FVec F S512x512 .f32 :=
  k0_pay10 i (colD X0 j) (colH X1 j)

/-- The part of the convolution's gradient before the last tap. -/
def part (i : grid0.Coords) (X0 : Vec F S512x5632 .bf16) (X1 : Vec F S16x5632 .bf16) (X5 : Vec F S1x3x5632 .f32) (j : Fin 11) :
    FVec F S512x512 .f32 :=
  k0_pay15 (u0 X0 j) (u1 i X0 X1 j) (colK X5 2 j) (colK X5 1 j)

/-- The gradient of the convolution's input, one chunk. -/
def dhB (i : grid0.Coords) (X0 : Vec F S512x5632 .bf16) (X1 : Vec F S16x5632 .bf16) (X5 : Vec F S1x3x5632 .f32) (j : Fin 11) :
    FVec F S512x512 .bf16 :=
  k0_pay16 (u2 i X0 X1 j) (part i X0 X1 X5 j) (colK X5 0 j)

/-- One chunk's contribution to the gradient of the normalised rows. -/
def step (i : grid0.Coords) (X0 : Vec F S512x5632 .bf16) (X1 : Vec F S16x5632 .bf16) (X4 : Vec F S1x1024x5632 .bf16)
    (X5 : Vec F S1x3x5632 .f32) (j : Fin 11) (acc : FVec F S512x1024 .f32) : FVec F S512x1024 .f32 :=
  k0_pay17 acc (u2 i X0 X1 j) (part i X0 X1 X5 j) (colK X5 0 j) (colW X4 j)

/-- The gradient of the normalised rows: all eleven chunks. -/
def dxB (i : grid0.Coords) (X0 : Vec F S512x5632 .bf16) (X1 : Vec F S16x5632 .bf16) (X3 : Vec F S512x1024 .f32)
    (X4 : Vec F S1x1024x5632 .bf16) (X5 : Vec F S1x3x5632 .f32) : FVec F S512x1024 .f32 :=
  step i X0 X1 X4 X5 10 <| step i X0 X1 X4 X5 9 <| step i X0 X1 X4 X5 8 <| step i X0 X1 X4 X5 7 <|
    step i X0 X1 X4 X5 6 <| step i X0 X1 X4 X5 5 <| step i X0 X1 X4 X5 4 <| step i X0 X1 X4 X5 3 <|
      step i X0 X1 X4 X5 2 <| step i X0 X1 X4 X5 1 <| step i X0 X1 X4 X5 0 (k0_pay5 X3)

/-- The rows' gradient through the normalisation, from the gradient of the normalised rows. -/
def lnB (dx : FVec F S512x1024 .f32) (X6 : Vec F S512x1024 .f32) (X7 : Vec F S512x1 .f32) (X8 : Vec F S1x1024 .f32) :
    FVec F S512x1024 .f32 :=
  let d : FVec F S512x1024 .f32 := mulf dx (broadcastTo S512x1024 X8 broadcasts_S1x1024_S512x1024)
  let n : FVec F S512x1 .f32 := broadcast S512x1 (Scalar.ofBits .f32 0x44800000#32)
  k0_pay1 (k0_pay155 X6) (k0_pay158 X7) d
    (divf (shapeCast S512x1 (multiReduction .add [1] S512 d 0x00000000#32 reduces_S512x1024_S512 (.inl rfl) rfl) shapeCasts_S512_S512x1) n)
    (shapeCast S512x1 (multiReduction .add [1] S512 (mulf d (k0_pay155 X6)) 0x00000000#32 reduces_S512x1024_S512 (.inl rfl) rfl)
      shapeCasts_S512_S512x1) n

/-- Column sums of the rows' gradient times the normalised rows, added to what is there: the gain's gradient. -/
def ggB (dx : FVec F S512x1024 .f32) (X6 : Vec F S512x1024 .f32) (acc : Vec F S1x1024 .f32) : FVec F S1x1024 .f32 :=
  addf (shapeCast S1x1024 acc shapeCasts_S1x1024_S1x1024)
    (shapeCast S1x1024 (multiReduction .add [0] S1024 (mulf dx (k0_pay155 X6)) 0x00000000#32 reduces_S512x1024_S1024 (.inl rfl) rfl)
      shapeCasts_S1024_S1x1024)

/-- Column sums of the rows' gradient, added to what is there: the offset's gradient. -/
def gbB (dx : FVec F S512x1024 .f32) (acc : Vec F S1x1024 .f32) : FVec F S1x1024 .f32 :=
  addf (shapeCast S1x1024 acc shapeCasts_S1x1024_S1x1024)
    (shapeCast S1x1024 (multiReduction .add [0] S1024 dx 0x00000000#32 reduces_S512x1024_S1024 (.inl rfl) rfl)
      shapeCasts_S1024_S1x1024)

end

/-- Column `512 j + k`. -/
def colI (j : Fin 11) (k : Fin 512) : Fin 5632 := ⟨512 * j.val + k.val, by omega⟩

/-- Entry `(r, q)` of the block moved up by `s` rows: past the block's last row the rows that follow are read, and
past the array's last row the value is zero. -/
def upB (s : Nat) (last : Prop) [Decidable last] (X0 : Vec Ideal S512x5632 .bf16) (X1 : Vec Ideal S16x5632 .bf16) (r : Fin 512)
    (q : Fin 5632) : EReal :=
  if h : r.val + s < 512 then X0 (ix2 ⟨r.val + s, h⟩ q)
  else if last then 0 else if h : r.val + s - 512 < 16 then X1 (ix2 ⟨r.val + s - 512, h⟩ q) else 0

theorem colD_apply {e : EltTy} (X : Vec Ideal S512x5632 e) (j : Fin 11) (r : Fin 512) (k : Fin 512) :
    colD X j (ix2 r k) = X (ix2 r (colI j k)) := by
  unfold colD colI; pointwise

theorem colH_apply {e : EltTy} (X : Vec Ideal S16x5632 e) (j : Fin 11) (r : Fin 16) (k : Fin 512) :
    colH X j (ix2 r k) = X (ix2 r (colI j k)) := by
  unfold colH colI; pointwise

theorem colK_apply {e : EltTy} (X : Vec Ideal S1x3x5632 e) (i : Fin 3) (j : Fin 11) (k : Fin 512) :
    colK X i j (ix3 0 0 k) = X (ix3 0 i (colI j k)) := by
  unfold colK colI; pointwise

theorem colW_apply {e : EltTy} (X : Vec Ideal S1x1024x5632 e) (j : Fin 11) (l : Fin 1024) (k : Fin 512) :
    colW X j (ix3 0 l k) = X (ix3 0 l (colI j k)) := by
  unfold colW colI; pointwise

theorem u0_apply (X0 : Vec Ideal S512x5632 .bf16) (j : Fin 11) (r k : Fin 512) :
    u0 X0 j (ix2 r k) = X0 (ix2 r (colI j k)) := by
  unfold u0; pointwise [k0_pay6]; exact colD_apply X0 j r k

theorem pay17_apply (acc : FVec Ideal S512x1024 .f32) (a b : FVec Ideal S512x512 .f32) (w : Vec Ideal S1x1x512 .f32)
    (W : Vec Ideal S1x1024x512 .bf16) (r : Fin 512) (l : Fin 1024) :
    k0_pay17 acc a b w W (ix2 r l) = acc (ix2 r l) + ∑ k : Fin 512, k0_pay16 a b w (ix2 r k) * W (ix3 0 l k) := by
  pointwise [k0_pay17]

theorem pay16_apply (a b : FVec Ideal S512x512 .f32) (w : Vec Ideal S1x1x512 .f32) (r k : Fin 512) :
    k0_pay16 a b w (ix2 r k) = b (ix2 r k) + w (ix3 0 0 k) * a (ix2 r k) := by
  pointwise [k0_pay16]

theorem pay15_apply (a b : FVec Ideal S512x512 .f32) (w w' : Vec Ideal S1x1x512 .f32) (r k : Fin 512) :
    k0_pay15 a b w w' (ix2 r k) = w (ix3 0 0 k) * a (ix2 r k) + w' (ix3 0 0 k) * b (ix2 r k) := by
  pointwise [k0_pay15]

theorem sel_seven {α : Type} (n : Nat) (hn : n < 8) (a b : α) :
    Scalar.select (IntOp.cmpi .eq (BitVec.ofNat 32 n) 7#32) a b = if n = 7 then a else b := by
  have h : ∀ n : Fin 8, IntOp.cmpi .eq (BitVec.ofNat 32 n.val) 7#32 = if n.val = 7 then 1#1 else 0#1 := by decide
  have e := h ⟨n, hn⟩
  dsimp only at e
  rw [e]; by_cases e : n = 7 <;> simp [e, Scalar.select]

theorem sel_six {α : Type} (n : Nat) (hn : n < 8) (a b : α) :
    Scalar.select (IntOp.cmpi .eq (BitVec.ofNat 32 n) 6#32) a b = if n = 6 then a else b := by
  have h : ∀ n : Fin 8, IntOp.cmpi .eq (BitVec.ofNat 32 n.val) 6#32 = if n.val = 6 then 1#1 else 0#1 := by decide
  have e := h ⟨n, hn⟩
  dsimp only at e
  rw [e]; by_cases e : n = 6 <;> simp [e, Scalar.select]

theorem sel_last {α : Type} (n : Nat) (hn : n < 32) (a b : α) :
    Scalar.select (Scalar.cmpi .slt (BitVec.ofNat 32 n) 31#32) a b = if n = 31 then b else a := by
  have h : ∀ n : Fin 32, Scalar.cmpi .slt (BitVec.ofNat 32 n.val) 31#32 = if n.val = 31 then 0#1 else 1#1 := by decide
  have e := h ⟨n, hn⟩
  dsimp only at e
  rw [e]; by_cases e : n = 31 <;> simp [e, Scalar.select]

theorem pay9_apply (i : grid0.Coords) (A : Vec Ideal S512x512 .bf16) (B : Vec Ideal S16x512 .bf16) (r k : Fin 512) :
    k0_pay9 i A B (ix2 r k) = if h : r.val + 1 < 512 then A (ix2 ⟨r.val + 1, h⟩ k)
      else if (i 0).val = 31 then 0 else B (ix2 0 k) := by
  pointwise [k0_pay9, k0_pay8, k0_pay7, k0_pay6]
  rw [sel_last _ (i 0).isLt]
  by_cases h1 : r.val < 504
  · rw [dif_pos h1, dif_pos (by omega)]; congr 3; omega
  · rw [dif_neg h1]
    rw [sel_seven _ (by omega)]
    by_cases h2 : r.val + 1 < 512
    · rw [if_neg (by omega), dif_pos h2]; congr 3; omega
    · rw [if_pos (by omega), dif_neg h2]

theorem pay10_apply (i : grid0.Coords) (A : Vec Ideal S512x512 .bf16) (B : Vec Ideal S16x512 .bf16) (r k : Fin 512) :
    k0_pay10 i A B (ix2 r k) = if h : r.val + 2 < 512 then A (ix2 ⟨r.val + 2, h⟩ k)
      else if (i 0).val = 31 then 0 else if h : r.val + 2 - 512 < 16 then B (ix2 ⟨r.val + 2 - 512, h⟩ k) else 0 := by
  pointwise [k0_pay10, k0_pay8, k0_pay7, k0_pay6]
  rw [sel_last _ (i 0).isLt, sel_last _ (i 0).isLt]
  by_cases h1 : r.val < 504
  · rw [dif_pos h1, dif_pos (by omega)]; congr 3; omega
  · rw [dif_neg h1]
    rw [sel_seven _ (by omega), sel_six _ (by omega)]
    by_cases h2 : r.val + 2 < 512
    · rw [if_neg (by omega), if_neg (by omega), dif_pos h2]; congr 3; omega
    · rw [dif_neg h2, dif_pos (by omega)]
      by_cases h3 : r.val = 511
      · rw [if_pos (by omega)]; congr 3; simp [Fin.ext_iff]; omega
      · rw [if_neg (by omega), if_pos (by omega)]; congr 3; simp [Fin.ext_iff]; omega

theorem u1_apply (i : grid0.Coords) (X0 : Vec Ideal S512x5632 .bf16) (X1 : Vec Ideal S16x5632 .bf16) (j : Fin 11) (r k : Fin 512) :
    u1 i X0 X1 j (ix2 r k) = upB 1 ((i 0).val = 31) X0 X1 r (colI j k) := by
  unfold u1 upB
  rw [pay9_apply]
  by_cases h : r.val + 1 < 512
  · rw [dif_pos h, dif_pos h, colD_apply]
  · rw [dif_neg h, dif_neg h, dif_pos (by omega), colH_apply]
    have e : (⟨r.val + 1 - 512, by omega⟩ : Fin 16) = 0 := Fin.ext (by show r.val + 1 - 512 = 0; omega)
    rw [e]

theorem u2_apply (i : grid0.Coords) (X0 : Vec Ideal S512x5632 .bf16) (X1 : Vec Ideal S16x5632 .bf16) (j : Fin 11) (r k : Fin 512) :
    u2 i X0 X1 j (ix2 r k) = upB 2 ((i 0).val = 31) X0 X1 r (colI j k) := by
  unfold u2 upB
  rw [pay10_apply]
  by_cases h : r.val + 2 < 512
  · rw [dif_pos h, dif_pos h, colD_apply]
  · rw [dif_neg h, dif_neg h, dif_pos (by omega), dif_pos (by omega), colH_apply]

/-- The gradient of the convolution's input at one entry. -/
def dhE (last : Prop) [Decidable last] (X0 : Vec Ideal S512x5632 .bf16) (X1 : Vec Ideal S16x5632 .bf16)
    (X5 : Vec Ideal S1x3x5632 .f32) (r : Fin 512) (q : Fin 5632) : EReal :=
  X5 (ix3 0 2 q) * X0 (ix2 r q) + X5 (ix3 0 1 q) * upB 1 last X0 X1 r q + X5 (ix3 0 0 q) * upB 2 last X0 X1 r q

theorem dhB_apply (i : grid0.Coords) (X0 : Vec Ideal S512x5632 .bf16) (X1 : Vec Ideal S16x5632 .bf16)
    (X5 : Vec Ideal S1x3x5632 .f32) (j : Fin 11) (r k : Fin 512) :
    dhB i X0 X1 X5 j (ix2 r k) = dhE ((i 0).val = 31) X0 X1 X5 r (colI j k) := by
  unfold dhB part dhE
  rw [pay16_apply, pay15_apply, u0_apply, u1_apply, u2_apply, colK_apply, colK_apply, colK_apply]

theorem step_apply (i : grid0.Coords) (X0 : Vec Ideal S512x5632 .bf16) (X1 : Vec Ideal S16x5632 .bf16)
    (X4 : Vec Ideal S1x1024x5632 .bf16) (X5 : Vec Ideal S1x3x5632 .f32) (j : Fin 11) (acc : FVec Ideal S512x1024 .f32)
    (r : Fin 512) (l : Fin 1024) :
    step i X0 X1 X4 X5 j acc (ix2 r l) = acc (ix2 r l) +
      ∑ k : Fin 512, dhE ((i 0).val = 31) X0 X1 X5 r (colI j k) * X4 (ix3 0 l (colI j k)) := by
  unfold step
  rw [pay17_apply]
  refine congrArg (acc (ix2 r l) + ·) (Finset.sum_congr rfl fun k _ => ?_)
  rw [colW_apply]
  exact congrArg (· * X4 (ix3 0 l (colI j k))) (dhB_apply i X0 X1 X5 j r k)

theorem sum_chunks (f : Fin 5632 → EReal) : ∑ q : Fin 5632, f q = ∑ j : Fin 11, ∑ k : Fin 512, f (colI j k) := by
  rw [Fin.sum_univ_tiles 11 512 rfl f]
  exact Finset.sum_congr rfl fun j _ => Finset.sum_congr rfl fun k _ => congrArg f (Fin.ext (by simp [colI]; omega))

theorem dxB_apply (i : grid0.Coords) (X0 : Vec Ideal S512x5632 .bf16) (X1 : Vec Ideal S16x5632 .bf16)
    (X3 : Vec Ideal S512x1024 .f32) (X4 : Vec Ideal S1x1024x5632 .bf16) (X5 : Vec Ideal S1x3x5632 .f32)
    (r : Fin 512) (l : Fin 1024) :
    dxB i X0 X1 X3 X4 X5 (ix2 r l) = Ideal.ofBits .f32 0x3FD744FD#32 * X3 (ix2 r l) +
      ∑ q : Fin 5632, dhE ((i 0).val = 31) X0 X1 X5 r q * X4 (ix3 0 l q) := by
  have h0 : k0_pay5 X3 (ix2 r l) = Ideal.ofBits .f32 0x3FD744FD#32 * X3 (ix2 r l) := by pointwise [k0_pay5]
  rw [sum_chunks]
  simp only [dxB, step_apply, h0]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Fin.sum_univ_zero, zero_add, add_assoc]
  rfl

/-- One chunk's column sums added to an accumulator row. -/
theorem pay12_apply (a : FVec Ideal S512x512 .f32) (b : Vec Ideal S512x512 .bf16) (acc : Vec Ideal S1x512 .f32) (k : Fin 512) :
    k0_pay12 a b acc (ix2 0 k) = acc (ix2 0 k) + ∑ r : Fin 512, a (ix2 r k) * b (ix2 r k) := by
  pointwise [k0_pay12, k0_pay11]

theorem lnB_apply (dx : FVec Ideal S512x1024 .f32) (X6 : Vec Ideal S512x1024 .f32) (X7 : Vec Ideal S512x1 .f32)
    (X8 : Vec Ideal S1x1024 .f32) (r : Fin 512) (l : Fin 1024) :
    lnB dx X6 X7 X8 (ix2 r l) = X7 (ix2 r 0) * (dx (ix2 r l) * X8 (ix2 0 l)
      - Ideal.div (∑ k : Fin 1024, dx (ix2 r k) * X8 (ix2 0 k)) (Ideal.ofBits .f32 0x44800000#32)
      - X6 (ix2 r l) * Ideal.div (∑ k : Fin 1024, dx (ix2 r k) * X8 (ix2 0 k) * X6 (ix2 r k)) (Ideal.ofBits .f32 0x44800000#32)) := by
  pointwise [lnB, k0_pay1, k0_pay155, k0_pay158]

theorem ggB_apply (dx : FVec Ideal S512x1024 .f32) (X6 : Vec Ideal S512x1024 .f32) (acc : Vec Ideal S1x1024 .f32) (l : Fin 1024) :
    ggB dx X6 acc (ix2 0 l) = acc (ix2 0 l) + ∑ r : Fin 512, dx (ix2 r l) * X6 (ix2 r l) := by
  pointwise [ggB, k0_pay155]

theorem gbB_apply (dx : FVec Ideal S512x1024 .f32) (acc : Vec Ideal S1x1024 .f32) (l : Fin 1024) :
    gbB dx acc (ix2 0 l) = acc (ix2 0 l) + ∑ r : Fin 512, dx (ix2 r l) := by
  pointwise [gbB]

end Cert.KernelIdeal.Up
end
-- ==== Proof.Words.lean ====
module

public import proofs.«01_k».proof.Proof.Blocks
public import proofs.«01_k».proof.Proof.Gen.KernelIdeal.Value
import all proofs.«01_k».proof.Proof.Gen.KernelIdeal.Value

/-! The first block of rows: the accumulator of the weights' gradient is cleared and then each of its 33 pieces is read,
added to and stored, one after another. After `n` pieces the entries of those pieces hold their column sums and the
others are zero. -/

@[expose] public section

set_option maxRecDepth 16384

noncomputable section
open Idealize.ShloMosaic Idealize.ShloMosaic.TcCoe Idealize.SL.Sem
namespace Cert.KernelIdeal.Up
open Cert.KernelIdeal Cert.KernelIdeal.Gen

/-- After `n` of the 33 pieces. -/
def After (n : Nat) (T : Fin 3 → Fin 5632 → EReal) (L : List (View.Piece (Elt Ideal) S3x5632 .f32)) : Prop :=
  (∀ y, ∃ p ∈ L, y ∈ p.1.set) ∧
    ∀ k q, View.canon L (ix2 k q) = if 3 * (q.val / 512) + (2 - k.val) < n then T k q else 0

theorem after_zero (T : Fin 3 → Fin 5632 → EReal) : After 0 T (kernelRun0_A.sl.H11_1 (F := Ideal)) := by
  refine ⟨fun y => ⟨_, List.mem_cons_self, ?_⟩, fun k q => ?_⟩
  · show y ∈ (Rect.unit (s := S3x5632) ![0, 0] S3x5632.size inb_S3x5632_S3x5632_0_0).set
    refine Rect.mem_set_unit.mpr fun a => ?_
    have := (y a).isLt
    fin_cases a <;> simpa using this
  · unfold kernelRun0_A.sl.H11_1
    rw [View.canon_cons_unit_lit _ _ _ (by decide), if_neg (Nat.not_lt_zero _)]
    pointwise [k0_pay2]

theorem after_step {n : Nat} {T : Fin 3 → Fin 5632 → EReal} {L : List (View.Piece (Elt Ideal) S3x5632 .f32)} (h : After n T L)
    (k : Fin 3) (j : Fin 11) (hn : n = 3 * j.val + (2 - k.val)) (v : View sig .tc .vmem S3x5632 .f32)
    (inb : ∀ a : Fin S3x5632.rank, (![k.val, 512 * j.val] : Fin S3x5632.rank → Nat) a + S1x512.size a ≤ S3x5632.size a)
    (w : Vec Ideal S1x512 .f32)
    (hw : ∀ l : Fin 512, w (ix2 0 l) =
      v.readCov L (Rect.unit (s := S3x5632) ![k.val, 512 * j.val] S1x512.size inb).toLoadRect (ix2 0 l) + T k (colI j l)) :
    After (n + 1) T ((⟨Rect.unit (s := S3x5632) ![k.val, 512 * j.val] S1x512.size inb, w⟩ : View.Piece (Elt Ideal) S3x5632 .f32) :: L) := by
  refine ⟨fun y => ?_, fun k' q => ?_⟩
  · obtain ⟨p, hp, hy⟩ := h.1 y
    exact ⟨p, List.mem_cons_of_mem _ hp, hy⟩
  · have hj := j.isLt
    have hk := k.isLt
    by_cases hm : (ix2 k' q : S3x5632.Idx) ∈ (Rect.unit (s := S3x5632) ![k.val, 512 * j.val] S1x512.size inb).set
    · have hb := Rect.mem_set_unit.mp hm
      have h0 := hb 0
      have h1 := hb 1
      have h0' : k.val ≤ k'.val ∧ k'.val < k.val + 1 := h0
      have h1' : 512 * j.val ≤ q.val ∧ q.val < 512 * j.val + 512 := h1
      obtain rfl : k = k' := Fin.ext (by omega)
      obtain ⟨l, rfl⟩ : ∃ l : Fin 512, q = colI j l := ⟨⟨q.val - 512 * j.val, by omega⟩, Fin.ext (by simp [colI]; omega)⟩
      have e : (Rect.unit (s := S3x5632) ![k.val, 512 * j.val] S1x512.size inb).emb (ix2 (0 : Fin 1) l : S1x512.Idx) = ix2 k (colI j l) := by
        funext a; apply Fin.ext; rw [Rect.emb_apply]
        fin_cases a <;> simp [colI, Rect.unit]
      have hz : ¬ 3 * ((colI j l).val / 512) + (2 - k.val) < n := by simp only [colI]; omega
      have hz' : 3 * ((colI j l).val / 512) + (2 - k.val) < n + 1 := by simp only [colI]; omega
      have hr := h.2 k (colI j l)
      rw [if_neg hz] at hr
      rw [if_pos hz', ← e]
      refine (View.canon_cons_emb (Rect.unit (s := S3x5632) ![k.val, 512 * j.val] S1x512.size inb) w L _).trans ?_
      rw [hw, View.readCov_eq_canon_ld v L _ h.1]
      have : View.ld (View.canon L) (Rect.unit (s := S3x5632) ![k.val, 512 * j.val] S1x512.size inb) (ix2 (0 : Fin 1) l : S1x512.Idx) = 0 := by
        refine Eq.trans ?_ hr
        rw [← e]; rfl
      rw [this]
      exact zero_add _
    · refine (View.canon_cons_of_not_mem (⟨Rect.unit (s := S3x5632) ![k.val, 512 * j.val] S1x512.size inb, w⟩ :
        View.Piece (Elt Ideal) S3x5632 .f32) L hm).trans ?_
      rw [h.2]
      have : (3 * (q.val / 512) + (2 - k'.val) < n) ↔ (3 * (q.val / 512) + (2 - k'.val) < n + 1) := by
        constructor
        · omega
        · intro hlt
          by_contra hge
          apply hm
          have hk' := k'.isLt
          have hq := q.isLt
          refine Rect.mem_set_unit.mpr fun a => ?_
          fin_cases a
          · show k.val ≤ k'.val ∧ k'.val < k.val + 1
            omega
          · show 512 * j.val ≤ q.val ∧ q.val < 512 * j.val + 512
            omega
      simp only [this]

/-- The gradient moved up by `2 - k` rows, one chunk. -/
def uK (i : grid0.Coords) (X0 : Vec Ideal S512x5632 .bf16) (X1 : Vec Ideal S16x5632 .bf16) (k : Fin 3) (j : Fin 11) : FVec Ideal S512x512 .f32 :=
  match k with
  | 0 => u2 i X0 X1 j
  | 1 => u1 i X0 X1 j
  | 2 => u0 X0 j

/-- One block's column sums: the gradient of tap `k`. -/
def gdE (last : Prop) [Decidable last] (X0 : Vec Ideal S512x5632 .bf16) (X1 : Vec Ideal S16x5632 .bf16) (X2 : Vec Ideal S512x5632 .bf16)
    (k : Fin 3) (q : Fin 5632) : EReal :=
  ∑ r : Fin 512, upB (2 - k.val) last X0 X1 r q * X2 (ix2 r q)

theorem gd_apply (i : grid0.Coords) (X0 : Vec Ideal S512x5632 .bf16) (X1 : Vec Ideal S16x5632 .bf16) (X2 : Vec Ideal S512x5632 .bf16)
    (k : Fin 3) (j : Fin 11) (acc : Vec Ideal S1x512 .f32) (l : Fin 512) :
    k0_pay12 (uK i X0 X1 k j) (colD X2 j) acc (ix2 0 l) = acc (ix2 0 l) + gdE ((i 0).val = 31) X0 X1 X2 k (colI j l) := by
  rw [pay12_apply]
  refine congrArg (acc (ix2 0 l) + ·) (Finset.sum_congr rfl fun r _ => ?_)
  rw [colD_apply]
  refine congrArg (· * X2 (ix2 r (colI j l))) ?_
  fin_cases k
  · exact u2_apply i X0 X1 j r l
  · exact u1_apply i X0 X1 j r l
  · refine (u0_apply X0 j r l).trans ?_
    show _ = upB 0 _ X0 X1 r (colI j l)
    unfold upB
    rw [dif_pos (by omega)]
    rfl

variable (c : Dev nD) (i : grid0.Coords) (arg1 : Memref sig .tc .vmem S512x5632 .bf16) (harg1 : arg1.IsWhole)
  (arg2 : Memref sig .tc .vmem S16x5632 .bf16) (harg2 : arg2.IsWhole) (arg3 : Memref sig .tc .vmem S512x5632 .bf16)
  (harg3 : arg3.IsWhole) (arg12 : Memref sig .tc .vmem S3x5632 .f32) (x0 : Vec Ideal S512x5632 .bf16)
  (x1 : Vec Ideal S16x5632 .bf16) (x2 : Vec Ideal S512x5632 .bf16)

theorem after_1 : After 1 (gdE ((i 0).val = 31) x0 x1 x2) (kernelRun0_A.sl.H11_2 (F := Ideal) c arg1 harg1 arg3 harg3 arg12 x0 x2) := by
  unfold kernelRun0_A.sl.H11_2
  refine after_step (after_zero _) 2 0 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 0 _ l

theorem after_2 : After 2 (gdE ((i 0).val = 31) x0 x1 x2) (kernelRun0_A.sl.H11_3 (F := Ideal) c i arg1 harg1 arg2 harg2 arg3 harg3 arg12 x0 x1 x2) := by
  unfold kernelRun0_A.sl.H11_3
  refine after_step (after_1 c i arg1 harg1 arg3 harg3 arg12 x0 x1 x2) 1 0 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 0 _ l

theorem after_3 : After 3 (gdE ((i 0).val = 31) x0 x1 x2) (kernelRun0_A.sl.H11_4 (F := Ideal) c i arg1 harg1 arg2 harg2 arg3 harg3 arg12 x0 x1 x2) := by
  unfold kernelRun0_A.sl.H11_4
  refine after_step (after_2 c i arg1 harg1 arg2 harg2 arg3 harg3 arg12 x0 x1 x2) 0 0 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 0 _ l

theorem after_4 : After 4 (gdE ((i 0).val = 31) x0 x1 x2) (kernelRun0_A.sl.H11_5 (F := Ideal) c i arg1 harg1 arg2 harg2 arg3 harg3 arg12 x0 x1 x2) := by
  unfold kernelRun0_A.sl.H11_5
  refine after_step (after_3 c i arg1 harg1 arg2 harg2 arg3 harg3 arg12 x0 x1 x2) 2 1 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 1 _ l

theorem after_5 : After 5 (gdE ((i 0).val = 31) x0 x1 x2) (kernelRun0_A.sl.H11_6 (F := Ideal) c i arg1 harg1 arg2 harg2 arg3 harg3 arg12 x0 x1 x2) := by
  unfold kernelRun0_A.sl.H11_6
  refine after_step (after_4 c i arg1 harg1 arg2 harg2 arg3 harg3 arg12 x0 x1 x2) 1 1 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 1 _ l

theorem after_6 : After 6 (gdE ((i 0).val = 31) x0 x1 x2) (kernelRun0_A.sl.H11_7 (F := Ideal) c i arg1 harg1 arg2 harg2 arg3 harg3 arg12 x0 x1 x2) := by
  unfold kernelRun0_A.sl.H11_7
  refine after_step (after_5 c i arg1 harg1 arg2 harg2 arg3 harg3 arg12 x0 x1 x2) 0 1 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 1 _ l

theorem after_7 : After 7 (gdE ((i 0).val = 31) x0 x1 x2) (kernelRun0_A.sl.H11_8 (F := Ideal) c i arg1 harg1 arg2 harg2 arg3 harg3 arg12 x0 x1 x2) := by
  unfold kernelRun0_A.sl.H11_8
  refine after_step (after_6 c i arg1 harg1 arg2 harg2 arg3 harg3 arg12 x0 x1 x2) 2 2 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 2 _ l

theorem after_8 : After 8 (gdE ((i 0).val = 31) x0 x1 x2) (kernelRun0_A.sl.H11_9 (F := Ideal) c i arg1 harg1 arg2 harg2 arg3 harg3 arg12 x0 x1 x2) := by
  unfold kernelRun0_A.sl.H11_9
  refine after_step (after_7 c i arg1 harg1 arg2 harg2 arg3 harg3 arg12 x0 x1 x2) 1 2 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 2 _ l

theorem after_9 : After 9 (gdE ((i 0).val = 31) x0 x1 x2) (kernelRun0_A.sl.H11_10 (F := Ideal) c i arg1 harg1 arg2 harg2 arg3 harg3 arg12 x0 x1 x2) := by
  unfold kernelRun0_A.sl.H11_10
  refine after_step (after_8 c i arg1 harg1 arg2 harg2 arg3 harg3 arg12 x0 x1 x2) 0 2 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 2 _ l

theorem after_10 : After 10 (gdE ((i 0).val = 31) x0 x1 x2) (kernelRun0_A.sl.H11_11 (F := Ideal) c i arg1 harg1 arg2 harg2 arg3 harg3 arg12 x0 x1 x2) := by
  unfold kernelRun0_A.sl.H11_11
  refine after_step (after_9 c i arg1 harg1 arg2 harg2 arg3 harg3 arg12 x0 x1 x2) 2 3 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 3 _ l

theorem after_11 : After 11 (gdE ((i 0).val = 31) x0 x1 x2) (kernelRun0_A.sl.H11_12 (F := Ideal) c i arg1 harg1 arg2 harg2 arg3 harg3 arg12 x0 x1 x2) := by
  unfold kernelRun0_A.sl.H11_12
  refine after_step (after_10 c i arg1 harg1 arg2 harg2 arg3 harg3 arg12 x0 x1 x2) 1 3 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 3 _ l

theorem after_12 : After 12 (gdE ((i 0).val = 31) x0 x1 x2) (kernelRun0_A.sl.H11_13 (F := Ideal) c i arg1 harg1 arg2 harg2 arg3 harg3 arg12 x0 x1 x2) := by
  unfold kernelRun0_A.sl.H11_13
  refine after_step (after_11 c i arg1 harg1 arg2 harg2 arg3 harg3 arg12 x0 x1 x2) 0 3 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 3 _ l

theorem after_13 : After 13 (gdE ((i 0).val = 31) x0 x1 x2) (kernelRun0_A.sl.H11_14 (F := Ideal) c i arg1 harg1 arg2 harg2 arg3 harg3 arg12 x0 x1 x2) := by
  unfold kernelRun0_A.sl.H11_14
  refine after_step (after_12 c i arg1 harg1 arg2 harg2 arg3 harg3 arg12 x0 x1 x2) 2 4 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 4 _ l

theorem after_14 : After 14 (gdE ((i 0).val = 31) x0 x1 x2) (kernelRun0_A.sl.H11_15 (F := Ideal) c i arg1 harg1 arg2 harg2 arg3 harg3 arg12 x0 x1 x2) := by
  unfold kernelRun0_A.sl.H11_15
  refine after_step (after_13 c i arg1 harg1 arg2 harg2 arg3 harg3 arg12 x0 x1 x2) 1 4 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 4 _ l

theorem after_15 : After 15 (gdE ((i 0).val = 31) x0 x1 x2) (kernelRun0_A.sl.H11_16 (F := Ideal) c i arg1 harg1 arg2 harg2 arg3 harg3 arg12 x0 x1 x2) := by
  unfold kernelRun0_A.sl.H11_16
  refine after_step (after_14 c i arg1 harg1 arg2 harg2 arg3 harg3 arg12 x0 x1 x2) 0 4 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 4 _ l

theorem after_16 : After 16 (gdE ((i 0).val = 31) x0 x1 x2) (kernelRun0_A.sl.H11_17 (F := Ideal) c i arg1 harg1 arg2 harg2 arg3 harg3 arg12 x0 x1 x2) := by
  unfold kernelRun0_A.sl.H11_17
  refine after_step (after_15 c i arg1 harg1 arg2 harg2 arg3 harg3 arg12 x0 x1 x2) 2 5 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 5 _ l

theorem after_17 : After 17 (gdE ((i 0).val = 31) x0 x1 x2) (kernelRun0_A.sl.H11_18 (F := Ideal) c i arg1 harg1 arg2 harg2 arg3 harg3 arg12 x0 x1 x2) := by
  unfold kernelRun0_A.sl.H11_18
  refine after_step (after_16 c i arg1 harg1 arg2 harg2 arg3 harg3 arg12 x0 x1 x2) 1 5 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 5 _ l

theorem after_18 : After 18 (gdE ((i 0).val = 31) x0 x1 x2) (kernelRun0_A.sl.H11_19 (F := Ideal) c i arg1 harg1 arg2 harg2 arg3 harg3 arg12 x0 x1 x2) := by
  unfold kernelRun0_A.sl.H11_19
  refine after_step (after_17 c i arg1 harg1 arg2 harg2 arg3 harg3 arg12 x0 x1 x2) 0 5 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 5 _ l

theorem after_19 : After 19 (gdE ((i 0).val = 31) x0 x1 x2) (kernelRun0_A.sl.H11_20 (F := Ideal) c i arg1 harg1 arg2 harg2 arg3 harg3 arg12 x0 x1 x2) := by
  unfold kernelRun0_A.sl.H11_20
  refine after_step (after_18 c i arg1 harg1 arg2 harg2 arg3 harg3 arg12 x0 x1 x2) 2 6 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 6 _ l

theorem after_20 : After 20 (gdE ((i 0).val = 31) x0 x1 x2) (kernelRun0_A.sl.H11_21 (F := Ideal) c i arg1 harg1 arg2 harg2 arg3 harg3 arg12 x0 x1 x2) := by
  unfold kernelRun0_A.sl.H11_21
  refine after_step (after_19 c i arg1 harg1 arg2 harg2 arg3 harg3 arg12 x0 x1 x2) 1 6 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 6 _ l

theorem after_21 : After 21 (gdE ((i 0).val = 31) x0 x1 x2) (kernelRun0_A.sl.H11_22 (F := Ideal) c i arg1 harg1 arg2 harg2 arg3 harg3 arg12 x0 x1 x2) := by
  unfold kernelRun0_A.sl.H11_22
  refine after_step (after_20 c i arg1 harg1 arg2 harg2 arg3 harg3 arg12 x0 x1 x2) 0 6 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 6 _ l

theorem after_22 : After 22 (gdE ((i 0).val = 31) x0 x1 x2) (kernelRun0_A.sl.H11_23 (F := Ideal) c i arg1 harg1 arg2 harg2 arg3 harg3 arg12 x0 x1 x2) := by
  unfold kernelRun0_A.sl.H11_23
  refine after_step (after_21 c i arg1 harg1 arg2 harg2 arg3 harg3 arg12 x0 x1 x2) 2 7 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 7 _ l

theorem after_23 : After 23 (gdE ((i 0).val = 31) x0 x1 x2) (kernelRun0_A.sl.H11_24 (F := Ideal) c i arg1 harg1 arg2 harg2 arg3 harg3 arg12 x0 x1 x2) := by
  unfold kernelRun0_A.sl.H11_24
  refine after_step (after_22 c i arg1 harg1 arg2 harg2 arg3 harg3 arg12 x0 x1 x2) 1 7 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 7 _ l

theorem after_24 : After 24 (gdE ((i 0).val = 31) x0 x1 x2) (kernelRun0_A.sl.H11_25 (F := Ideal) c i arg1 harg1 arg2 harg2 arg3 harg3 arg12 x0 x1 x2) := by
  unfold kernelRun0_A.sl.H11_25
  refine after_step (after_23 c i arg1 harg1 arg2 harg2 arg3 harg3 arg12 x0 x1 x2) 0 7 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 7 _ l

theorem after_25 : After 25 (gdE ((i 0).val = 31) x0 x1 x2) (kernelRun0_A.sl.H11_26 (F := Ideal) c i arg1 harg1 arg2 harg2 arg3 harg3 arg12 x0 x1 x2) := by
  unfold kernelRun0_A.sl.H11_26
  refine after_step (after_24 c i arg1 harg1 arg2 harg2 arg3 harg3 arg12 x0 x1 x2) 2 8 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 8 _ l

theorem after_26 : After 26 (gdE ((i 0).val = 31) x0 x1 x2) (kernelRun0_A.sl.H11_27 (F := Ideal) c i arg1 harg1 arg2 harg2 arg3 harg3 arg12 x0 x1 x2) := by
  unfold kernelRun0_A.sl.H11_27
  refine after_step (after_25 c i arg1 harg1 arg2 harg2 arg3 harg3 arg12 x0 x1 x2) 1 8 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 8 _ l

theorem after_27 : After 27 (gdE ((i 0).val = 31) x0 x1 x2) (kernelRun0_A.sl.H11_28 (F := Ideal) c i arg1 harg1 arg2 harg2 arg3 harg3 arg12 x0 x1 x2) := by
  unfold kernelRun0_A.sl.H11_28
  refine after_step (after_26 c i arg1 harg1 arg2 harg2 arg3 harg3 arg12 x0 x1 x2) 0 8 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 8 _ l

theorem after_28 : After 28 (gdE ((i 0).val = 31) x0 x1 x2) (kernelRun0_A.sl.H11_29 (F := Ideal) c i arg1 harg1 arg2 harg2 arg3 harg3 arg12 x0 x1 x2) := by
  unfold kernelRun0_A.sl.H11_29
  refine after_step (after_27 c i arg1 harg1 arg2 harg2 arg3 harg3 arg12 x0 x1 x2) 2 9 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 9 _ l

theorem after_29 : After 29 (gdE ((i 0).val = 31) x0 x1 x2) (kernelRun0_A.sl.H11_30 (F := Ideal) c i arg1 harg1 arg2 harg2 arg3 harg3 arg12 x0 x1 x2) := by
  unfold kernelRun0_A.sl.H11_30
  refine after_step (after_28 c i arg1 harg1 arg2 harg2 arg3 harg3 arg12 x0 x1 x2) 1 9 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 9 _ l

theorem after_30 : After 30 (gdE ((i 0).val = 31) x0 x1 x2) (kernelRun0_A.sl.H11_31 (F := Ideal) c i arg1 harg1 arg2 harg2 arg3 harg3 arg12 x0 x1 x2) := by
  unfold kernelRun0_A.sl.H11_31
  refine after_step (after_29 c i arg1 harg1 arg2 harg2 arg3 harg3 arg12 x0 x1 x2) 0 9 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 0 9 _ l

theorem after_31 : After 31 (gdE ((i 0).val = 31) x0 x1 x2) (kernelRun0_A.sl.H11_32 (F := Ideal) c i arg1 harg1 arg2 harg2 arg3 harg3 arg12 x0 x1 x2) := by
  unfold kernelRun0_A.sl.H11_32
  refine after_step (after_30 c i arg1 harg1 arg2 harg2 arg3 harg3 arg12 x0 x1 x2) 2 10 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 2 10 _ l

theorem after_32 : After 32 (gdE ((i 0).val = 31) x0 x1 x2) (kernelRun0_A.sl.H11_33 (F := Ideal) c i arg1 harg1 arg2 harg2 arg3 harg3 arg12 x0 x1 x2) := by
  unfold kernelRun0_A.sl.H11_33
  refine after_step (after_31 c i arg1 harg1 arg2 harg2 arg3 harg3 arg12 x0 x1 x2) 1 10 rfl arg12.view _ _ fun l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply i x0 x1 x2 1 10 _ l

end Cert.KernelIdeal.Up
end
-- ==== Proof.Outs.lean ====
module

public import proofs.«01_k».proof.Proof.Words
import all proofs.«01_k».proof.Proof.Gen.KernelIdeal.Value

/-! What the kernel's body leaves in each output block at a grid point, read at one entry. -/

@[expose] public section

set_option maxRecDepth 16384

noncomputable section
open Idealize.ShloMosaic Idealize.ShloMosaic.TcCoe Idealize.SL.Sem
namespace Cert.KernelIdeal.Up
open Cert.KernelIdeal Cert.KernelIdeal.Gen
variable (m : (ℓ : Loc nD τ sig) → Buf (Elt Ideal) ℓ) (c : Dev nD) (t : Fin cfg0.N)

/-- The gradient of the normalised rows at point `t`. -/
abbrev dxT : FVec Ideal S512x1024 .f32 :=
  dxB (grid0.coords t) (iblk m c 0 t) (iblk m c 1 t) (iblk m c 3 t) (iblk m c 4 t) (iblk m c 5 t)

theorem out9_A (h : t.val % 32 = 0) :
    (outsAt0 m c t.val t.isLt).1 = lnB (dxT m c t) (iblk m c 6 t) (iblk m c 7 t) (iblk m c 8 t) := by
  rw [outsAt0_A m c t h]; frame_out; rfl

theorem out9_B (h : ¬ t.val % 32 = 0) :
    (outsAt0 m c t.val t.isLt).1 = lnB (dxT m c t) (iblk m c 6 t) (iblk m c 7 t) (iblk m c 8 t) := by
  rw [outsAt0_B m c t h]; frame_out; rfl

theorem out12_A (h : t.val % 32 = 0) :
    (outsAt0 m c t.val t.isLt).2.2.2.1 = ggB (dxT m c t) (iblk m c 6 t) (k0_pay3 (F := Ideal)) := by
  rw [outsAt0_A m c t h]; frame_out; rfl

theorem out12_B (h : ¬ t.val % 32 = 0) :
    (outsAt0 m c t.val t.isLt).2.2.2.1 = ggB (dxT m c t) (iblk m c 6 t)
      (outsAt0 m c (t.val - 1) (Nat.lt_of_le_of_lt (Nat.sub_le _ _) t.isLt)).2.2.2.1 := by
  rw [outsAt0_B m c t h]; frame_out; rfl

theorem out13_A (h : t.val % 32 = 0) :
    (outsAt0 m c t.val t.isLt).2.2.2.2 = gbB (dxT m c t) (k0_pay4 (F := Ideal)) := by
  rw [outsAt0_A m c t h]; frame_out; rfl

theorem out13_B (h : ¬ t.val % 32 = 0) :
    (outsAt0 m c t.val t.isLt).2.2.2.2 = gbB (dxT m c t)
      (outsAt0 m c (t.val - 1) (Nat.lt_of_le_of_lt (Nat.sub_le _ _) t.isLt)).2.2.2.2 := by
  rw [outsAt0_B m c t h]; frame_out; rfl

theorem tileH (i : grid0.Coords) (X0 : Vec Ideal S512x5632 .bf16) (X1 : Vec Ideal S16x5632 .bf16)
    (X5 : Vec Ideal S1x3x5632 .f32) (j : Fin 11) (r : Fin 512) (q : Fin 5632) :
    View.TileAt (S := S512x5632) (e := .bf16) (Val := Elt Ideal) (ix2 r q) ![0, 512 * j.val] S512x512.size (dhB i X0 X1 X5 j)
      (dhE ((i 0).val = 31) X0 X1 X5 r q) := by
  intro x hx
  have h0 : r.val = 0 + (x 0).val := hx 0
  have h1 : q.val = 512 * j.val + (x 1).val := hx 1
  have hl : (x 1).val < 512 := (x 1).isLt
  obtain rfl : q = colI j ⟨(x 1).val, hl⟩ := Fin.ext h1
  have ex : x = (ix2 r (⟨(x 1).val, hl⟩ : Fin 512) : S512x512.Idx) := by
    funext a; apply Fin.ext; fin_cases a
    · show (x 0).val = r.val
      omega
    · rfl
  exact (congrArg (dhB i X0 X1 X5 j) ex).trans (dhB_apply i X0 X1 X5 j r _)

theorem tileG (i : grid0.Coords) (X0 : Vec Ideal S512x5632 .bf16) (X1 : Vec Ideal S16x5632 .bf16)
    (X2 : Vec Ideal S512x5632 .bf16) (P : Vec Ideal S3x5632 .f32) (k : Fin 3) (j : Fin 11)
    (inb : ∀ a : Fin S3x5632.rank, (![k.val, 512 * j.val] : Fin S3x5632.rank → Nat) a + S1x512.size a ≤ S3x5632.size a)
    (k' : Fin 3) (q : Fin 5632) :
    View.TileAt (S := S3x5632) (e := .f32) (Val := Elt Ideal) (ix2 k' q) ![k.val, 512 * j.val] S1x512.size
      (k0_pay12 (uK i X0 X1 k j) (colD X2 j) (View.ld P (Rect.unit (s := S3x5632) ![k.val, 512 * j.val] S1x512.size inb)))
      (P (ix2 k' q) + gdE ((i 0).val = 31) X0 X1 X2 k' q) := by
  intro x hx
  have h0 : k'.val = k.val + (x 0).val := hx 0
  have h1 : q.val = 512 * j.val + (x 1).val := hx 1
  have hl : (x 1).val < 512 := (x 1).isLt
  have hk : (x 0).val < 1 := (x 0).isLt
  obtain rfl : q = colI j ⟨(x 1).val, hl⟩ := Fin.ext h1
  obtain rfl : k' = k := Fin.ext (by omega)
  have ex : x = (ix2 (0 : Fin 1) (⟨(x 1).val, hl⟩ : Fin 512) : S1x512.Idx) := by
    funext a; apply Fin.ext; fin_cases a
    · show (x 0).val = 0
      omega
    · rfl
  refine (congrArg (k0_pay12 (uK i X0 X1 k' j) (colD X2 j) _) ex).trans ((gd_apply i X0 X1 X2 k' j _ _).trans ?_)
  refine congrArg (· + gdE ((i 0).val = 31) X0 X1 X2 k' (colI j ⟨(x 1).val, hl⟩)) ?_
  refine congrArg P ?_
  funext a; apply Fin.ext; fin_cases a <;> simp [colI, Rect.unit]

theorem out10_A (h : t.val % 32 = 0) (r : Fin 512) (q : Fin 5632) :
    (outsAt0 m c t.val t.isLt).2.1 (ix2 r q) =
      dhE ((grid0.coords t 0).val = 31) (iblk m c 0 t) (iblk m c 1 t) (iblk m c 5 t) r q := by
  rw [outsAt0_A m c t h]; frame_out
  refine View.canon_eq_of_allAt _ _ _ (View.cover_of_tiled_head _ _ _ rfl _) ?_
  refine View.allAt_cons_unit _ _ _ _ _ (tileH (grid0.coords t) _ _ _ 10 r q) ?_
  refine View.allAt_cons_unit _ _ _ _ _ (tileH (grid0.coords t) _ _ _ 9 r q) ?_
  refine View.allAt_cons_unit _ _ _ _ _ (tileH (grid0.coords t) _ _ _ 8 r q) ?_
  refine View.allAt_cons_unit _ _ _ _ _ (tileH (grid0.coords t) _ _ _ 7 r q) ?_
  refine View.allAt_cons_unit _ _ _ _ _ (tileH (grid0.coords t) _ _ _ 6 r q) ?_
  refine View.allAt_cons_unit _ _ _ _ _ (tileH (grid0.coords t) _ _ _ 5 r q) ?_
  refine View.allAt_cons_unit _ _ _ _ _ (tileH (grid0.coords t) _ _ _ 4 r q) ?_
  refine View.allAt_cons_unit _ _ _ _ _ (tileH (grid0.coords t) _ _ _ 3 r q) ?_
  refine View.allAt_cons_unit _ _ _ _ _ (tileH (grid0.coords t) _ _ _ 2 r q) ?_
  refine View.allAt_cons_unit _ _ _ _ _ (tileH (grid0.coords t) _ _ _ 1 r q) ?_
  refine View.allAt_cons_unit _ _ _ _ _ (tileH (grid0.coords t) _ _ _ 0 r q) ?_
  exact View.allAt_nil _ _

theorem out10_B (h : ¬ t.val % 32 = 0) (r : Fin 512) (q : Fin 5632) :
    (outsAt0 m c t.val t.isLt).2.1 (ix2 r q) =
      dhE ((grid0.coords t 0).val = 31) (iblk m c 0 t) (iblk m c 1 t) (iblk m c 5 t) r q := by
  rw [outsAt0_B m c t h]; frame_out
  refine View.canon_eq_of_allAt _ _ _ (View.cover_of_tiled_head _ _ _ rfl _) ?_
  refine View.allAt_cons_unit _ _ _ _ _ (tileH (grid0.coords t) _ _ _ 10 r q) ?_
  refine View.allAt_cons_unit _ _ _ _ _ (tileH (grid0.coords t) _ _ _ 9 r q) ?_
  refine View.allAt_cons_unit _ _ _ _ _ (tileH (grid0.coords t) _ _ _ 8 r q) ?_
  refine View.allAt_cons_unit _ _ _ _ _ (tileH (grid0.coords t) _ _ _ 7 r q) ?_
  refine View.allAt_cons_unit _ _ _ _ _ (tileH (grid0.coords t) _ _ _ 6 r q) ?_
  refine View.allAt_cons_unit _ _ _ _ _ (tileH (grid0.coords t) _ _ _ 5 r q) ?_
  refine View.allAt_cons_unit _ _ _ _ _ (tileH (grid0.coords t) _ _ _ 4 r q) ?_
  refine View.allAt_cons_unit _ _ _ _ _ (tileH (grid0.coords t) _ _ _ 3 r q) ?_
  refine View.allAt_cons_unit _ _ _ _ _ (tileH (grid0.coords t) _ _ _ 2 r q) ?_
  refine View.allAt_cons_unit _ _ _ _ _ (tileH (grid0.coords t) _ _ _ 1 r q) ?_
  refine View.allAt_cons_unit _ _ _ _ _ (tileH (grid0.coords t) _ _ _ 0 r q) ?_
  exact View.allAt_nil _ _

theorem out11_A (h : t.val % 32 = 0) (k : Fin 3) (q : Fin 5632) :
    (outsAt0 m c t.val t.isLt).2.2.1 (ix2 k q) =
      gdE ((grid0.coords t 0).val = 31) (iblk m c 0 t) (iblk m c 1 t) (iblk m c 2 t) k q := by
  rw [outsAt0_A m c t h]
  dsimp only
  unfold out0_A_11
  rw [View.read_writes_junk_eq_canon]
  have hlt : 3 * (q.val / 512) + (2 - k.val) < 32 + 1 := by
    have := q.isLt
    omega
  refine ((after_step (after_32 c (grid0.coords t) (ms0_0 t) (hs0_0 t) (ms0_1 t) (hs0_1 t) (ms0_2 t) (hs0_2 t) (ms0_11 t)
    (iblk m c 0 t) (iblk m c 1 t) (iblk m c 2 t)) 0 10 rfl (ms0_11 t).view _ _ fun l => ?_).2 k q).trans (if_pos hlt)
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, View.readAt_eq_ld, Memref.IsWhole.read_unread]
  exact gd_apply (grid0.coords t) (iblk m c 0 t) (iblk m c 1 t) (iblk m c 2 t) 0 10 _ l

theorem out11_B (h : ¬ t.val % 32 = 0) (k : Fin 3) (q : Fin 5632) :
    (outsAt0 m c t.val t.isLt).2.2.1 (ix2 k q) =
      (outsAt0 m c (t.val - 1) (Nat.lt_of_le_of_lt (Nat.sub_le _ _) t.isLt)).2.2.1 (ix2 k q) +
        gdE ((grid0.coords t 0).val = 31) (iblk m c 0 t) (iblk m c 1 t) (iblk m c 2 t) k q := by
  rw [outsAt0_B m c t h]; frame_out
  refine View.canon_eq_of_allAt _ _ _ (View.cover_of_tiled_head _ _ _ rfl _) ?_
  refine View.allAt_cons_unit _ _ _ _ _ (tileG (grid0.coords t) _ _ _ _ 0 10 _ k q) ?_
  refine View.allAt_cons_unit _ _ _ _ _ (tileG (grid0.coords t) _ _ _ _ 1 10 _ k q) ?_
  refine View.allAt_cons_unit _ _ _ _ _ (tileG (grid0.coords t) _ _ _ _ 2 10 _ k q) ?_
  refine View.allAt_cons_unit _ _ _ _ _ (tileG (grid0.coords t) _ _ _ _ 0 9 _ k q) ?_
  refine View.allAt_cons_unit _ _ _ _ _ (tileG (grid0.coords t) _ _ _ _ 1 9 _ k q) ?_
  refine View.allAt_cons_unit _ _ _ _ _ (tileG (grid0.coords t) _ _ _ _ 2 9 _ k q) ?_
  refine View.allAt_cons_unit _ _ _ _ _ (tileG (grid0.coords t) _ _ _ _ 0 8 _ k q) ?_
  refine View.allAt_cons_unit _ _ _ _ _ (tileG (grid0.coords t) _ _ _ _ 1 8 _ k q) ?_
  refine View.allAt_cons_unit _ _ _ _ _ (tileG (grid0.coords t) _ _ _ _ 2 8 _ k q) ?_
  refine View.allAt_cons_unit _ _ _ _ _ (tileG (grid0.coords t) _ _ _ _ 0 7 _ k q) ?_
  refine View.allAt_cons_unit _ _ _ _ _ (tileG (grid0.coords t) _ _ _ _ 1 7 _ k q) ?_
  refine View.allAt_cons_unit _ _ _ _ _ (tileG (grid0.coords t) _ _ _ _ 2 7 _ k q) ?_
  refine View.allAt_cons_unit _ _ _ _ _ (tileG (grid0.coords t) _ _ _ _ 0 6 _ k q) ?_
  refine View.allAt_cons_unit _ _ _ _ _ (tileG (grid0.coords t) _ _ _ _ 1 6 _ k q) ?_
  refine View.allAt_cons_unit _ _ _ _ _ (tileG (grid0.coords t) _ _ _ _ 2 6 _ k q) ?_
  refine View.allAt_cons_unit _ _ _ _ _ (tileG (grid0.coords t) _ _ _ _ 0 5 _ k q) ?_
  refine View.allAt_cons_unit _ _ _ _ _ (tileG (grid0.coords t) _ _ _ _ 1 5 _ k q) ?_
  refine View.allAt_cons_unit _ _ _ _ _ (tileG (grid0.coords t) _ _ _ _ 2 5 _ k q) ?_
  refine View.allAt_cons_unit _ _ _ _ _ (tileG (grid0.coords t) _ _ _ _ 0 4 _ k q) ?_
  refine View.allAt_cons_unit _ _ _ _ _ (tileG (grid0.coords t) _ _ _ _ 1 4 _ k q) ?_
  refine View.allAt_cons_unit _ _ _ _ _ (tileG (grid0.coords t) _ _ _ _ 2 4 _ k q) ?_
  refine View.allAt_cons_unit _ _ _ _ _ (tileG (grid0.coords t) _ _ _ _ 0 3 _ k q) ?_
  refine View.allAt_cons_unit _ _ _ _ _ (tileG (grid0.coords t) _ _ _ _ 1 3 _ k q) ?_
  refine View.allAt_cons_unit _ _ _ _ _ (tileG (grid0.coords t) _ _ _ _ 2 3 _ k q) ?_
  refine View.allAt_cons_unit _ _ _ _ _ (tileG (grid0.coords t) _ _ _ _ 0 2 _ k q) ?_
  refine View.allAt_cons_unit _ _ _ _ _ (tileG (grid0.coords t) _ _ _ _ 1 2 _ k q) ?_
  refine View.allAt_cons_unit _ _ _ _ _ (tileG (grid0.coords t) _ _ _ _ 2 2 _ k q) ?_
  refine View.allAt_cons_unit _ _ _ _ _ (tileG (grid0.coords t) _ _ _ _ 0 1 _ k q) ?_
  refine View.allAt_cons_unit _ _ _ _ _ (tileG (grid0.coords t) _ _ _ _ 1 1 _ k q) ?_
  refine View.allAt_cons_unit _ _ _ _ _ (tileG (grid0.coords t) _ _ _ _ 2 1 _ k q) ?_
  refine View.allAt_cons_unit _ _ _ _ _ (tileG (grid0.coords t) _ _ _ _ 0 0 _ k q) ?_
  refine View.allAt_cons_unit _ _ _ _ _ (tileG (grid0.coords t) _ _ _ _ 1 0 _ k q) ?_
  refine View.allAt_cons_unit _ _ _ _ _ (tileG (grid0.coords t) _ _ _ _ 2 0 _ k q) ?_
  exact View.allAt_nil _ _

end Cert.KernelIdeal.Up
end
-- ==== Proof.Norm.lean ====
/- Row normalisation on the extended reals, and its gradient: the closed form the kernel computes is the chain of
   derivatives the reference writes, for a row of real numbers. -/
module

public import Idealize.ShloMosaic.Lib.Pipeline.ValueKit
public import Idealize.ShloMosaic.Lib.Pointwise

@[expose] public section

noncomputable section

namespace Cert.Norm

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- `1024`, as the float word both programs divide by. -/
abbrev c1024 : EReal := Ideal.ofBits .f32 0x44800000#32
/-- `1e-5`, rounded to a float. -/
abbrev cEps : EReal := Ideal.ofBits .f32 0x3727C5AC#32

theorem c1024_eq : c1024 = ((1024 : ℝ) : EReal) := by simp [Ideal.ofBits, Ideal.ieee, -EReal.coe_mul]; norm_num
theorem cEps_eq : ∃ e : ℝ, 0 < e ∧ cEps = (e : EReal) := by
  refine ⟨(10995116 : ℝ) * 2 ^ (-40 : Int), by positivity, ?_⟩
  simp [Ideal.ofBits, Ideal.ieee, -EReal.coe_mul]
theorem cTwo_eq : Ideal.ofBits .f32 0x40000000#32 = ((2 : ℝ) : EReal) := by
  simp [Ideal.ofBits, Ideal.ieee, -EReal.coe_mul]; norm_num
theorem cNegHalf_eq : Ideal.ofBits .f32 0xBF000000#32 = ((-(1 / 2) : ℝ) : EReal) := by
  simp [Ideal.ofBits, Ideal.ieee, -EReal.coe_mul]; norm_num

/-- The mean of a row. -/
def mean (x : Fin 1024 → EReal) : EReal := Ideal.div (∑ k, x k) c1024
/-- A row less its mean. -/
def cen (r : Fin 1024 → EReal) (j : Fin 1024) : EReal := r j - mean r
/-- The row's variance and `1e-5`. -/
def varE (r : Fin 1024 → EReal) : EReal := mean (fun k => cen r k * cen r k) + cEps
/-- One over the row's deviation. -/
def rstd (r : Fin 1024 → EReal) : EReal := Ideal.rsqrt (varE r)
/-- The normalised row. -/
def xhat (r : Fin 1024 → EReal) (j : Fin 1024) : EReal := cen r j * rstd r

/-- The gradient through the normalisation in closed form. -/
def back (r ct : Fin 1024 → EReal) (j : Fin 1024) : EReal :=
  rstd r * (ct j - mean ct - xhat r j * mean (fun k => ct k * xhat r k))

/-- What the variance receives, over the row's length: the part of the gradient through the deviation. -/
def backVar (r ct : Fin 1024 → EReal) : EReal :=
  Ideal.div ((∑ k, cen r k * ct k) * (Ideal.ofBits .f32 0xBF000000#32 * Ideal.div (rstd r) (varE r))) c1024

/-- The gradient through the normalisation by the chain of derivatives. -/
def backChain (r ct : Fin 1024 → EReal) (j : Fin 1024) : EReal :=
  ct j * rstd r + backVar r ct * (Ideal.ofBits .f32 0x40000000#32 * cen r j)
    + Ideal.div (∑ k, -(ct k * rstd r) + ∑ k, -(backVar r ct * (Ideal.ofBits .f32 0x40000000#32 * cen r k))) c1024

theorem mean_coe (x : Fin 1024 → ℝ) : mean (fun k => (x k : EReal)) = ((∑ k, x k) / 1024 : ℝ) := by
  unfold mean
  rw [c1024_eq, Ideal.div_coe (by norm_num), ← coe_sum, ← EReal.coe_mul]; congr 1; ring

theorem cen_coe (x : Fin 1024 → ℝ) (j : Fin 1024) :
    cen (fun k => (x k : EReal)) j = (x j - (∑ k, x k) / 1024 : ℝ) := by
  unfold cen; rw [mean_coe, ← EReal.coe_sub]

theorem varE_coe (x : Fin 1024 → ℝ) : ∃ v : ℝ, 0 < v ∧ varE (fun k => (x k : EReal)) = (v : EReal) := by
  obtain ⟨e, he, hE⟩ := cEps_eq
  unfold varE
  simp only [cen_coe, ← EReal.coe_mul]
  rw [mean_coe, hE, ← EReal.coe_add]
  exact ⟨_, add_pos_of_nonneg_of_pos (div_nonneg (Finset.sum_nonneg fun k _ => mul_self_nonneg _) (by norm_num)) he, rfl⟩

theorem back_eq_chain (r ct : Fin 1024 → EReal) (hr : ∀ j, IsReal (r j)) (hc : ∀ j, IsReal (ct j)) (j : Fin 1024) :
    back r ct j = backChain r ct j := by
  choose x hx using hr
  choose y hy using hc
  obtain rfl : r = fun k => (x k : EReal) := funext hx
  obtain rfl : ct = fun k => (y k : EReal) := funext hy
  obtain ⟨v, hv, hV⟩ := varE_coe x
  have hs : rstd (fun k => (x k : EReal)) = ((Real.sqrt v)⁻¹ : ℝ) := by
    unfold rstd; rw [hV, Ideal.rsqrt_coe, if_neg (not_lt.2 hv.le), if_neg hv.ne']
  unfold back backChain backVar xhat
  simp only [hs, hV, cen_coe, mean_coe, c1024_eq, cTwo_eq, cNegHalf_eq, Ideal.div_coe hv.ne',
    Ideal.div_coe (show (1024 : ℝ) ≠ 0 by norm_num), ← EReal.coe_mul, ← EReal.coe_neg, ← coe_sum, ← EReal.coe_add, ← EReal.coe_sub]
  congr 1
  set q := Real.sqrt v with hq
  have hqq : q * q = v := Real.mul_self_sqrt hv.le
  have hq0 : q ≠ 0 := (Real.sqrt_pos.2 hv).ne'
  set μ := (∑ k, x k) / 1024 with hμ
  have h0 : ∑ k, (x k - μ) = 0 := by
    rw [Finset.sum_sub_distrib, Finset.sum_const, Finset.card_univ, Fintype.card_fin, hμ]
    simp only [nsmul_eq_mul]; push_cast; ring
  have h1 : ∑ k, y k * ((x k - μ) * q⁻¹) = (∑ k, (x k - μ) * y k) * q⁻¹ := by
    rw [Finset.sum_mul]; exact Finset.sum_congr rfl fun k _ => by ring
  have h2 : ∀ C : ℝ, ∑ k, -(C * (2 * (x k - μ))) = 0 := fun C => by
    have : ∀ k, -(C * (2 * (x k - μ))) = (-(C * 2)) * (x k - μ) := fun k => by ring
    rw [Finset.sum_congr rfl fun k _ => this k, ← Finset.mul_sum, h0, mul_zero]
  have h3 : ∑ k, -(y k * q⁻¹) = -((∑ k, y k) * q⁻¹) := by
    rw [Finset.sum_neg_distrib, Finset.sum_mul]
  rw [h1, h2, h3, ← hqq]
  field_simp
  ring

end Cert.Norm

end
-- ==== Proof.Spec.lean ====
module

public import proofs.«01_k».proof.Proof.Norm

/-! The gradients of one layer's up-projection, its causal convolution of three taps and its normalisation, as plain
sums over the arrays' entries. -/

@[expose] public section

noncomputable section
open Idealize.ShloMosaic
namespace Cert.Spec

/-- The convolution's input: the normalised rows, scaled and moved, times the up-projection. -/
def hid (r : Fin 16384 → Fin 1024 → EReal) (g b : Fin 1024 → EReal) (w : Fin 1024 → Fin 5632 → EReal) (t : Fin 16384)
    (q : Fin 5632) : EReal :=
  ∑ k : Fin 1024, (Norm.xhat (r t) k * g k + b k) * w k q

/-- The gradient at the convolution's output `s` rows later, zero past the last row. -/
def fut (x : Fin 16384 → Fin 5632 → EReal) (s : Nat) (t : Fin 16384) (q : Fin 5632) : EReal :=
  if h : t.val + s < 16384 then x ⟨t.val + s, h⟩ q else 0

/-- The gradient at the convolution's input. -/
def dh (x : Fin 16384 → Fin 5632 → EReal) (κ : Fin 3 → Fin 5632 → EReal) (t : Fin 16384) (q : Fin 5632) : EReal :=
  κ 2 q * x t q + κ 1 q * fut x 1 t q + κ 0 q * fut x 2 t q

/-- The gradient of the convolution's taps. -/
def gdw (x h : Fin 16384 → Fin 5632 → EReal) (k : Fin 3) (q : Fin 5632) : EReal :=
  ∑ t : Fin 16384, fut x (2 - k.val) t q * h t q

/-- The gradient at the normalised rows, with the share that passes by the block. -/
def dx (x : Fin 16384 → Fin 5632 → EReal) (κ : Fin 3 → Fin 5632 → EReal) (w : Fin 1024 → Fin 5632 → EReal)
    (y : Fin 16384 → Fin 1024 → EReal) (t : Fin 16384) (j : Fin 1024) : EReal :=
  Ideal.ofBits .f32 0x3FD744FD#32 * y t j + ∑ q : Fin 5632, dh x κ t q * w j q

theorem fut_zero (x : Fin 16384 → Fin 5632 → EReal) (t : Fin 16384) (q : Fin 5632) : fut x 0 t q = x t q := by
  unfold fut; rw [dif_pos (by omega)]; rfl

/-- A sum over rows of the product with what comes `s` rows later, gathered at the later row. -/
theorem sum_later (s : Nat) (a b : Fin 16384 → EReal) :
    (∑ t : Fin 16384, (if h : t.val + s < 16384 then a ⟨t.val + s, h⟩ else 0) * b t) =
      ∑ t : Fin 16384, (if h : s ≤ t.val then b ⟨t.val - s, by omega⟩ else 0) * a t := by
  have key : ∀ t u : Fin 16384, (if t.val + s = u.val then a u * b t else 0) = (if t.val + s = u.val then b t * a u else 0) :=
    fun t u => by rw [mul_comm]
  have h1 : ∀ t : Fin 16384, (if h : t.val + s < 16384 then a ⟨t.val + s, h⟩ else 0) * b t =
      ∑ u : Fin 16384, if t.val + s = u.val then a u * b t else 0 := by
    intro t
    by_cases h : t.val + s < 16384
    · rw [dif_pos h, Finset.sum_eq_single (⟨t.val + s, h⟩ : Fin 16384)]
      · rw [if_pos rfl]
      · intro u _ hu
        exact if_neg fun e => hu (Fin.ext e.symm)
      · intro hn; exact absurd (Finset.mem_univ _) hn
    · rw [dif_neg h, zero_mul, Finset.sum_eq_zero]
      intro u _
      exact if_neg fun e => h (by have := u.isLt; omega)
  have h2 : ∀ u : Fin 16384, (if h : s ≤ u.val then b ⟨u.val - s, by omega⟩ else 0) * a u =
      ∑ t : Fin 16384, if t.val + s = u.val then b t * a u else 0 := by
    intro u
    by_cases h : s ≤ u.val
    · rw [dif_pos h, Finset.sum_eq_single (⟨u.val - s, by omega⟩ : Fin 16384)]
      · rw [if_pos (by show u.val - s + s = u.val; omega)]
      · intro t _ ht
        exact if_neg fun e => ht (Fin.ext (by show t.val = u.val - s; omega))
      · intro hn; exact absurd (Finset.mem_univ _) hn
    · rw [dif_neg h, zero_mul, Finset.sum_eq_zero]
      intro t _
      exact if_neg fun e => h (by omega)
  simp only [h1, h2]
  rw [Finset.sum_comm]
  exact Finset.sum_congr rfl fun u _ => Finset.sum_congr rfl fun t _ => key t u

/-- The same for two rows, the last two left out. -/
theorem sum_two_later (a b : Fin 16384 → EReal) :
    (∑ t : Fin 16384, (if h : t.val + 2 < 16384 then a ⟨t.val + 2, h⟩ else 0) * b t) =
      ∑ u : Fin 16382, b ⟨u.val, by omega⟩ * a ⟨2 + u.val, by omega⟩ := by
  refine (Fin.sum_univ_add (a := 16382) (b := 2) fun t : Fin (16382 + 2) =>
    (if h : t.val + 2 < 16384 then a ⟨t.val + 2, h⟩ else 0) * b t).trans ?_
  have h2 : ∀ j : Fin 2, (fun t : Fin (16382 + 2) => (if h : t.val + 2 < 16384 then a ⟨t.val + 2, h⟩ else 0) * b t)
      (Fin.natAdd 16382 j) = 0 := by
    intro j
    dsimp only
    rw [dif_neg (by simp), zero_mul]
  rw [Finset.sum_eq_zero (fun j _ => h2 j), add_zero]
  refine Finset.sum_congr rfl fun u _ => ?_
  have hu := u.isLt
  rw [dif_pos (by simp; omega), mul_comm]
  have e : (⟨(Fin.castAdd 2 u).val + 2, by simp; omega⟩ : Fin 16384) = ⟨2 + u.val, by omega⟩ := Fin.ext (by simp; omega)
  exact congrArg₂ (· * ·) rfl (congrArg a e)

end Cert.Spec
end
-- ==== Proof.Host.lean ====
module

public import proofs.«01_k».proof.Proof.Outs
public import proofs.«01_k».proof.Proof.Spec
public import Idealize.ShloMosaic.Lib.Claim

/-! The arrays the host hands to the kernel, and the kernel's input blocks, by their coordinates. -/

@[expose] public section

set_option maxRecDepth 16384

noncomputable section
open Idealize.ShloMosaic Idealize.ShloMosaic.TcCoe Idealize.SL.Sem
namespace Cert.KernelIdeal.Up
open Cert.KernelIdeal Cert.KernelIdeal.Gen
variable (m : (ℓ : Loc nD τ sig) → Buf (Elt Ideal) ℓ) (c : Dev nD)

/-- The argument arrays, typed. -/
abbrev A0 : FVec Ideal S16384x5632 .f32 := m ((c : Thread nD τ).loc main_arg0)
abbrev A1 : FVec Ideal S16384x1024 .f32 := m ((c : Thread nD τ).loc main_arg1)
abbrev A2 : FVec Ideal S16384x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
abbrev A5 : FVec Ideal S1x1024x5632 .f32 := m ((c : Thread nD τ).loc main_arg5)
abbrev A6 : FVec Ideal S4x3x5632 .f32 := m ((c : Thread nD τ).loc main_arg6)

/-- The arrays by their coordinates. -/
abbrev X : Fin 16384 → Fin 5632 → EReal := fun t q => A0 m c (ix2 t q)
abbrev Y : Fin 16384 → Fin 1024 → EReal := fun t j => A1 m c (ix2 t j)
abbrev R : Fin 16384 → Fin 1024 → EReal := fun t j => A2 m c (ix2 t j)
abbrev G : Fin 1024 → EReal := fun j => A3 m c (ix2 0 j)
abbrev B : Fin 1024 → EReal := fun j => A4 m c (ix2 0 j)
abbrev W : Fin 1024 → Fin 5632 → EReal := fun j q => A5 m c (ix3 0 j q)
abbrev K : Fin 3 → Fin 5632 → EReal := fun k q => A6 m c (ix3 3 k q)

theorem V13_apply (t : Fin 16384) : (V m c main_v13 : FVec Ideal S16384x1 .f32) (ix2 t 0) = Norm.rstd (R m c t) := by
  entry_read
  pointwise
  rfl

theorem V17_apply (t : Fin 16384) (j : Fin 1024) : (V m c main_v17 : FVec Ideal S16384x1024 .f32) (ix2 t j) = Norm.xhat (R m c t) j := by
  entry_read
  pointwise
  rfl

theorem V25_apply (t : Fin 16384) (q : Fin 5632) : (V m c main_v25 : FVec Ideal S16384x5632 .bf16) (ix2 t q)
    = Spec.hid (R m c) (G m c) (B m c) (W m c) t q := by
  entry_read
  pointwise
  rfl

theorem V24_apply (t : Fin 16384) (q : Fin 5632) : (V m c main_v24 : FVec Ideal S16384x5632 .bf16) (ix2 t q) = X m c t q := by
  entry_read
  pointwise

theorem V26_apply (j : Fin 1024) (q : Fin 5632) : (V m c main_v26 : FVec Ideal S1x1024x5632 .bf16) (ix3 0 j q) = W m c j q := by
  entry_read
  pointwise

theorem idx : ∀ t : Fin cfg0.N, win0_0.index t = ![t.val, 0] ∧ win0_1.index t = ![if t.val = 31 then 1023 else (t.val + 1) * 32, 0]
    ∧ win0_2.index t = ![t.val, 0] ∧ win0_3.index t = ![t.val, 0] ∧ win0_4.index t = ![0, 0, 0] ∧ win0_5.index t = ![3, 0, 0]
    ∧ win0_6.index t = ![t.val, 0] ∧ win0_7.index t = ![t.val, 0] ∧ win0_8.index t = ![0, 0] ∧ win0_9.index t = ![t.val, 0]
    ∧ win0_10.index t = ![t.val, 0] ∧ win0_11.index t = ![0, 0] ∧ win0_12.index t = ![0, 0] ∧ win0_13.index t = ![0, 0]
    ∧ (grid0.coords t 0).val = t.val ∧ t.val < 32 :=
  (by decide +kernel : ∀ t : Fin grid0.N, _)

theorem lt32 (t : Fin cfg0.N) : t.val < 32 := lt_of_lt_of_eq t.isLt (show cfg0.N = 32 from N_0)

/-- The row of the array at row `r` of point `t`'s block. -/
abbrev row (t : Fin cfg0.N) (r : Fin 512) : Fin 16384 := ⟨512 * t.val + r.val, by have := lt32 t; omega⟩

variable (t : Fin cfg0.N)

theorem i0 (r : Fin 512) (q : Fin 5632) : (iblk m c 0 t : Vec Ideal S512x5632 .bf16) (ix2 r q) = X m c (row t r) q := by
  refine Eq.trans ?_ (V24_apply m c (row t r) q)
  blk_simp [iblk]
  refine congrArg (V m c main_v24) ?_
  blk_ext [idx t]

theorem i1 (h : ¬ t.val = 31) (r : Fin 16) (q : Fin 5632) : (iblk m c 1 t : Vec Ideal S16x5632 .bf16) (ix2 r q)
    = X m c ⟨512 * t.val + 512 + r.val, by have := lt32 t; omega⟩ q := by
  refine Eq.trans ?_ (V24_apply m c _ q)
  blk_simp [iblk]
  refine congrArg (V m c main_v24) ?_
  have e := (idx t).2.1
  rw [if_neg h] at e
  blk_ext [e]

theorem i2 (r : Fin 512) (q : Fin 5632) : (iblk m c 2 t : Vec Ideal S512x5632 .bf16) (ix2 r q)
    = Spec.hid (R m c) (G m c) (B m c) (W m c) (row t r) q := by
  refine Eq.trans ?_ (V25_apply m c (row t r) q)
  blk_simp [iblk]
  refine congrArg (V m c main_v25) ?_
  blk_ext [idx t]

theorem i3 (r : Fin 512) (j : Fin 1024) : (iblk m c 3 t : Vec Ideal S512x1024 .f32) (ix2 r j) = Y m c (row t r) j := by
  blk_ext [iblk, V, idx t]

theorem i4 (j : Fin 1024) (q : Fin 5632) : (iblk m c 4 t : Vec Ideal S1x1024x5632 .bf16) (ix3 0 j q) = W m c j q := by
  refine Eq.trans ?_ (V26_apply m c j q)
  blk_simp [iblk]
  refine congrArg (V m c main_v26) ?_
  blk_ext [idx t]

theorem i5 (k : Fin 3) (q : Fin 5632) : (iblk m c 5 t : Vec Ideal S1x3x5632 .f32) (ix3 0 k q) = K m c k q := by
  blk_ext [iblk, V, idx t]

theorem i6 (r : Fin 512) (j : Fin 1024) : (iblk m c 6 t : Vec Ideal S512x1024 .f32) (ix2 r j) = Norm.xhat (R m c (row t r)) j := by
  refine Eq.trans ?_ (V17_apply m c (row t r) j)
  blk_simp [iblk]
  refine congrArg (V m c main_v17) ?_
  blk_ext [idx t]

theorem i7 (r : Fin 512) : (iblk m c 7 t : Vec Ideal S512x1 .f32) (ix2 r 0) = Norm.rstd (R m c (row t r)) := by
  refine Eq.trans ?_ (V13_apply m c (row t r))
  blk_simp [iblk]
  refine congrArg (V m c main_v13) ?_
  blk_ext [idx t]

theorem i8 (j : Fin 1024) : (iblk m c 8 t : Vec Ideal S1x1024 .f32) (ix2 0 j) = G m c j := by
  blk_ext [iblk, V, idx t]

/-- The rows that come `s` later, from the block and from the first rows of the next. -/
theorem up_eq (s : Nat) (hs : s < 16) (r : Fin 512) (q : Fin 5632) :
    upB s ((grid0.coords t 0).val = 31) (iblk m c 0 t) (iblk m c 1 t) r q = Spec.fut (X m c) s (row t r) q := by
  have ht := (idx t).2.2.2.2.2.2.2.2.2.2.2.2.2.2.1
  have hl := lt32 t
  unfold upB Spec.fut
  by_cases h1 : r.val + s < 512
  · rw [dif_pos h1, dif_pos (show (row t r).val + s < 16384 by dsimp only [row]; omega), i0]
    exact congrArg (fun u => X m c u q) (Fin.ext (by dsimp only [row]; omega))
  · rw [dif_neg h1]
    by_cases h2 : t.val = 31
    · rw [if_pos (ht.trans h2), dif_neg (show ¬ (row t r).val + s < 16384 by dsimp only [row]; omega)]
    · rw [if_neg (fun e => h2 (ht.symm.trans e)), dif_pos (show r.val + s - 512 < 16 by omega),
        dif_pos (show (row t r).val + s < 16384 by dsimp only [row]; omega), i1 m c t h2]
      exact congrArg (fun u => X m c u q) (Fin.ext (by dsimp only [row]; omega))

theorem dh_eq (r : Fin 512) (q : Fin 5632) :
    dhE ((grid0.coords t 0).val = 31) (iblk m c 0 t) (iblk m c 1 t) (iblk m c 5 t) r q = Spec.dh (X m c) (K m c) (row t r) q := by
  unfold dhE Spec.dh
  rw [up_eq m c t 1 (by omega), up_eq m c t 2 (by omega), i0, i5, i5, i5]

theorem dx_eq (r : Fin 512) (j : Fin 1024) : dxT m c t (ix2 r j) = Spec.dx (X m c) (K m c) (W m c) (Y m c) (row t r) j := by
  unfold dxT Spec.dx
  rw [dxB_apply, i3]
  refine congrArg (Ideal.ofBits .f32 0x3FD744FD#32 * Y m c (row t r) j + ·) (Finset.sum_congr rfl fun q _ => ?_)
  rw [dh_eq, i4]

theorem ln_eq (r : Fin 512) (j : Fin 1024) :
    lnB (dxT m c t) (iblk m c 6 t) (iblk m c 7 t) (iblk m c 8 t) (ix2 r j)
      = Norm.back (R m c (row t r)) (fun k => Spec.dx (X m c) (K m c) (W m c) (Y m c) (row t r) k * G m c k) j := by
  rw [lnB_apply]
  simp only [dx_eq, i6, i7, i8]
  rfl

theorem gd_eq (k : Fin 3) (q : Fin 5632) :
    gdE ((grid0.coords t 0).val = 31) (iblk m c 0 t) (iblk m c 1 t) (iblk m c 2 t) k q
      = ∑ r : Fin 512, Spec.fut (X m c) (2 - k.val) (row t r) q * Spec.hid (R m c) (G m c) (B m c) (W m c) (row t r) q := by
  unfold gdE
  refine Finset.sum_congr rfl fun r _ => ?_
  rw [up_eq m c t _ (by omega), i2]

end Cert.KernelIdeal.Up
end
-- ==== Proof.Final.lean ====
module

public import proofs.«01_k».proof.Proof.Host

/-! The five arrays the kernel leaves, each read at one entry. -/

@[expose] public section

set_option maxRecDepth 16384

noncomputable section
open Idealize.ShloMosaic Idealize.ShloMosaic.TcCoe Idealize.SL.Sem
open Idealize.ShloMosaic.Pipeline (Dat)
namespace Cert.KernelIdeal.Up
open Cert.KernelIdeal Cert.KernelIdeal.Gen
variable (m : (ℓ : Loc nD τ sig) → Buf (Elt Ideal) ℓ) (c : Dev nD)

/-- The gradient that reaches the normalised rows. -/
abbrev DX (t : Fin 16384) (j : Fin 1024) : EReal := Spec.dx (X m c) (K m c) (W m c) (Y m c) t j

def res9 : FVec Ideal S16384x1024 .f32 := fun i => Norm.back (R m c (i 0)) (fun k => DX m c (i 0) k * G m c k) (i 1)
def res10 : FVec Ideal S16384x5632 .bf16 := fun i => Spec.dh (X m c) (K m c) (i 0) (i 1)
def res11 : FVec Ideal S3x5632 .f32 := fun i => Spec.gdw (X m c) (Spec.hid (R m c) (G m c) (B m c) (W m c)) (i 0) (i 1)
def res12 : FVec Ideal S1x1024 .f32 := fun i => ∑ t : Fin 16384, DX m c t (i 1) * Norm.xhat (R m c t) (i 1)
def res13 : FVec Ideal S1x1024 .f32 := fun i => ∑ t : Fin 16384, DX m c t (i 1)

/-- A sum over the array's rows, block by block. -/
theorem sum_rows (f : Fin 16384 → EReal) :
    (∑ s : Fin 32, ∑ r : Fin 512, f ⟨512 * s.val + r.val, by omega⟩) = ∑ t : Fin 16384, f t := by
  refine Eq.trans ?_ (Fin.sum_univ_tiles 32 512 rfl f).symm
  refine Finset.sum_congr rfl fun s _ => Finset.sum_congr rfl fun r _ => congrArg f (Fin.ext ?_)
  simp; omega

/-! What the body leaves in each output block at point `t`; the last three blocks are read at the last point, where they are written back. -/

theorem step9 (t : Fin cfg0.N) (r : Fin 512) (j : Fin 1024) :
    (outsAt0 m c t.val t.isLt).1 (ix2 r j) = res9 m c (ix2 (row t r) j) := by
  have e : (outsAt0 m c t.val t.isLt).1 = lnB (dxT m c t) (iblk m c 6 t) (iblk m c 7 t) (iblk m c 8 t) := by
    by_cases h : t.val % 32 = 0
    · exact out9_A m c t h
    · exact out9_B m c t h
  exact (congrFun e _).trans (ln_eq m c t r j)

theorem step10 (t : Fin cfg0.N) (r : Fin 512) (j : Fin 5632) :
    (outsAt0 m c t.val t.isLt).2.1 (ix2 r j) = res10 m c (ix2 (row t r) j) := by
  refine Eq.trans ?_ (dh_eq m c t r j)
  by_cases h : t.val % 32 = 0
  · exact out10_A m c t h r j
  · exact out10_B m c t h r j

theorem step11 (t : Fin cfg0.N) (h31 : t.val % 32 = 31) (k : Fin 3) (j : Fin 5632) :
    (outsAt0 m c t.val t.isLt).2.2.1 (ix2 k j) = res11 m c (ix2 k j) := by
  have h32 := lt32 t
  rw [Pipeline.eq_sum_fin_of_reset_step_apply_of_flush (fun n h => (outsAt0 m c n h).2.2.1) 32 (fun _ => (0 : EReal))
    (fun p y => ∑ r : Fin 512, Spec.fut (X m c) (2 - (y 0).val) (row p r) (y 1) * Spec.hid (R m c) (G m c) (B m c) (W m c) (row p r) (y 1))
    (fun t h y => by
      obtain ⟨k, j, rfl⟩ : ∃ (k : Fin 3) (j : Fin 5632), y = ix2 k j := ⟨y 0, y 1, by blk_ext⟩
      refine (out11_A m c t h k j).trans ?_
      exact (gd_eq m c t k j).trans (zero_add _).symm)
    (fun t h y => by
      obtain ⟨k, j, rfl⟩ : ∃ (k : Fin 3) (j : Fin 5632), y = ix2 k j := ⟨y 0, y 1, by blk_ext⟩
      refine (out11_B m c t h k j).trans ?_
      exact congrArg (_ + ·) (gd_eq m c t k j))
    t h31 _]
  refine (zero_add (M := EReal) _).trans ?_
  refine Eq.trans ?_ (sum_rows fun t => Spec.fut (X m c) (2 - k.val) t j * Spec.hid (R m c) (G m c) (B m c) (W m c) t j)
  refine Finset.sum_congr rfl fun s _ => Finset.sum_congr rfl fun r _ => ?_
  have e : row ⟨32 * (t.val / 32) + s.val, Pipeline.run_point_lt_of_flush t h31 s⟩ r = ⟨512 * s.val + r.val, by omega⟩ :=
    Fin.ext (by dsimp only [row]; omega)
  exact congrArg (fun t => Spec.fut (X m c) (2 - k.val) t j * Spec.hid (R m c) (G m c) (B m c) (W m c) t j) e

theorem step12 (t : Fin cfg0.N) (h31 : t.val % 32 = 31) (j : Fin 1024) :
    (outsAt0 m c t.val t.isLt).2.2.2.1 (ix2 0 j) = res12 m c (ix2 0 j) := by
  have h32 := lt32 t
  rw [Pipeline.eq_sum_fin_of_reset_step_apply_of_flush (fun n h => (outsAt0 m c n h).2.2.2.1) 32 (fun _ => (0 : EReal))
    (fun p y => ∑ r : Fin 512, DX m c (row p r) (y 1) * Norm.xhat (R m c (row p r)) (y 1))
    (fun t h y => by
      obtain ⟨j, rfl⟩ : ∃ (j : Fin 1024), y = ix2 0 j := ⟨y 1, by blk_ext⟩
      refine (congrFun (out12_A m c t h) (ix2 0 j)).trans ?_
      rw [ggB_apply]
      simp only [dx_eq, i6]
      refine congrArg₂ (· + ·) ?_ rfl
      pointwise [k0_pay3])
    (fun t h y => by
      obtain ⟨j, rfl⟩ : ∃ (j : Fin 1024), y = ix2 0 j := ⟨y 1, by blk_ext⟩
      refine (congrFun (out12_B m c t h) (ix2 0 j)).trans ?_
      rw [ggB_apply]
      simp only [dx_eq, i6]
      rfl)
    t h31 _]
  refine (zero_add (M := EReal) _).trans ?_
  refine Eq.trans ?_ (sum_rows fun t => DX m c t j * Norm.xhat (R m c t) j)
  refine Finset.sum_congr rfl fun s _ => Finset.sum_congr rfl fun r _ => ?_
  have e : row ⟨32 * (t.val / 32) + s.val, Pipeline.run_point_lt_of_flush t h31 s⟩ r = ⟨512 * s.val + r.val, by omega⟩ :=
    Fin.ext (by dsimp only [row]; omega)
  exact congrArg (fun t => DX m c t j * Norm.xhat (R m c t) j) e

theorem step13 (t : Fin cfg0.N) (h31 : t.val % 32 = 31) (j : Fin 1024) :
    (outsAt0 m c t.val t.isLt).2.2.2.2 (ix2 0 j) = res13 m c (ix2 0 j) := by
  have h32 := lt32 t
  rw [Pipeline.eq_sum_fin_of_reset_step_apply_of_flush (fun n h => (outsAt0 m c n h).2.2.2.2) 32 (fun _ => (0 : EReal))
    (fun p y => ∑ r : Fin 512, DX m c (row p r) (y 1))
    (fun t h y => by
      obtain ⟨j, rfl⟩ : ∃ (j : Fin 1024), y = ix2 0 j := ⟨y 1, by blk_ext⟩
      refine (congrFun (out13_A m c t h) (ix2 0 j)).trans ?_
      rw [gbB_apply]
      simp only [dx_eq]
      refine congrArg₂ (· + ·) ?_ rfl
      pointwise [k0_pay4])
    (fun t h y => by
      obtain ⟨j, rfl⟩ : ∃ (j : Fin 1024), y = ix2 0 j := ⟨y 1, by blk_ext⟩
      refine (congrFun (out13_B m c t h) (ix2 0 j)).trans ?_
      rw [gbB_apply]
      simp only [dx_eq]
      rfl)
    t h31 _]
  refine (zero_add (M := EReal) _).trans ?_
  refine Eq.trans ?_ (sum_rows fun t => DX m c t j)
  refine Finset.sum_congr rfl fun s _ => Finset.sum_congr rfl fun r _ => ?_
  have e : row ⟨32 * (t.val / 32) + s.val, Pipeline.run_point_lt_of_flush t h31 s⟩ r = ⟨512 * s.val + r.val, by omega⟩ :=
    Fin.ext (by dsimp only [row]; omega)
  exact congrArg (fun t => DX m c t j) e

theorem final9 : (dats m 0 c).arrAt 9 (cfgs 0).N = res9 m c := by
  refine (dats m 0 c).arrAt_eq_of_covers 9 _ (by decide +kernel) fun t hf y => ?_
  blk_simp
  rw [after0_9]
  obtain ⟨r, j, rfl⟩ : ∃ (r : Fin 512) (j : Fin 1024), y = ix2 r j := ⟨y 0, y 1, by blk_ext⟩
  refine (step9 m c t r j).trans ?_
  refine congrArg (res9 m c) (a₁ := ix2 (row t r) j) ?_
  blk_ext [idx t]

theorem final10 : (dats m 0 c).arrAt 10 (cfgs 0).N = res10 m c := by
  refine (dats m 0 c).arrAt_eq_of_covers 10 _ (by decide +kernel) fun t hf y => ?_
  blk_simp
  rw [after0_10]
  obtain ⟨r, j, rfl⟩ : ∃ (r : Fin 512) (j : Fin 5632), y = ix2 r j := ⟨y 0, y 1, by blk_ext⟩
  refine (step10 m c t r j).trans ?_
  refine congrArg (res10 m c) (a₁ := ix2 (row t r) j) ?_
  blk_ext [idx t]

theorem final11 : (dats m 0 c).arrAt 11 (cfgs 0).N = res11 m c := by
  refine (dats m 0 c).arrAt_eq_of_covers 11 _ (by decide +kernel) fun t hf y => ?_
  blk_simp
  rw [after0_11]
  obtain ⟨k, j, rfl⟩ : ∃ (k : Fin 3) (j : Fin 5632), y = ix2 k j := ⟨y 0, y 1, by blk_ext⟩
  refine (step11 m c t ((flush0_11 t).mp hf) k j).trans ?_
  refine congrArg (res11 m c) (a₁ := ix2 k j) ?_
  blk_ext [idx t]

theorem final12 : (dats m 0 c).arrAt 12 (cfgs 0).N = res12 m c := by
  refine (dats m 0 c).arrAt_eq_of_covers 12 _ (by decide +kernel) fun t hf y => ?_
  blk_simp
  rw [after0_12]
  obtain ⟨j, rfl⟩ : ∃ (j : Fin 1024), y = ix2 0 j := ⟨y 1, by blk_ext⟩
  refine (step12 m c t ((flush0_12 t).mp hf) j).trans ?_
  refine congrArg (res12 m c) (a₁ := ix2 0 j) ?_
  blk_ext [idx t]

theorem final13 : (dats m 0 c).arrAt 13 (cfgs 0).N = res13 m c := by
  refine (dats m 0 c).arrAt_eq_of_covers 13 _ (by decide +kernel) fun t hf y => ?_
  blk_simp
  rw [after0_13]
  obtain ⟨j, rfl⟩ : ∃ (j : Fin 1024), y = ix2 0 j := ⟨y 1, by blk_ext⟩
  refine (step13 m c t ((flush0_13 t).mp hf) j).trans ?_
  refine congrArg (res13 m c) (a₁ := ix2 0 j) ?_
  blk_ext [idx t]

end Cert.KernelIdeal.Up
end
-- ==== Proof.Ref.lean ====
module

public import proofs.«01_k».proof.Proof.Spec
public import proofs.«01_k».proof.Proof.Gen.ReferenceIdeal.Read
public import Idealize.ShloMosaic.Lib.Pointwise

/-! The reference's five results, each read at one entry. -/

@[expose] public section

set_option maxRecDepth 16384

noncomputable section
open Idealize.ShloMosaic Idealize.ShloMosaic.TcCoe Idealize.SL.Sem
namespace Cert.ReferenceIdeal.Up
open Cert.ReferenceIdeal Cert.ReferenceIdeal.Gen Cert.ReferenceIdeal.Read Cert.Spec
variable (a0 : FVec Ideal S16384x5632 .f32) (a1 a2 : FVec Ideal S16384x1024 .f32) (a3 a4 : FVec Ideal S1x1024 .f32)
  (a5 : FVec Ideal S1x1024x5632 .f32) (a6 : FVec Ideal S4x3x5632 .f32)

/-- The arrays by their coordinates. -/
abbrev X : Fin 16384 → Fin 5632 → EReal := fun t q => a0 (ix2 t q)
abbrev Y : Fin 16384 → Fin 1024 → EReal := fun t j => a1 (ix2 t j)
abbrev G : Fin 1024 → EReal := fun j => a3 (ix2 0 j)
abbrev W : Fin 1024 → Fin 5632 → EReal := fun j q => a5 (ix3 0 j q)
abbrev K : Fin 3 → Fin 5632 → EReal := fun k q => a6 (ix3 3 k q)

theorem dh_apply (t : Fin 16384) (q : Fin 5632) : val_main_v90 (F := Ideal) a0 a6 (ix2 t q) = dh (X a0) (K a6) t q := by
  pointwise [val_main_v90, val_main_v88, val_main_v87, val_main_v77, val_main_v66, val_main_v76, val_main_v62, val_main_v71, val_main_v82,
    val_main_v57, val_main_v56, val_main_v61, val_main_v70, val_main_v81, val_main_v52, val_main_v45, val_main_v37, val_main_v36, val_main_v44, val_main_v51,
    val_main_v35, val_main_v43, val_main_v50, val_main_v30, val_main_v29, val_main_cst_12, val_main_cst_16, val_main_cst_20]
  unfold dh fut
  refine congrArg₂ (· + ·) (congrArg₂ (· + ·) (mul_comm _ _) ?_) ?_
  · by_cases h : t.val + 1 < 16384
    · rw [dif_pos h, dif_pos (by omega), mul_comm]
      exact congrArg (a6 (ix3 3 1 q) * ·) (congrArg (fun u => a0 (ix2 u q)) (Fin.ext (by dsimp only; omega)))
    · rw [dif_neg h, dif_neg (by omega), mul_zero]
  · by_cases h : t.val + 2 < 16384
    · rw [dif_pos h, dif_pos (by omega), mul_comm]
      exact congrArg (a6 (ix3 3 0 q) * ·) (congrArg (fun u => a0 (ix2 u q)) (Fin.ext (by dsimp only; omega)))
    · rw [dif_neg h, dif_neg (by omega), mul_zero]

theorem dx_apply (t : Fin 16384) (j : Fin 1024) :
    val_main_v94 (F := Ideal) a0 a1 a5 a6 (ix2 t j) = dx (X a0) (K a6) (W a5) (Y a1) t j := by
  have hd := dh_apply a0 a6
  pointwise [val_main_v94, val_main_v93, val_main_v92, val_main_cst_21, val_main_v91, val_main_v27]
  unfold dx
  simp only [hd]

theorem xhat_apply (t : Fin 16384) (j : Fin 1024) : val_main_v22 (F := Ideal) a2 (ix2 t j) = Norm.xhat (Y a2 t) j := by
  pointwise [val_main_v22, val_main_v14, val_main_v13, val_main_v21, val_main_v17, val_main_v16, val_main_v15, val_main_v12, val_main_v11, val_main_v10,
    val_main_v9, val_main_v6, val_main_v5, val_main_v4, val_main_v3, val_main_v2, val_main_v1, val_main_v0, val_main_cst, val_main_cst_0, val_main_cst_2,
    val_main_cst_3, val_main_cst_4]
  rfl

theorem hid_apply (t : Fin 16384) (q : Fin 5632) :
    val_main_v28 (F := Ideal) a2 a3 a4 a5 (ix2 t q) = hid (Y a2) (G a3) (G a4) (W a5) t q := by
  have hx := xhat_apply a2
  pointwise [val_main_v28, val_main_v27, val_main_v26, val_main_v25, val_main_v24, val_main_v23]
  simp only [hx]
  rfl

theorem gdw_apply (k : Fin 3) (q : Fin 5632) :
    val_main_v86 (F := Ideal) a0 a2 a3 a4 a5 (ix2 k q) = gdw (X a0) (hid (Y a2) (G a3) (G a4) (W a5)) k q := by
  have hh := hid_apply a2 a3 a4 a5
  pointwise [val_main_v86, val_main_v75, val_main_v65, val_main_v74, val_main_v85, val_main_v64, val_main_v73, val_main_v84, val_main_v63, val_main_v72, val_main_v83,
   val_main_v60, val_main_v69, val_main_v80, val_main_v59, val_main_v68, val_main_v79, val_main_v58, val_main_v67, val_main_v78, val_main_v56, val_main_v57,
   val_main_v49, val_main_v42, val_main_v34, val_main_v32, val_main_v31, val_main_cst_6, val_main_cst_9, val_main_cst_10, val_main_cst_11, val_main_cst_13, val_main_cst_14, val_main_cst_15,
   val_main_cst_17, val_main_cst_18, val_main_cst_19]
  simp only [hh]
  generalize hid (Y a2) (G a3) (G a4) (W a5) = h
  unfold gdw
  fin_cases k
  · rw [dif_neg (by simp), dif_neg (by simp), dif_pos (by simp)]
    simp only [zero_mul, Finset.sum_const_zero, zero_add, Finset.univ_unique, Finset.sum_singleton]
    exact (sum_two_later (fun t => a0 (ix2 t q)) (fun t => h t q)).symm
  · rw [dif_neg (by simp), dif_pos (by simp), dif_neg (by simp)]
    simp only [zero_add, add_zero, Finset.univ_unique, Finset.sum_singleton]
    refine Eq.trans ?_ (sum_later 1 (fun t => a0 (ix2 t q)) (fun t => h t q)).symm
    refine Finset.sum_congr rfl fun t _ => congrArg (· * a0 (ix2 t q)) ?_
    by_cases e : 1 ≤ t.val
    · rw [dif_pos e, dif_neg (by omega)]
      exact congrArg (fun u => h u q) (Fin.ext (by dsimp only; omega))
    · rw [dif_neg e, dif_pos (by omega)]
  · rw [dif_pos (by simp), dif_neg (by simp), dif_neg (by simp)]
    simp only [add_zero, Finset.univ_unique, Finset.sum_singleton]
    refine Finset.sum_congr rfl fun t _ => (mul_comm _ _).trans (congrArg (· * h t q) ?_)
    exact (fut_zero (X a0) t q).symm

theorem gg_apply (j : Fin 1024) :
    val_main_v99 (F := Ideal) a0 a1 a2 a5 a6 (ix2 0 j) =
      ∑ t : Fin 16384, dx (X a0) (K a6) (W a5) (Y a1) t j * Norm.xhat (Y a2 t) j := by
  have hx := xhat_apply a2
  have hd := dx_apply a0 a1 a5 a6
  pointwise [val_main_v99, val_main_v98, val_main_v97, val_main_cst_23]
  simp only [hx, hd]
  exact Finset.sum_congr rfl fun t _ => mul_comm _ _

theorem gb_apply (j : Fin 1024) :
    val_main_v96 (F := Ideal) a0 a1 a5 a6 (ix2 0 j) = ∑ t : Fin 16384, dx (X a0) (K a6) (W a5) (Y a1) t j := by
  have hd := dx_apply a0 a1 a5 a6
  pointwise [val_main_v96, val_main_v95, val_main_cst_22]
  simp only [hd]

/-- What reaches the normalised rows. -/
abbrev ct (t : Fin 16384) (j : Fin 1024) : EReal := dx (X a0) (K a6) (W a5) (Y a1) t j * G a3 j

theorem dr_apply (t : Fin 16384) (j : Fin 1024) :
    val_main_v125 (F := Ideal) a0 a1 a2 a3 a5 a6 (ix2 t j) = Norm.backChain (Y a2 t) (ct a0 a1 a3 a5 a6 t) j := by
  have hd := dx_apply a0 a1 a5 a6
  have hc : ∀ t j, val_main_v101 (F := Ideal) a0 a1 a3 a5 a6 (ix2 t j) = ct a0 a1 a3 a5 a6 t j := by
    intro t j
    pointwise [val_main_v101, val_main_v100]
    rw [hd]
  have hm : ∀ t j, val_main_v5 (F := Ideal) a2 (ix2 t j) = Norm.cen (Y a2 t) j := by
    intro t j
    pointwise [val_main_v5, val_main_v4, val_main_v3, val_main_v2, val_main_v1, val_main_v0, val_main_cst, val_main_cst_0]
    rfl
  have hm' : ∀ t j, val_main_v14 (F := Ideal) a2 (ix2 t j) = Norm.cen (Y a2 t) j := by
    intro t j
    pointwise [val_main_v14, val_main_v13, val_main_v3, val_main_v2, val_main_v1, val_main_v0, val_main_cst, val_main_cst_0]
    rfl
  have hv : ∀ t, val_main_v16 (F := Ideal) a2 (ix2 t 0) = Norm.varE (Y a2 t) := by
    intro t
    pointwise [val_main_v16, val_main_v15, val_main_v12, val_main_v11, val_main_v10, val_main_v9, val_main_v6, val_main_cst_2, val_main_cst_3, val_main_cst_4]
    simp only [hm]
    rfl
  pointwise [val_main_v125, val_main_v124, val_main_v123, val_main_v122, val_main_v121, val_main_v120, val_main_v119, val_main_v118, val_main_v117, val_main_v116,
    val_main_v115, val_main_v114, val_main_v113, val_main_v112, val_main_v111, val_main_v110, val_main_v109, val_main_v108, val_main_v107, val_main_v106,
    val_main_v105, val_main_v104, val_main_v103, val_main_v102, val_main_v20, val_main_v19, val_main_v18, val_main_v17, val_main_v8, val_main_v7,
    val_main_cst_1, val_main_cst_5, val_main_cst_24, val_main_cst_25, val_main_cst_26, val_main_cst_27, val_main_cst_28, val_main_cst_29, val_main_cst_30]
  have hv' : val_main_v16 (F := Ideal) a2 (ix2 t default) = Norm.varE (Y a2 t) := hv t
  simp only [hm, hm', hv, hv', hc, Finset.univ_unique, Finset.sum_singleton]
  unfold Norm.backChain Norm.backVar Norm.rstd
  rfl

end Cert.ReferenceIdeal.Up
end
-- ==== Proof.Real.lean ====
module

public import proofs.«01_k».proof.Proof.Spec
public import Idealize.ShloMosaic.Lib.Pointwise
public import Idealize.ShloMosaic.Lib.ReduceAll

/-! Arrays the precondition calls finite hold real numbers, and so do the gradients made from them. -/

@[expose] public section

set_option maxRecDepth 16384

noncomputable section
open Idealize.ShloMosaic Idealize.ShloMosaic.TcCoe Idealize.SL.Sem
namespace Cert.Norm

theorem cInf_eq : Ideal.ofBits .f32 0x7F800000#32 = ⊤ := by simp [Ideal.ofBits, Ideal.ieee]

theorem isReal_of_abs_lt (x : EReal) (h : max x (-x) < ⊤) : IsReal x := by
  induction x using EReal.rec with
  | bot => simp at h
  | coe r => exact ⟨r, rfl⟩
  | top => simp at h

/-- One array's share of the precondition: every entry is a real number. -/
theorem isReal_of_all {s S_ u : Shape} [Subsingleton S_.Idx] {axes : List (Fin s.rank)} (a : FVec Ideal s .f32) (b : FVec Ideal s .f32)
    (hb : ∀ i, b i = ⊤) (init : u.Idx → BitVec 1) (hr : s.ReducesTo axes S_) (hu : 0 < u.numel) (j : S_.Idx)
    (h : Host.reduce IntOp.andi (cmpf (F := Ideal) .olt (Host.absf a) b) init hr hu j = 1#1) (i : s.Idx) : IsReal (a i) := by
  have e := Host.reduce_andi_all _ _ _ _ _ h i
  refine isReal_of_abs_lt _ ?_
  have e' : BitVec.ofBool (decide (max (a i) (-(a i)) < b i)) = 1#1 := e
  rw [hb] at e'
  by_contra hn
  rw [decide_eq_false hn] at e'
  exact absurd e' (by decide)

theorem and_one {x y : BitVec 1} (h : IntOp.andi x y = 1#1) : x = 1#1 ∧ y = 1#1 := by
  revert x y; decide

theorem cAlpha_eq : Ideal.ofBits .f32 0x3FD744FD#32 = (((14107901 : ℝ) * 2 ^ (-23 : Int) : ℝ) : EReal) := by
  simp [Ideal.ofBits, Ideal.ieee, -EReal.coe_mul]

theorem isReal_dx (x : Fin 16384 → Fin 5632 → EReal) (κ : Fin 3 → Fin 5632 → EReal) (w : Fin 1024 → Fin 5632 → EReal)
    (y : Fin 16384 → Fin 1024 → EReal) (hx : ∀ t q, IsReal (x t q)) (hk : ∀ k q, IsReal (κ k q)) (hw : ∀ j q, IsReal (w j q))
    (hy : ∀ t j, IsReal (y t j)) (t : Fin 16384) (j : Fin 1024) : IsReal (Spec.dx x κ w y t j) := by
  have hf : ∀ s t q, IsReal (Spec.fut x s t q) := by
    intro s t q
    unfold Spec.fut
    split
    · exact hx _ _
    · exact isReal_zero
  have ha : IsReal (Ideal.ofBits .f32 0x3FD744FD#32) := ⟨_, cAlpha_eq⟩
  refine (ha.mul (hy t j)).add (IsReal.sum _ _ fun q => IsReal.mul ?_ (hw j q))
  exact (((hk 2 q).mul (hx t q)).add ((hk 1 q).mul (hf 1 t q))).add ((hk 0 q).mul (hf 2 t q))

end Cert.Norm
end
-- ==== Proof.UpClaim.lean ====
module

public import proofs.«01_k».proof.Defs
public import proofs.«01_k».proof.Proof.Final
public import proofs.«01_k».proof.Proof.Ref
public import proofs.«01_k».proof.Proof.Real
public import proofs.«01_k».proof.Proof.Gen.Kernel
public import proofs.«01_k».proof.Proof.Gen.Pre_finite

/-! The claims about the up-projection's gradient: the frames, and that kernel and reference leave the same arrays. -/

@[expose] public section

set_option maxRecDepth 16384

noncomputable section
open Idealize.ShloMosaic Idealize.ShloMosaic.TcCoe Idealize.SL.Sem
namespace Cert.Up

theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2,
    Idealize.ShloMosaic.sem_eq_zero_of_no_sems (by decide) r.2⟩) (Cert.ReferenceIdeal.Value.run (F := Ideal) m ρ)
theorem frame_reference_finite : Cert.quiescent_ReferenceIdeal_pre_finite := fun m ρ _ => frame_reference m ρ trivial

section
open Cert.KernelIdeal Cert.KernelIdeal.Up
variable (m : (ℓ : Loc nD τ sig) → Buf (Elt Ideal) ℓ) (c : Dev nD)

instance : Subsingleton Cert.Pre_finite.S_.Idx := ⟨fun a b => funext fun k => k.elim0⟩

/-- What the precondition says, array by array. -/
theorem real (h : Cert.Pre_KernelIdeal_finite m) :
    (∀ t q, Norm.IsReal (X m c t q)) ∧ (∀ t j, Norm.IsReal (Y m c t j)) ∧ (∀ t j, Norm.IsReal (R m c t j)) ∧
      (∀ j, Norm.IsReal (G m c j)) ∧ (∀ j q, Norm.IsReal (W m c j q)) ∧ ∀ l k q, Norm.IsReal (A6 m c (ix3 l k q)) := by
  have e := congrFun (h c) (fun a => a.elim0)
  unfold Cert.Pre_finite.fn Cert.Pre_finite.fn_part1 at e
  obtain ⟨e, h6⟩ := Norm.and_one e
  obtain ⟨e, h5⟩ := Norm.and_one e
  obtain ⟨e, h3⟩ := Norm.and_one e
  obtain ⟨e, h2⟩ := Norm.and_one e
  obtain ⟨h0, h1⟩ := Norm.and_one e
  exact ⟨fun t q => Norm.isReal_of_all (A0 m c) _ (fun _ => Norm.cInf_eq) _ _ _ _ h0 (ix2 t q),
    fun t q => Norm.isReal_of_all (A1 m c) _ (fun _ => Norm.cInf_eq) _ _ _ _ h1 (ix2 t q),
    fun t q => Norm.isReal_of_all (A2 m c) _ (fun _ => Norm.cInf_eq) _ _ _ _ h2 (ix2 t q),
    fun q => Norm.isReal_of_all (A3 m c) _ (fun _ => Norm.cInf_eq) _ _ _ _ h3 (ix2 0 q),
    fun t q => Norm.isReal_of_all (A5 m c) _ (fun _ => Norm.cInf_eq) _ _ _ _ h5 (ix3 0 t q),
    fun l t q => Norm.isReal_of_all (A6 m c) _ (fun _ => Norm.cInf_eq) _ _ _ _ h6 (ix3 l t q)⟩

theorem dr_eq_of (hX : ∀ t q, Norm.IsReal (X m c t q)) (hY : ∀ t j, Norm.IsReal (Y m c t j)) (hR : ∀ t j, Norm.IsReal (R m c t j))
    (hG : ∀ j, Norm.IsReal (G m c j)) (hW : ∀ j q, Norm.IsReal (W m c j q)) (hK : ∀ k q, Norm.IsReal (K m c k q)) :
    Cert.ReferenceIdeal.Read.val_main_v125 (F := Ideal) (A0 m c) (A1 m c) (A2 m c) (A3 m c) (A5 m c) (A6 m c) = res9 m c := by
  funext i
  obtain ⟨t, j, rfl⟩ : ∃ (t : Fin 16384) (j : Fin 1024), i = ix2 t j := ⟨i 0, i 1, by blk_ext⟩
  refine (Cert.ReferenceIdeal.Up.dr_apply (A0 m c) (A1 m c) (A2 m c) (A3 m c) (A5 m c) (A6 m c) t j).trans ?_
  exact (Norm.back_eq_chain _ _ (hR t) (fun j => (Norm.isReal_dx _ _ _ _ hX hK hW hY t j).mul (hG j)) j).symm

theorem dr_eq (h : Cert.Pre_KernelIdeal_finite m) :
    Cert.ReferenceIdeal.Read.val_main_v125 (F := Ideal) (A0 m c) (A1 m c) (A2 m c) (A3 m c) (A5 m c) (A6 m c) = res9 m c := by
  obtain ⟨hX, hY, hR, hG, hW, hK⟩ := real m c h
  exact dr_eq_of m c hX hY hR hG hW (hK 3)

theorem dh_eq' : Cert.ReferenceIdeal.Read.val_main_v126 (F := Ideal) (A0 m c) (A6 m c) = res10 m c := by
  funext i
  obtain ⟨t, j, rfl⟩ : ∃ (t : Fin 16384) (j : Fin 5632), i = ix2 t j := ⟨i 0, i 1, by blk_ext⟩
  exact Cert.ReferenceIdeal.Up.dh_apply (A0 m c) (A6 m c) t j

theorem gdw_eq' : Cert.ReferenceIdeal.Read.val_main_v86 (F := Ideal) (A0 m c) (A2 m c) (A3 m c) (A4 m c) (A5 m c) = res11 m c := by
  funext i
  obtain ⟨t, j, rfl⟩ : ∃ (t : Fin 3) (j : Fin 5632), i = ix2 t j := ⟨i 0, i 1, by blk_ext⟩
  exact Cert.ReferenceIdeal.Up.gdw_apply (A0 m c) (A2 m c) (A3 m c) (A4 m c) (A5 m c) t j

theorem gg_eq' : Cert.ReferenceIdeal.Read.val_main_v99 (F := Ideal) (A0 m c) (A1 m c) (A2 m c) (A5 m c) (A6 m c) = res12 m c := by
  funext i
  obtain ⟨j, rfl⟩ : ∃ (j : Fin 1024), i = ix2 0 j := ⟨i 1, by blk_ext⟩
  exact Cert.ReferenceIdeal.Up.gg_apply (A0 m c) (A1 m c) (A2 m c) (A5 m c) (A6 m c) j

theorem gb_eq' : Cert.ReferenceIdeal.Read.val_main_v96 (F := Ideal) (A0 m c) (A1 m c) (A5 m c) (A6 m c) = res13 m c := by
  funext i
  obtain ⟨j, rfl⟩ : ∃ (j : Fin 1024), i = ix2 0 j := ⟨i 1, by blk_ext⟩
  exact Cert.ReferenceIdeal.Up.gb_apply (A0 m c) (A1 m c) (A5 m c) (A6 m c) j

end

theorem algebraic : Cert.algebraic_KernelIdeal_ReferenceIdeal_pre_finite := by
  intro m g m' g' hpre hagree
  refine ⟨Cert.KernelIdeal.Up.res9 m, Cert.KernelIdeal.Up.res10 m, Cert.KernelIdeal.Up.res11 m, Cert.KernelIdeal.Up.res12 m,
    Cert.KernelIdeal.Up.res13 m, ?_, ?_⟩
  · refine (θ_run Cert.KernelIdeal.defs _ _).mono (fun r h c => ?_) (Cert.KernelIdeal.Value.run_blocks (F := Ideal) m g)
    obtain ⟨h0, h1, h2, h3, h4, hk⟩ := h c
    exact ⟨h0.trans (Cert.KernelIdeal.Up.final9 m c), h1.trans (Cert.KernelIdeal.Up.final10 m c),
      h2.trans (Cert.KernelIdeal.Up.final11 m c), h3.trans (Cert.KernelIdeal.Up.final12 m c),
      h4.trans (Cert.KernelIdeal.Up.final13 m c), hk⟩
  · refine (θ_run Cert.ReferenceIdeal.defs _ _).mono (fun r h c => ?_) (Cert.ReferenceIdeal.Value.run (F := Ideal) m' g')
    obtain ⟨h0, h1, h2, h3, h4, hk⟩ := h c
    obtain ⟨a0, a1, a2, a3, a4, a5, a6⟩ := hagree c
    have e0 := (h0.trans (Cert.ReferenceIdeal.Read.val_main_v125_eq m' c))
    have e1 := (h1.trans (Cert.ReferenceIdeal.Read.val_main_v126_eq _ _))
    have e2 := (h2.trans (Cert.ReferenceIdeal.Read.val_main_v86_eq m' c))
    have e3 := (h3.trans (Cert.ReferenceIdeal.Read.val_main_v99_eq _ _ _ _ _))
    have e4 := (h4.trans (Cert.ReferenceIdeal.Read.val_main_v96_eq _ _ _ _))
    rw [a0, a1, a2, a3, a5, a6] at e0
    rw [a0, a6] at e1
    rw [a0, a2, a3, a4, a5] at e2
    rw [a0, a1, a2, a5, a6] at e3
    rw [a0, a1, a5, a6] at e4
    exact ⟨e0.trans (dr_eq m c hpre), e1.trans (dh_eq' m c), e2.trans (gdw_eq' m c), e3.trans (gg_eq' m c), e4.trans (gb_eq' m c), hk⟩

end Cert.Up
end
-- ==== Proof.DownBlocks.lean ====
module

public import proofs.«01_k».proof.Proof.Norm
public import proofs.«01_k».proof.Proof.Gen.Kernel2Ideal.Skeleton
public import Idealize.ShloMosaic.Lib.Pipeline.ValueKit
public import Idealize.ShloMosaic.Lib.Pointwise

/-! The blocks the down-projection's gradient works on, one chunk of 256 columns at a time: every chunk's operations are
those of the first chunk at another column offset, and each is read here at one entry. -/

@[expose] public section

set_option maxRecDepth 16384

noncomputable section
open Idealize.ShloMosaic Idealize.ShloMosaic.TcCoe Idealize.SL.Sem
namespace Cert.Kernel2Ideal.Down
open Cert.Kernel2Ideal Cert.Kernel2Ideal.Gen

section
variable {F : FTy → Type} [FloatOps F]

/-- Columns `256 j …` of the gate's half of a block. -/
def gat {e : EltTy} (X : Vec F S256x5632 e) (j : Fin 11) : Vec F S256x256 e :=
  View.ld X (Rect.unit ![0, 256 * j.val] S256x256.size (by
    have := j.isLt; intro a; fin_cases a <;> simp [S256x256, S256x5632] <;> omega))

/-- The same columns of the half the gate multiplies. -/
def lin {e : EltTy} (X : Vec F S256x5632 e) (j : Fin 11) : Vec F S256x256 e :=
  View.ld X (Rect.unit ![0, 2816 + 256 * j.val] S256x256.size (by
    have := j.isLt; intro a; fin_cases a <;> simp [S256x256, S256x5632] <;> omega))

/-- The same rows of the down-projection. -/
def wch {e : EltTy} (X : Vec F S1x2816x1024 e) (j : Fin 11) : Vec F S1x256x1024 e :=
  View.ld X (Rect.unit ![0, 256 * j.val, 0] S1x256x1024.size (by
    have := j.isLt; intro a; fin_cases a <;> simp [S1x256x1024, S1x2816x1024] <;> omega))

/-- The loss's gradient at the normalised rows. -/
def dyB (X0 X1 : Vec F S256x1024 .f32) (X3 X4 : Vec F S1x1024 .f32) : FVec F S256x1024 .f32 := k0_pay9 X1 X3 X4 X0

/-- The rows' gradient through the normalisation. -/
def drB (X0 X1 : Vec F S256x1024 .f32) (X2 : Vec F S256x1 .f32) (X3 X4 : Vec F S1x1024 .f32) : FVec F S256x1024 .f32 :=
  k0_pay13 (k0_pay7 X1) (dyB X0 X1 X3 X4) X2 X3

/-- The same, rounded for the products. -/
def dob (X0 X1 : Vec F S256x1024 .f32) (X2 : Vec F S256x1 .f32) (X3 X4 : Vec F S1x1024 .f32) : FVec F S256x1024 .bf16 :=
  k0_pay14 (k0_pay7 X1) (dyB X0 X1 X3 X4) X2 X3

/-- The two halves of the hidden gradient, one chunk. -/
def dgB (o : FVec F S256x1024 .bf16) (X5 : Vec F S256x5632 .bf16) (X6 : Vec F S1x2816x1024 .bf16) (j : Fin 11) : FVec F S256x256 .bf16 :=
  k0_pay22 (k0_pay24 o (wch X6 j)) (gat X5 j) (lin X5 j)
def dvB (o : FVec F S256x1024 .bf16) (X5 : Vec F S256x5632 .bf16) (X6 : Vec F S1x2816x1024 .bf16) (j : Fin 11) : FVec F S256x256 .bf16 :=
  k0_pay23 (k0_pay24 o (wch X6 j)) (gat X5 j)

end

/-- Column `256 j + k` of a half, of the first half and of the second half. -/
def colI (j : Fin 11) (k : Fin 256) : Fin 2816 := ⟨256 * j.val + k.val, by omega⟩
def colG (q : Fin 2816) : Fin 5632 := ⟨q.val, by omega⟩
def colV (q : Fin 2816) : Fin 5632 := ⟨2816 + q.val, by omega⟩

theorem gat_apply {e : EltTy} (X : Vec Ideal S256x5632 e) (j : Fin 11) (r k : Fin 256) :
    gat X j (ix2 r k) = X (ix2 r (colG (colI j k))) := by
  unfold gat colG colI; pointwise

theorem lin_apply {e : EltTy} (X : Vec Ideal S256x5632 e) (j : Fin 11) (r k : Fin 256) :
    lin X j (ix2 r k) = X (ix2 r (colV (colI j k))) := by
  unfold lin colV colI; pointwise
  exact congrArg X (congrArg (ix2 r) (Fin.ext (Nat.add_assoc _ _ _)))

theorem wch_apply {e : EltTy} (X : Vec Ideal S1x2816x1024 e) (j : Fin 11) (k : Fin 256) (l : Fin 1024) :
    wch X j (ix3 0 k l) = X (ix3 0 (colI j k) l) := by
  unfold wch colI; pointwise

/-- What is off the target at one entry, and the loss's gradient there. -/
def errE (X0 X1 : Vec Ideal S256x1024 .f32) (X3 X4 : Vec Ideal S1x1024 .f32) (r : Fin 256) (l : Fin 1024) : EReal :=
  X1 (ix2 r l) * X3 (ix2 0 l) + X4 (ix2 0 l) - X0 (ix2 r l)
def dyE (X0 X1 : Vec Ideal S256x1024 .f32) (X3 X4 : Vec Ideal S1x1024 .f32) (r : Fin 256) (l : Fin 1024) : EReal :=
  errE X0 X1 X3 X4 r l * Ideal.ofBits .f32 0x3A800000#32

theorem pay8_apply (X0 X1 : Vec Ideal S256x1024 .f32) (X3 X4 : Vec Ideal S1x1024 .f32) (r : Fin 256) (l : Fin 1024) :
    k0_pay8 X1 X3 X4 X0 (ix2 r l) = errE X0 X1 X3 X4 r l := by
  pointwise [k0_pay8, k0_pay7]; rfl

theorem dyB_apply (X0 X1 : Vec Ideal S256x1024 .f32) (X3 X4 : Vec Ideal S1x1024 .f32) (r : Fin 256) (l : Fin 1024) :
    dyB X0 X1 X3 X4 (ix2 r l) = dyE X0 X1 X3 X4 r l := by
  have h := pay8_apply X0 X1 X3 X4
  pointwise [dyB, k0_pay9]
  rw [h]; rfl

theorem pay13_apply (v4 v14 : FVec Ideal S256x1024 .f32) (v39 : Vec Ideal S256x1 .f32) (v41 : Vec Ideal S1x1024 .f32) (r : Fin 256)
    (l : Fin 1024) :
    k0_pay13 v4 v14 v39 v41 (ix2 r l) = v39 (ix2 r 0) * (v14 (ix2 r l) * v41 (ix2 0 l)
      - Ideal.div (∑ k : Fin 1024, v14 (ix2 r k) * v41 (ix2 0 k)) (Ideal.ofBits .f32 0x44800000#32)
      - v4 (ix2 r l) * Ideal.div (∑ k : Fin 1024, v14 (ix2 r k) * v41 (ix2 0 k) * v4 (ix2 r k)) (Ideal.ofBits .f32 0x44800000#32)) := by
  pointwise [k0_pay13]

theorem drB_apply (X0 X1 : Vec Ideal S256x1024 .f32) (X2 : Vec Ideal S256x1 .f32) (X3 X4 : Vec Ideal S1x1024 .f32) (r : Fin 256)
    (l : Fin 1024) :
    drB X0 X1 X2 X3 X4 (ix2 r l) = X2 (ix2 r 0) * (dyE X0 X1 X3 X4 r l * X3 (ix2 0 l)
      - Ideal.div (∑ k : Fin 1024, dyE X0 X1 X3 X4 r k * X3 (ix2 0 k)) (Ideal.ofBits .f32 0x44800000#32)
      - X1 (ix2 r l) * Ideal.div (∑ k : Fin 1024, dyE X0 X1 X3 X4 r k * X3 (ix2 0 k) * X1 (ix2 r k)) (Ideal.ofBits .f32 0x44800000#32)) := by
  have h : ∀ r l, k0_pay7 X1 (ix2 r l) = X1 (ix2 r l) := by intro r l; pointwise [k0_pay7]
  unfold drB
  rw [pay13_apply]
  simp only [dyB_apply, h]

theorem dob_apply (X0 X1 : Vec Ideal S256x1024 .f32) (X2 : Vec Ideal S256x1 .f32) (X3 X4 : Vec Ideal S1x1024 .f32) (r : Fin 256)
    (l : Fin 1024) : dob X0 X1 X2 X3 X4 (ix2 r l) = drB X0 X1 X2 X3 X4 (ix2 r l) := by
  pointwise [dob, k0_pay14]
  rfl

theorem pay24_apply (o : FVec Ideal S256x1024 .bf16) (w : Vec Ideal S1x256x1024 .bf16) (r q : Fin 256) :
    k0_pay24 o w (ix2 r q) = ∑ k : Fin 1024, o (ix2 r k) * w (ix3 0 q k) := by
  pointwise [k0_pay24]

/-- The gradient at the gated product. -/
def daE (o : FVec Ideal S256x1024 .bf16) (X6 : Vec Ideal S1x2816x1024 .bf16) (r : Fin 256) (q : Fin 2816) : EReal :=
  ∑ k : Fin 1024, o (ix2 r k) * X6 (ix3 0 q k)
/-- The gate's two factors and the gated product. -/
def sgE (x : EReal) : EReal := Ideal.logistic x

theorem dvB_apply (o : FVec Ideal S256x1024 .bf16) (X5 : Vec Ideal S256x5632 .bf16) (X6 : Vec Ideal S1x2816x1024 .bf16) (j : Fin 11)
    (r k : Fin 256) : dvB o X5 X6 j (ix2 r k)
      = daE o X6 r (colI j k) * (X5 (ix2 r (colG (colI j k))) * sgE (X5 (ix2 r (colG (colI j k))))) := by
  have h := pay24_apply o (wch X6 j)
  have hg := gat_apply X5 j
  have hw := wch_apply X6 j
  pointwise [dvB, k0_pay23, k0_pay20, k0_pay19, k0_pay17]
  simp only [h, hg, hw]
  rfl

theorem dgB_apply (o : FVec Ideal S256x1024 .bf16) (X5 : Vec Ideal S256x5632 .bf16) (X6 : Vec Ideal S1x2816x1024 .bf16) (j : Fin 11)
    (r k : Fin 256) : dgB o X5 X6 j (ix2 r k)
      = daE o X6 r (colI j k) * X5 (ix2 r (colV (colI j k))) * (sgE (X5 (ix2 r (colG (colI j k))))
        * (1 + X5 (ix2 r (colG (colI j k))) * (1 - sgE (X5 (ix2 r (colG (colI j k))))))) := by
  have h := pay24_apply o (wch X6 j)
  have hg := gat_apply X5 j
  have hl := lin_apply X5 j
  have hw := wch_apply X6 j
  pointwise [dgB, k0_pay22, k0_pay19, k0_pay18, k0_pay17]
  simp only [h, hg, hl, hw]
  rfl

/-- One block's share of the down-projection's gradient. -/
def gwE (o : FVec Ideal S256x1024 .bf16) (X5 : Vec Ideal S256x5632 .bf16) (q : Fin 2816) (l : Fin 1024) : EReal :=
  ∑ r : Fin 256, X5 (ix2 r (colG q)) * sgE (X5 (ix2 r (colG q))) * X5 (ix2 r (colV q)) * o (ix2 r l)

theorem gw_apply (o : FVec Ideal S256x1024 .bf16) (X5 : Vec Ideal S256x5632 .bf16) (j : Fin 11) (acc : Vec Ideal S1x256x1024 .f32)
    (k : Fin 256) (l : Fin 1024) : k0_pay21 o (gat X5 j) (lin X5 j) acc (ix3 0 k l) = acc (ix3 0 k l) + gwE o X5 (colI j k) l := by
  have hg := gat_apply X5 j
  have hl := lin_apply X5 j
  pointwise [k0_pay21, k0_pay20, k0_pay19, k0_pay18, k0_pay17]
  simp only [hg, hl]
  rfl

theorem gg_apply (X0 X1 : Vec Ideal S256x1024 .f32) (X3 X4 acc : Vec Ideal S1x1024 .f32) (l : Fin 1024) :
    k0_pay11 X1 X3 X4 X0 acc (ix2 0 l) = acc (ix2 0 l) + ∑ r : Fin 256, dyE X0 X1 X3 X4 r l * X1 (ix2 r l) := by
  have h : ∀ r l, k0_pay9 X1 X3 X4 X0 (ix2 r l) = dyE X0 X1 X3 X4 r l := dyB_apply X0 X1 X3 X4
  pointwise [k0_pay11, k0_pay7]
  simp only [h]

theorem gb_apply (v14 : FVec Ideal S256x1024 .f32) (acc : Vec Ideal S1x1024 .f32) (l : Fin 1024) :
    k0_pay12 v14 acc (ix2 0 l) = acc (ix2 0 l) + ∑ r : Fin 256, v14 (ix2 r l) := by
  pointwise [k0_pay12]

theorem loss_apply (X0 X1 : Vec Ideal S256x1024 .f32) (X3 X4 : Vec Ideal S1x1024 .f32) (acc : Vec Ideal S1x1 .f32) :
    k0_pay10 X1 X3 X4 X0 acc (ix2 0 0) = acc (ix2 0 0) + Ideal.ofBits .f32 0x3A000000#32
      * ∑ l : Fin 1024, ∑ r : Fin 256, errE X0 X1 X3 X4 r l * errE X0 X1 X3 X4 r l := by
  have h := pay8_apply X0 X1 X3 X4
  pointwise [k0_pay10]
  simp only [h]

end Cert.Kernel2Ideal.Down
end
-- ==== Proof.DownOuts.lean ====
module

public import proofs.«01_k».proof.Proof.DownBlocks
public import proofs.«01_k».proof.Proof.Gen.Kernel2Ideal.Value
import all proofs.«01_k».proof.Proof.Gen.Kernel2Ideal.Value

/-! What the kernel's body leaves in each output block at a grid point, read at one entry. At the first point the
accumulator of the down-projection's gradient is cleared and then each of its 11 pieces is read, added to and stored: after
`n` pieces the rows of those pieces hold their sums and the others are zero. -/

@[expose] public section

set_option maxRecDepth 100000

noncomputable section
open Idealize.ShloMosaic Idealize.ShloMosaic.TcCoe Idealize.SL.Sem
namespace Cert.Kernel2Ideal.Down
open Cert.Kernel2Ideal Cert.Kernel2Ideal.Gen

/-- After `n` of the 11 pieces. -/
def After (n : Nat) (T : Fin 2816 → Fin 1024 → EReal) (L : List (View.Piece (Elt Ideal) S1x2816x1024 .f32)) : Prop :=
  (∀ y, ∃ p ∈ L, y ∈ p.1.set) ∧
    ∀ q l, View.canon L (ix3 0 q l) = if q.val / 256 < n then T q l else 0

theorem after_zero (T : Fin 2816 → Fin 1024 → EReal) : After 0 T (kernelRun0_A.sl.H9_1 (F := Ideal)) := by
  refine ⟨fun y => ⟨_, List.mem_cons_self, ?_⟩, fun k q => ?_⟩
  · show y ∈ (Rect.unit (s := S1x2816x1024) ![0, 0, 0] S1x2816x1024.size inb_S1x2816x1024_S1x2816x1024_0_0_0).set
    refine Rect.mem_set_unit.mpr fun a => ?_
    have := (y a).isLt
    fin_cases a <;> simpa using this
  · unfold kernelRun0_A.sl.H9_1
    rw [View.canon_cons_unit_lit _ _ _ (by decide), if_neg (Nat.not_lt_zero _)]
    pointwise [k0_pay3]

theorem after_step {n : Nat} {T : Fin 2816 → Fin 1024 → EReal} {L : List (View.Piece (Elt Ideal) S1x2816x1024 .f32)} (h : After n T L)
    (j : Fin 11) (hn : n = j.val) (v : View sig .tc .vmem S1x2816x1024 .f32)
    (inb : ∀ a : Fin S1x2816x1024.rank, (![0, 256 * j.val, 0] : Fin S1x2816x1024.rank → Nat) a + S1x256x1024.size a ≤ S1x2816x1024.size a)
    (w : Vec Ideal S1x256x1024 .f32)
    (hw : ∀ (k : Fin 256) (l : Fin 1024), w (ix3 0 k l) =
      v.readCov L (Rect.unit (s := S1x2816x1024) ![0, 256 * j.val, 0] S1x256x1024.size inb).toLoadRect (ix3 0 k l) + T (colI j k) l) :
    After (n + 1) T ((⟨Rect.unit (s := S1x2816x1024) ![0, 256 * j.val, 0] S1x256x1024.size inb, w⟩ : View.Piece (Elt Ideal) S1x2816x1024 .f32) :: L) := by
  refine ⟨fun y => ?_, fun q l => ?_⟩
  · obtain ⟨p, hp, hy⟩ := h.1 y
    exact ⟨p, List.mem_cons_of_mem _ hp, hy⟩
  · have hj := j.isLt
    by_cases hm : (ix3 0 q l : S1x2816x1024.Idx) ∈ (Rect.unit (s := S1x2816x1024) ![0, 256 * j.val, 0] S1x256x1024.size inb).set
    · have hb := Rect.mem_set_unit.mp hm
      have h1 := hb 1
      have h1' : 256 * j.val ≤ q.val ∧ q.val < 256 * j.val + 256 := h1
      obtain ⟨k, rfl⟩ : ∃ k : Fin 256, q = colI j k := ⟨⟨q.val - 256 * j.val, by omega⟩, Fin.ext (by simp [colI]; omega)⟩
      have e : (Rect.unit (s := S1x2816x1024) ![0, 256 * j.val, 0] S1x256x1024.size inb).emb (ix3 (0 : Fin 1) k l : S1x256x1024.Idx) = ix3 0 (colI j k) l := by
        funext a; apply Fin.ext; rw [Rect.emb_apply]
        fin_cases a <;> simp [colI, Rect.unit]
      have hz : ¬ (colI j k).val / 256 < n := by simp only [colI]; omega
      have hz' : (colI j k).val / 256 < n + 1 := by simp only [colI]; omega
      have hr := h.2 (colI j k) l
      rw [if_neg hz] at hr
      rw [if_pos hz', ← e]
      refine (View.canon_cons_emb (Rect.unit (s := S1x2816x1024) ![0, 256 * j.val, 0] S1x256x1024.size inb) w L _).trans ?_
      rw [hw, View.readCov_eq_canon_ld v L _ h.1]
      have : View.ld (View.canon L) (Rect.unit (s := S1x2816x1024) ![0, 256 * j.val, 0] S1x256x1024.size inb) (ix3 (0 : Fin 1) k l : S1x256x1024.Idx) = 0 := by
        refine Eq.trans ?_ hr
        rw [← e]; rfl
      rw [this]
      exact zero_add _
    · refine (View.canon_cons_of_not_mem (⟨Rect.unit (s := S1x2816x1024) ![0, 256 * j.val, 0] S1x256x1024.size inb, w⟩ :
        View.Piece (Elt Ideal) S1x2816x1024 .f32) L hm).trans ?_
      rw [h.2]
      have : (q.val / 256 < n) ↔ (q.val / 256 < n + 1) := by
        constructor
        · omega
        · intro hlt
          by_contra hge
          apply hm
          have hq := q.isLt
          have hl := l.isLt
          refine Rect.mem_set_unit.mpr fun a => ?_
          fin_cases a
          · show 0 ≤ 0 ∧ 0 < 0 + 1
            omega
          · show 256 * j.val ≤ q.val ∧ q.val < 256 * j.val + 256
            omega
          · show 0 ≤ l.val ∧ l.val < 0 + 1024
            omega
      simp only [this]

/-- Loads of whole blocks. -/
theorem ldX (X : Vec Ideal S256x1024 .f32) (inb : ∀ a : Fin S256x1024.rank, (![0, 0] : Fin S256x1024.rank → Nat) a + S256x1024.size a ≤ S256x1024.size a) :
    View.ld X (Rect.unit (s := S256x1024) ![0, 0] (no_index S256x1024.size) inb) = X := View.ld_unit_lit inb X (by decide)
theorem ldR (X : Vec Ideal S256x1 .f32) (inb : ∀ a : Fin S256x1.rank, (![0, 0] : Fin S256x1.rank → Nat) a + S256x1.size a ≤ S256x1.size a) :
    View.ld X (Rect.unit (s := S256x1) ![0, 0] (no_index S256x1.size) inb) = X := View.ld_unit_lit inb X (by decide)
theorem ldG (X : Vec Ideal S1x1024 .f32) (inb : ∀ a : Fin S1x1024.rank, (![0, 0] : Fin S1x1024.rank → Nat) a + S1x1024.size a ≤ S1x1024.size a) :
    View.ld X (Rect.unit (s := S1x1024) ![0, 0] (no_index S1x1024.size) inb) = X := View.ld_unit_lit inb X (by decide)

section
variable (c : Dev nD) (arg1 : Memref sig .tc .vmem S256x1024 .f32) (harg1 : arg1.IsWhole)
  (arg2 : Memref sig .tc .vmem S256x1024 .f32) (harg2 : arg2.IsWhole) (arg3 : Memref sig .tc .vmem S256x1 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S256x5632 .bf16) (harg6 : arg6.IsWhole) (arg11 : Memref sig .tc .vmem S1x2816x1024 .f32)
  (x0 x1 : Vec Ideal S256x1024 .f32) (x2 : Vec Ideal S256x1 .f32) (x3 x4 : Vec Ideal S1x1024 .f32) (x5 : Vec Ideal S256x5632 .bf16)

theorem after_1 : After 1 (gwE (dob x0 x1 x2 x3 x4) x5) (kernelRun0_A.sl.H9_2 (F := Ideal) c arg1 harg1 arg2 harg2 arg3 harg3 arg4 harg4 arg5 harg5 arg6 harg6 arg11 x0 x1 x2 x3 x4 x5) := by
  unfold kernelRun0_A.sl.H9_2
  refine after_step (after_zero _) 0 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 0 _ k l

theorem after_2 : After 2 (gwE (dob x0 x1 x2 x3 x4) x5) (kernelRun0_A.sl.H9_3 (F := Ideal) c arg1 harg1 arg2 harg2 arg3 harg3 arg4 harg4 arg5 harg5 arg6 harg6 arg11 x0 x1 x2 x3 x4 x5) := by
  unfold kernelRun0_A.sl.H9_3
  refine after_step (after_1 c arg1 harg1 arg2 harg2 arg3 harg3 arg4 harg4 arg5 harg5 arg6 harg6 arg11 x0 x1 x2 x3 x4 x5) 1 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 1 _ k l

theorem after_3 : After 3 (gwE (dob x0 x1 x2 x3 x4) x5) (kernelRun0_A.sl.H9_4 (F := Ideal) c arg1 harg1 arg2 harg2 arg3 harg3 arg4 harg4 arg5 harg5 arg6 harg6 arg11 x0 x1 x2 x3 x4 x5) := by
  unfold kernelRun0_A.sl.H9_4
  refine after_step (after_2 c arg1 harg1 arg2 harg2 arg3 harg3 arg4 harg4 arg5 harg5 arg6 harg6 arg11 x0 x1 x2 x3 x4 x5) 2 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 2 _ k l

theorem after_4 : After 4 (gwE (dob x0 x1 x2 x3 x4) x5) (kernelRun0_A.sl.H9_5 (F := Ideal) c arg1 harg1 arg2 harg2 arg3 harg3 arg4 harg4 arg5 harg5 arg6 harg6 arg11 x0 x1 x2 x3 x4 x5) := by
  unfold kernelRun0_A.sl.H9_5
  refine after_step (after_3 c arg1 harg1 arg2 harg2 arg3 harg3 arg4 harg4 arg5 harg5 arg6 harg6 arg11 x0 x1 x2 x3 x4 x5) 3 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 3 _ k l

theorem after_5 : After 5 (gwE (dob x0 x1 x2 x3 x4) x5) (kernelRun0_A.sl.H9_6 (F := Ideal) c arg1 harg1 arg2 harg2 arg3 harg3 arg4 harg4 arg5 harg5 arg6 harg6 arg11 x0 x1 x2 x3 x4 x5) := by
  unfold kernelRun0_A.sl.H9_6
  refine after_step (after_4 c arg1 harg1 arg2 harg2 arg3 harg3 arg4 harg4 arg5 harg5 arg6 harg6 arg11 x0 x1 x2 x3 x4 x5) 4 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 4 _ k l

theorem after_6 : After 6 (gwE (dob x0 x1 x2 x3 x4) x5) (kernelRun0_A.sl.H9_7 (F := Ideal) c arg1 harg1 arg2 harg2 arg3 harg3 arg4 harg4 arg5 harg5 arg6 harg6 arg11 x0 x1 x2 x3 x4 x5) := by
  unfold kernelRun0_A.sl.H9_7
  refine after_step (after_5 c arg1 harg1 arg2 harg2 arg3 harg3 arg4 harg4 arg5 harg5 arg6 harg6 arg11 x0 x1 x2 x3 x4 x5) 5 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 5 _ k l

theorem after_7 : After 7 (gwE (dob x0 x1 x2 x3 x4) x5) (kernelRun0_A.sl.H9_8 (F := Ideal) c arg1 harg1 arg2 harg2 arg3 harg3 arg4 harg4 arg5 harg5 arg6 harg6 arg11 x0 x1 x2 x3 x4 x5) := by
  unfold kernelRun0_A.sl.H9_8
  refine after_step (after_6 c arg1 harg1 arg2 harg2 arg3 harg3 arg4 harg4 arg5 harg5 arg6 harg6 arg11 x0 x1 x2 x3 x4 x5) 6 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 6 _ k l

theorem after_8 : After 8 (gwE (dob x0 x1 x2 x3 x4) x5) (kernelRun0_A.sl.H9_9 (F := Ideal) c arg1 harg1 arg2 harg2 arg3 harg3 arg4 harg4 arg5 harg5 arg6 harg6 arg11 x0 x1 x2 x3 x4 x5) := by
  unfold kernelRun0_A.sl.H9_9
  refine after_step (after_7 c arg1 harg1 arg2 harg2 arg3 harg3 arg4 harg4 arg5 harg5 arg6 harg6 arg11 x0 x1 x2 x3 x4 x5) 7 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 7 _ k l

theorem after_9 : After 9 (gwE (dob x0 x1 x2 x3 x4) x5) (kernelRun0_A.sl.H9_10 (F := Ideal) c arg1 harg1 arg2 harg2 arg3 harg3 arg4 harg4 arg5 harg5 arg6 harg6 arg11 x0 x1 x2 x3 x4 x5) := by
  unfold kernelRun0_A.sl.H9_10
  refine after_step (after_8 c arg1 harg1 arg2 harg2 arg3 harg3 arg4 harg4 arg5 harg5 arg6 harg6 arg11 x0 x1 x2 x3 x4 x5) 8 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 8 _ k l

theorem after_10 : After 10 (gwE (dob x0 x1 x2 x3 x4) x5) (kernelRun0_A.sl.H9_11 (F := Ideal) c arg1 harg1 arg2 harg2 arg3 harg3 arg4 harg4 arg5 harg5 arg6 harg6 arg11 x0 x1 x2 x3 x4 x5) := by
  unfold kernelRun0_A.sl.H9_11
  refine after_step (after_9 c arg1 harg1 arg2 harg2 arg3 harg3 arg4 harg4 arg5 harg5 arg6 harg6 arg11 x0 x1 x2 x3 x4 x5) 9 rfl arg11.view _ _ fun k l => ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (dob x0 x1 x2 x3 x4) x5 9 _ k l

end

/-- The hidden gradient at one entry: the gate's columns first, then the others. -/
def dgE (o : FVec Ideal S256x1024 .bf16) (X5 : Vec Ideal S256x5632 .bf16) (X6 : Vec Ideal S1x2816x1024 .bf16) (r : Fin 256)
    (q : Fin 2816) : EReal :=
  daE o X6 r q * X5 (ix2 r (colV q)) * (sgE (X5 (ix2 r (colG q))) * (1 + X5 (ix2 r (colG q)) * (1 - sgE (X5 (ix2 r (colG q))))))
def dvE (o : FVec Ideal S256x1024 .bf16) (X5 : Vec Ideal S256x5632 .bf16) (X6 : Vec Ideal S1x2816x1024 .bf16) (r : Fin 256)
    (q : Fin 2816) : EReal :=
  daE o X6 r q * (X5 (ix2 r (colG q)) * sgE (X5 (ix2 r (colG q))))
def dhE (o : FVec Ideal S256x1024 .bf16) (X5 : Vec Ideal S256x5632 .bf16) (X6 : Vec Ideal S1x2816x1024 .bf16) (r : Fin 256)
    (q : Fin 5632) : EReal :=
  if h : q.val < 2816 then dgE o X5 X6 r ⟨q.val, h⟩ else dvE o X5 X6 r ⟨q.val - 2816, by omega⟩

theorem tileDg (o : FVec Ideal S256x1024 .bf16) (X5 : Vec Ideal S256x5632 .bf16) (X6 : Vec Ideal S1x2816x1024 .bf16) (j : Fin 11)
    (r : Fin 256) (q : Fin 5632) :
    View.TileAt (S := S256x5632) (e := .bf16) (Val := Elt Ideal) (ix2 r q) ![0, 256 * j.val] S256x256.size (dgB o X5 X6 j)
      (dhE o X5 X6 r q) := by
  intro x hx
  have h0 : r.val = 0 + (x 0).val := hx 0
  have h1 : q.val = 256 * j.val + (x 1).val := hx 1
  have hl : (x 1).val < 256 := (x 1).isLt
  have hj := j.isLt
  have ex : x = (ix2 r (⟨(x 1).val, hl⟩ : Fin 256) : S256x256.Idx) := by
    funext a; apply Fin.ext; fin_cases a
    · show (x 0).val = r.val
      omega
    · rfl
  refine (congrArg (dgB o X5 X6 j) ex).trans ((dgB_apply o X5 X6 j r _).trans ?_)
  have hq : q.val < 2816 := by omega
  obtain rfl : q = colG (colI j ⟨(x 1).val, hl⟩) := Fin.ext h1
  unfold dhE
  rw [dif_pos hq]
  rfl

theorem tileDv (o : FVec Ideal S256x1024 .bf16) (X5 : Vec Ideal S256x5632 .bf16) (X6 : Vec Ideal S1x2816x1024 .bf16) (j : Fin 11)
    (r : Fin 256) (q : Fin 5632) :
    View.TileAt (S := S256x5632) (e := .bf16) (Val := Elt Ideal) (ix2 r q) ![0, 2816 + 256 * j.val] S256x256.size (dvB o X5 X6 j)
      (dhE o X5 X6 r q) := by
  intro x hx
  have h0 : r.val = 0 + (x 0).val := hx 0
  have h1 : q.val = 2816 + 256 * j.val + (x 1).val := hx 1
  have hl : (x 1).val < 256 := (x 1).isLt
  have hj := j.isLt
  have ex : x = (ix2 r (⟨(x 1).val, hl⟩ : Fin 256) : S256x256.Idx) := by
    funext a; apply Fin.ext; fin_cases a
    · show (x 0).val = r.val
      omega
    · rfl
  refine (congrArg (dvB o X5 X6 j) ex).trans ((dvB_apply o X5 X6 j r _).trans ?_)
  have hq : ¬ q.val < 2816 := by omega
  unfold dhE
  rw [dif_neg hq]
  have e : (⟨q.val - 2816, by omega⟩ : Fin 2816) = colI j ⟨(x 1).val, hl⟩ := Fin.ext (by simp only [colI]; omega)
  rw [e]
  rfl

theorem tileW (o : FVec Ideal S256x1024 .bf16) (X5 : Vec Ideal S256x5632 .bf16) (P : Vec Ideal S1x2816x1024 .f32) (j : Fin 11)
    (inb : ∀ a : Fin S1x2816x1024.rank, (![0, 256 * j.val, 0] : Fin S1x2816x1024.rank → Nat) a + S1x256x1024.size a ≤ S1x2816x1024.size a)
    (q : Fin 2816) (l : Fin 1024) :
    View.TileAt (S := S1x2816x1024) (e := .f32) (Val := Elt Ideal) (ix3 0 q l) ![0, 256 * j.val, 0] S1x256x1024.size
      (k0_pay21 o (gat X5 j) (lin X5 j) (View.ld P (Rect.unit (s := S1x2816x1024) ![0, 256 * j.val, 0] S1x256x1024.size inb)))
      (P (ix3 0 q l) + gwE o X5 q l) := by
  intro x hx
  have h1 : q.val = 256 * j.val + (x 1).val := hx 1
  have h2 : l.val = 0 + (x 2).val := hx 2
  have hl : (x 1).val < 256 := (x 1).isLt
  obtain rfl : q = colI j ⟨(x 1).val, hl⟩ := Fin.ext h1
  have ex : x = (ix3 (0 : Fin 1) (⟨(x 1).val, hl⟩ : Fin 256) l : S1x256x1024.Idx) := by
    funext a; apply Fin.ext; fin_cases a
    · have : (x 0).val < 1 := (x 0).isLt
      show (x 0).val = 0
      omega
    · rfl
    · show (x 2).val = l.val
      omega
  refine (congrArg (k0_pay21 o (gat X5 j) (lin X5 j) _) ex).trans ((gw_apply o X5 j _ _ _).trans ?_)
  refine congrArg (· + gwE o X5 (colI j ⟨(x 1).val, hl⟩) l) ?_
  refine congrArg P ?_
  funext a; apply Fin.ext; fin_cases a <;> simp [colI, Rect.unit]

variable (m : (ℓ : Loc nD τ sig) → Buf (Elt Ideal) ℓ) (c : Dev nD) (t : Fin cfg0.N)

/-- The rows' gradient at point `t`, as the products take it. -/
abbrev doT : FVec Ideal S256x1024 .bf16 := dob (iblk m c 0 t) (iblk m c 1 t) (iblk m c 2 t) (iblk m c 3 t) (iblk m c 4 t)

theorem out7_A (h : t.val % 64 = 0) :
    (outsAt0 m c t.val t.isLt).1 = drB (iblk m c 0 t) (iblk m c 1 t) (iblk m c 2 t) (iblk m c 3 t) (iblk m c 4 t) := by
  rw [outsAt0_A m c t h]; frame_out; rfl

theorem out7_B (h : ¬ t.val % 64 = 0) :
    (outsAt0 m c t.val t.isLt).1 = drB (iblk m c 0 t) (iblk m c 1 t) (iblk m c 2 t) (iblk m c 3 t) (iblk m c 4 t) := by
  rw [outsAt0_B m c t h]; frame_out; rfl

theorem out10_A (h : t.val % 64 = 0) :
    (outsAt0 m c t.val t.isLt).2.2.2.1 = k0_pay11 (iblk m c 1 t) (iblk m c 3 t) (iblk m c 4 t) (iblk m c 0 t) (k0_pay4 (F := Ideal)) := by
  rw [outsAt0_A m c t h]; frame_out

theorem out10_B (h : ¬ t.val % 64 = 0) :
    (outsAt0 m c t.val t.isLt).2.2.2.1 = k0_pay11 (iblk m c 1 t) (iblk m c 3 t) (iblk m c 4 t) (iblk m c 0 t) (outsAt0 m c (t.val - 1) (Nat.lt_of_le_of_lt (Nat.sub_le _ _) t.isLt)).2.2.2.1 := by
  rw [outsAt0_B m c t h]; frame_out

theorem out11_A (h : t.val % 64 = 0) :
    (outsAt0 m c t.val t.isLt).2.2.2.2.1 = k0_pay12 (dyB (iblk m c 0 t) (iblk m c 1 t) (iblk m c 3 t) (iblk m c 4 t)) (k0_pay5 (F := Ideal)) := by
  rw [outsAt0_A m c t h]; frame_out; rfl

theorem out11_B (h : ¬ t.val % 64 = 0) :
    (outsAt0 m c t.val t.isLt).2.2.2.2.1 = k0_pay12 (dyB (iblk m c 0 t) (iblk m c 1 t) (iblk m c 3 t) (iblk m c 4 t)) (outsAt0 m c (t.val - 1) (Nat.lt_of_le_of_lt (Nat.sub_le _ _) t.isLt)).2.2.2.2.1 := by
  rw [outsAt0_B m c t h]; frame_out; rfl

theorem out12_A (h : t.val % 64 = 0) :
    (outsAt0 m c t.val t.isLt).2.2.2.2.2 = k0_pay10 (iblk m c 1 t) (iblk m c 3 t) (iblk m c 4 t) (iblk m c 0 t) (k0_pay6 (F := Ideal)) := by
  rw [outsAt0_A m c t h]; frame_out

theorem out12_B (h : ¬ t.val % 64 = 0) :
    (outsAt0 m c t.val t.isLt).2.2.2.2.2 = k0_pay10 (iblk m c 1 t) (iblk m c 3 t) (iblk m c 4 t) (iblk m c 0 t) (outsAt0 m c (t.val - 1) (Nat.lt_of_le_of_lt (Nat.sub_le _ _) t.isLt)).2.2.2.2.2 := by
  rw [outsAt0_B m c t h]; frame_out

theorem out8_A (h : t.val % 64 = 0) (r : Fin 256) (q : Fin 5632) :
    (outsAt0 m c t.val t.isLt).2.1 (ix2 r q) = dhE (doT m c t) (iblk m c 5 t) (iblk m c 6 t) r q := by
  rw [outsAt0_A m c t h]; frame_out
  refine View.canon_eq_of_allAt _ _ _ (View.cover_of_tiled_head _ _ _ rfl _) ?_
  refine View.allAt_cons_unit _ _ _ _ _ (tileDv (doT m c t) (iblk m c 5 t) (iblk m c 6 t) 10 r q) ?_
  refine View.allAt_cons_unit _ _ _ _ _ (tileDg (doT m c t) (iblk m c 5 t) (iblk m c 6 t) 10 r q) ?_
  refine View.allAt_cons_unit _ _ _ _ _ (tileDv (doT m c t) (iblk m c 5 t) (iblk m c 6 t) 9 r q) ?_
  refine View.allAt_cons_unit _ _ _ _ _ (tileDg (doT m c t) (iblk m c 5 t) (iblk m c 6 t) 9 r q) ?_
  refine View.allAt_cons_unit _ _ _ _ _ (tileDv (doT m c t) (iblk m c 5 t) (iblk m c 6 t) 8 r q) ?_
  refine View.allAt_cons_unit _ _ _ _ _ (tileDg (doT m c t) (iblk m c 5 t) (iblk m c 6 t) 8 r q) ?_
  refine View.allAt_cons_unit _ _ _ _ _ (tileDv (doT m c t) (iblk m c 5 t) (iblk m c 6 t) 7 r q) ?_
  refine View.allAt_cons_unit _ _ _ _ _ (tileDg (doT m c t) (iblk m c 5 t) (iblk m c 6 t) 7 r q) ?_
  refine View.allAt_cons_unit _ _ _ _ _ (tileDv (doT m c t) (iblk m c 5 t) (iblk m c 6 t) 6 r q) ?_
  refine View.allAt_cons_unit _ _ _ _ _ (tileDg (doT m c t) (iblk m c 5 t) (iblk m c 6 t) 6 r q) ?_
  refine View.allAt_cons_unit _ _ _ _ _ (tileDv (doT m c t) (iblk m c 5 t) (iblk m c 6 t) 5 r q) ?_
  refine View.allAt_cons_unit _ _ _ _ _ (tileDg (doT m c t) (iblk m c 5 t) (iblk m c 6 t) 5 r q) ?_
  refine View.allAt_cons_unit _ _ _ _ _ (tileDv (doT m c t) (iblk m c 5 t) (iblk m c 6 t) 4 r q) ?_
  refine View.allAt_cons_unit _ _ _ _ _ (tileDg (doT m c t) (iblk m c 5 t) (iblk m c 6 t) 4 r q) ?_
  refine View.allAt_cons_unit _ _ _ _ _ (tileDv (doT m c t) (iblk m c 5 t) (iblk m c 6 t) 3 r q) ?_
  refine View.allAt_cons_unit _ _ _ _ _ (tileDg (doT m c t) (iblk m c 5 t) (iblk m c 6 t) 3 r q) ?_
  refine View.allAt_cons_unit _ _ _ _ _ (tileDv (doT m c t) (iblk m c 5 t) (iblk m c 6 t) 2 r q) ?_
  refine View.allAt_cons_unit _ _ _ _ _ (tileDg (doT m c t) (iblk m c 5 t) (iblk m c 6 t) 2 r q) ?_
  refine View.allAt_cons_unit _ _ _ _ _ (tileDv (doT m c t) (iblk m c 5 t) (iblk m c 6 t) 1 r q) ?_
  refine View.allAt_cons_unit _ _ _ _ _ (tileDg (doT m c t) (iblk m c 5 t) (iblk m c 6 t) 1 r q) ?_
  refine View.allAt_cons_unit _ _ _ _ _ (tileDv (doT m c t) (iblk m c 5 t) (iblk m c 6 t) 0 r q) ?_
  refine View.allAt_cons_unit _ _ _ _ _ (tileDg (doT m c t) (iblk m c 5 t) (iblk m c 6 t) 0 r q) ?_
  exact View.allAt_nil _ _

theorem out8_B (h : ¬ t.val % 64 = 0) (r : Fin 256) (q : Fin 5632) :
    (outsAt0 m c t.val t.isLt).2.1 (ix2 r q) = dhE (doT m c t) (iblk m c 5 t) (iblk m c 6 t) r q := by
  rw [outsAt0_B m c t h]; frame_out
  refine View.canon_eq_of_allAt _ _ _ (View.cover_of_tiled_head _ _ _ rfl _) ?_
  refine View.allAt_cons_unit _ _ _ _ _ (tileDv (doT m c t) (iblk m c 5 t) (iblk m c 6 t) 10 r q) ?_
  refine View.allAt_cons_unit _ _ _ _ _ (tileDg (doT m c t) (iblk m c 5 t) (iblk m c 6 t) 10 r q) ?_
  refine View.allAt_cons_unit _ _ _ _ _ (tileDv (doT m c t) (iblk m c 5 t) (iblk m c 6 t) 9 r q) ?_
  refine View.allAt_cons_unit _ _ _ _ _ (tileDg (doT m c t) (iblk m c 5 t) (iblk m c 6 t) 9 r q) ?_
  refine View.allAt_cons_unit _ _ _ _ _ (tileDv (doT m c t) (iblk m c 5 t) (iblk m c 6 t) 8 r q) ?_
  refine View.allAt_cons_unit _ _ _ _ _ (tileDg (doT m c t) (iblk m c 5 t) (iblk m c 6 t) 8 r q) ?_
  refine View.allAt_cons_unit _ _ _ _ _ (tileDv (doT m c t) (iblk m c 5 t) (iblk m c 6 t) 7 r q) ?_
  refine View.allAt_cons_unit _ _ _ _ _ (tileDg (doT m c t) (iblk m c 5 t) (iblk m c 6 t) 7 r q) ?_
  refine View.allAt_cons_unit _ _ _ _ _ (tileDv (doT m c t) (iblk m c 5 t) (iblk m c 6 t) 6 r q) ?_
  refine View.allAt_cons_unit _ _ _ _ _ (tileDg (doT m c t) (iblk m c 5 t) (iblk m c 6 t) 6 r q) ?_
  refine View.allAt_cons_unit _ _ _ _ _ (tileDv (doT m c t) (iblk m c 5 t) (iblk m c 6 t) 5 r q) ?_
  refine View.allAt_cons_unit _ _ _ _ _ (tileDg (doT m c t) (iblk m c 5 t) (iblk m c 6 t) 5 r q) ?_
  refine View.allAt_cons_unit _ _ _ _ _ (tileDv (doT m c t) (iblk m c 5 t) (iblk m c 6 t) 4 r q) ?_
  refine View.allAt_cons_unit _ _ _ _ _ (tileDg (doT m c t) (iblk m c 5 t) (iblk m c 6 t) 4 r q) ?_
  refine View.allAt_cons_unit _ _ _ _ _ (tileDv (doT m c t) (iblk m c 5 t) (iblk m c 6 t) 3 r q) ?_
  refine View.allAt_cons_unit _ _ _ _ _ (tileDg (doT m c t) (iblk m c 5 t) (iblk m c 6 t) 3 r q) ?_
  refine View.allAt_cons_unit _ _ _ _ _ (tileDv (doT m c t) (iblk m c 5 t) (iblk m c 6 t) 2 r q) ?_
  refine View.allAt_cons_unit _ _ _ _ _ (tileDg (doT m c t) (iblk m c 5 t) (iblk m c 6 t) 2 r q) ?_
  refine View.allAt_cons_unit _ _ _ _ _ (tileDv (doT m c t) (iblk m c 5 t) (iblk m c 6 t) 1 r q) ?_
  refine View.allAt_cons_unit _ _ _ _ _ (tileDg (doT m c t) (iblk m c 5 t) (iblk m c 6 t) 1 r q) ?_
  refine View.allAt_cons_unit _ _ _ _ _ (tileDv (doT m c t) (iblk m c 5 t) (iblk m c 6 t) 0 r q) ?_
  refine View.allAt_cons_unit _ _ _ _ _ (tileDg (doT m c t) (iblk m c 5 t) (iblk m c 6 t) 0 r q) ?_
  exact View.allAt_nil _ _

theorem out9_A (h : t.val % 64 = 0) (q : Fin 2816) (l : Fin 1024) :
    (outsAt0 m c t.val t.isLt).2.2.1 (ix3 0 q l) = gwE (doT m c t) (iblk m c 5 t) q l := by
  rw [outsAt0_A m c t h]; dsimp only
  unfold out0_A_9
  rw [View.read_writes_junk_eq_canon]
  have hlt : q.val / 256 < 10 + 1 := by
    have := q.isLt
    omega
  refine ((after_step (after_10 c (ms0_0 t) (hs0_0 t) (ms0_1 t) (hs0_1 t) (ms0_2 t) (hs0_2 t) (ms0_3 t) (hs0_3 t) (ms0_4 t) (hs0_4 t)
    (ms0_5 t) (hs0_5 t) (ms0_9 t) (iblk m c 0 t) (iblk m c 1 t) (iblk m c 2 t) (iblk m c 3 t) (iblk m c 4 t) (iblk m c 5 t)) 10 rfl
    (ms0_9 t).view _ _ fun k l => ?_).2 q l).trans (if_pos hlt)
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, ldX, ldR, ldG, View.readAt_eq_ld, Memref.IsWhole.read_unread]
  exact gw_apply (doT m c t) (iblk m c 5 t) 10 _ k l

theorem out9_B (h : ¬ t.val % 64 = 0) (q : Fin 2816) (l : Fin 1024) :
    (outsAt0 m c t.val t.isLt).2.2.1 (ix3 0 q l) = (outsAt0 m c (t.val - 1) (Nat.lt_of_le_of_lt (Nat.sub_le _ _) t.isLt)).2.2.1 (ix3 0 q l) + gwE (doT m c t) (iblk m c 5 t) q l := by
  rw [outsAt0_B m c t h]; frame_out
  refine View.canon_eq_of_allAt _ _ _ (View.cover_of_tiled_head _ _ _ rfl _) ?_
  refine View.allAt_cons_unit _ _ _ _ _ (tileW (doT m c t) (iblk m c 5 t) _ 10 _ q l) ?_
  refine View.allAt_cons_unit _ _ _ _ _ (tileW (doT m c t) (iblk m c 5 t) _ 9 _ q l) ?_
  refine View.allAt_cons_unit _ _ _ _ _ (tileW (doT m c t) (iblk m c 5 t) _ 8 _ q l) ?_
  refine View.allAt_cons_unit _ _ _ _ _ (tileW (doT m c t) (iblk m c 5 t) _ 7 _ q l) ?_
  refine View.allAt_cons_unit _ _ _ _ _ (tileW (doT m c t) (iblk m c 5 t) _ 6 _ q l) ?_
  refine View.allAt_cons_unit _ _ _ _ _ (tileW (doT m c t) (iblk m c 5 t) _ 5 _ q l) ?_
  refine View.allAt_cons_unit _ _ _ _ _ (tileW (doT m c t) (iblk m c 5 t) _ 4 _ q l) ?_
  refine View.allAt_cons_unit _ _ _ _ _ (tileW (doT m c t) (iblk m c 5 t) _ 3 _ q l) ?_
  refine View.allAt_cons_unit _ _ _ _ _ (tileW (doT m c t) (iblk m c 5 t) _ 2 _ q l) ?_
  refine View.allAt_cons_unit _ _ _ _ _ (tileW (doT m c t) (iblk m c 5 t) _ 1 _ q l) ?_
  refine View.allAt_cons_unit _ _ _ _ _ (tileW (doT m c t) (iblk m c 5 t) _ 0 _ q l) ?_
  exact View.allAt_nil _ _

end Cert.Kernel2Ideal.Down
end
-- ==== Proof.DownSpec.lean ====
module

public import proofs.«01_k».proof.Proof.Real

/-! The loss of the last layer and its gradients with respect to the gated product's inputs, the down-projection and the
last normalisation, as plain sums over the arrays' entries. -/

@[expose] public section

noncomputable section
open Idealize.ShloMosaic
namespace Cert.Spec

/-- The column of the gate and of the value it multiplies. -/
def gcol (q : Fin 2816) : Fin 5632 := ⟨q.val, by omega⟩
def vcol (q : Fin 2816) : Fin 5632 := ⟨2816 + q.val, by omega⟩

/-- The gated product: the gate times its logistic, times the value. -/
def act (h : Fin 16384 → Fin 5632 → EReal) (t : Fin 16384) (q : Fin 2816) : EReal :=
  h t (gcol q) * Ideal.logistic (h t (gcol q)) * h t (vcol q)

/-- The rows the last normalisation takes. -/
def last (x : Fin 16384 → Fin 1024 → EReal) (h : Fin 16384 → Fin 5632 → EReal) (w : Fin 2816 → Fin 1024 → EReal) (t : Fin 16384)
    (j : Fin 1024) : EReal :=
  x t j + ∑ q : Fin 2816, act h t q * w q j

/-- What the normalised rows miss the target by, and the loss's gradient there. -/
def err (r : Fin 16384 → Fin 1024 → EReal) (g b : Fin 1024 → EReal) (y : Fin 16384 → Fin 1024 → EReal) (t : Fin 16384)
    (j : Fin 1024) : EReal :=
  Norm.xhat (r t) j * g j + b j - y t j
def dy (r : Fin 16384 → Fin 1024 → EReal) (g b : Fin 1024 → EReal) (y : Fin 16384 → Fin 1024 → EReal) (t : Fin 16384)
    (j : Fin 1024) : EReal :=
  err r g b y t j * Ideal.ofBits .f32 0x3A800000#32

/-- The rows' gradient. -/
def dlast (r : Fin 16384 → Fin 1024 → EReal) (g b : Fin 1024 → EReal) (y : Fin 16384 → Fin 1024 → EReal) (t : Fin 16384)
    (j : Fin 1024) : EReal :=
  Norm.back (r t) (fun k => dy r g b y t k * g k) j

/-- The gradient at the gated product. -/
def dact (o : Fin 16384 → Fin 1024 → EReal) (w : Fin 2816 → Fin 1024 → EReal) (t : Fin 16384) (q : Fin 2816) : EReal :=
  ∑ k : Fin 1024, o t k * w q k

/-- The gradient at the gate and at the value. -/
def dgate (o : Fin 16384 → Fin 1024 → EReal) (h : Fin 16384 → Fin 5632 → EReal) (w : Fin 2816 → Fin 1024 → EReal) (t : Fin 16384)
    (q : Fin 2816) : EReal :=
  dact o w t q * h t (vcol q) * (Ideal.logistic (h t (gcol q)) * (1 + h t (gcol q) * (1 - Ideal.logistic (h t (gcol q)))))
def dval (o : Fin 16384 → Fin 1024 → EReal) (h : Fin 16384 → Fin 5632 → EReal) (w : Fin 2816 → Fin 1024 → EReal) (t : Fin 16384)
    (q : Fin 2816) : EReal :=
  dact o w t q * (h t (gcol q) * Ideal.logistic (h t (gcol q)))
def dhid (o : Fin 16384 → Fin 1024 → EReal) (h : Fin 16384 → Fin 5632 → EReal) (w : Fin 2816 → Fin 1024 → EReal) (t : Fin 16384)
    (q : Fin 5632) : EReal :=
  if e : q.val < 2816 then dgate o h w t ⟨q.val, e⟩ else dval o h w t ⟨q.val - 2816, by omega⟩

/-- The down-projection's gradient. -/
def gdown (o : Fin 16384 → Fin 1024 → EReal) (h : Fin 16384 → Fin 5632 → EReal) (q : Fin 2816) (l : Fin 1024) : EReal :=
  ∑ t : Fin 16384, act h t q * o t l

/-- The loss: a half of the mean square miss of each row, summed over the rows. -/
def loss (r : Fin 16384 → Fin 1024 → EReal) (g b : Fin 1024 → EReal) (y : Fin 16384 → Fin 1024 → EReal) : EReal :=
  Ideal.ofBits .f32 0x3F000000#32 * ∑ t : Fin 16384,
    Ideal.div (∑ j : Fin 1024, err r g b y t j * err r g b y t j) Norm.c1024

/-! For real numbers. -/

theorem isReal_one : Norm.IsReal 1 := ⟨1, rfl⟩

theorem logistic_coe (x : ℝ) : Ideal.logistic (x : EReal) = ((1 / (1 + Real.exp (-x)) : ℝ) : EReal) := by
  have hp : (1 : ℝ) + Real.exp (-x) ≠ 0 := by positivity
  have e : Ideal.exp (-(x : EReal)) = ((Real.exp (-x) : ℝ) : EReal) := by
    rw [← EReal.coe_neg]; rfl
  show Ideal.div 1 (1 + Ideal.exp (-(x : EReal))) = _
  rw [e, ← EReal.coe_one, ← EReal.coe_add, Ideal.div_coe hp, ← EReal.coe_mul, one_mul]

theorem isReal_logistic {x : EReal} (h : Norm.IsReal x) : Norm.IsReal (Ideal.logistic x) := by
  obtain ⟨a, rfl⟩ := h; exact ⟨_, logistic_coe a⟩

variable {x : Fin 16384 → Fin 1024 → EReal} {h : Fin 16384 → Fin 5632 → EReal} {w : Fin 2816 → Fin 1024 → EReal}
  {r o : Fin 16384 → Fin 1024 → EReal} {g b : Fin 1024 → EReal} {y : Fin 16384 → Fin 1024 → EReal}

theorem isReal_act (hh : ∀ t q, Norm.IsReal (h t q)) (t : Fin 16384) (q : Fin 2816) : Norm.IsReal (act h t q) :=
  ((hh _ _).mul (isReal_logistic (hh _ _))).mul (hh _ _)

theorem isReal_last (hx : ∀ t j, Norm.IsReal (x t j)) (hh : ∀ t q, Norm.IsReal (h t q)) (hw : ∀ q j, Norm.IsReal (w q j))
    (t : Fin 16384) (j : Fin 1024) : Norm.IsReal (last x h w t j) :=
  (hx t j).add (Norm.IsReal.sum _ _ fun q => (isReal_act hh t q).mul (hw q j))

theorem isReal_xhat (r : Fin 1024 → EReal) (hr : ∀ j, Norm.IsReal (r j)) :
    (Norm.IsReal (Norm.rstd r) ∧ ∀ j, Norm.IsReal (Norm.xhat r j)) := by
  choose x hx using hr
  obtain rfl : r = fun k => (x k : EReal) := funext hx
  obtain ⟨v, hv, hV⟩ := Norm.varE_coe x
  have hs : Norm.rstd (fun k => (x k : EReal)) = ((Real.sqrt v)⁻¹ : ℝ) := by
    unfold Norm.rstd; rw [hV, Ideal.rsqrt_coe, if_neg (not_lt.2 hv.le), if_neg hv.ne']
  refine ⟨⟨_, hs⟩, fun j => ?_⟩
  unfold Norm.xhat
  rw [hs, Norm.cen_coe]
  exact ⟨_, (EReal.coe_mul _ _).symm⟩

theorem cRow_eq : Ideal.ofBits .f32 0x3A800000#32 = ((1 / 1024 : ℝ) : EReal) := by
  simp [Ideal.ofBits, Ideal.ieee, -EReal.coe_mul]; norm_num
theorem cHalfRow_eq : Ideal.ofBits .f32 0x3A000000#32 = ((1 / 2048 : ℝ) : EReal) := by
  simp [Ideal.ofBits, Ideal.ieee, -EReal.coe_mul]; norm_num
theorem cHalf_eq : Ideal.ofBits .f32 0x3F000000#32 = ((1 / 2 : ℝ) : EReal) := by
  simp [Ideal.ofBits, Ideal.ieee, -EReal.coe_mul]; norm_num

theorem isReal_err (hr : ∀ t j, Norm.IsReal (r t j)) (hg : ∀ j, Norm.IsReal (g j)) (hb : ∀ j, Norm.IsReal (b j))
    (hy : ∀ t j, Norm.IsReal (y t j)) (t : Fin 16384) (j : Fin 1024) : Norm.IsReal (err r g b y t j) :=
  ((((isReal_xhat (r t) (hr t)).2 j).mul (hg j)).add (hb j)).sub (hy t j)

theorem isReal_dy (hr : ∀ t j, Norm.IsReal (r t j)) (hg : ∀ j, Norm.IsReal (g j)) (hb : ∀ j, Norm.IsReal (b j))
    (hy : ∀ t j, Norm.IsReal (y t j)) (t : Fin 16384) (j : Fin 1024) : Norm.IsReal (dy r g b y t j) :=
  (isReal_err hr hg hb hy t j).mul ⟨_, cRow_eq⟩

theorem isReal_mean {x : Fin 1024 → EReal} (hx : ∀ k, Norm.IsReal (x k)) : Norm.IsReal (Norm.mean x) := by
  choose a ha using hx
  obtain rfl : x = fun k => (a k : EReal) := funext ha
  exact ⟨_, Norm.mean_coe a⟩

theorem isReal_dlast (hr : ∀ t j, Norm.IsReal (r t j)) (hg : ∀ j, Norm.IsReal (g j)) (hb : ∀ j, Norm.IsReal (b j))
    (hy : ∀ t j, Norm.IsReal (y t j)) (t : Fin 16384) (j : Fin 1024) : Norm.IsReal (dlast r g b y t j) := by
  have hc : ∀ k, Norm.IsReal (dy r g b y t k * g k) := fun k => (isReal_dy hr hg hb hy t k).mul (hg k)
  have hx := isReal_xhat (r t) (hr t)
  unfold dlast Norm.back
  exact hx.1.mul (((hc j).sub (isReal_mean hc)).sub ((hx.2 j).mul (isReal_mean fun k => (hc k).mul (hx.2 k))))

theorem isReal_dact (ho : ∀ t j, Norm.IsReal (o t j)) (hw : ∀ q j, Norm.IsReal (w q j)) (t : Fin 16384) (q : Fin 2816) :
    Norm.IsReal (dact o w t q) := Norm.IsReal.sum _ _ fun k => (ho t k).mul (hw q k)

/-- The gate's gradient as the chain of derivatives: through the product and through the logistic. -/
theorem dgate_eq_chain (ho : ∀ t j, Norm.IsReal (o t j)) (hh : ∀ t q, Norm.IsReal (h t q)) (hw : ∀ q j, Norm.IsReal (w q j))
    (t : Fin 16384) (q : Fin 2816) :
    dgate o h w t q = h t (gcol q) * (dact o w t q * h t (vcol q)) * (Ideal.logistic (h t (gcol q)) * (1 - Ideal.logistic (h t (gcol q))))
      + dact o w t q * h t (vcol q) * Ideal.logistic (h t (gcol q)) := by
  unfold dgate
  obtain ⟨a, ha⟩ := isReal_dact ho hw t q
  obtain ⟨u, hu⟩ := hh t (gcol q)
  obtain ⟨v, hv⟩ := hh t (vcol q)
  rw [ha, hu, hv, logistic_coe, ← EReal.coe_one]
  simp only [← EReal.coe_mul, ← EReal.coe_add, ← EReal.coe_sub]
  congr 1
  ring

/-- A sum over the array's rows, 256 at a time. -/
theorem sum_rows {M : Type} [AddCommMonoid M] (f : Fin 16384 → M) :
    (∑ s : Fin 64, ∑ r : Fin 256, f ⟨256 * s.val + r.val, by omega⟩) = ∑ t : Fin 16384, f t := by
  refine Eq.trans ?_ (Fin.sum_univ_tiles 64 256 rfl f).symm
  refine Finset.sum_congr rfl fun s _ => Finset.sum_congr rfl fun r _ => congrArg f (Fin.ext ?_)
  simp; omega

/-- The loss gathered block by block, each block's columns first. -/
theorem loss_eq (he : ∀ t j, Norm.IsReal (err r g b y t j)) :
    (∑ s : Fin 64, Ideal.ofBits .f32 0x3A000000#32 * ∑ l : Fin 1024, ∑ k : Fin 256,
      err r g b y ⟨256 * s.val + k.val, by omega⟩ l * err r g b y ⟨256 * s.val + k.val, by omega⟩ l) = loss r g b y := by
  unfold loss
  generalize err r g b y = e at he ⊢
  choose a ha using he
  obtain rfl : e = fun t j => (a t j : EReal) := by funext t j; exact ha t j
  simp only [cHalfRow_eq, cHalf_eq, Norm.c1024_eq, Ideal.div_coe (show (1024 : ℝ) ≠ 0 by norm_num), ← EReal.coe_mul, ← Norm.coe_sum]
  congr 1
  rw [← sum_rows, Finset.mul_sum]
  refine Finset.sum_congr rfl fun s _ => ?_
  rw [Finset.sum_comm, Finset.mul_sum, Finset.mul_sum]
  refine Finset.sum_congr rfl fun k _ => ?_
  ring

end Cert.Spec
end
-- ==== Proof.DownFinal.lean ====
module

public import proofs.«01_k».proof.Proof.DownOuts
public import proofs.«01_k».proof.Proof.DownSpec
public import Idealize.ShloMosaic.Lib.Claim

/-! The arrays the host hands to the kernel, the kernel's input blocks by their coordinates, and the six arrays the kernel
leaves, each read at one entry. -/

@[expose] public section

set_option maxRecDepth 16384

noncomputable section
open Idealize.ShloMosaic Idealize.ShloMosaic.TcCoe Idealize.SL.Sem
open Idealize.ShloMosaic.Pipeline (Dat)
namespace Cert.Kernel2Ideal.Down
open Cert.Kernel2Ideal Cert.Kernel2Ideal.Gen
variable (m : (ℓ : Loc nD τ sig) → Buf (Elt Ideal) ℓ) (c : Dev nD)

/-- The argument arrays, typed. -/
abbrev A0 : FVec Ideal S16384x1024 .f32 := m ((c : Thread nD τ).loc main_arg0)
abbrev A1 : FVec Ideal S16384x5632 .f32 := m ((c : Thread nD τ).loc main_arg1)
abbrev A2 : FVec Ideal S1x2816x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
abbrev A5 : FVec Ideal S16384x1024 .f32 := m ((c : Thread nD τ).loc main_arg5)
abbrev A6 : FVec Ideal S3x2816x1024 .f32 := m ((c : Thread nD τ).loc main_arg6)

/-- The arrays by their coordinates. -/
abbrev X : Fin 16384 → Fin 1024 → EReal := fun t j => A0 m c (ix2 t j)
abbrev H : Fin 16384 → Fin 5632 → EReal := fun t q => A1 m c (ix2 t q)
abbrev W : Fin 2816 → Fin 1024 → EReal := fun q j => A2 m c (ix3 0 q j)
abbrev G : Fin 1024 → EReal := fun j => A3 m c (ix2 0 j)
abbrev B : Fin 1024 → EReal := fun j => A4 m c (ix2 0 j)
abbrev Y : Fin 16384 → Fin 1024 → EReal := fun t j => A5 m c (ix2 t j)
/-- The rows the last normalisation takes. -/
abbrev R : Fin 16384 → Fin 1024 → EReal := Spec.last (X m c) (H m c) (W m c)

theorem V6_apply (t : Fin 16384) (j : Fin 1024) : (V m c main_v6 : FVec Ideal S16384x1024 .f32) (ix2 t j) = R m c t j := by
  simp only [V, List.flatten_cons, List.flatten_nil, List.cons_append, List.nil_append, List.append_nil]
  entry_read
  simp only [StableHlo.TRef.ofBuf, StableHlo.TRef.toBuf, cast_eq]
  pointwise
  rfl

theorem V20_apply (t : Fin 16384) : (V m c main_v20 : FVec Ideal S16384x1 .f32) (ix2 t 0) = Norm.rstd (R m c t) := by
  simp only [V, List.flatten_cons, List.flatten_nil, List.cons_append, List.nil_append, List.append_nil]
  entry_read
  simp only [StableHlo.TRef.ofBuf, StableHlo.TRef.toBuf, cast_eq]
  pointwise
  rfl

theorem V24_apply (t : Fin 16384) (j : Fin 1024) : (V m c main_v24 : FVec Ideal S16384x1024 .f32) (ix2 t j) = Norm.xhat (R m c t) j := by
  simp only [V, List.flatten_cons, List.flatten_nil, List.cons_append, List.nil_append, List.append_nil]
  entry_read
  simp only [StableHlo.TRef.ofBuf, StableHlo.TRef.toBuf, cast_eq]
  pointwise
  rfl

theorem V25_apply (t : Fin 16384) (q : Fin 5632) : (V m c main_v25 : FVec Ideal S16384x5632 .bf16) (ix2 t q) = H m c t q := by
  simp only [V, List.flatten_cons, List.flatten_nil, List.cons_append, List.nil_append, List.append_nil]
  entry_read
  pointwise

theorem V26_apply (q : Fin 2816) (j : Fin 1024) : (V m c main_v26 : FVec Ideal S1x2816x1024 .bf16) (ix3 0 q j) = W m c q j := by
  simp only [V, List.flatten_cons, List.flatten_nil, List.cons_append, List.nil_append, List.append_nil]
  entry_read
  pointwise

theorem V27_apply : (V m c main_v27_2 : FVec Ideal S3x2816x1024 .f32) = A6 m c := by
  entry_read
  rfl

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0, 0]
    ∧ win0_7.index t = ![t.val, 0] ∧ win0_8.index t = ![t.val, 0] ∧ win0_9.index t = ![2, 0, 0]
    ∧ win0_10.index t = ![0, 0] ∧ win0_11.index t = ![0, 0] ∧ win0_12.index t = ![0, 0] ∧ t.val < 64 :=
  (by decide +kernel : ∀ t : Fin grid0.N, _)

theorem lt64 (t : Fin cfg0.N) : t.val < 64 := lt_of_lt_of_eq t.isLt (show cfg0.N = 64 from N_0)

/-- The row of the array at row `r` of point `t`'s block. -/
abbrev row (t : Fin cfg0.N) (r : Fin 256) : Fin 16384 := ⟨256 * t.val + r.val, by have := lt64 t; omega⟩

section
variable (t : Fin cfg0.N)

theorem i0 (r : Fin 256) (j : Fin 1024) : (iblk m c 0 t : Vec Ideal S256x1024 .f32) (ix2 r j) = Y m c (row t r) j := by
  blk_ext [iblk, V, idx t]

theorem i1 (r : Fin 256) (j : Fin 1024) : (iblk m c 1 t : Vec Ideal S256x1024 .f32) (ix2 r j) = Norm.xhat (R m c (row t r)) j := by
  refine Eq.trans ?_ (V24_apply m c (row t r) j)
  blk_simp [iblk]
  refine congrArg (V m c main_v24) ?_
  blk_ext [idx t]

theorem i2 (r : Fin 256) : (iblk m c 2 t : Vec Ideal S256x1 .f32) (ix2 r 0) = Norm.rstd (R m c (row t r)) := by
  refine Eq.trans ?_ (V20_apply m c (row t r))
  blk_simp [iblk]
  refine congrArg (V m c main_v20) ?_
  blk_ext [idx t]

theorem i3 (j : Fin 1024) : (iblk m c 3 t : Vec Ideal S1x1024 .f32) (ix2 0 j) = G m c j := by
  blk_ext [iblk, V, idx t]

theorem i4 (j : Fin 1024) : (iblk m c 4 t : Vec Ideal S1x1024 .f32) (ix2 0 j) = B m c j := by
  blk_ext [iblk, V, idx t]

theorem i5 (r : Fin 256) (q : Fin 5632) : (iblk m c 5 t : Vec Ideal S256x5632 .bf16) (ix2 r q) = H m c (row t r) q := by
  refine Eq.trans ?_ (V25_apply m c (row t r) q)
  blk_simp [iblk]
  refine congrArg (V m c main_v25) ?_
  blk_ext [idx t]

theorem i6 (q : Fin 2816) (j : Fin 1024) : (iblk m c 6 t : Vec Ideal S1x2816x1024 .bf16) (ix3 0 q j) = W m c q j := by
  refine Eq.trans ?_ (V26_apply m c q j)
  blk_simp [iblk]
  refine congrArg (V m c main_v26) ?_
  blk_ext [idx t]

/-- The loss's miss, its gradient, and the rows' gradient over the arrays. -/
abbrev ER : Fin 16384 → Fin 1024 → EReal := Spec.err (R m c) (G m c) (B m c) (Y m c)
abbrev DY : Fin 16384 → Fin 1024 → EReal := Spec.dy (R m c) (G m c) (B m c) (Y m c)
abbrev DR : Fin 16384 → Fin 1024 → EReal := Spec.dlast (R m c) (G m c) (B m c) (Y m c)

theorem err_eq (r : Fin 256) (l : Fin 1024) :
    errE (iblk m c 0 t) (iblk m c 1 t) (iblk m c 3 t) (iblk m c 4 t) r l = ER m c (row t r) l := by
  unfold errE ER Spec.err
  rw [i0, i1, i3, i4]

theorem dy_eq (r : Fin 256) (l : Fin 1024) :
    dyE (iblk m c 0 t) (iblk m c 1 t) (iblk m c 3 t) (iblk m c 4 t) r l = DY m c (row t r) l := by
  unfold dyE DY Spec.dy
  rw [err_eq]

theorem dr_eq (r : Fin 256) (l : Fin 1024) :
    drB (iblk m c 0 t) (iblk m c 1 t) (iblk m c 2 t) (iblk m c 3 t) (iblk m c 4 t) (ix2 r l) = DR m c (row t r) l := by
  rw [drB_apply]
  simp only [dy_eq, i1, i2, i3]
  rfl

theorem do_eq (r : Fin 256) (l : Fin 1024) : doT m c t (ix2 r l) = DR m c (row t r) l :=
  (dob_apply _ _ _ _ _ r l).trans (dr_eq m c t r l)

theorem da_eq (r : Fin 256) (q : Fin 2816) : daE (doT m c t) (iblk m c 6 t) r q = Spec.dact (DR m c) (W m c) (row t r) q := by
  unfold daE Spec.dact
  simp only [do_eq, i6]

theorem dh_eq (r : Fin 256) (q : Fin 5632) :
    dhE (doT m c t) (iblk m c 5 t) (iblk m c 6 t) r q = Spec.dhid (DR m c) (H m c) (W m c) (row t r) q := by
  unfold dhE Spec.dhid dgE dvE Spec.dgate Spec.dval
  simp only [da_eq, i5]
  rfl

theorem gw_eq (q : Fin 2816) (l : Fin 1024) :
    gwE (doT m c t) (iblk m c 5 t) q l = ∑ r : Fin 256, Spec.act (H m c) (row t r) q * DR m c (row t r) l := by
  unfold gwE Spec.act
  simp only [do_eq, i5]
  rfl
end

def res7 : FVec Ideal S16384x1024 .f32 := fun i => DR m c (i 0) (i 1)
def res8 : FVec Ideal S16384x5632 .bf16 := fun i => Spec.dhid (DR m c) (H m c) (W m c) (i 0) (i 1)
def res9 : FVec Ideal S3x2816x1024 .f32 := fun i =>
  if (i 0).val = 2 then Spec.gdown (DR m c) (H m c) (i 1) (i 2) else A6 m c i
def res10 : FVec Ideal S1x1024 .f32 := fun i => ∑ t : Fin 16384, DY m c t (i 1) * Norm.xhat (R m c t) (i 1)
def res11 : FVec Ideal S1x1024 .f32 := fun i => ∑ t : Fin 16384, DY m c t (i 1)
def res12 : FVec Ideal S1x1 .f32 := fun _ => ∑ s : Fin 64, Ideal.ofBits .f32 0x3A000000#32 * ∑ l : Fin 1024, ∑ k : Fin 256,
  ER m c ⟨256 * s.val + k.val, by omega⟩ l * ER m c ⟨256 * s.val + k.val, by omega⟩ l

theorem final7 : (dats m 0 c).arrAt 7 (cfgs 0).N = res7 m c := by
  refine (dats m 0 c).arrAt_eq_of_covers 7 _ (by decide +kernel) fun t hf y => ?_
  blk_simp
  rw [after0_7]
  have e : (outsAt0 m c t.val t.isLt).1 = drB (iblk m c 0 t) (iblk m c 1 t) (iblk m c 2 t) (iblk m c 3 t) (iblk m c 4 t) := by
    by_cases h : t.val % 64 = 0
    · exact out7_A m c t h
    · exact out7_B m c t h
  refine (congrFun e y).trans ?_
  obtain ⟨r, j, rfl⟩ : ∃ (r : Fin 256) (j : Fin 1024), y = ix2 r j := ⟨y 0, y 1, by blk_ext⟩
  refine (dr_eq m c t r j).trans ?_
  refine congrArg (res7 m c) (a₁ := ix2 (row t r) j) ?_
  blk_ext [idx t]

theorem final8 : (dats m 0 c).arrAt 8 (cfgs 0).N = res8 m c := by
  refine (dats m 0 c).arrAt_eq_of_covers 8 _ (by decide +kernel) fun t hf y => ?_
  blk_simp
  rw [after0_8]
  obtain ⟨r, j, rfl⟩ : ∃ (r : Fin 256) (j : Fin 5632), y = ix2 r j := ⟨y 0, y 1, by blk_ext⟩
  have e : (outsAt0 m c t.val t.isLt).2.1 (ix2 r j) = Spec.dhid (DR m c) (H m c) (W m c) (row t r) j := by
    refine Eq.trans ?_ (dh_eq m c t r j)
    by_cases h : t.val % 64 = 0
    · exact out8_A m c t h r j
    · exact out8_B m c t h r j
  refine e.trans ?_
  refine congrArg (res8 m c) (a₁ := ix2 (row t r) j) ?_
  blk_ext [idx t]

theorem final9 : (dats m 0 c).arrAt 9 (cfgs 0).N = res9 m c := by
  refine (dats m 0 c).arrAt_eq_of_coversWhere_of_agree 9 _ (fun β => 2 ≤ β (0 : Fin 3)) (by decide +kernel) (fun t hf y => ?_)
    (fun j hj => ?_)
  · blk_simp
    obtain ⟨k, j, rfl⟩ : ∃ (k : Fin 2816) (j : Fin 1024), y = ix3 0 k j := ⟨y 1, y 2, by blk_ext⟩
    have h63 := (flush0_9 t).mp hf
    have h64 := lt64 t
    rw [after0_9, Pipeline.eq_sum_fin_of_reset_step_apply_of_flush (fun n h => (outsAt0 m c n h).2.2.1) 64 (fun _ => (0 : EReal))
      (fun p y => ∑ r : Fin 256, Spec.act (H m c) (row p r) (y 1) * DR m c (row p r) (y 2))
      (fun t h y => by
        obtain ⟨k, j, rfl⟩ : ∃ (k : Fin 2816) (j : Fin 1024), y = ix3 0 k j := ⟨y 1, y 2, by blk_ext⟩
        refine (out9_A m c t h k j).trans ?_
        exact (gw_eq m c t k j).trans (zero_add _).symm)
      (fun t h y => by
        obtain ⟨k, j, rfl⟩ : ∃ (k : Fin 2816) (j : Fin 1024), y = ix3 0 k j := ⟨y 1, y 2, by blk_ext⟩
        refine (out9_B m c t h k j).trans ?_
        exact congrArg (_ + ·) (gw_eq m c t k j))
      t h63 _]
    refine (zero_add (M := EReal) _).trans ?_
    refine Eq.trans ?_ (congrArg (res9 m c) (a₁ := ix3 2 k j) ?_)
    · refine Eq.trans ?_ (Spec.sum_rows fun t => Spec.act (H m c) t k * DR m c t j)
      refine Finset.sum_congr rfl fun s _ => Finset.sum_congr rfl fun r _ => ?_
      have e : row ⟨64 * (t.val / 64) + s.val, Pipeline.run_point_lt_of_flush t h63 s⟩ r = ⟨256 * s.val + r.val, by omega⟩ :=
        Fin.ext (by dsimp only [row]; omega)
      exact congrArg (fun t => Spec.act (H m c) t k * DR m c t j) e
    · blk_ext [idx t]
  · rw [A_eq]
    blk_simp [Pipeline.Window.cell_apply] at hj
    refine (congrFun (V27_apply m c) _).trans ?_
    unfold res9
    exact (if_neg (show ¬ (j 0).val = 2 by omega)).symm

theorem final10 : (dats m 0 c).arrAt 10 (cfgs 0).N = res10 m c := by
  refine (dats m 0 c).arrAt_eq_of_covers 10 _ (by decide +kernel) fun t hf y => ?_
  blk_simp
  obtain ⟨j, rfl⟩ : ∃ (j : Fin 1024), y = ix2 0 j := ⟨y 1, by blk_ext⟩
  have h63 := (flush0_10 t).mp hf
  have h64 := lt64 t
  rw [after0_10, Pipeline.eq_sum_fin_of_reset_step_apply_of_flush (fun n h => (outsAt0 m c n h).2.2.2.1) 64 (fun _ => (0 : EReal))
    (fun p y => ∑ r : Fin 256, DY m c (row p r) (y 1) * Norm.xhat (R m c (row p r)) (y 1))
    (fun t h y => by
      obtain ⟨j, rfl⟩ : ∃ (j : Fin 1024), y = ix2 0 j := ⟨y 1, by blk_ext⟩
      refine (congrFun (out10_A m c t h) (ix2 0 j)).trans ?_
      rw [gg_apply]
      simp only [dy_eq, i1]
      refine congrArg₂ (· + ·) ?_ rfl
      pointwise [k0_pay4])
    (fun t h y => by
      obtain ⟨j, rfl⟩ : ∃ (j : Fin 1024), y = ix2 0 j := ⟨y 1, by blk_ext⟩
      refine (congrFun (out10_B m c t h) (ix2 0 j)).trans ?_
      rw [gg_apply]
      simp only [dy_eq, i1]
      rfl)
    t h63 _]
  refine (zero_add (M := EReal) _).trans ?_
  refine Eq.trans ?_ (congrArg (res10 m c) (a₁ := ix2 0 j) ?_)
  · refine Eq.trans ?_ (Spec.sum_rows fun t => DY m c t j * Norm.xhat (R m c t) j)
    refine Finset.sum_congr rfl fun s _ => Finset.sum_congr rfl fun r _ => ?_
    have e : row ⟨64 * (t.val / 64) + s.val, Pipeline.run_point_lt_of_flush t h63 s⟩ r = ⟨256 * s.val + r.val, by omega⟩ :=
      Fin.ext (by dsimp only [row]; omega)
    exact congrArg (fun t => DY m c t j * Norm.xhat (R m c t) j) e
  · blk_ext [idx t]

theorem final11 : (dats m 0 c).arrAt 11 (cfgs 0).N = res11 m c := by
  refine (dats m 0 c).arrAt_eq_of_covers 11 _ (by decide +kernel) fun t hf y => ?_
  blk_simp
  obtain ⟨j, rfl⟩ : ∃ (j : Fin 1024), y = ix2 0 j := ⟨y 1, by blk_ext⟩
  have h63 := (flush0_11 t).mp hf
  have h64 := lt64 t
  rw [after0_11, Pipeline.eq_sum_fin_of_reset_step_apply_of_flush (fun n h => (outsAt0 m c n h).2.2.2.2.1) 64 (fun _ => (0 : EReal))
    (fun p y => ∑ r : Fin 256, DY m c (row p r) (y 1))
    (fun t h y => by
      obtain ⟨j, rfl⟩ : ∃ (j : Fin 1024), y = ix2 0 j := ⟨y 1, by blk_ext⟩
      refine (congrFun (out11_A m c t h) (ix2 0 j)).trans ?_
      rw [gb_apply]
      simp only [dyB_apply, dy_eq]
      refine congrArg₂ (· + ·) ?_ rfl
      pointwise [k0_pay5])
    (fun t h y => by
      obtain ⟨j, rfl⟩ : ∃ (j : Fin 1024), y = ix2 0 j := ⟨y 1, by blk_ext⟩
      refine (congrFun (out11_B m c t h) (ix2 0 j)).trans ?_
      rw [gb_apply]
      simp only [dyB_apply, dy_eq]
      rfl)
    t h63 _]
  refine (zero_add (M := EReal) _).trans ?_
  refine Eq.trans ?_ (congrArg (res11 m c) (a₁ := ix2 0 j) ?_)
  · refine Eq.trans ?_ (Spec.sum_rows fun t => DY m c t j)
    refine Finset.sum_congr rfl fun s _ => Finset.sum_congr rfl fun r _ => ?_
    have e : row ⟨64 * (t.val / 64) + s.val, Pipeline.run_point_lt_of_flush t h63 s⟩ r = ⟨256 * s.val + r.val, by omega⟩ :=
      Fin.ext (by dsimp only [row]; omega)
    exact congrArg (fun t => DY m c t j) e
  · blk_ext [idx t]

theorem final12 : (dats m 0 c).arrAt 12 (cfgs 0).N = res12 m c := by
  refine (dats m 0 c).arrAt_eq_of_covers 12 _ (by decide +kernel) fun t hf y => ?_
  blk_simp
  obtain rfl : y = ix2 0 0 := by blk_ext
  have h63 := (flush0_12 t).mp hf
  have h64 := lt64 t
  rw [after0_12, Pipeline.eq_sum_fin_of_reset_step_apply_of_flush (fun n h => (outsAt0 m c n h).2.2.2.2.2) 64 (fun _ => (0 : EReal))
    (fun p y => Ideal.ofBits .f32 0x3A000000#32 * ∑ l : Fin 1024, ∑ k : Fin 256, ER m c (row p k) l * ER m c (row p k) l)
    (fun t h y => by
      obtain rfl : y = ix2 0 0 := by blk_ext
      refine (congrFun (out12_A m c t h) (ix2 0 0)).trans ?_
      rw [loss_apply]
      simp only [err_eq]
      refine congrArg₂ (· + ·) ?_ rfl
      pointwise [k0_pay6])
    (fun t h y => by
      obtain rfl : y = ix2 0 0 := by blk_ext
      refine (congrFun (out12_B m c t h) (ix2 0 0)).trans ?_
      rw [loss_apply]
      simp only [err_eq])
    t h63 _]
  refine (zero_add (M := EReal) _).trans ?_
  refine Finset.sum_congr rfl fun s _ => congrArg (Ideal.ofBits .f32 0x3A000000#32 * ·)
    (Finset.sum_congr rfl fun l _ => Finset.sum_congr rfl fun r _ => ?_)
  have e : row ⟨64 * (t.val / 64) + s.val, Pipeline.run_point_lt_of_flush t h63 s⟩ r = ⟨256 * s.val + r.val, by omega⟩ :=
    Fin.ext (by dsimp only [row]; omega)
  exact congrArg (fun t => ER m c t l * ER m c t l) e

end Cert.Kernel2Ideal.Down
end
-- ==== Proof.DownRef.lean ====
module

public import proofs.«01_k».proof.Proof.DownSpec
public import proofs.«01_k».proof.Proof.Gen.Reference2Ideal.Read
public import Idealize.ShloMosaic.Lib.Pointwise

/-! The six results of the loss's reference, each read at one entry. -/

@[expose] public section

set_option maxRecDepth 16384

noncomputable section
open Idealize.ShloMosaic Idealize.ShloMosaic.TcCoe Idealize.SL.Sem
namespace Cert.Reference2Ideal.Down
open Cert.Reference2Ideal Cert.Reference2Ideal.Gen Cert.Reference2Ideal.Read Cert.Spec
variable (a0 : FVec Ideal S16384x1024 .f32) (a1 : FVec Ideal S16384x5632 .f32) (a2 : FVec Ideal S1x2816x1024 .f32)
  (a3 a4 : FVec Ideal S1x1024 .f32) (a5 : FVec Ideal S16384x1024 .f32) (a6 : FVec Ideal S3x2816x1024 .f32)

/-- The arrays by their coordinates. -/
abbrev X : Fin 16384 → Fin 1024 → EReal := fun t j => a0 (ix2 t j)
abbrev H : Fin 16384 → Fin 5632 → EReal := fun t q => a1 (ix2 t q)
abbrev W : Fin 2816 → Fin 1024 → EReal := fun q j => a2 (ix3 0 q j)
abbrev G : Fin 1024 → EReal := fun j => a3 (ix2 0 j)
abbrev Y : Fin 16384 → Fin 1024 → EReal := fun t j => a5 (ix2 t j)
/-- The rows the last normalisation takes. -/
abbrev R : Fin 16384 → Fin 1024 → EReal := last (X a0) (H a1) (W a2)
abbrev ER : Fin 16384 → Fin 1024 → EReal := err (R a0 a1 a2) (G a3) (G a4) (Y a5)
abbrev DY : Fin 16384 → Fin 1024 → EReal := dy (R a0 a1 a2) (G a3) (G a4) (Y a5)
/-- What reaches the normalised rows, and the rows' gradient by the chain of derivatives. -/
abbrev ct (t : Fin 16384) (j : Fin 1024) : EReal := DY a0 a1 a2 a3 a4 a5 t j * G a3 j
abbrev DR (t : Fin 16384) (j : Fin 1024) : EReal := Norm.backChain (R a0 a1 a2 t) (ct a0 a1 a2 a3 a4 a5 t) j

theorem gate_apply (t : Fin 16384) (q : Fin 2816) : val_main_v1 (F := Ideal) a1 (ix2 t q) = H a1 t (gcol q) := by
  pointwise [val_main_v1]
  refine congrArg a1 ?_
  blk_ext [gcol]

theorem value_apply (t : Fin 16384) (q : Fin 2816) : val_main_v2 (F := Ideal) a1 (ix2 t q) = H a1 t (vcol q) := by
  pointwise [val_main_v2]
  refine congrArg a1 ?_
  blk_ext [vcol]

theorem sig_apply (t : Fin 16384) (q : Fin 2816) : val_main_v3_2 (F := Ideal) a1 (ix2 t q) = Ideal.logistic (H a1 t (gcol q)) := by
  have hg := gate_apply a1
  pointwise [val_main_v3_2, val_main_call0_v4, val_main_call0_v3, val_main_call0_v2, val_main_call0_v1, val_main_call0_v0,
    val_main_call0_cst, val_main_call0_cst_0]
  simp only [hg]
  rfl

theorem dsig_apply (t : Fin 16384) (q : Fin 2816) :
    val_main_v3_1 (F := Ideal) a1 (ix2 t q) = Ideal.logistic (H a1 t (gcol q)) * (1 - Ideal.logistic (H a1 t (gcol q))) := by
  have hs := sig_apply a1
  pointwise [val_main_v3_1, val_main_call0_v7, val_main_call0_v6, val_main_call0_cst_1]
  simp only [hs]

theorem silu_apply (t : Fin 16384) (q : Fin 2816) :
    val_main_v3_0 (F := Ideal) a1 (ix2 t q) = H a1 t (gcol q) * Ideal.logistic (H a1 t (gcol q)) := by
  have hs := sig_apply a1
  have hg := gate_apply a1
  pointwise [val_main_v3_0]
  simp only [hs, hg]

theorem act_apply (t : Fin 16384) (q : Fin 2816) : val_main_v4 (F := Ideal) a1 (ix2 t q) = act (H a1) t q := by
  have hs := silu_apply a1
  have hv := value_apply a1
  pointwise [val_main_v4]
  simp only [hs, hv]
  rfl

theorem last_apply (t : Fin 16384) (j : Fin 1024) : val_main_v6 (F := Ideal) a0 a1 a2 (ix2 t j) = R a0 a1 a2 t j := by
  have ha := act_apply a1
  pointwise [val_main_v6, val_main_v5, val_main_v0]
  simp only [ha]
  rfl

theorem cen_apply (t : Fin 16384) (j : Fin 1024) : val_main_v12 (F := Ideal) a0 a1 a2 (ix2 t j) = Norm.cen (R a0 a1 a2 t) j := by
  have hl := last_apply a0 a1 a2
  pointwise [val_main_v12, val_main_v11, val_main_v10, val_main_v9, val_main_v8, val_main_v7, val_main_cst, val_main_cst_0]
  simp only [hl]
  rfl

theorem cen_apply' (t : Fin 16384) (j : Fin 1024) : val_main_v21 (F := Ideal) a0 a1 a2 (ix2 t j) = Norm.cen (R a0 a1 a2 t) j := by
  have hl := last_apply a0 a1 a2
  pointwise [val_main_v21, val_main_v20, val_main_v10, val_main_v9, val_main_v8, val_main_v7, val_main_cst, val_main_cst_0]
  simp only [hl]
  rfl

theorem var_apply (t : Fin 16384) : val_main_v23 (F := Ideal) a0 a1 a2 (ix2 t 0) = Norm.varE (R a0 a1 a2 t) := by
  have hc := cen_apply a0 a1 a2
  pointwise [val_main_v23, val_main_v22, val_main_v19, val_main_v18, val_main_v17, val_main_v16, val_main_v13, val_main_cst_2,
    val_main_cst_3, val_main_cst_4]
  simp only [hc]
  rfl

theorem xhat_apply (t : Fin 16384) (j : Fin 1024) : val_main_v29 (F := Ideal) a0 a1 a2 (ix2 t j) = Norm.xhat (R a0 a1 a2 t) j := by
  have hc := cen_apply' a0 a1 a2
  have hv := var_apply a0 a1 a2
  pointwise [val_main_v29, val_main_v28, val_main_v24]
  simp only [hc, hv]
  rfl

theorem err_apply (t : Fin 16384) (j : Fin 1024) :
    val_main_v34 (F := Ideal) a0 a1 a2 a3 a4 a5 (ix2 t j) = ER a0 a1 a2 a3 a4 a5 t j := by
  have hx := xhat_apply a0 a1 a2
  pointwise [val_main_v34, val_main_v33, val_main_v32, val_main_v31, val_main_v30]
  simp only [hx]
  rfl

/-- A half over the row's length, twice. -/
theorem twice : Ideal.div (Ideal.ofBits .f32 0x3F000000#32) Norm.c1024 * Ideal.ofBits .f32 0x40000000#32
    = Ideal.ofBits .f32 0x3A800000#32 := by
  rw [cHalf_eq, Norm.cTwo_eq, cRow_eq, Norm.c1024_eq, Ideal.div_coe (by norm_num), ← EReal.coe_mul, ← EReal.coe_mul]
  congr 1; norm_num

theorem dy_apply (t : Fin 16384) (j : Fin 1024) :
    val_main_v48 (F := Ideal) a0 a1 a2 a3 a4 a5 (ix2 t j) = DY a0 a1 a2 a3 a4 a5 t j := by
  have he := err_apply a0 a1 a2 a3 a4 a5
  pointwise [val_main_v48, val_main_v47, val_main_v46, val_main_v45, val_main_v44, val_main_v43, val_main_v37, val_main_v36, val_main_cst_6,
    val_main_cst_11, val_main_cst_12, val_main_cst_13]
  simp only [he]
  rw [← mul_assoc]
  refine (mul_comm _ _).trans (congrArg (ER a0 a1 a2 a3 a4 a5 t j * ·) ?_)
  exact twice

theorem gb_apply (j : Fin 1024) :
    val_main_v50 (F := Ideal) a0 a1 a2 a3 a4 a5 (ix2 0 j) = ∑ t : Fin 16384, DY a0 a1 a2 a3 a4 a5 t j := by
  have hd := dy_apply a0 a1 a2 a3 a4 a5
  pointwise [val_main_v50, val_main_v49, val_main_cst_14]
  simp only [hd]

theorem gg_apply (j : Fin 1024) :
    val_main_v53 (F := Ideal) a0 a1 a2 a3 a4 a5 (ix2 0 j) =
      ∑ t : Fin 16384, DY a0 a1 a2 a3 a4 a5 t j * Norm.xhat (R a0 a1 a2 t) j := by
  have hx := xhat_apply a0 a1 a2
  have hd := dy_apply a0 a1 a2 a3 a4 a5
  pointwise [val_main_v53, val_main_v52, val_main_v51, val_main_cst_15]
  simp only [hx, hd]
  exact Finset.sum_congr rfl fun t _ => mul_comm _ _

theorem loss_apply : val_main_v91 (F := Ideal) a0 a1 a2 a3 a4 a5 (ix2 0 0) = loss (R a0 a1 a2) (G a3) (G a4) (Y a5) := by
  have he := err_apply a0 a1 a2 a3 a4 a5
  pointwise [val_main_v91, val_main_v42, val_main_v41, val_main_v40, val_main_v39, val_main_v38, val_main_v35, val_main_cst_7, val_main_cst_8,
    val_main_cst_9, val_main_cst_10]
  simp only [he]
  rfl

theorem dr_apply (t : Fin 16384) (j : Fin 1024) :
    val_main_v79 (F := Ideal) a0 a1 a2 a3 a4 a5 (ix2 t j) = DR a0 a1 a2 a3 a4 a5 t j := by
  have hd := dy_apply a0 a1 a2 a3 a4 a5
  have hc : ∀ t j, val_main_v55 (F := Ideal) a0 a1 a2 a3 a4 a5 (ix2 t j) = ct a0 a1 a2 a3 a4 a5 t j := by
    intro t j
    pointwise [val_main_v55, val_main_v54]
    rw [hd]
  have hm := cen_apply a0 a1 a2
  have hm' := cen_apply' a0 a1 a2
  have hv := var_apply a0 a1 a2
  pointwise [val_main_v79, val_main_v78, val_main_v77, val_main_v76, val_main_v75, val_main_v74, val_main_v73, val_main_v72, val_main_v71,
    val_main_v70, val_main_v69, val_main_v68, val_main_v67, val_main_v66, val_main_v65, val_main_v64, val_main_v63, val_main_v62, val_main_v61,
    val_main_v60, val_main_v59, val_main_v58, val_main_v57, val_main_v56, val_main_v27, val_main_v26, val_main_v25, val_main_v24, val_main_v15,
    val_main_v14, val_main_cst_1, val_main_cst_5, val_main_cst_16, val_main_cst_17, val_main_cst_18, val_main_cst_19, val_main_cst_20,
    val_main_cst_21, val_main_cst_22]
  have hv' : val_main_v23 (F := Ideal) a0 a1 a2 (ix2 t default) = Norm.varE (R a0 a1 a2 t) := hv t
  simp only [hm, hm', hv, hv', hc, Finset.univ_unique, Finset.sum_singleton]
  unfold DR Norm.backChain Norm.backVar Norm.rstd
  rfl

theorem gdown_apply (q : Fin 2816) (l : Fin 1024) :
    val_main_v81 (F := Ideal) a0 a1 a2 a3 a4 a5 (ix2 q l) = gdown (DR a0 a1 a2 a3 a4 a5) (H a1) q l := by
  have hr := dr_apply a0 a1 a2 a3 a4 a5
  have ha := act_apply a1
  pointwise [val_main_v81, val_main_v80]
  simp only [hr, ha]
  exact Finset.sum_congr rfl fun t _ => mul_comm _ _

theorem layers_apply (k : Fin 3) (q : Fin 2816) (l : Fin 1024) :
    val_main_v90 (F := Ideal) a0 a1 a2 a3 a4 a5 a6 (ix3 k q l) =
      if k.val = 2 then gdown (DR a0 a1 a2 a3 a4 a5) (H a1) q l else a6 (ix3 k q l) := by
  have hg := gdown_apply a0 a1 a2 a3 a4 a5
  pointwise [val_main_v90, val_main_v89, val_main_v88]
  simp only [hg]
  by_cases h : k.val = 2
  · rw [if_pos h, dif_neg (by omega)]
  · rw [if_neg h, dif_pos (by omega)]

theorem dact_apply (t : Fin 16384) (q : Fin 2816) :
    val_main_v82 (F := Ideal) a0 a1 a2 a3 a4 a5 (ix2 t q) = dact (DR a0 a1 a2 a3 a4 a5) (W a2) t q := by
  have hr := dr_apply a0 a1 a2 a3 a4 a5
  pointwise [val_main_v82, val_main_v0]
  simp only [hr]
  rfl

theorem dgate_apply (t : Fin 16384) (q : Fin 2816) :
    val_main_v85 (F := Ideal) a0 a1 a2 a3 a4 a5 (ix2 t q) =
      H a1 t (gcol q) * (dact (DR a0 a1 a2 a3 a4 a5) (W a2) t q * H a1 t (vcol q))
          * (Ideal.logistic (H a1 t (gcol q)) * (1 - Ideal.logistic (H a1 t (gcol q))))
        + dact (DR a0 a1 a2 a3 a4 a5) (W a2) t q * H a1 t (vcol q) * Ideal.logistic (H a1 t (gcol q)) := by
  have hd := dact_apply a0 a1 a2 a3 a4 a5
  have hs := sig_apply a1
  have hb := dsig_apply a1
  have hg := gate_apply a1
  have hv := value_apply a1
  pointwise [val_main_v85, val_main_call1_v2, val_main_call1_v1, val_main_call1_v0, val_main_v84]
  simp only [hd, hs, hb, hg, hv]
  exact add_comm _ _

theorem dval_apply (t : Fin 16384) (q : Fin 2816) :
    val_main_v83 (F := Ideal) a0 a1 a2 a3 a4 a5 (ix2 t q) = dval (DR a0 a1 a2 a3 a4 a5) (H a1) (W a2) t q := by
  have hd := dact_apply a0 a1 a2 a3 a4 a5
  have hs := silu_apply a1
  pointwise [val_main_v83]
  simp only [hd, hs]
  exact mul_comm _ _

theorem dhid_apply (t : Fin 16384) (q : Fin 5632) :
    val_main_v87 (F := Ideal) a0 a1 a2 a3 a4 a5 (ix2 t q) =
      if e : q.val < 2816 then val_main_v85 (F := Ideal) a0 a1 a2 a3 a4 a5 (ix2 t ⟨q.val, e⟩)
      else val_main_v83 (F := Ideal) a0 a1 a2 a3 a4 a5 (ix2 t ⟨q.val - 2816, by omega⟩) := by
  pointwise [val_main_v87, val_main_v86]

end Cert.Reference2Ideal.Down
end
-- ==== Proof.DownClaim.lean ====
module

public import proofs.«01_k».proof.Defs
public import proofs.«01_k».proof.Proof.DownFinal
public import proofs.«01_k».proof.Proof.DownRef
public import proofs.«01_k».proof.Proof.Gen.Kernel2
public import proofs.«01_k».proof.Proof.Gen.Pre_finite2

/-! The claims about the loss and the last layer's gradient: the frames, and that kernel and reference leave the same arrays. -/

@[expose] public section

set_option maxRecDepth 16384

noncomputable section
open Idealize.ShloMosaic Idealize.ShloMosaic.TcCoe Idealize.SL.Sem
namespace Cert.Down

theorem frame_ideal : Cert.quiescent_Kernel2Ideal := fun m ρ _ => Cert.Kernel2Ideal.Gen.frame m ρ
theorem frame_ideal_finite : Cert.quiescent_Kernel2Ideal_pre_finite2 := fun m ρ _ => Cert.Kernel2Ideal.Gen.frame m ρ

theorem frame_reference : Cert.quiescent_Reference2Ideal := fun m ρ _ =>
  (θ_run Cert.Reference2Ideal.defs _ _).mono (fun r h => ⟨fun c => (h c).2.2.2.2.2.2,
    Idealize.ShloMosaic.sem_eq_zero_of_no_sems (by decide) r.2⟩) (Cert.Reference2Ideal.Value.run (F := Ideal) m ρ)
theorem frame_reference_finite : Cert.quiescent_Reference2Ideal_pre_finite2 := fun m ρ _ => frame_reference m ρ trivial

section
open Cert.Kernel2Ideal Cert.Kernel2Ideal.Down
variable (m : (ℓ : Loc nD τ sig) → Buf (Elt Ideal) ℓ) (c : Dev nD)

instance : Subsingleton Cert.Pre_finite2.S_.Idx := ⟨fun a b => funext fun k => k.elim0⟩

/-- What the precondition says, array by array. -/
theorem real (h : Cert.Pre_Kernel2Ideal_finite2 m) :
    (∀ t j, Norm.IsReal (X m c t j)) ∧ (∀ t q, Norm.IsReal (H m c t q)) ∧ (∀ q j, Norm.IsReal (W m c q j)) ∧
      (∀ j, Norm.IsReal (G m c j)) ∧ (∀ j, Norm.IsReal (B m c j)) ∧ ∀ t j, Norm.IsReal (Y m c t j) := by
  have e := congrFun (h c) (fun a => a.elim0)
  unfold Cert.Pre_finite2.fn Cert.Pre_finite2.fn_part1 at e
  obtain ⟨e, h5⟩ := Norm.and_one e
  obtain ⟨e, h4⟩ := Norm.and_one e
  obtain ⟨e, h3⟩ := Norm.and_one e
  obtain ⟨e, h2⟩ := Norm.and_one e
  obtain ⟨h0, h1⟩ := Norm.and_one e
  exact ⟨fun t q => Norm.isReal_of_all (A0 m c) _ (fun _ => Norm.cInf_eq) _ _ _ _ h0 (ix2 t q),
    fun t q => Norm.isReal_of_all (A1 m c) _ (fun _ => Norm.cInf_eq) _ _ _ _ h1 (ix2 t q),
    fun t q => Norm.isReal_of_all (A2 m c) _ (fun _ => Norm.cInf_eq) _ _ _ _ h2 (ix3 0 t q),
    fun q => Norm.isReal_of_all (A3 m c) _ (fun _ => Norm.cInf_eq) _ _ _ _ h3 (ix2 0 q),
    fun q => Norm.isReal_of_all (A4 m c) _ (fun _ => Norm.cInf_eq) _ _ _ _ h4 (ix2 0 q),
    fun t q => Norm.isReal_of_all (A5 m c) _ (fun _ => Norm.cInf_eq) _ _ _ _ h5 (ix2 t q)⟩

/-- The reference's rows' gradient is the kernel's. -/
theorem rows_eq (h : Cert.Pre_Kernel2Ideal_finite2 m) :
    Cert.Reference2Ideal.Down.DR (A0 m c) (A1 m c) (A2 m c) (A3 m c) (A4 m c) (A5 m c) = DR m c := by
  obtain ⟨hX, hH, hW, hG, hB, hY⟩ := real m c h
  have hR := Spec.isReal_last hX hH hW
  funext t j
  exact (Norm.back_eq_chain _ _ (hR t) (fun j => (Spec.isReal_dy hR hG hB hY t j).mul (hG j)) j).symm

theorem dr_eq (h : Cert.Pre_Kernel2Ideal_finite2 m) :
    Cert.Reference2Ideal.Read.val_main_v79 (F := Ideal) (A0 m c) (A1 m c) (A2 m c) (A3 m c) (A4 m c) (A5 m c) = res7 m c := by
  funext i
  obtain ⟨t, j, rfl⟩ : ∃ (t : Fin 16384) (j : Fin 1024), i = ix2 t j := ⟨i 0, i 1, by blk_ext⟩
  refine (Cert.Reference2Ideal.Down.dr_apply _ _ _ _ _ _ t j).trans ?_
  exact congrFun (congrFun (rows_eq m c h) t) j

theorem dh_eq (h : Cert.Pre_Kernel2Ideal_finite2 m) :
    Cert.Reference2Ideal.Read.val_main_v87 (F := Ideal) (A0 m c) (A1 m c) (A2 m c) (A3 m c) (A4 m c) (A5 m c) = res8 m c := by
  obtain ⟨hX, hH, hW, hG, hB, hY⟩ := real m c h
  have hR := Spec.isReal_last hX hH hW
  have hD := Spec.isReal_dlast hR hG hB hY
  funext i
  obtain ⟨t, q, rfl⟩ : ∃ (t : Fin 16384) (q : Fin 5632), i = ix2 t q := ⟨i 0, i 1, by blk_ext⟩
  refine (Cert.Reference2Ideal.Down.dhid_apply _ _ _ _ _ _ t q).trans ?_
  show _ = Spec.dhid (DR m c) (H m c) (W m c) t q
  unfold Spec.dhid
  by_cases e : q.val < 2816
  · rw [dif_pos e, dif_pos e, Cert.Reference2Ideal.Down.dgate_apply, rows_eq m c h]
    exact (Spec.dgate_eq_chain hD hH hW t ⟨q.val, e⟩).symm
  · rw [dif_neg e, dif_neg e, Cert.Reference2Ideal.Down.dval_apply, rows_eq m c h]

theorem gw_eq' (h : Cert.Pre_Kernel2Ideal_finite2 m) :
    Cert.Reference2Ideal.Read.val_main_v90 (F := Ideal) (A0 m c) (A1 m c) (A2 m c) (A3 m c) (A4 m c) (A5 m c) (A6 m c) = res9 m c := by
  funext i
  obtain ⟨k, q, l, rfl⟩ : ∃ (k : Fin 3) (q : Fin 2816) (l : Fin 1024), i = ix3 k q l := ⟨i 0, i 1, i 2, by blk_ext⟩
  refine (Cert.Reference2Ideal.Down.layers_apply _ _ _ _ _ _ _ k q l).trans ?_
  rw [rows_eq m c h]
  rfl

theorem gg_eq' : Cert.Reference2Ideal.Read.val_main_v53 (F := Ideal) (A0 m c) (A1 m c) (A2 m c) (A3 m c) (A4 m c) (A5 m c) = res10 m c := by
  funext i
  obtain ⟨j, rfl⟩ : ∃ (j : Fin 1024), i = ix2 0 j := ⟨i 1, by blk_ext⟩
  exact Cert.Reference2Ideal.Down.gg_apply _ _ _ _ _ _ j

theorem gb_eq' : Cert.Reference2Ideal.Read.val_main_v50 (F := Ideal) (A0 m c) (A1 m c) (A2 m c) (A3 m c) (A4 m c) (A5 m c) = res11 m c := by
  funext i
  obtain ⟨j, rfl⟩ : ∃ (j : Fin 1024), i = ix2 0 j := ⟨i 1, by blk_ext⟩
  exact Cert.Reference2Ideal.Down.gb_apply _ _ _ _ _ _ j

theorem loss_eq' (h : Cert.Pre_Kernel2Ideal_finite2 m) :
    Cert.Reference2Ideal.Read.val_main_v91 (F := Ideal) (A0 m c) (A1 m c) (A2 m c) (A3 m c) (A4 m c) (A5 m c) = res12 m c := by
  obtain ⟨hX, hH, hW, hG, hB, hY⟩ := real m c h
  funext i
  obtain rfl : i = ix2 0 0 := by blk_ext
  refine (Cert.Reference2Ideal.Down.loss_apply _ _ _ _ _ _).trans ?_
  exact (Spec.loss_eq (Spec.isReal_err (Spec.isReal_last hX hH hW) hG hB hY)).symm

end

theorem algebraic : Cert.algebraic_Kernel2Ideal_Reference2Ideal_pre_finite2 := by
  intro m g m' g' hpre hagree
  refine ⟨Cert.Kernel2Ideal.Down.res7 m, Cert.Kernel2Ideal.Down.res8 m, Cert.Kernel2Ideal.Down.res9 m, Cert.Kernel2Ideal.Down.res10 m,
    Cert.Kernel2Ideal.Down.res11 m, Cert.Kernel2Ideal.Down.res12 m, ?_, ?_⟩
  · refine (θ_run Cert.Kernel2Ideal.defs _ _).mono (fun r h c => ?_) (Cert.Kernel2Ideal.Value.run_blocks (F := Ideal) m g)
    obtain ⟨h0, h1, h2, h3, h4, h5, hk⟩ := h c
    exact ⟨h0.trans (Cert.Kernel2Ideal.Down.final7 m c), h1.trans (Cert.Kernel2Ideal.Down.final8 m c),
      h2.trans (Cert.Kernel2Ideal.Down.final9 m c), h3.trans (Cert.Kernel2Ideal.Down.final10 m c),
      h4.trans (Cert.Kernel2Ideal.Down.final11 m c), h5.trans (Cert.Kernel2Ideal.Down.final12 m c), hk⟩
  · refine (θ_run Cert.Reference2Ideal.defs _ _).mono (fun r h c => ?_) (Cert.Reference2Ideal.Value.run (F := Ideal) m' g')
    obtain ⟨h0, h1, h2, h3, h4, h5, hk⟩ := h c
    obtain ⟨b0, b1, b2, b3, b4, b5, b6⟩ := hagree c
    have a0 : StableHlo.launchContents m' c (Proc.devRef .tc Cert.Reference2Ideal.main_arg0) = _ := b0
    have a1 : StableHlo.launchContents m' c (Proc.devRef .tc Cert.Reference2Ideal.main_arg1) = _ := b1
    have a2 : StableHlo.launchContents m' c (Proc.devRef .tc Cert.Reference2Ideal.main_arg2) = _ := b2
    have a3 : StableHlo.launchContents m' c (Proc.devRef .tc Cert.Reference2Ideal.main_arg3) = _ := b3
    have a4 : StableHlo.launchContents m' c (Proc.devRef .tc Cert.Reference2Ideal.main_arg4) = _ := b4
    have a5 : StableHlo.launchContents m' c (Proc.devRef .tc Cert.Reference2Ideal.main_arg5) = _ := b5
    have a6 : StableHlo.launchContents m' c (Proc.devRef .tc Cert.Reference2Ideal.main_arg6) = _ := b6
    have e0 := (h0.trans (Cert.Reference2Ideal.Read.val_main_v79_eq _))
    have e1 := (h1.trans (Cert.Reference2Ideal.Read.val_main_v87_eq _))
    have e2 := (h2.trans (Cert.Reference2Ideal.Read.val_main_v90_eq _))
    have e3 := (h3.trans (Cert.Reference2Ideal.Read.val_main_v53_eq _))
    have e4 := (h4.trans (Cert.Reference2Ideal.Read.val_main_v50_eq _))
    have e5 := (h5.trans (Cert.Reference2Ideal.Read.val_main_v91_eq _))
    rw [a0, a1, a2, a3, a4, a5] at e0 e1 e3 e4 e5
    rw [a0, a1, a2, a3, a4, a5, a6] at e2
    exact ⟨e0.trans (dr_eq m c hpre), e1.trans (dh_eq m c hpre), e2.trans (gw_eq' m c hpre), e3.trans (gg_eq' m c),
      e4.trans (gb_eq' m c), e5.trans (loss_eq' m c hpre), hk⟩

end Cert.Down
end
-- ==== Proof.Grad.lean ====
module

public import proofs.«01_k».proof.Defs
public import proofs.«01_k».proof.Proof.Norm
public import proofs.«01_k».proof.Proof.Gen.Kernel3
public import proofs.«01_k».proof.Proof.Gen.Kernel3Ideal.Value
import all proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Pointwise
public import Idealize.ShloMosaic.Lib.Claim

/-! The gradient of the up-projection's weight: four pieces of columns, each a sum over eight blocks of rows. -/

@[expose] public section

set_option maxRecDepth 16384

noncomputable section
open Idealize.ShloMosaic Idealize.ShloMosaic.TcCoe Idealize.SL.Sem
open Idealize.ShloMosaic.Pipeline (Dat)
namespace Cert.Kernel3Ideal.Grad
open Cert.Kernel3Ideal Cert.Kernel3Ideal.Gen
variable (m : (ℓ : Loc nD τ sig) → Buf (Elt Ideal) ℓ) (c : Dev nD)

/-- The argument arrays, typed and by their coordinates. -/
abbrev A0 : FVec Ideal S16384x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S16384x5632 .f32 := m ((c : Thread nD τ).loc main_arg3)
abbrev R : Fin 16384 → Fin 1024 → EReal := fun t j => A0 m c (ix2 t j)
abbrev G : Fin 1024 → EReal := fun j => A1 m c (ix2 0 j)
abbrev B : Fin 1024 → EReal := fun j => A2 m c (ix2 0 j)
abbrev X : Fin 16384 → Fin 5632 → EReal := fun t q => A3 m c (ix2 t q)

/-- One row's share of an entry of the gradient. -/
abbrev term (k : Fin 1024) (q : Fin 5632) (t : Fin 16384) : EReal :=
  (Norm.xhat (R m c t) k * G m c k + B m c k) * X m c t q

def res : FVec Ideal S1x1024x5632 .f32 := fun i => ∑ t : Fin 16384, term m c (i 1) (i 2) t

theorem V17_apply (t : Fin 16384) (j : Fin 1024) : (V m c main_v17 : FVec Ideal S16384x1024 .f32) (ix2 t j) = Norm.xhat (R m c t) j := by
  entry_read
  pointwise
  rfl

theorem V18_apply (t : Fin 16384) (q : Fin 5632) : (V m c main_v18 : FVec Ideal S16384x5632 .bf16) (ix2 t q) = X m c t q := by
  entry_read
  pointwise

theorem idx : ∀ t : Fin cfg0.N, win0_0.index t = ![t.val % 8, 0] ∧ win0_1.index t = ![0, 0] ∧ win0_2.index t = ![0, 0]
    ∧ win0_3.index t = ![t.val % 8, t.val / 8] ∧ win0_4.index t = ![0, 0, t.val / 8] ∧ t.val < 32 :=
  (by decide +kernel : ∀ t : Fin grid0.N, _)

theorem lt32 (t : Fin cfg0.N) : t.val < 32 := lt_of_lt_of_eq t.isLt (show cfg0.N = 32 from N_0)

/-- The row and the column of the arrays at row `r` and column `l` of point `t`'s block. -/
abbrev row (t : Fin cfg0.N) (r : Fin 2048) : Fin 16384 := ⟨2048 * (t.val % 8) + r.val, by omega⟩
abbrev col (t : Fin cfg0.N) (l : Fin 1408) : Fin 5632 := ⟨1408 * (t.val / 8) + l.val, by have := lt32 t; omega⟩

variable (t : Fin cfg0.N)

theorem i0 (r : Fin 2048) (j : Fin 1024) : (iblk m c 0 t : Vec Ideal S2048x1024 .f32) (ix2 r j) = Norm.xhat (R m c (row t r)) j := by
  refine Eq.trans ?_ (V17_apply m c (row t r) j)
  blk_simp [iblk]
  refine congrArg (V m c main_v17) ?_
  blk_ext [idx t]

theorem i1 (j : Fin 1024) : (iblk m c 1 t : Vec Ideal S1x1024 .f32) (ix2 0 j) = G m c j := by
  blk_ext [iblk, V, idx t]

theorem i2 (j : Fin 1024) : (iblk m c 2 t : Vec Ideal S1x1024 .f32) (ix2 0 j) = B m c j := by
  blk_ext [iblk, V, idx t]

theorem i3 (r : Fin 2048) (l : Fin 1408) : (iblk m c 3 t : Vec Ideal S2048x1408 .bf16) (ix2 r l) = X m c (row t r) (col t l) := by
  refine Eq.trans ?_ (V18_apply m c (row t r) (col t l))
  blk_simp [iblk]
  refine congrArg (V m c main_v18) ?_
  blk_ext [idx t]

/-- What a block of rows adds to an entry. -/
theorem add_apply (acc : Vec Ideal S1x1024x1408 .f32) (k : Fin 1024) (l : Fin 1408) :
    k0_pay2 (F := Ideal) (iblk m c 0 t) (iblk m c 1 t) (iblk m c 2 t) acc (iblk m c 3 t) (ix3 0 k l)
      = acc (ix3 0 k l) + ∑ r : Fin 2048, term m c k (col t l) (row t r) := by
  have h0 := i0 m c t
  have h1 := i1 m c t
  have h2 := i2 m c t
  have h3 := i3 m c t
  pointwise [k0_pay2]
  simp only [h0, h1, h2, h3]

theorem out_A (h : t.val % 8 = 0) : outsAt0 m c t.val t.isLt =
    k0_pay2 (F := Ideal) (iblk m c 0 t) (iblk m c 1 t) (iblk m c 2 t) (k0_pay1 (F := Ideal)) (iblk m c 3 t) := by
  rw [outsAt0_A m c t h]; frame_out

theorem out_B (h : ¬ t.val % 8 = 0) : outsAt0 m c t.val t.isLt =
    k0_pay2 (F := Ideal) (iblk m c 0 t) (iblk m c 1 t) (iblk m c 2 t)
      (outsAt0 m c (t.val - 1) (Nat.lt_of_le_of_lt (Nat.sub_le _ _) t.isLt)) (iblk m c 3 t) := by
  rw [outsAt0_B m c t h]; frame_out

/-- A sum over the array's rows, block by block. -/
theorem sum_rows (f : Fin 16384 → EReal) :
    (∑ s : Fin 8, ∑ r : Fin 2048, f ⟨2048 * s.val + r.val, by omega⟩) = ∑ t : Fin 16384, f t := by
  refine Eq.trans ?_ (Fin.sum_univ_tiles 8 2048 rfl f).symm
  refine Finset.sum_congr rfl fun s _ => Finset.sum_congr rfl fun r _ => congrArg f (Fin.ext ?_)
  simp; omega

theorem final : (dats m 0 c).arrAt 4 (cfgs 0).N = res m c := by
  refine (dats m 0 c).arrAt_eq_of_covers 4 _ (by decide +kernel) fun t hf y => ?_
  blk_simp
  obtain ⟨k, l, rfl⟩ : ∃ (k : Fin 1024) (l : Fin 1408), y = ix3 0 k l := ⟨y 1, y 2, by blk_ext⟩
  have h7 := (flush0_4 t).mp hf
  have h32 := lt32 t
  rw [after0_4, Pipeline.eq_sum_fin_of_reset_step_apply_of_flush (fun n h => outsAt0 m c n h) 8 (fun _ => (0 : EReal))
    (fun p y => ∑ r : Fin 2048, term m c (y 1) (col p (y 2)) (row p r))
    (fun t h y => by
      obtain ⟨k, l, rfl⟩ : ∃ (k : Fin 1024) (l : Fin 1408), y = ix3 0 k l := ⟨y 1, y 2, by blk_ext⟩
      refine (congrFun (out_A m c t h) (ix3 0 k l)).trans ((add_apply m c t _ k l).trans ?_)
      refine congrArg₂ (· + ·) ?_ rfl
      pointwise [k0_pay1])
    (fun t h y => by
      obtain ⟨k, l, rfl⟩ : ∃ (k : Fin 1024) (l : Fin 1408), y = ix3 0 k l := ⟨y 1, y 2, by blk_ext⟩
      exact (congrFun (out_B m c t h) (ix3 0 k l)).trans (add_apply m c t _ k l))
    t h7 _]
  refine (zero_add (M := EReal) _).trans ?_
  refine Eq.trans ?_ (congrArg (res m c) (a₁ := ix3 0 k (col t l)) ?_)
  · refine Eq.trans ?_ (sum_rows fun u => term m c k (col t l) u)
    refine Finset.sum_congr rfl fun s _ => Finset.sum_congr rfl fun r _ => ?_
    have e : row ⟨8 * (t.val / 8) + s.val, Pipeline.run_point_lt_of_flush t h7 s⟩ r = ⟨2048 * s.val + r.val, by omega⟩ :=
      Fin.ext (by dsimp only [row]; omega)
    have e' : col ⟨8 * (t.val / 8) + s.val, Pipeline.run_point_lt_of_flush t h7 s⟩ l = col t l :=
      Fin.ext (by dsimp only [col]; omega)
    exact congrArg₂ (fun q u => term m c k q u) e' e
  · blk_ext [idx t]

end Cert.Kernel3Ideal.Grad

namespace Cert.Grad

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

section
open Cert.Kernel3Ideal Cert.Kernel3Ideal.Grad
variable (m : (ℓ : Loc nD τ sig) → Buf (Elt Ideal) ℓ) (c : Dev nD)
open Cert.Reference3Ideal.Read in
theorem ref_eq : val_main_v27 (F := Ideal) (A0 m c) (A1 m c) (A2 m c) (A3 m c) = res m c := by
  funext i
  obtain ⟨k, q, rfl⟩ : ∃ (k : Fin 1024) (q : Fin 5632), i = ix3 0 k q := ⟨i 1, i 2, by blk_ext⟩
  pointwise [val_main_v27, val_main_v26, val_main_v25, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3]
  exact Finset.sum_congr rfl fun t _ => mul_comm _ _
end

theorem algebraic : Cert.algebraic_Kernel3Ideal_Reference3Ideal := by
  intro m g m' g' hpre hagree
  refine ⟨Cert.Kernel3Ideal.Grad.res m, ?_, ?_⟩
  · refine (θ_run Cert.Kernel3Ideal.defs _ _).mono (fun r h c => ?_) (Cert.Kernel3Ideal.Value.run_blocks (F := Ideal) m g)
    obtain ⟨h0, hk⟩ := h c
    exact ⟨h0.trans (Cert.Kernel3Ideal.Grad.final m c), hk⟩
  · refine (θ_run Cert.Reference3Ideal.defs _ _).mono (fun r h c => ?_) (Cert.Reference3Ideal.Value.run (F := Ideal) m' g')
    obtain ⟨h0, hk⟩ := h c
    obtain ⟨a0, a1, a2, a3⟩ := hagree c
    have e0 := (h0.trans (Cert.Reference3Ideal.Read.val_main_v27_eq _ _ _ _))
    rw [a0, a1, a2, a3] at e0
    exact ⟨e0.trans (ref_eq m c), hk⟩

end Cert.Grad
end
-- ==== Proof.MlpSpec.lean ====
module

public import proofs.«01_k».proof.Proof.DownSpec

/-! One layer's gated block forwards: the up-projection, the causal convolution of three taps, the gated product, the
down-projection added to the scaled rows, and the normalisation of their sum, as plain sums over the arrays' entries. -/

@[expose] public section

noncomputable section
open Idealize.ShloMosaic
namespace Cert.Spec

/-- The row `s` rows before, zero before the first. -/
def past (h : Fin 16384 → Fin 5632 → EReal) (s : Nat) (t : Fin 16384) (q : Fin 5632) : EReal :=
  if e : s ≤ t.val then h ⟨t.val - s, by omega⟩ q else 0

/-- The causal convolution. -/
def conv (h : Fin 16384 → Fin 5632 → EReal) (κ : Fin 3 → Fin 5632 → EReal) (t : Fin 16384) (q : Fin 5632) : EReal :=
  κ 2 q * h t q + κ 1 q * past h 1 t q + κ 0 q * past h 2 t q

/-- The normalised rows, scaled and moved. -/
def normed (r : Fin 16384 → Fin 1024 → EReal) (g b : Fin 1024 → EReal) (t : Fin 16384) (j : Fin 1024) : EReal :=
  Norm.xhat (r t) j * g j + b j

/-- The rows the block hands to the next normalisation. -/
def mlp (r : Fin 16384 → Fin 1024 → EReal) (g b : Fin 1024 → EReal) (w : Fin 1024 → Fin 5632 → EReal)
    (κ : Fin 3 → Fin 5632 → EReal) (w' : Fin 2816 → Fin 1024 → EReal) : Fin 16384 → Fin 1024 → EReal :=
  last (fun t j => Ideal.ofBits .f32 0x3FD744FD#32 * normed r g b t j) (conv (hid r g b w) κ) w'

end Cert.Spec
end
-- ==== Proof.MlpBlocks.lean ====
module

public import proofs.«01_k».proof.Proof.Gen.Kernel4Ideal.Skeleton
public import proofs.«01_k».proof.Proof.MlpSpec
public import Idealize.ShloMosaic.Lib.Pipeline.ValueKit
public import Idealize.ShloMosaic.Lib.Pointwise

/-! The blocks the gated block's kernel works on, 256 columns of the gate or of the value at a time: every piece's
operations are those of the first piece at another column offset, and each is read here at one entry. -/

@[expose] public section

set_option maxRecDepth 16384

noncomputable section
open Idealize.ShloMosaic Idealize.ShloMosaic.TcCoe Idealize.SL.Sem
namespace Cert.Kernel4Ideal.Mlp
open Cert.Kernel4Ideal Cert.Kernel4Ideal.Gen

/-- Column `o + k`, for a piece that starts at column `o`. -/
def colO (o : Nat) (h : o + 256 ≤ 5632) (k : Fin 256) : Fin 5632 := ⟨o + k.val, by omega⟩
/-- Column `256 j + k` of the gated product. -/
def colI (j : Fin 11) (k : Fin 256) : Fin 2816 := ⟨256 * j.val + k.val, by omega⟩

section
variable {F : FTy → Type} [FloatOps F]

/-- Columns `o …` of the up-projection. -/
def colW {e : EltTy} (X : Vec F S1x1024x5632 e) (o : Nat) (h : o + 256 ≤ 5632) : Vec F S1x1024x256 e :=
  View.ld X (Rect.unit ![0, 0, o] S1x1024x256.size (by
    intro a; fin_cases a <;> simp [S1x1024x256, S1x1024x5632] <;> omega))

/-- The same columns of one row of the convolution's weights. -/
def colK {e : EltTy} (X : Vec F S1x3x5632 e) (k : Fin 3) (o : Nat) (h : o + 256 ≤ 5632) : Vec F S1x1x256 e :=
  View.ld X (Rect.unit ![0, k.val, o] S1x1x256.size (by
    have := k.isLt; intro a; fin_cases a <;> simp [S1x1x256, S1x3x5632] <;> omega))

/-- The same columns of one of the eight rows kept from the block before. -/
def colC {e : EltTy} (X : Vec F S8x5632 e) (k : Fin 8) (o : Nat) (h : o + 256 ≤ 5632) : Vec F S1x256 e :=
  View.ld X (Rect.unit ![k.val, o] S1x256.size (by
    have := k.isLt; intro a; fin_cases a <;> simp [S1x256, S8x5632] <;> omega))

/-- Rows `256 j …` of the down-projection. -/
def rowD {e : EltTy} (X : Vec F S1x2816x1024 e) (j : Fin 11) : Vec F S1x256x1024 e :=
  View.ld X (Rect.unit ![0, 256 * j.val, 0] S1x256x1024.size (by
    have := j.isLt; intro a; fin_cases a <;> simp [S1x256x1024, S1x2816x1024] <;> omega))

/-- One piece of the convolution's input. -/
def hB (X0 : Vec F S512x1024 .f32) (X1 X2 : Vec F S1x1024 .f32) (X3 : Vec F S1x1024x5632 .bf16) (o : Nat) (h : o + 256 ≤ 5632) :
    FVec F S512x256 .f32 :=
  k0_pay22 (k0_pay3 X0 X1 X2) (colW X3 o h)

/-- One piece of the convolution's output. -/
def cB (X0 : Vec F S512x1024 .f32) (X1 X2 : Vec F S1x1024 .f32) (X3 : Vec F S1x1024x5632 .bf16) (X4 : Vec F S1x3x5632 .f32)
    (P : Vec F S8x5632 .f32) (o : Nat) (h : o + 256 ≤ 5632) : FVec F S512x256 .f32 :=
  k0_pay10 (hB X0 X1 X2 X3 o h) (colC P 7 o h) (colC P 6 o h) (colK X4 2 o h) (colK X4 1 o h) (colK X4 0 o h)

section
variable (X0 : Vec F S512x1024 .f32) (X1 X2 : Vec F S1x1024 .f32) (X3 : Vec F S1x1024x5632 .bf16) (X4 : Vec F S1x3x5632 .f32)
  (X5 : Vec F S1x2816x1024 .bf16) (P : Vec F S8x5632 .f32)

/-- The gate's and the value's piece `j`. -/
def cG (j : Fin 11) : FVec F S512x256 .f32 := cB X0 X1 X2 X3 X4 P (256 * j.val) (by have := j.isLt; omega)
def cV (j : Fin 11) : FVec F S512x256 .f32 := cB X0 X1 X2 X3 X4 P (2816 + 256 * j.val) (by have := j.isLt; omega)

/-- The down-projection's sum with piece `j` added. -/
def stepB (j : Fin 11) (acc : FVec F S512x1024 .f32) : FVec F S512x1024 .f32 :=
  k0_pay111 acc (cG X0 X1 X2 X3 X4 P j) (cV X0 X1 X2 X3 X4 P j) (rowD X5 j)

/-- After the first ten. -/
def accB : FVec F S512x1024 .f32 :=
  stepB X0 X1 X2 X3 X4 X5 P 9 (stepB X0 X1 X2 X3 X4 X5 P 8 (stepB X0 X1 X2 X3 X4 X5 P 7 (stepB X0 X1 X2 X3 X4 X5 P 6
    (stepB X0 X1 X2 X3 X4 X5 P 5 (stepB X0 X1 X2 X3 X4 X5 P 4 (stepB X0 X1 X2 X3 X4 X5 P 3 (stepB X0 X1 X2 X3 X4 X5 P 2
      (stepB X0 X1 X2 X3 X4 X5 P 1 (stepB X0 X1 X2 X3 X4 X5 P 0 k0_pay4)))))))))

/-- The gated product of the last piece. -/
def actB : FVec F S512x256 .bf16 :=
  truncf .bf16 (mulf (mulf (cG X0 X1 X2 X3 X4 P 10) (logistic (cG X0 X1 X2 X3 X4 P 10))) (cV X0 X1 X2 X3 X4 P 10)) bitsLt_bf16_f32

/-- The two results of the normalisation. -/
def xhB : FVec F S512x1024 .f32 :=
  k0_pay171 (k0_pay2 X0 X1 X2) (accB X0 X1 X2 X3 X4 X5 P) (actB X0 X1 X2 X3 X4 P) (k0_pay168 (rowD X5 10))
    (constant S512x1024 .f32 0x00000000#32)
def rsB : FVec F S512x1 .f32 :=
  k0_pay170 (k0_pay2 X0 X1 X2) (accB X0 X1 X2 X3 X4 X5 P) (actB X0 X1 X2 X3 X4 P) (k0_pay168 (rowD X5 10))
    (constant S512x1024 .f32 0x00000000#32)
end

end

theorem colW_apply {e : EltTy} (X : Vec Ideal S1x1024x5632 e) (o : Nat) (h : o + 256 ≤ 5632) (l : Fin 1024) (k : Fin 256) :
    colW X o h (ix3 0 l k) = X (ix3 0 l (colO o h k)) := by
  unfold colW colO; pointwise

theorem colK_apply {e : EltTy} (X : Vec Ideal S1x3x5632 e) (i : Fin 3) (o : Nat) (h : o + 256 ≤ 5632) (k : Fin 256) :
    colK X i o h (ix3 0 0 k) = X (ix3 0 i (colO o h k)) := by
  unfold colK colO; pointwise

theorem colC_apply {e : EltTy} (X : Vec Ideal S8x5632 e) (i : Fin 8) (o : Nat) (h : o + 256 ≤ 5632) (k : Fin 256) :
    colC X i o h (ix2 0 k) = X (ix2 i (colO o h k)) := by
  unfold colC colO; pointwise

theorem rowD_apply {e : EltTy} (X : Vec Ideal S1x2816x1024 e) (j : Fin 11) (k : Fin 256) (l : Fin 1024) :
    rowD X j (ix3 0 k l) = X (ix3 0 (colI j k) l) := by
  unfold rowD colI; pointwise

/-- The normalised rows, scaled and moved, at one entry. -/
def xE (X0 : Vec Ideal S512x1024 .f32) (X1 X2 : Vec Ideal S1x1024 .f32) (r : Fin 512) (l : Fin 1024) : EReal :=
  X0 (ix2 r l) * X1 (ix2 0 l) + X2 (ix2 0 l)

theorem pay2_apply (X0 : Vec Ideal S512x1024 .f32) (X1 X2 : Vec Ideal S1x1024 .f32) (r : Fin 512) (l : Fin 1024) :
    k0_pay2 X0 X1 X2 (ix2 r l) = xE X0 X1 X2 r l := by
  pointwise [k0_pay2]
  rfl

theorem pay3_apply (X0 : Vec Ideal S512x1024 .f32) (X1 X2 : Vec Ideal S1x1024 .f32) (r : Fin 512) (l : Fin 1024) :
    k0_pay3 X0 X1 X2 (ix2 r l) = xE X0 X1 X2 r l := by
  pointwise [k0_pay3, k0_pay2]
  rfl

theorem pay22_apply (x : FVec Ideal S512x1024 .bf16) (W : Vec Ideal S1x1024x256 .bf16) (r : Fin 512) (k : Fin 256) :
    k0_pay22 x W (ix2 r k) = ∑ l : Fin 1024, x (ix2 r l) * W (ix3 0 l k) := by
  pointwise [k0_pay22]

/-- The convolution's input at one entry. -/
def hE (X0 : Vec Ideal S512x1024 .f32) (X1 X2 : Vec Ideal S1x1024 .f32) (X3 : Vec Ideal S1x1024x5632 .bf16) (r : Fin 512)
    (q : Fin 5632) : EReal :=
  ∑ l : Fin 1024, xE X0 X1 X2 r l * X3 (ix3 0 l q)

theorem hB_apply (X0 : Vec Ideal S512x1024 .f32) (X1 X2 : Vec Ideal S1x1024 .f32) (X3 : Vec Ideal S1x1024x5632 .bf16) (o : Nat)
    (h : o + 256 ≤ 5632) (r : Fin 512) (k : Fin 256) : hB X0 X1 X2 X3 o h (ix2 r k) = hE X0 X1 X2 X3 r (colO o h k) := by
  unfold hB hE
  rw [pay22_apply]
  refine Finset.sum_congr rfl fun l _ => ?_
  rw [pay3_apply, colW_apply]

theorem sel_zero {α : Type} (n : Nat) (hn : n < 8) (a b : α) :
    Scalar.select (IntOp.cmpi .eq (BitVec.ofNat 32 n) 0#32) a b = if n = 0 then a else b := by
  have h : ∀ n : Fin 8, IntOp.cmpi .eq (BitVec.ofNat 32 n.val) 0#32 = if n.val = 0 then 1#1 else 0#1 := by decide
  have e := h ⟨n, hn⟩
  dsimp only at e
  rw [e]; by_cases e : n = 0 <;> simp [e, Scalar.select]

theorem sel_one {α : Type} (n : Nat) (hn : n < 8) (a b : α) :
    Scalar.select (IntOp.cmpi .eq (BitVec.ofNat 32 n) 1#32) a b = if n = 1 then a else b := by
  have h : ∀ n : Fin 8, IntOp.cmpi .eq (BitVec.ofNat 32 n.val) 1#32 = if n.val = 1 then 1#1 else 0#1 := by decide
  have e := h ⟨n, hn⟩
  dsimp only at e
  rw [e]; by_cases e : n = 1 <;> simp [e, Scalar.select]

theorem pay10_apply (H : FVec Ideal S512x256 .f32) (c7 c6 : Vec Ideal S1x256 .f32) (w2 w1 w0 : Vec Ideal S1x1x256 .f32)
    (r : Fin 512) (k : Fin 256) :
    k0_pay10 H c7 c6 w2 w1 w0 (ix2 r k) = w2 (ix3 0 0 k) * H (ix2 r k)
      + w1 (ix3 0 0 k) * (if h : 1 ≤ r.val then H (ix2 ⟨r.val - 1, by omega⟩ k) else c7 (ix2 0 k))
      + w0 (ix3 0 0 k) * (if h : 2 ≤ r.val then H (ix2 ⟨r.val - 2, by omega⟩ k)
          else if r.val = 0 then c6 (ix2 0 k) else c7 (ix2 0 k)) := by
  pointwise [k0_pay10]
  have e1 : (if h : r.val < 8 then
            Scalar.select (IntOp.cmpi CmpIPredicate.eq (BitVec.ofNat 32 r.val) 0#32) (c7 (ix2 0 k))
              (H (ix2 ⟨(r.val + 512 - 1) % 512, by omega⟩ k))
          else H (ix2 ⟨(8 + (r.val - 8) + 512 - 1) % 512, by omega⟩ k))
      = if h : 1 ≤ r.val then H (ix2 ⟨r.val - 1, by omega⟩ k) else c7 (ix2 0 k) := by
    by_cases h8 : r.val < 8
    · rw [dif_pos h8, sel_zero _ h8]
      by_cases h0 : r.val = 0
      · rw [if_pos h0, dif_neg (by omega)]
      · rw [if_neg h0, dif_pos (by omega)]
        exact congrArg (fun u => H (ix2 u k)) (Fin.ext (by dsimp only; omega))
    · rw [dif_neg h8, dif_pos (by omega)]
      exact congrArg (fun u => H (ix2 u k)) (Fin.ext (by dsimp only; omega))
  have e2 : (if h : r.val < 8 then
          Scalar.select (IntOp.cmpi CmpIPredicate.eq (BitVec.ofNat 32 r.val) 1#32) (c7 (ix2 0 k))
            (Scalar.select (IntOp.cmpi CmpIPredicate.eq (BitVec.ofNat 32 r.val) 0#32) (c6 (ix2 0 k))
              (H (ix2 ⟨(r.val + 512 - 2) % 512, by omega⟩ k)))
        else H (ix2 ⟨(8 + (r.val - 8) + 512 - 2) % 512, by omega⟩ k))
      = if h : 2 ≤ r.val then H (ix2 ⟨r.val - 2, by omega⟩ k)
          else if r.val = 0 then c6 (ix2 0 k) else c7 (ix2 0 k) := by
    by_cases h8 : r.val < 8
    · rw [dif_pos h8, sel_zero _ h8, sel_one _ h8]
      by_cases h0 : r.val = 0
      · rw [if_neg (by omega), if_pos h0, dif_neg (by omega), if_pos h0]
      · by_cases h1 : r.val = 1
        · rw [if_pos h1, dif_neg (by omega), if_neg h0]
        · rw [if_neg h1, if_neg h0, dif_pos (by omega)]
          exact congrArg (fun u => H (ix2 u k)) (Fin.ext (by dsimp only; omega))
    · rw [dif_neg h8, dif_pos (by omega)]
      exact congrArg (fun u => H (ix2 u k)) (Fin.ext (by dsimp only; omega))
  rw [e1, e2]

section
variable (X0 : Vec Ideal S512x1024 .f32) (X1 X2 : Vec Ideal S1x1024 .f32) (X3 : Vec Ideal S1x1024x5632 .bf16)
  (X4 : Vec Ideal S1x3x5632 .f32) (X5 : Vec Ideal S1x2816x1024 .bf16) (P : Vec Ideal S8x5632 .f32)

/-- The input's row `s` rows before, from the rows kept of the block before at the block's start. -/
def pE1 (r : Fin 512) (q : Fin 5632) : EReal :=
  if h : 1 ≤ r.val then hE X0 X1 X2 X3 ⟨r.val - 1, by omega⟩ q else P (ix2 7 q)
def pE2 (r : Fin 512) (q : Fin 5632) : EReal :=
  if h : 2 ≤ r.val then hE X0 X1 X2 X3 ⟨r.val - 2, by omega⟩ q else if r.val = 0 then P (ix2 6 q) else P (ix2 7 q)

/-- The convolution's output at one entry. -/
def cE (r : Fin 512) (q : Fin 5632) : EReal :=
  X4 (ix3 0 2 q) * hE X0 X1 X2 X3 r q + X4 (ix3 0 1 q) * pE1 X0 X1 X2 X3 P r q + X4 (ix3 0 0 q) * pE2 X0 X1 X2 X3 P r q

theorem cB_apply (o : Nat) (h : o + 256 ≤ 5632) (r : Fin 512) (k : Fin 256) :
    cB X0 X1 X2 X3 X4 P o h (ix2 r k) = cE X0 X1 X2 X3 X4 P r (colO o h k) := by
  unfold cB cE pE1 pE2
  rw [pay10_apply]
  simp only [hB_apply, colK_apply, colC_apply]

/-- The gated product at one entry. -/
def aE (r : Fin 512) (q : Fin 2816) : EReal :=
  cE X0 X1 X2 X3 X4 P r (Spec.gcol q) * Ideal.logistic (cE X0 X1 X2 X3 X4 P r (Spec.gcol q)) * cE X0 X1 X2 X3 X4 P r (Spec.vcol q)

theorem cG_apply (j : Fin 11) (r : Fin 512) (k : Fin 256) :
    cG X0 X1 X2 X3 X4 P j (ix2 r k) = cE X0 X1 X2 X3 X4 P r (Spec.gcol (colI j k)) := cB_apply ..

theorem cV_apply (j : Fin 11) (r : Fin 512) (k : Fin 256) :
    cV X0 X1 X2 X3 X4 P j (ix2 r k) = cE X0 X1 X2 X3 X4 P r (Spec.vcol (colI j k)) :=
  (cB_apply ..).trans (congrArg (cE X0 X1 X2 X3 X4 P r) (Fin.ext (by simp only [colO, colI, Spec.vcol]; omega)))

theorem pay111_apply (acc : FVec Ideal S512x1024 .f32) (g v : FVec Ideal S512x256 .f32) (W : Vec Ideal S1x256x1024 .bf16)
    (r : Fin 512) (l : Fin 1024) :
    k0_pay111 acc g v W (ix2 r l) = acc (ix2 r l) +
      ∑ k : Fin 256, g (ix2 r k) * Ideal.logistic (g (ix2 r k)) * v (ix2 r k) * W (ix3 0 k l) := by
  pointwise [k0_pay111]

theorem stepB_apply (j : Fin 11) (acc : FVec Ideal S512x1024 .f32) (r : Fin 512) (l : Fin 1024) :
    stepB X0 X1 X2 X3 X4 X5 P j acc (ix2 r l) = acc (ix2 r l) +
      ∑ k : Fin 256, aE X0 X1 X2 X3 X4 P r (colI j k) * X5 (ix3 0 (colI j k) l) := by
  unfold stepB aE
  rw [pay111_apply]
  simp only [cG_apply, cV_apply, rowD_apply]

theorem sum_chunks (f : Fin 2816 → EReal) : ∑ q : Fin 2816, f q = ∑ j : Fin 11, ∑ k : Fin 256, f (colI j k) := by
  rw [Fin.sum_univ_tiles 11 256 rfl f]
  exact Finset.sum_congr rfl fun j _ => Finset.sum_congr rfl fun k _ => congrArg f (Fin.ext (by simp [colI]; omega))

/-- The rows before the normalisation. -/
def zE (r : Fin 512) (l : Fin 1024) : EReal :=
  Ideal.ofBits .f32 0x3FD744FD#32 * xE X0 X1 X2 r l + ∑ q : Fin 2816, aE X0 X1 X2 X3 X4 P r q * X5 (ix3 0 q l)

theorem actB_apply (r : Fin 512) (k : Fin 256) : actB X0 X1 X2 X3 X4 P (ix2 r k) = aE X0 X1 X2 X3 X4 P r (colI 10 k) := by
  unfold aE
  have hg := cG_apply X0 X1 X2 X3 X4 P 10
  have hv := cV_apply X0 X1 X2 X3 X4 P 10
  rw [← hg, ← hv]
  pointwise [actB]

theorem acc_apply (r : Fin 512) (l : Fin 1024) :
    accB X0 X1 X2 X3 X4 X5 P (ix2 r l) + ∑ k : Fin 256, aE X0 X1 X2 X3 X4 P r (colI 10 k) * X5 (ix3 0 (colI 10 k) l) =
      ∑ q : Fin 2816, aE X0 X1 X2 X3 X4 P r q * X5 (ix3 0 q l) := by
  have h0 : k0_pay4 (F := Ideal) (ix2 r l) = 0 := by pointwise [k0_pay4]
  rw [sum_chunks]
  simp only [accB, stepB_apply, h0]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Fin.sum_univ_zero, zero_add, add_assoc]
  rfl

/-- The last product's sum and the scaled rows, before the mean is taken off. -/
theorem pay169_apply (x acc : FVec Ideal S512x1024 .f32) (a : FVec Ideal S512x256 .bf16) (W : FVec Ideal S256x1024 .bf16)
    (r : Fin 512) (l : Fin 1024) :
    k0_pay169 x acc a W (constant S512x1024 .f32 0x00000000#32) (ix2 r l) =
      Norm.cen (fun l => Ideal.ofBits .f32 0x3FD744FD#32 * x (ix2 r l) + (acc (ix2 r l) + ∑ k : Fin 256, a (ix2 r k) * W (ix2 k l))) l := by
  pointwise [k0_pay169]
  rfl

theorem pay170_apply (x acc : FVec Ideal S512x1024 .f32) (a : FVec Ideal S512x256 .bf16) (W : FVec Ideal S256x1024 .bf16)
    (r : Fin 512) :
    k0_pay170 x acc a W (constant S512x1024 .f32 0x00000000#32) (ix2 r 0) =
      Norm.rstd (fun l => Ideal.ofBits .f32 0x3FD744FD#32 * x (ix2 r l) + (acc (ix2 r l) + ∑ k : Fin 256, a (ix2 r k) * W (ix2 k l))) := by
  have h := pay169_apply x acc a W
  pointwise [k0_pay170]
  simp only [h]
  rfl

theorem pay171_apply (x acc : FVec Ideal S512x1024 .f32) (a : FVec Ideal S512x256 .bf16) (W : FVec Ideal S256x1024 .bf16)
    (r : Fin 512) (l : Fin 1024) :
    k0_pay171 x acc a W (constant S512x1024 .f32 0x00000000#32) (ix2 r l) =
      Norm.xhat (fun l => Ideal.ofBits .f32 0x3FD744FD#32 * x (ix2 r l) + (acc (ix2 r l) + ∑ k : Fin 256, a (ix2 r k) * W (ix2 k l))) l := by
  have h := pay169_apply x acc a W
  have h' := pay170_apply x acc a W
  pointwise [k0_pay171]
  simp only [h, h']
  rfl

theorem zrow (r : Fin 512) :
    (fun l => Ideal.ofBits .f32 0x3FD744FD#32 * k0_pay2 X0 X1 X2 (ix2 r l) + (accB X0 X1 X2 X3 X4 X5 P (ix2 r l) +
      ∑ k : Fin 256, actB X0 X1 X2 X3 X4 P (ix2 r k) * k0_pay168 (rowD X5 10) (ix2 k l))) = zE X0 X1 X2 X3 X4 X5 P r := by
  funext l
  have hW : ∀ (k : Fin 256) (l : Fin 1024), k0_pay168 (rowD X5 10) (ix2 k l) = X5 (ix3 0 (colI 10 k) l) := by
    intro k l
    rw [← rowD_apply X5]
    pointwise [k0_pay168]
  unfold zE
  simp only [pay2_apply, actB_apply, hW]
  rw [acc_apply]

theorem xhB_apply (r : Fin 512) (l : Fin 1024) : xhB X0 X1 X2 X3 X4 X5 P (ix2 r l) = Norm.xhat (zE X0 X1 X2 X3 X4 X5 P r) l := by
  unfold xhB
  rw [pay171_apply, zrow]

theorem rsB_apply (r : Fin 512) : rsB X0 X1 X2 X3 X4 X5 P (ix2 r 0) = Norm.rstd (zE X0 X1 X2 X3 X4 X5 P r) := by
  unfold rsB
  rw [pay170_apply, zrow]

/-- The rows kept for the next block. -/
theorem pay151_apply (H : FVec Ideal S512x256 .f32) (i : Fin 8) (k : Fin 256) :
    k0_pay151 H (ix2 i k) = H (ix2 ⟨504 + i.val, by omega⟩ k) := by
  pointwise [k0_pay151]

theorem pay14_apply (H : FVec Ideal S512x256 .f32) (r : Fin 512) (k : Fin 256) : k0_pay14 H (ix2 r k) = H (ix2 r k) := by
  pointwise [k0_pay14]
end

end Cert.Kernel4Ideal.Mlp
end
-- ==== Proof.MlpOuts.lean ====
module

public import proofs.«01_k».proof.Proof.MlpBlocks
public import proofs.«01_k».proof.Proof.Gen.Kernel4Ideal.Value
import all proofs.«01_k».proof.Proof.Gen.Kernel4Ideal.Value

/-! What the kernel's body leaves in each output block at a grid point, and in the eight rows it keeps for the next one. At the
first point the kept rows are cleared first; each of the 22 pieces then reads its columns and stores its own last rows, so every
piece finds zeros. -/

@[expose] public section

set_option maxRecDepth 100000

noncomputable section
open Idealize.ShloMosaic Idealize.ShloMosaic.TcCoe Idealize.SL.Sem
namespace Cert.Kernel4Ideal.Mlp
open Cert.Kernel4Ideal Cert.Kernel4Ideal.Gen

/-- The place of column `q`'s piece in the order of the stores. -/
def place (q : Nat) : Nat := if q < 2816 then 2 * (q / 256) else 2 * ((q - 2816) / 256) + 1

/-- After `n` of the 22 pieces. -/
def After (n : Nat) (T : Fin 8 → Fin 5632 → EReal) (L : List (View.Piece (Elt Ideal) S8x5632 .f32)) : Prop :=
  (∀ y, ∃ p ∈ L, y ∈ p.1.set) ∧
    ∀ i q, View.canon L (ix2 i q) = if place q.val < n then T i q else 0

theorem after_zero (T : Fin 8 → Fin 5632 → EReal) : After 0 T (kernelRun0_A.sl.HS0_1 (F := Ideal)) := by
  refine ⟨fun y => ⟨_, List.mem_cons_self, ?_⟩, fun k q => ?_⟩
  · show y ∈ (Rect.unit (s := S8x5632) ![0, 0] S8x5632.size inb_S8x5632_S8x5632_0_0).set
    refine Rect.mem_set_unit.mpr fun a => ?_
    have := (y a).isLt
    fin_cases a <;> simpa using this
  · unfold kernelRun0_A.sl.HS0_1
    rw [View.canon_cons_unit_lit _ _ _ (by decide), if_neg (Nat.not_lt_zero _)]
    pointwise [k0_pay1]

theorem after_step {n : Nat} {T : Fin 8 → Fin 5632 → EReal} {L : List (View.Piece (Elt Ideal) S8x5632 .f32)} (h : After n T L)
    (o : Nat) (ho : o + 256 ≤ 5632) (hn : ∀ q, place q = n ↔ o ≤ q ∧ q < o + 256)
    (inb : ∀ a : Fin S8x5632.rank, (![0, o] : Fin S8x5632.rank → Nat) a + S8x256.size a ≤ S8x5632.size a)
    (w : Vec Ideal S8x256 .f32) (hw : ∀ (i : Fin 8) (k : Fin 256), w (ix2 i k) = T i (colO o ho k)) :
    After (n + 1) T ((⟨Rect.unit (s := S8x5632) ![0, o] S8x256.size inb, w⟩ : View.Piece (Elt Ideal) S8x5632 .f32) :: L) := by
  refine ⟨fun y => ?_, fun i q => ?_⟩
  · obtain ⟨p, hp, hy⟩ := h.1 y
    exact ⟨p, List.mem_cons_of_mem _ hp, hy⟩
  · have hpq := hn q.val
    by_cases hm : o ≤ q.val ∧ q.val < o + 256
    · obtain ⟨k, rfl⟩ : ∃ k : Fin 256, q = colO o ho k := ⟨⟨q.val - o, by omega⟩, Fin.ext (by simp [colO]; omega)⟩
      have e : (Rect.unit (s := S8x5632) ![0, o] S8x256.size inb).emb (ix2 i k : S8x256.Idx) = ix2 i (colO o ho k) := by
        funext a; apply Fin.ext; rw [Rect.emb_apply]
        fin_cases a <;> simp [colO, Rect.unit]
      have hz : place (colO o ho k).val < n + 1 := by rw [hpq.mpr hm]; omega
      rw [if_pos hz, ← e]
      exact (View.canon_cons_emb (Rect.unit (s := S8x5632) ![0, o] S8x256.size inb) w L _).trans (hw i k)
    · refine (View.canon_cons_of_not_mem (⟨Rect.unit (s := S8x5632) ![0, o] S8x256.size inb, w⟩ :
        View.Piece (Elt Ideal) S8x5632 .f32) L ?_).trans ?_
      · intro hs
        have hs' : (ix2 i q : S8x5632.Idx) ∈ (Rect.unit (s := S8x5632) ![0, o] S8x256.size inb).set := hs
        have hb := Rect.mem_set_unit.mp hs'
        have hb' : o ≤ q.val ∧ q.val < o + 256 := hb 1
        exact hm hb'
      · rw [h.2]
        have : (place q.val < n) ↔ (place q.val < n + 1) := by
          have : ¬ place q.val = n := fun e => hm (hpq.mp e)
          omega
        simp only [this]

/-- A row of a piece not yet stored is zero. -/
theorem kept_zero {n : Nat} {T : Fin 8 → Fin 5632 → EReal} {L : List (View.Piece (Elt Ideal) S8x5632 .f32)} (h : After n T L)
    (v : View sig .tc .vmem S8x5632 .f32) (i : Fin 8) (o : Nat) (ho : o + 256 ≤ 5632) (hn : ∀ q, place q = n ↔ o ≤ q ∧ q < o + 256)
    (inb : ∀ a : Fin S8x5632.rank, (![i.val, o] : Fin S8x5632.rank → Nat) a + S1x256.size a ≤ S8x5632.size a) :
    v.readCov L (Rect.unit (s := S8x5632) ![i.val, o] S1x256.size inb).toLoadRect = colC (k0_pay1 (F := Ideal)) i o ho := by
  rw [View.readCov_eq_canon_ld v L _ h.1]
  funext y
  obtain ⟨k, rfl⟩ : ∃ k : Fin 256, y = (ix2 (0 : Fin 1) k : S1x256.Idx) := ⟨y 1, by
    funext a; apply Fin.ext; fin_cases a
    · have : (y 0).val < 1 := (y 0).isLt
      show (y 0).val = 0
      omega
    · rfl⟩
  have hz : ¬ place (colO o ho k).val < n := by
    rw [(hn _).mpr ⟨by simp only [colO]; omega, by simp only [colO]; omega⟩]; omega
  have hr := h.2 i (colO o ho k)
  rw [if_neg hz] at hr
  rw [colC_apply]
  have h0 : k0_pay1 (F := Ideal) (ix2 i (colO o ho k)) = 0 := by pointwise [k0_pay1]
  rw [h0, ← hr]
  refine congrArg (View.canon L) ?_
  funext a; apply Fin.ext; fin_cases a <;> simp [colO, Rect.unit]

/-- The last rows of the block. -/
def kE (X0 : Vec Ideal S512x1024 .f32) (X1 X2 : Vec Ideal S1x1024 .f32) (X3 : Vec Ideal S1x1024x5632 .bf16) (i : Fin 8) (q : Fin 5632) :
    EReal := hE X0 X1 X2 X3 ⟨504 + i.val, by omega⟩ q

theorem kept_apply (X0 : Vec Ideal S512x1024 .f32) (X1 X2 : Vec Ideal S1x1024 .f32) (X3 : Vec Ideal S1x1024x5632 .bf16) (o : Nat)
    (h : o + 256 ≤ 5632) (i : Fin 8) (k : Fin 256) :
    k0_pay151 (hB X0 X1 X2 X3 o h) (ix2 i k) = kE X0 X1 X2 X3 i (colO o h k) := by
  rw [pay151_apply, hB_apply]; rfl

/-- Loads of whole blocks. -/
theorem ldX (X : Vec Ideal S512x1024 .f32) (inb : ∀ a : Fin S512x1024.rank, (![0, 0] : Fin S512x1024.rank → Nat) a + S512x1024.size a ≤ S512x1024.size a) :
    View.ld X (Rect.unit (s := S512x1024) ![0, 0] (no_index S512x1024.size) inb) = X := View.ld_unit_lit inb X (by decide)
theorem ldG (X : Vec Ideal S1x1024 .f32) (inb : ∀ a : Fin S1x1024.rank, (![0, 0] : Fin S1x1024.rank → Nat) a + S1x1024.size a ≤ S1x1024.size a) :
    View.ld X (Rect.unit (s := S1x1024) ![0, 0] (no_index S1x1024.size) inb) = X := View.ld_unit_lit inb X (by decide)

section
variable (c : Dev nD) (arg1 : Memref sig .tc .vmem S512x1024 .f32) (harg1 : arg1.IsWhole)
  (arg2 : Memref sig .tc .vmem S1x1024 .f32) (harg2 : arg2.IsWhole) (arg3 : Memref sig .tc .vmem S1x1024 .f32) (harg3 : arg3.IsWhole)
  (arg4 : Memref sig .tc .vmem S1x1024x5632 .bf16) (harg4 : arg4.IsWhole) (arg5 : Memref sig .tc .vmem S1x3x5632 .f32) (harg5 : arg5.IsWhole)
  (arg6 : Memref sig .tc .vmem S1x2816x1024 .bf16) (harg6 : arg6.IsWhole) (arg11 : Memref sig .tc .vmem S8x5632 .f32)
  (x0 : Vec Ideal S512x1024 .f32) (x1 x2 : Vec Ideal S1x1024 .f32) (x3 : Vec Ideal S1x1024x5632 .bf16) (x4 : Vec Ideal S1x3x5632 .f32)
  (x5 : Vec Ideal S1x2816x1024 .bf16)

theorem after_1 : After 1 (kE x0 x1 x2 x3) (kernelRun0_A.sl.HS0_2 (F := Ideal) c arg1 harg1 arg2 harg2 arg3 harg3 arg4 harg4 x0 x1 x2 x3) := by
  unfold kernelRun0_A.sl.HS0_2
  refine after_step (after_zero _) 0 (by omega) (by intro q; unfold place; split <;> omega) _ _ fun i k => ?_
  simp only [kernelRun0_A.sl.r_7, kernelRun0_A.sl.r_2, View.readAt_eq_ld, Memref.IsWhole.read_unread, ldX, ldG]
  exact kept_apply x0 x1 x2 x3 0 (by omega) i k

theorem after_2 : After 2 (kE x0 x1 x2 x3) (kernelRun0_A.sl.HS0_3 (F := Ideal) c arg1 harg1 arg2 harg2 arg3 harg3 arg4 harg4 x0 x1 x2 x3) := by
  unfold kernelRun0_A.sl.HS0_3
  refine after_step (after_1 c arg1 harg1 arg2 harg2 arg3 harg3 arg4 harg4 x0 x1 x2 x3) 2816 (by omega) (by intro q; unfold place; split <;> omega) _ _ fun i k => ?_
  simp only [kernelRun0_A.sl.r_3, View.readAt_eq_ld, Memref.IsWhole.read_unread, ldX, ldG]
  exact kept_apply x0 x1 x2 x3 2816 (by omega) i k

theorem after_3 : After 3 (kE x0 x1 x2 x3) (kernelRun0_A.sl.HS0_4 (F := Ideal) c arg1 harg1 arg2 harg2 arg3 harg3 arg4 harg4 x0 x1 x2 x3) := by
  unfold kernelRun0_A.sl.HS0_4
  refine after_step (after_2 c arg1 harg1 arg2 harg2 arg3 harg3 arg4 harg4 x0 x1 x2 x3) 256 (by omega) (by intro q; unfold place; split <;> omega) _ _ fun i k => ?_
  simp only [kernelRun0_A.sl.r_16, kernelRun0_A.sl.r_4, View.readAt_eq_ld, Memref.IsWhole.read_unread, ldX, ldG]
  exact kept_apply x0 x1 x2 x3 256 (by omega) i k

theorem after_4 : After 4 (kE x0 x1 x2 x3) (kernelRun0_A.sl.HS0_5 (F := Ideal) c arg1 harg1 arg2 harg2 arg3 harg3 arg4 harg4 x0 x1 x2 x3) := by
  unfold kernelRun0_A.sl.HS0_5
  refine after_step (after_3 c arg1 harg1 arg2 harg2 arg3 harg3 arg4 harg4 x0 x1 x2 x3) 3072 (by omega) (by intro q; unfold place; split <;> omega) _ _ fun i k => ?_
  simp only [kernelRun0_A.sl.r_5, View.readAt_eq_ld, Memref.IsWhole.read_unread, ldX, ldG]
  exact kept_apply x0 x1 x2 x3 3072 (by omega) i k

theorem after_5 : After 5 (kE x0 x1 x2 x3) (kernelRun0_A.sl.HS0_6 (F := Ideal) c arg1 harg1 arg2 harg2 arg3 harg3 arg4 harg4 x0 x1 x2 x3) := by
  unfold kernelRun0_A.sl.HS0_6
  refine after_step (after_4 c arg1 harg1 arg2 harg2 arg3 harg3 arg4 harg4 x0 x1 x2 x3) 512 (by omega) (by intro q; unfold place; split <;> omega) _ _ fun i k => ?_
  simp only [kernelRun0_A.sl.r_13, kernelRun0_A.sl.r_1, View.readAt_eq_ld, Memref.IsWhole.read_unread, ldX, ldG]
  exact kept_apply x0 x1 x2 x3 512 (by omega) i k

theorem after_6 : After 6 (kE x0 x1 x2 x3) (kernelRun0_A.sl.HS0_7 (F := Ideal) c arg1 harg1 arg2 harg2 arg3 harg3 arg4 harg4 x0 x1 x2 x3) := by
  unfold kernelRun0_A.sl.HS0_7
  refine after_step (after_5 c arg1 harg1 arg2 harg2 arg3 harg3 arg4 harg4 x0 x1 x2 x3) 3328 (by omega) (by intro q; unfold place; split <;> omega) _ _ fun i k => ?_
  simp only [kernelRun0_A.sl.r_14, kernelRun0_A.sl.r_1, View.readAt_eq_ld, Memref.IsWhole.read_unread, ldX, ldG]
  exact kept_apply x0 x1 x2 x3 3328 (by omega) i k

theorem after_7 : After 7 (kE x0 x1 x2 x3) (kernelRun0_A.sl.HS0_8 (F := Ideal) c arg1 harg1 arg2 harg2 arg3 harg3 arg4 harg4 x0 x1 x2 x3) := by
  unfold kernelRun0_A.sl.HS0_8
  refine after_step (after_6 c arg1 harg1 arg2 harg2 arg3 harg3 arg4 harg4 x0 x1 x2 x3) 768 (by omega) (by intro q; unfold place; split <;> omega) _ _ fun i k => ?_
  simp only [kernelRun0_A.sl.r_22, kernelRun0_A.sl.r_1, View.readAt_eq_ld, Memref.IsWhole.read_unread, ldX, ldG]
  exact kept_apply x0 x1 x2 x3 768 (by omega) i k

theorem after_8 : After 8 (kE x0 x1 x2 x3) (kernelRun0_A.sl.HS0_9 (F := Ideal) c arg1 harg1 arg2 harg2 arg3 harg3 arg4 harg4 x0 x1 x2 x3) := by
  unfold kernelRun0_A.sl.HS0_9
  refine after_step (after_7 c arg1 harg1 arg2 harg2 arg3 harg3 arg4 harg4 x0 x1 x2 x3) 3584 (by omega) (by intro q; unfold place; split <;> omega) _ _ fun i k => ?_
  simp only [kernelRun0_A.sl.r_23, kernelRun0_A.sl.r_1, View.readAt_eq_ld, Memref.IsWhole.read_unread, ldX, ldG]
  exact kept_apply x0 x1 x2 x3 3584 (by omega) i k

theorem after_9 : After 9 (kE x0 x1 x2 x3) (kernelRun0_A.sl.HS0_10 (F := Ideal) c arg1 harg1 arg2 harg2 arg3 harg3 arg4 harg4 x0 x1 x2 x3) := by
  unfold kernelRun0_A.sl.HS0_10
  refine after_step (after_8 c arg1 harg1 arg2 harg2 arg3 harg3 arg4 harg4 x0 x1 x2 x3) 1024 (by omega) (by intro q; unfold place; split <;> omega) _ _ fun i k => ?_
  simp only [kernelRun0_A.sl.r_29, kernelRun0_A.sl.r_1, View.readAt_eq_ld, Memref.IsWhole.read_unread, ldX, ldG]
  exact kept_apply x0 x1 x2 x3 1024 (by omega) i k

theorem after_10 : After 10 (kE x0 x1 x2 x3) (kernelRun0_A.sl.HS0_11 (F := Ideal) c arg1 harg1 arg2 harg2 arg3 harg3 arg4 harg4 x0 x1 x2 x3) := by
  unfold kernelRun0_A.sl.HS0_11
  refine after_step (after_9 c arg1 harg1 arg2 harg2 arg3 harg3 arg4 harg4 x0 x1 x2 x3) 3840 (by omega) (by intro q; unfold place; split <;> omega) _ _ fun i k => ?_
  simp only [kernelRun0_A.sl.r_30, kernelRun0_A.sl.r_1, View.readAt_eq_ld, Memref.IsWhole.read_unread, ldX, ldG]
  exact kept_apply x0 x1 x2 x3 3840 (by omega) i k

theorem after_11 : After 11 (kE x0 x1 x2 x3) (kernelRun0_A.sl.HS0_12 (F := Ideal) c arg1 harg1 arg2 harg2 arg3 harg3 arg4 harg4 x0 x1 x2 x3) := by
  unfold kernelRun0_A.sl.HS0_12
  refine after_step (after_10 c arg1 harg1 arg2 harg2 arg3 harg3 arg4 harg4 x0 x1 x2 x3) 1280 (by omega) (by intro q; unfold place; split <;> omega) _ _ fun i k => ?_
  simp only [kernelRun0_A.sl.r_38, kernelRun0_A.sl.r_1, View.readAt_eq_ld, Memref.IsWhole.read_unread, ldX, ldG]
  exact kept_apply x0 x1 x2 x3 1280 (by omega) i k

theorem after_12 : After 12 (kE x0 x1 x2 x3) (kernelRun0_A.sl.HS0_13 (F := Ideal) c arg1 harg1 arg2 harg2 arg3 harg3 arg4 harg4 x0 x1 x2 x3) := by
  unfold kernelRun0_A.sl.HS0_13
  refine after_step (after_11 c arg1 harg1 arg2 harg2 arg3 harg3 arg4 harg4 x0 x1 x2 x3) 4096 (by omega) (by intro q; unfold place; split <;> omega) _ _ fun i k => ?_
  simp only [kernelRun0_A.sl.r_39, kernelRun0_A.sl.r_1, View.readAt_eq_ld, Memref.IsWhole.read_unread, ldX, ldG]
  exact kept_apply x0 x1 x2 x3 4096 (by omega) i k

theorem after_13 : After 13 (kE x0 x1 x2 x3) (kernelRun0_A.sl.HS0_14 (F := Ideal) c arg1 harg1 arg2 harg2 arg3 harg3 arg4 harg4 x0 x1 x2 x3) := by
  unfold kernelRun0_A.sl.HS0_14
  refine after_step (after_12 c arg1 harg1 arg2 harg2 arg3 harg3 arg4 harg4 x0 x1 x2 x3) 1536 (by omega) (by intro q; unfold place; split <;> omega) _ _ fun i k => ?_
  simp only [kernelRun0_A.sl.r_47, kernelRun0_A.sl.r_1, View.readAt_eq_ld, Memref.IsWhole.read_unread, ldX, ldG]
  exact kept_apply x0 x1 x2 x3 1536 (by omega) i k

theorem after_14 : After 14 (kE x0 x1 x2 x3) (kernelRun0_A.sl.HS0_15 (F := Ideal) c arg1 harg1 arg2 harg2 arg3 harg3 arg4 harg4 x0 x1 x2 x3) := by
  unfold kernelRun0_A.sl.HS0_15
  refine after_step (after_13 c arg1 harg1 arg2 harg2 arg3 harg3 arg4 harg4 x0 x1 x2 x3) 4352 (by omega) (by intro q; unfold place; split <;> omega) _ _ fun i k => ?_
  simp only [kernelRun0_A.sl.r_48, kernelRun0_A.sl.r_1, View.readAt_eq_ld, Memref.IsWhole.read_unread, ldX, ldG]
  exact kept_apply x0 x1 x2 x3 4352 (by omega) i k

theorem after_15 : After 15 (kE x0 x1 x2 x3) (kernelRun0_A.sl.HS0_16 (F := Ideal) c arg1 harg1 arg2 harg2 arg3 harg3 arg4 harg4 x0 x1 x2 x3) := by
  unfold kernelRun0_A.sl.HS0_16
  refine after_step (after_14 c arg1 harg1 arg2 harg2 arg3 harg3 arg4 harg4 x0 x1 x2 x3) 1792 (by omega) (by intro q; unfold place; split <;> omega) _ _ fun i k => ?_
  simp only [kernelRun0_A.sl.r_57, kernelRun0_A.sl.r_1, View.readAt_eq_ld, Memref.IsWhole.read_unread, ldX, ldG]
  exact kept_apply x0 x1 x2 x3 1792 (by omega) i k

theorem after_16 : After 16 (kE x0 x1 x2 x3) (kernelRun0_A.sl.HS0_17 (F := Ideal) c arg1 harg1 arg2 harg2 arg3 harg3 arg4 harg4 x0 x1 x2 x3) := by
  unfold kernelRun0_A.sl.HS0_17
  refine after_step (after_15 c arg1 harg1 arg2 harg2 arg3 harg3 arg4 harg4 x0 x1 x2 x3) 4608 (by omega) (by intro q; unfold place; split <;> omega) _ _ fun i k => ?_
  simp only [kernelRun0_A.sl.r_72, kernelRun0_A.sl.r_58, kernelRun0_A.sl.r_1, View.readAt_eq_ld, Memref.IsWhole.read_unread, ldX, ldG]
  exact kept_apply x0 x1 x2 x3 4608 (by omega) i k

theorem after_17 : After 17 (kE x0 x1 x2 x3) (kernelRun0_A.sl.HS0_18 (F := Ideal) c arg1 harg1 arg2 harg2 arg3 harg3 arg4 harg4 x0 x1 x2 x3) := by
  unfold kernelRun0_A.sl.HS0_18
  refine after_step (after_16 c arg1 harg1 arg2 harg2 arg3 harg3 arg4 harg4 x0 x1 x2 x3) 2048 (by omega) (by intro q; unfold place; split <;> omega) _ _ fun i k => ?_
  simp only [kernelRun0_A.sl.r_66, kernelRun0_A.sl.r_1, View.readAt_eq_ld, Memref.IsWhole.read_unread, ldX, ldG]
  exact kept_apply x0 x1 x2 x3 2048 (by omega) i k

theorem after_18 : After 18 (kE x0 x1 x2 x3) (kernelRun0_A.sl.HS0_19 (F := Ideal) c arg1 harg1 arg2 harg2 arg3 harg3 arg4 harg4 x0 x1 x2 x3) := by
  unfold kernelRun0_A.sl.HS0_19
  refine after_step (after_17 c arg1 harg1 arg2 harg2 arg3 harg3 arg4 harg4 x0 x1 x2 x3) 4864 (by omega) (by intro q; unfold place; split <;> omega) _ _ fun i k => ?_
  simp only [kernelRun0_A.sl.r_79, kernelRun0_A.sl.r_67, kernelRun0_A.sl.r_1, View.readAt_eq_ld, Memref.IsWhole.read_unread, ldX, ldG]
  exact kept_apply x0 x1 x2 x3 4864 (by omega) i k

theorem after_19 : After 19 (kE x0 x1 x2 x3) (kernelRun0_A.sl.HS0_20 (F := Ideal) c arg1 harg1 arg2 harg2 arg3 harg3 arg4 harg4 x0 x1 x2 x3) := by
  unfold kernelRun0_A.sl.HS0_20
  refine after_step (after_18 c arg1 harg1 arg2 harg2 arg3 harg3 arg4 harg4 x0 x1 x2 x3) 2304 (by omega) (by intro q; unfold place; split <;> omega) _ _ fun i k => ?_
  simp only [kernelRun0_A.sl.r_74, kernelRun0_A.sl.r_1, View.readAt_eq_ld, Memref.IsWhole.read_unread, ldX, ldG]
  exact kept_apply x0 x1 x2 x3 2304 (by omega) i k

theorem after_20 : After 20 (kE x0 x1 x2 x3) (kernelRun0_A.sl.HS0_21 (F := Ideal) c arg1 harg1 arg2 harg2 arg3 harg3 arg4 harg4 x0 x1 x2 x3) := by
  unfold kernelRun0_A.sl.HS0_21
  refine after_step (after_19 c arg1 harg1 arg2 harg2 arg3 harg3 arg4 harg4 x0 x1 x2 x3) 5120 (by omega) (by intro q; unfold place; split <;> omega) _ _ fun i k => ?_
  simp only [kernelRun0_A.sl.r_88, kernelRun0_A.sl.r_75, kernelRun0_A.sl.r_1, View.readAt_eq_ld, Memref.IsWhole.read_unread, ldX, ldG]
  exact kept_apply x0 x1 x2 x3 5120 (by omega) i k

theorem after_21 : After 21 (kE x0 x1 x2 x3) (kernelRun0_A.sl.HS0_22 (F := Ideal) c arg1 harg1 arg2 harg2 arg3 harg3 arg4 harg4 x0 x1 x2 x3) := by
  unfold kernelRun0_A.sl.HS0_22
  refine after_step (after_20 c arg1 harg1 arg2 harg2 arg3 harg3 arg4 harg4 x0 x1 x2 x3) 2560 (by omega) (by intro q; unfold place; split <;> omega) _ _ fun i k => ?_
  simp only [kernelRun0_A.sl.r_81, kernelRun0_A.sl.r_1, View.readAt_eq_ld, Memref.IsWhole.read_unread, ldX, ldG]
  exact kept_apply x0 x1 x2 x3 2560 (by omega) i k

theorem kept_27 : kernelRun0_A.sl.v27 (F := Ideal) c arg11 = colC (k0_pay1 (F := Ideal)) 7 0 (by omega) :=
  kept_zero (after_zero (fun _ _ => 0)) arg11.view 7 0 (by omega) (by intro q; unfold place; split <;> omega) _

theorem kept_28 : kernelRun0_A.sl.v28 (F := Ideal) c arg11 = colC (k0_pay1 (F := Ideal)) 6 0 (by omega) :=
  kept_zero (after_zero (fun _ _ => 0)) arg11.view 6 0 (by omega) (by intro q; unfold place; split <;> omega) _

theorem kept_76 : kernelRun0_A.sl.v76 (F := Ideal) c arg1 harg1 arg2 harg2 arg3 harg3 arg4 harg4 arg11 x0 x1 x2 x3 = colC (k0_pay1 (F := Ideal)) 7 2816 (by omega) :=
  kept_zero (after_1 c arg1 harg1 arg2 harg2 arg3 harg3 arg4 harg4 x0 x1 x2 x3) arg11.view 7 2816 (by omega) (by intro q; unfold place; split <;> omega) _

theorem kept_77 : kernelRun0_A.sl.v77 (F := Ideal) c arg1 harg1 arg2 harg2 arg3 harg3 arg4 harg4 arg11 x0 x1 x2 x3 = colC (k0_pay1 (F := Ideal)) 6 2816 (by omega) :=
  kept_zero (after_1 c arg1 harg1 arg2 harg2 arg3 harg3 arg4 harg4 x0 x1 x2 x3) arg11.view 6 2816 (by omega) (by intro q; unfold place; split <;> omega) _

theorem kept_139 : kernelRun0_A.sl.v139 (F := Ideal) c arg1 harg1 arg2 harg2 arg3 harg3 arg4 harg4 arg11 x0 x1 x2 x3 = colC (k0_pay1 (F := Ideal)) 7 256 (by omega) :=
  kept_zero (after_2 c arg1 harg1 arg2 harg2 arg3 harg3 arg4 harg4 x0 x1 x2 x3) arg11.view 7 256 (by omega) (by intro q; unfold place; split <;> omega) _

theorem kept_140 : kernelRun0_A.sl.v140 (F := Ideal) c arg1 harg1 arg2 harg2 arg3 harg3 arg4 harg4 arg11 x0 x1 x2 x3 = colC (k0_pay1 (F := Ideal)) 6 256 (by omega) :=
  kept_zero (after_2 c arg1 harg1 arg2 harg2 arg3 harg3 arg4 harg4 x0 x1 x2 x3) arg11.view 6 256 (by omega) (by intro q; unfold place; split <;> omega) _

theorem kept_188 : kernelRun0_A.sl.v188 (F := Ideal) c arg1 harg1 arg2 harg2 arg3 harg3 arg4 harg4 arg11 x0 x1 x2 x3 = colC (k0_pay1 (F := Ideal)) 7 3072 (by omega) :=
  kept_zero (after_3 c arg1 harg1 arg2 harg2 arg3 harg3 arg4 harg4 x0 x1 x2 x3) arg11.view 7 3072 (by omega) (by intro q; unfold place; split <;> omega) _

theorem kept_189 : kernelRun0_A.sl.v189 (F := Ideal) c arg1 harg1 arg2 harg2 arg3 harg3 arg4 harg4 arg11 x0 x1 x2 x3 = colC (k0_pay1 (F := Ideal)) 6 3072 (by omega) :=
  kept_zero (after_3 c arg1 harg1 arg2 harg2 arg3 harg3 arg4 harg4 x0 x1 x2 x3) arg11.view 6 3072 (by omega) (by intro q; unfold place; split <;> omega) _

theorem kept_251 : kernelRun0_A.sl.v251 (F := Ideal) c arg1 harg1 arg2 harg2 arg3 harg3 arg4 harg4 arg11 x0 x1 x2 x3 = colC (k0_pay1 (F := Ideal)) 7 512 (by omega) :=
  kept_zero (after_4 c arg1 harg1 arg2 harg2 arg3 harg3 arg4 harg4 x0 x1 x2 x3) arg11.view 7 512 (by omega) (by intro q; unfold place; split <;> omega) _

theorem kept_252 : kernelRun0_A.sl.v252 (F := Ideal) c arg1 harg1 arg2 harg2 arg3 harg3 arg4 harg4 arg11 x0 x1 x2 x3 = colC (k0_pay1 (F := Ideal)) 6 512 (by omega) :=
  kept_zero (after_4 c arg1 harg1 arg2 harg2 arg3 harg3 arg4 harg4 x0 x1 x2 x3) arg11.view 6 512 (by omega) (by intro q; unfold place; split <;> omega) _

theorem kept_300 : kernelRun0_A.sl.v300 (F := Ideal) c arg1 harg1 arg2 harg2 arg3 harg3 arg4 harg4 arg11 x0 x1 x2 x3 = colC (k0_pay1 (F := Ideal)) 7 3328 (by omega) :=
  kept_zero (after_5 c arg1 harg1 arg2 harg2 arg3 harg3 arg4 harg4 x0 x1 x2 x3) arg11.view 7 3328 (by omega) (by intro q; unfold place; split <;> omega) _

theorem kept_301 : kernelRun0_A.sl.v301 (F := Ideal) c arg1 harg1 arg2 harg2 arg3 harg3 arg4 harg4 arg11 x0 x1 x2 x3 = colC (k0_pay1 (F := Ideal)) 6 3328 (by omega) :=
  kept_zero (after_5 c arg1 harg1 arg2 harg2 arg3 harg3 arg4 harg4 x0 x1 x2 x3) arg11.view 6 3328 (by omega) (by intro q; unfold place; split <;> omega) _

theorem kept_363 : kernelRun0_A.sl.v363 (F := Ideal) c arg1 harg1 arg2 harg2 arg3 harg3 arg4 harg4 arg11 x0 x1 x2 x3 = colC (k0_pay1 (F := Ideal)) 7 768 (by omega) :=
  kept_zero (after_6 c arg1 harg1 arg2 harg2 arg3 harg3 arg4 harg4 x0 x1 x2 x3) arg11.view 7 768 (by omega) (by intro q; unfold place; split <;> omega) _

theorem kept_364 : kernelRun0_A.sl.v364 (F := Ideal) c arg1 harg1 arg2 harg2 arg3 harg3 arg4 harg4 arg11 x0 x1 x2 x3 = colC (k0_pay1 (F := Ideal)) 6 768 (by omega) :=
  kept_zero (after_6 c arg1 harg1 arg2 harg2 arg3 harg3 arg4 harg4 x0 x1 x2 x3) arg11.view 6 768 (by omega) (by intro q; unfold place; split <;> omega) _

theorem kept_412 : kernelRun0_A.sl.v412 (F := Ideal) c arg1 harg1 arg2 harg2 arg3 harg3 arg4 harg4 arg11 x0 x1 x2 x3 = colC (k0_pay1 (F := Ideal)) 7 3584 (by omega) :=
  kept_zero (after_7 c arg1 harg1 arg2 harg2 arg3 harg3 arg4 harg4 x0 x1 x2 x3) arg11.view 7 3584 (by omega) (by intro q; unfold place; split <;> omega) _

theorem kept_413 : kernelRun0_A.sl.v413 (F := Ideal) c arg1 harg1 arg2 harg2 arg3 harg3 arg4 harg4 arg11 x0 x1 x2 x3 = colC (k0_pay1 (F := Ideal)) 6 3584 (by omega) :=
  kept_zero (after_7 c arg1 harg1 arg2 harg2 arg3 harg3 arg4 harg4 x0 x1 x2 x3) arg11.view 6 3584 (by omega) (by intro q; unfold place; split <;> omega) _

theorem kept_475 : kernelRun0_A.sl.v475 (F := Ideal) c arg1 harg1 arg2 harg2 arg3 harg3 arg4 harg4 arg11 x0 x1 x2 x3 = colC (k0_pay1 (F := Ideal)) 7 1024 (by omega) :=
  kept_zero (after_8 c arg1 harg1 arg2 harg2 arg3 harg3 arg4 harg4 x0 x1 x2 x3) arg11.view 7 1024 (by omega) (by intro q; unfold place; split <;> omega) _

theorem kept_476 : kernelRun0_A.sl.v476 (F := Ideal) c arg1 harg1 arg2 harg2 arg3 harg3 arg4 harg4 arg11 x0 x1 x2 x3 = colC (k0_pay1 (F := Ideal)) 6 1024 (by omega) :=
  kept_zero (after_8 c arg1 harg1 arg2 harg2 arg3 harg3 arg4 harg4 x0 x1 x2 x3) arg11.view 6 1024 (by omega) (by intro q; unfold place; split <;> omega) _

theorem kept_524 : kernelRun0_A.sl.v524 (F := Ideal) c arg1 harg1 arg2 harg2 arg3 harg3 arg4 harg4 arg11 x0 x1 x2 x3 = colC (k0_pay1 (F := Ideal)) 7 3840 (by omega) :=
  kept_zero (after_9 c arg1 harg1 arg2 harg2 arg3 harg3 arg4 harg4 x0 x1 x2 x3) arg11.view 7 3840 (by omega) (by intro q; unfold place; split <;> omega) _

theorem kept_525 : kernelRun0_A.sl.v525 (F := Ideal) c arg1 harg1 arg2 harg2 arg3 harg3 arg4 harg4 arg11 x0 x1 x2 x3 = colC (k0_pay1 (F := Ideal)) 6 3840 (by omega) :=
  kept_zero (after_9 c arg1 harg1 arg2 harg2 arg3 harg3 arg4 harg4 x0 x1 x2 x3) arg11.view 6 3840 (by omega) (by intro q; unfold place; split <;> omega) _

theorem kept_587 : kernelRun0_A.sl.v587 (F := Ideal) c arg1 harg1 arg2 harg2 arg3 harg3 arg4 harg4 arg11 x0 x1 x2 x3 = colC (k0_pay1 (F := Ideal)) 7 1280 (by omega) :=
  kept_zero (after_10 c arg1 harg1 arg2 harg2 arg3 harg3 arg4 harg4 x0 x1 x2 x3) arg11.view 7 1280 (by omega) (by intro q; unfold place; split <;> omega) _

theorem kept_588 : kernelRun0_A.sl.v588 (F := Ideal) c arg1 harg1 arg2 harg2 arg3 harg3 arg4 harg4 arg11 x0 x1 x2 x3 = colC (k0_pay1 (F := Ideal)) 6 1280 (by omega) :=
  kept_zero (after_10 c arg1 harg1 arg2 harg2 arg3 harg3 arg4 harg4 x0 x1 x2 x3) arg11.view 6 1280 (by omega) (by intro q; unfold place; split <;> omega) _

theorem kept_636 : kernelRun0_A.sl.v636 (F := Ideal) c arg1 harg1 arg2 harg2 arg3 harg3 arg4 harg4 arg11 x0 x1 x2 x3 = colC (k0_pay1 (F := Ideal)) 7 4096 (by omega) :=
  kept_zero (after_11 c arg1 harg1 arg2 harg2 arg3 harg3 arg4 harg4 x0 x1 x2 x3) arg11.view 7 4096 (by omega) (by intro q; unfold place; split <;> omega) _

theorem kept_637 : kernelRun0_A.sl.v637 (F := Ideal) c arg1 harg1 arg2 harg2 arg3 harg3 arg4 harg4 arg11 x0 x1 x2 x3 = colC (k0_pay1 (F := Ideal)) 6 4096 (by omega) :=
  kept_zero (after_11 c arg1 harg1 arg2 harg2 arg3 harg3 arg4 harg4 x0 x1 x2 x3) arg11.view 6 4096 (by omega) (by intro q; unfold place; split <;> omega) _

theorem kept_699 : kernelRun0_A.sl.v699 (F := Ideal) c arg1 harg1 arg2 harg2 arg3 harg3 arg4 harg4 arg11 x0 x1 x2 x3 = colC (k0_pay1 (F := Ideal)) 7 1536 (by omega) :=
  kept_zero (after_12 c arg1 harg1 arg2 harg2 arg3 harg3 arg4 harg4 x0 x1 x2 x3) arg11.view 7 1536 (by omega) (by intro q; unfold place; split <;> omega) _

theorem kept_700 : kernelRun0_A.sl.v700 (F := Ideal) c arg1 harg1 arg2 harg2 arg3 harg3 arg4 harg4 arg11 x0 x1 x2 x3 = colC (k0_pay1 (F := Ideal)) 6 1536 (by omega) :=
  kept_zero (after_12 c arg1 harg1 arg2 harg2 arg3 harg3 arg4 harg4 x0 x1 x2 x3) arg11.view 6 1536 (by omega) (by intro q; unfold place; split <;> omega) _

theorem kept_748 : kernelRun0_A.sl.v748 (F := Ideal) c arg1 harg1 arg2 harg2 arg3 harg3 arg4 harg4 arg11 x0 x1 x2 x3 = colC (k0_pay1 (F := Ideal)) 7 4352 (by omega) :=
  kept_zero (after_13 c arg1 harg1 arg2 harg2 arg3 harg3 arg4 harg4 x0 x1 x2 x3) arg11.view 7 4352 (by omega) (by intro q; unfold place; split <;> omega) _

theorem kept_749 : kernelRun0_A.sl.v749 (F := Ideal) c arg1 harg1 arg2 harg2 arg3 harg3 arg4 harg4 arg11 x0 x1 x2 x3 = colC (k0_pay1 (F := Ideal)) 6 4352 (by omega) :=
  kept_zero (after_13 c arg1 harg1 arg2 harg2 arg3 harg3 arg4 harg4 x0 x1 x2 x3) arg11.view 6 4352 (by omega) (by intro q; unfold place; split <;> omega) _

theorem kept_811 : kernelRun0_A.sl.v811 (F := Ideal) c arg1 harg1 arg2 harg2 arg3 harg3 arg4 harg4 arg11 x0 x1 x2 x3 = colC (k0_pay1 (F := Ideal)) 7 1792 (by omega) :=
  kept_zero (after_14 c arg1 harg1 arg2 harg2 arg3 harg3 arg4 harg4 x0 x1 x2 x3) arg11.view 7 1792 (by omega) (by intro q; unfold place; split <;> omega) _

theorem kept_812 : kernelRun0_A.sl.v812 (F := Ideal) c arg1 harg1 arg2 harg2 arg3 harg3 arg4 harg4 arg11 x0 x1 x2 x3 = colC (k0_pay1 (F := Ideal)) 6 1792 (by omega) :=
  kept_zero (after_14 c arg1 harg1 arg2 harg2 arg3 harg3 arg4 harg4 x0 x1 x2 x3) arg11.view 6 1792 (by omega) (by intro q; unfold place; split <;> omega) _

theorem kept_860 : kernelRun0_A.sl.v860 (F := Ideal) c arg1 harg1 arg2 harg2 arg3 harg3 arg4 harg4 arg11 x0 x1 x2 x3 = colC (k0_pay1 (F := Ideal)) 7 4608 (by omega) :=
  kept_zero (after_15 c arg1 harg1 arg2 harg2 arg3 harg3 arg4 harg4 x0 x1 x2 x3) arg11.view 7 4608 (by omega) (by intro q; unfold place; split <;> omega) _

theorem kept_861 : kernelRun0_A.sl.v861 (F := Ideal) c arg1 harg1 arg2 harg2 arg3 harg3 arg4 harg4 arg11 x0 x1 x2 x3 = colC (k0_pay1 (F := Ideal)) 6 4608 (by omega) :=
  kept_zero (after_15 c arg1 harg1 arg2 harg2 arg3 harg3 arg4 harg4 x0 x1 x2 x3) arg11.view 6 4608 (by omega) (by intro q; unfold place; split <;> omega) _

theorem kept_923 : kernelRun0_A.sl.v923 (F := Ideal) c arg1 harg1 arg2 harg2 arg3 harg3 arg4 harg4 arg11 x0 x1 x2 x3 = colC (k0_pay1 (F := Ideal)) 7 2048 (by omega) :=
  kept_zero (after_16 c arg1 harg1 arg2 harg2 arg3 harg3 arg4 harg4 x0 x1 x2 x3) arg11.view 7 2048 (by omega) (by intro q; unfold place; split <;> omega) _

theorem kept_924 : kernelRun0_A.sl.v924 (F := Ideal) c arg1 harg1 arg2 harg2 arg3 harg3 arg4 harg4 arg11 x0 x1 x2 x3 = colC (k0_pay1 (F := Ideal)) 6 2048 (by omega) :=
  kept_zero (after_16 c arg1 harg1 arg2 harg2 arg3 harg3 arg4 harg4 x0 x1 x2 x3) arg11.view 6 2048 (by omega) (by intro q; unfold place; split <;> omega) _

theorem kept_972 : kernelRun0_A.sl.v972 (F := Ideal) c arg1 harg1 arg2 harg2 arg3 harg3 arg4 harg4 arg11 x0 x1 x2 x3 = colC (k0_pay1 (F := Ideal)) 7 4864 (by omega) :=
  kept_zero (after_17 c arg1 harg1 arg2 harg2 arg3 harg3 arg4 harg4 x0 x1 x2 x3) arg11.view 7 4864 (by omega) (by intro q; unfold place; split <;> omega) _

theorem kept_973 : kernelRun0_A.sl.v973 (F := Ideal) c arg1 harg1 arg2 harg2 arg3 harg3 arg4 harg4 arg11 x0 x1 x2 x3 = colC (k0_pay1 (F := Ideal)) 6 4864 (by omega) :=
  kept_zero (after_17 c arg1 harg1 arg2 harg2 arg3 harg3 arg4 harg4 x0 x1 x2 x3) arg11.view 6 4864 (by omega) (by intro q; unfold place; split <;> omega) _

theorem kept_1035 : kernelRun0_A.sl.v1035 (F := Ideal) c arg1 harg1 arg2 harg2 arg3 harg3 arg4 harg4 arg11 x0 x1 x2 x3 = colC (k0_pay1 (F := Ideal)) 7 2304 (by omega) :=
  kept_zero (after_18 c arg1 harg1 arg2 harg2 arg3 harg3 arg4 harg4 x0 x1 x2 x3) arg11.view 7 2304 (by omega) (by intro q; unfold place; split <;> omega) _

theorem kept_1036 : kernelRun0_A.sl.v1036 (F := Ideal) c arg1 harg1 arg2 harg2 arg3 harg3 arg4 harg4 arg11 x0 x1 x2 x3 = colC (k0_pay1 (F := Ideal)) 6 2304 (by omega) :=
  kept_zero (after_18 c arg1 harg1 arg2 harg2 arg3 harg3 arg4 harg4 x0 x1 x2 x3) arg11.view 6 2304 (by omega) (by intro q; unfold place; split <;> omega) _

theorem kept_1084 : kernelRun0_A.sl.v1084 (F := Ideal) c arg1 harg1 arg2 harg2 arg3 harg3 arg4 harg4 arg11 x0 x1 x2 x3 = colC (k0_pay1 (F := Ideal)) 7 5120 (by omega) :=
  kept_zero (after_19 c arg1 harg1 arg2 harg2 arg3 harg3 arg4 harg4 x0 x1 x2 x3) arg11.view 7 5120 (by omega) (by intro q; unfold place; split <;> omega) _

theorem kept_1085 : kernelRun0_A.sl.v1085 (F := Ideal) c arg1 harg1 arg2 harg2 arg3 harg3 arg4 harg4 arg11 x0 x1 x2 x3 = colC (k0_pay1 (F := Ideal)) 6 5120 (by omega) :=
  kept_zero (after_19 c arg1 harg1 arg2 harg2 arg3 harg3 arg4 harg4 x0 x1 x2 x3) arg11.view 6 5120 (by omega) (by intro q; unfold place; split <;> omega) _

theorem kept_1141 : kernelRun0_A.sl.v1141 (F := Ideal) c arg1 harg1 arg2 harg2 arg3 harg3 arg4 harg4 arg11 x0 x1 x2 x3 = colC (k0_pay1 (F := Ideal)) 7 2560 (by omega) :=
  kept_zero (after_20 c arg1 harg1 arg2 harg2 arg3 harg3 arg4 harg4 x0 x1 x2 x3) arg11.view 7 2560 (by omega) (by intro q; unfold place; split <;> omega) _

theorem kept_1142 : kernelRun0_A.sl.v1142 (F := Ideal) c arg1 harg1 arg2 harg2 arg3 harg3 arg4 harg4 arg11 x0 x1 x2 x3 = colC (k0_pay1 (F := Ideal)) 6 2560 (by omega) :=
  kept_zero (after_20 c arg1 harg1 arg2 harg2 arg3 harg3 arg4 harg4 x0 x1 x2 x3) arg11.view 6 2560 (by omega) (by intro q; unfold place; split <;> omega) _

theorem kept_1190 : kernelRun0_A.sl.v1190 (F := Ideal) c arg1 harg1 arg2 harg2 arg3 harg3 arg4 harg4 arg11 x0 x1 x2 x3 = colC (k0_pay1 (F := Ideal)) 7 5376 (by omega) :=
  kept_zero (after_21 c arg1 harg1 arg2 harg2 arg3 harg3 arg4 harg4 x0 x1 x2 x3) arg11.view 7 5376 (by omega) (by intro q; unfold place; split <;> omega) _

theorem kept_1191 : kernelRun0_A.sl.v1191 (F := Ideal) c arg1 harg1 arg2 harg2 arg3 harg3 arg4 harg4 arg11 x0 x1 x2 x3 = colC (k0_pay1 (F := Ideal)) 6 5376 (by omega) :=
  kept_zero (after_21 c arg1 harg1 arg2 harg2 arg3 harg3 arg4 harg4 x0 x1 x2 x3) arg11.view 6 5376 (by omega) (by intro q; unfold place; split <;> omega) _

theorem first_xh : kernelRun0_A.sl.r_99 (F := Ideal) c arg1 harg1 arg2 harg2 arg3 harg3 arg4 harg4 arg5 harg5 arg6 harg6 arg11 x0 x1 x2 x3 x4 x5 = xhB x0 x1 x2 x3 x4 x5 (k0_pay1 (F := Ideal)) := by
  simp only [kept_27, kept_28, kept_76, kept_77, kept_139, kept_140, kept_188, kept_189, kept_251, kept_252, kept_300, kept_301, kept_363, kept_364, kept_412, kept_413, kept_475, kept_476, kept_524, kept_525, kept_587, kept_588, kept_636, kept_637, kept_699, kept_700, kept_748, kept_749, kept_811, kept_812, kept_860, kept_861, kept_923, kept_924, kept_972, kept_973, kept_1035, kept_1036, kept_1084, kept_1085, kept_1141, kept_1142, kept_1190, kept_1191, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.cst_638, kernelRun0_A.sl.v479, View.readAt_eq_ld, Memref.IsWhole.read_unread, ldX, ldG]
  rfl

theorem first_rs : kernelRun0_A.sl.r_98 (F := Ideal) c arg1 harg1 arg2 harg2 arg3 harg3 arg4 harg4 arg5 harg5 arg6 harg6 arg11 x0 x1 x2 x3 x4 x5 = rsB x0 x1 x2 x3 x4 x5 (k0_pay1 (F := Ideal)) := by
  simp only [kept_27, kept_28, kept_76, kept_77, kept_139, kept_140, kept_188, kept_189, kept_251, kept_252, kept_300, kept_301, kept_363, kept_364, kept_412, kept_413, kept_475, kept_476, kept_524, kept_525, kept_587, kept_588, kept_636, kept_637, kept_699, kept_700, kept_748, kept_749, kept_811, kept_812, kept_860, kept_861, kept_923, kept_924, kept_972, kept_973, kept_1035, kept_1036, kept_1084, kept_1085, kept_1141, kept_1142, kept_1190, kept_1191, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.cst_638, kernelRun0_A.sl.v479, View.readAt_eq_ld, Memref.IsWhole.read_unread, ldX, ldG]
  rfl

end

theorem tileH (X0 : Vec Ideal S512x1024 .f32) (X1 X2 : Vec Ideal S1x1024 .f32) (X3 : Vec Ideal S1x1024x5632 .bf16) (o : Nat) (h : o + 256 ≤ 5632) (r : Fin 512) (q : Fin 5632) :
    View.TileAt (S := S512x5632) (e := .bf16) (Val := Elt Ideal) (ix2 r q) ![0, o] S512x256.size (k0_pay14 (hB X0 X1 X2 X3 o h)) (hE X0 X1 X2 X3 r q) := by
  intro x hx
  have h0 : r.val = 0 + (x 0).val := hx 0
  have h1 : q.val = o + (x 1).val := hx 1
  have hl : (x 1).val < 256 := (x 1).isLt
  have ex : x = (ix2 r (⟨(x 1).val, hl⟩ : Fin 256) : S512x256.Idx) := by
    funext a; apply Fin.ext; fin_cases a
    · show (x 0).val = r.val
      omega
    · rfl
  obtain rfl : q = colO o h ⟨(x 1).val, hl⟩ := Fin.ext h1
  refine (congrArg (k0_pay14 (hB X0 X1 X2 X3 o h)) ex).trans ?_
  rw [pay14_apply, hB_apply]

theorem tileC (X0 : Vec Ideal S512x1024 .f32) (X1 X2 : Vec Ideal S1x1024 .f32) (X3 : Vec Ideal S1x1024x5632 .bf16) (X4 : Vec Ideal S1x3x5632 .f32)
    (P : Vec Ideal S8x5632 .f32) (o : Nat) (h : o + 256 ≤ 5632) (r : Fin 512) (q : Fin 5632) :
    View.TileAt (S := S512x5632) (e := .bf16) (Val := Elt Ideal) (ix2 r q) ![0, o] S512x256.size (k0_pay14 (cB X0 X1 X2 X3 X4 P o h)) (cE X0 X1 X2 X3 X4 P r q) := by
  intro x hx
  have h0 : r.val = 0 + (x 0).val := hx 0
  have h1 : q.val = o + (x 1).val := hx 1
  have hl : (x 1).val < 256 := (x 1).isLt
  have ex : x = (ix2 r (⟨(x 1).val, hl⟩ : Fin 256) : S512x256.Idx) := by
    funext a; apply Fin.ext; fin_cases a
    · show (x 0).val = r.val
      omega
    · rfl
  obtain rfl : q = colO o h ⟨(x 1).val, hl⟩ := Fin.ext h1
  refine (congrArg (k0_pay14 (cB X0 X1 X2 X3 X4 P o h)) ex).trans ?_
  rw [pay14_apply, cB_apply]

theorem tileK (X0 : Vec Ideal S512x1024 .f32) (X1 X2 : Vec Ideal S1x1024 .f32) (X3 : Vec Ideal S1x1024x5632 .bf16) (o : Nat) (h : o + 256 ≤ 5632) (r : Fin 8) (q : Fin 5632) :
    View.TileAt (S := S8x5632) (e := .f32) (Val := Elt Ideal) (ix2 r q) ![0, o] S8x256.size (k0_pay151 (hB X0 X1 X2 X3 o h)) (kE X0 X1 X2 X3 r q) := by
  intro x hx
  have h0 : r.val = 0 + (x 0).val := hx 0
  have h1 : q.val = o + (x 1).val := hx 1
  have hl : (x 1).val < 256 := (x 1).isLt
  have ex : x = (ix2 r (⟨(x 1).val, hl⟩ : Fin 256) : S8x256.Idx) := by
    funext a; apply Fin.ext; fin_cases a
    · show (x 0).val = r.val
      omega
    · rfl
  obtain rfl : q = colO o h ⟨(x 1).val, hl⟩ := Fin.ext h1
  refine (congrArg (k0_pay151 (hB X0 X1 X2 X3 o h)) ex).trans ?_
  exact kept_apply ..

variable (m : (ℓ : Loc nD τ sig) → Buf (Elt Ideal) ℓ) (c : Dev nD) (t : Fin cfg0.N)

theorem kept_read (P : Vec Ideal S8x5632 .f32) (h : scM0_0.IsWhole) :
    View.read (Elt Ideal) (View.whole cc0_scratch0) (h.unread P) = P := h.read_unread P

/-- The rows kept by the point before. -/
abbrev kept : Vec Ideal S8x5632 .f32 := (outsAt0 m c (t.val - 1) (Nat.lt_of_le_of_lt (Nat.sub_le _ _) t.isLt)).2.2.2.2

theorem out6_B (h : ¬ t.val % 32 = 0) :
    (outsAt0 m c t.val t.isLt).1 = xhB (iblk m c 0 t) (iblk m c 1 t) (iblk m c 2 t) (iblk m c 3 t) (iblk m c 4 t) (iblk m c 5 t) (kept m c t) := by
  rw [outsAt0_B m c t h]; frame_out
  simp only [kept_read]
  rfl

theorem out6_A (h : t.val % 32 = 0) :
    (outsAt0 m c t.val t.isLt).1 = xhB (iblk m c 0 t) (iblk m c 1 t) (iblk m c 2 t) (iblk m c 3 t) (iblk m c 4 t) (iblk m c 5 t) (k0_pay1 (F := Ideal)) := by
  rw [outsAt0_A m c t h]; dsimp only
  unfold out0_A_6
  rw [View.read_writes_junk_eq_canon]
  unfold kernelRun0_A
  dsimp only
  rw [first_xh]
  exact View.canon_cons_unit_lit _ _ _ (by decide)

theorem out7_B (h : ¬ t.val % 32 = 0) :
    (outsAt0 m c t.val t.isLt).2.1 = rsB (iblk m c 0 t) (iblk m c 1 t) (iblk m c 2 t) (iblk m c 3 t) (iblk m c 4 t) (iblk m c 5 t) (kept m c t) := by
  rw [outsAt0_B m c t h]; frame_out
  simp only [kept_read]
  rfl

theorem out7_A (h : t.val % 32 = 0) :
    (outsAt0 m c t.val t.isLt).2.1 = rsB (iblk m c 0 t) (iblk m c 1 t) (iblk m c 2 t) (iblk m c 3 t) (iblk m c 4 t) (iblk m c 5 t) (k0_pay1 (F := Ideal)) := by
  rw [outsAt0_A m c t h]; dsimp only
  unfold out0_A_7
  rw [View.read_writes_junk_eq_canon]
  unfold kernelRun0_A
  dsimp only
  rw [first_rs]
  exact View.canon_cons_unit_lit _ _ _ (by decide)

theorem out8_B (h : ¬ t.val % 32 = 0) (r : Fin 512) (q : Fin 5632) :
    (outsAt0 m c t.val t.isLt).2.2.1 (ix2 r q) = hE (iblk m c 0 t) (iblk m c 1 t) (iblk m c 2 t) (iblk m c 3 t) r q := by
  rw [outsAt0_B m c t h]; frame_out
  refine View.canon_eq_of_allAt _ _ _ (View.cover_of_tiled_head _ _ _ rfl _) ?_
  refine View.allAt_cons_unit _ _ _ _ _ (tileH (iblk m c 0 t) (iblk m c 1 t) (iblk m c 2 t) (iblk m c 3 t) 5376 (by omega) r q) ?_
  refine View.allAt_cons_unit _ _ _ _ _ (tileH (iblk m c 0 t) (iblk m c 1 t) (iblk m c 2 t) (iblk m c 3 t) 2560 (by omega) r q) ?_
  refine View.allAt_cons_unit _ _ _ _ _ (tileH (iblk m c 0 t) (iblk m c 1 t) (iblk m c 2 t) (iblk m c 3 t) 5120 (by omega) r q) ?_
  refine View.allAt_cons_unit _ _ _ _ _ (tileH (iblk m c 0 t) (iblk m c 1 t) (iblk m c 2 t) (iblk m c 3 t) 2304 (by omega) r q) ?_
  refine View.allAt_cons_unit _ _ _ _ _ (tileH (iblk m c 0 t) (iblk m c 1 t) (iblk m c 2 t) (iblk m c 3 t) 4864 (by omega) r q) ?_
  refine View.allAt_cons_unit _ _ _ _ _ (tileH (iblk m c 0 t) (iblk m c 1 t) (iblk m c 2 t) (iblk m c 3 t) 2048 (by omega) r q) ?_
  refine View.allAt_cons_unit _ _ _ _ _ (tileH (iblk m c 0 t) (iblk m c 1 t) (iblk m c 2 t) (iblk m c 3 t) 4608 (by omega) r q) ?_
  refine View.allAt_cons_unit _ _ _ _ _ (tileH (iblk m c 0 t) (iblk m c 1 t) (iblk m c 2 t) (iblk m c 3 t) 1792 (by omega) r q) ?_
  refine View.allAt_cons_unit _ _ _ _ _ (tileH (iblk m c 0 t) (iblk m c 1 t) (iblk m c 2 t) (iblk m c 3 t) 4352 (by omega) r q) ?_
  refine View.allAt_cons_unit _ _ _ _ _ (tileH (iblk m c 0 t) (iblk m c 1 t) (iblk m c 2 t) (iblk m c 3 t) 1536 (by omega) r q) ?_
  refine View.allAt_cons_unit _ _ _ _ _ (tileH (iblk m c 0 t) (iblk m c 1 t) (iblk m c 2 t) (iblk m c 3 t) 4096 (by omega) r q) ?_
  refine View.allAt_cons_unit _ _ _ _ _ (tileH (iblk m c 0 t) (iblk m c 1 t) (iblk m c 2 t) (iblk m c 3 t) 1280 (by omega) r q) ?_
  refine View.allAt_cons_unit _ _ _ _ _ (tileH (iblk m c 0 t) (iblk m c 1 t) (iblk m c 2 t) (iblk m c 3 t) 3840 (by omega) r q) ?_
  refine View.allAt_cons_unit _ _ _ _ _ (tileH (iblk m c 0 t) (iblk m c 1 t) (iblk m c 2 t) (iblk m c 3 t) 1024 (by omega) r q) ?_
  refine View.allAt_cons_unit _ _ _ _ _ (tileH (iblk m c 0 t) (iblk m c 1 t) (iblk m c 2 t) (iblk m c 3 t) 3584 (by omega) r q) ?_
  refine View.allAt_cons_unit _ _ _ _ _ (tileH (iblk m c 0 t) (iblk m c 1 t) (iblk m c 2 t) (iblk m c 3 t) 768 (by omega) r q) ?_
  refine View.allAt_cons_unit _ _ _ _ _ (tileH (iblk m c 0 t) (iblk m c 1 t) (iblk m c 2 t) (iblk m c 3 t) 3328 (by omega) r q) ?_
  refine View.allAt_cons_unit _ _ _ _ _ (tileH (iblk m c 0 t) (iblk m c 1 t) (iblk m c 2 t) (iblk m c 3 t) 512 (by omega) r q) ?_
  refine View.allAt_cons_unit _ _ _ _ _ (tileH (iblk m c 0 t) (iblk m c 1 t) (iblk m c 2 t) (iblk m c 3 t) 3072 (by omega) r q) ?_
  refine View.allAt_cons_unit _ _ _ _ _ (tileH (iblk m c 0 t) (iblk m c 1 t) (iblk m c 2 t) (iblk m c 3 t) 256 (by omega) r q) ?_
  refine View.allAt_cons_unit _ _ _ _ _ (tileH (iblk m c 0 t) (iblk m c 1 t) (iblk m c 2 t) (iblk m c 3 t) 2816 (by omega) r q) ?_
  refine View.allAt_cons_unit _ _ _ _ _ (tileH (iblk m c 0 t) (iblk m c 1 t) (iblk m c 2 t) (iblk m c 3 t) 0 (by omega) r q) ?_
  exact View.allAt_nil _ _

theorem out8_A (h : t.val % 32 = 0) (r : Fin 512) (q : Fin 5632) :
    (outsAt0 m c t.val t.isLt).2.2.1 (ix2 r q) = hE (iblk m c 0 t) (iblk m c 1 t) (iblk m c 2 t) (iblk m c 3 t) r q := by
  rw [outsAt0_A m c t h]; dsimp only
  unfold out0_A_8
  rw [View.read_writes_junk_eq_canon]
  unfold kernelRun0_A
  dsimp only
  simp only [kept_27, kept_28, kept_76, kept_77, kept_139, kept_140, kept_188, kept_189, kept_251, kept_252, kept_300, kept_301, kept_363, kept_364, kept_412, kept_413, kept_475, kept_476, kept_524, kept_525, kept_587, kept_588, kept_636, kept_637, kept_699, kept_700, kept_748, kept_749, kept_811, kept_812, kept_860, kept_861, kept_923, kept_924, kept_972, kept_973, kept_1035, kept_1036, kept_1084, kept_1085, kept_1141, kept_1142, kept_1190, kept_1191, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.cst_638, kernelRun0_A.sl.v479, View.readAt_eq_ld, Memref.IsWhole.read_unread, ldX, ldG]
  refine View.canon_eq_of_allAt _ _ _ (View.cover_of_tiled_head _ _ _ rfl _) ?_
  refine View.allAt_cons_unit _ _ _ _ _ (tileH (iblk m c 0 t) (iblk m c 1 t) (iblk m c 2 t) (iblk m c 3 t) 5376 (by omega) r q) ?_
  refine View.allAt_cons_unit _ _ _ _ _ (tileH (iblk m c 0 t) (iblk m c 1 t) (iblk m c 2 t) (iblk m c 3 t) 2560 (by omega) r q) ?_
  refine View.allAt_cons_unit _ _ _ _ _ (tileH (iblk m c 0 t) (iblk m c 1 t) (iblk m c 2 t) (iblk m c 3 t) 5120 (by omega) r q) ?_
  refine View.allAt_cons_unit _ _ _ _ _ (tileH (iblk m c 0 t) (iblk m c 1 t) (iblk m c 2 t) (iblk m c 3 t) 2304 (by omega) r q) ?_
  refine View.allAt_cons_unit _ _ _ _ _ (tileH (iblk m c 0 t) (iblk m c 1 t) (iblk m c 2 t) (iblk m c 3 t) 4864 (by omega) r q) ?_
  refine View.allAt_cons_unit _ _ _ _ _ (tileH (iblk m c 0 t) (iblk m c 1 t) (iblk m c 2 t) (iblk m c 3 t) 2048 (by omega) r q) ?_
  refine View.allAt_cons_unit _ _ _ _ _ (tileH (iblk m c 0 t) (iblk m c 1 t) (iblk m c 2 t) (iblk m c 3 t) 4608 (by omega) r q) ?_
  refine View.allAt_cons_unit _ _ _ _ _ (tileH (iblk m c 0 t) (iblk m c 1 t) (iblk m c 2 t) (iblk m c 3 t) 1792 (by omega) r q) ?_
  refine View.allAt_cons_unit _ _ _ _ _ (tileH (iblk m c 0 t) (iblk m c 1 t) (iblk m c 2 t) (iblk m c 3 t) 4352 (by omega) r q) ?_
  refine View.allAt_cons_unit _ _ _ _ _ (tileH (iblk m c 0 t) (iblk m c 1 t) (iblk m c 2 t) (iblk m c 3 t) 1536 (by omega) r q) ?_
  refine View.allAt_cons_unit _ _ _ _ _ (tileH (iblk m c 0 t) (iblk m c 1 t) (iblk m c 2 t) (iblk m c 3 t) 4096 (by omega) r q) ?_
  refine View.allAt_cons_unit _ _ _ _ _ (tileH (iblk m c 0 t) (iblk m c 1 t) (iblk m c 2 t) (iblk m c 3 t) 1280 (by omega) r q) ?_
  refine View.allAt_cons_unit _ _ _ _ _ (tileH (iblk m c 0 t) (iblk m c 1 t) (iblk m c 2 t) (iblk m c 3 t) 3840 (by omega) r q) ?_
  refine View.allAt_cons_unit _ _ _ _ _ (tileH (iblk m c 0 t) (iblk m c 1 t) (iblk m c 2 t) (iblk m c 3 t) 1024 (by omega) r q) ?_
  refine View.allAt_cons_unit _ _ _ _ _ (tileH (iblk m c 0 t) (iblk m c 1 t) (iblk m c 2 t) (iblk m c 3 t) 3584 (by omega) r q) ?_
  refine View.allAt_cons_unit _ _ _ _ _ (tileH (iblk m c 0 t) (iblk m c 1 t) (iblk m c 2 t) (iblk m c 3 t) 768 (by omega) r q) ?_
  refine View.allAt_cons_unit _ _ _ _ _ (tileH (iblk m c 0 t) (iblk m c 1 t) (iblk m c 2 t) (iblk m c 3 t) 3328 (by omega) r q) ?_
  refine View.allAt_cons_unit _ _ _ _ _ (tileH (iblk m c 0 t) (iblk m c 1 t) (iblk m c 2 t) (iblk m c 3 t) 512 (by omega) r q) ?_
  refine View.allAt_cons_unit _ _ _ _ _ (tileH (iblk m c 0 t) (iblk m c 1 t) (iblk m c 2 t) (iblk m c 3 t) 3072 (by omega) r q) ?_
  refine View.allAt_cons_unit _ _ _ _ _ (tileH (iblk m c 0 t) (iblk m c 1 t) (iblk m c 2 t) (iblk m c 3 t) 256 (by omega) r q) ?_
  refine View.allAt_cons_unit _ _ _ _ _ (tileH (iblk m c 0 t) (iblk m c 1 t) (iblk m c 2 t) (iblk m c 3 t) 2816 (by omega) r q) ?_
  refine View.allAt_cons_unit _ _ _ _ _ (tileH (iblk m c 0 t) (iblk m c 1 t) (iblk m c 2 t) (iblk m c 3 t) 0 (by omega) r q) ?_
  exact View.allAt_nil _ _

set_option maxHeartbeats 2000000 in
theorem out9_B (h : ¬ t.val % 32 = 0) (r : Fin 512) (q : Fin 5632) :
    (outsAt0 m c t.val t.isLt).2.2.2.1 (ix2 r q) = cE (iblk m c 0 t) (iblk m c 1 t) (iblk m c 2 t) (iblk m c 3 t) (iblk m c 4 t) (kept m c t) r q := by
  rw [outsAt0_B m c t h]; frame_out
  simp only [kept_read]
  refine View.canon_eq_of_allAt _ _ _ (View.cover_of_tiled_head _ _ _ rfl _) ?_
  refine View.allAt_cons_unit _ _ _ _ _ (tileC (iblk m c 0 t) (iblk m c 1 t) (iblk m c 2 t) (iblk m c 3 t) (iblk m c 4 t) (kept m c t) 5376 (by omega) r q) ?_
  refine View.allAt_cons_unit _ _ _ _ _ (tileC (iblk m c 0 t) (iblk m c 1 t) (iblk m c 2 t) (iblk m c 3 t) (iblk m c 4 t) (kept m c t) 2560 (by omega) r q) ?_
  refine View.allAt_cons_unit _ _ _ _ _ (tileC (iblk m c 0 t) (iblk m c 1 t) (iblk m c 2 t) (iblk m c 3 t) (iblk m c 4 t) (kept m c t) 5120 (by omega) r q) ?_
  refine View.allAt_cons_unit _ _ _ _ _ (tileC (iblk m c 0 t) (iblk m c 1 t) (iblk m c 2 t) (iblk m c 3 t) (iblk m c 4 t) (kept m c t) 2304 (by omega) r q) ?_
  refine View.allAt_cons_unit _ _ _ _ _ (tileC (iblk m c 0 t) (iblk m c 1 t) (iblk m c 2 t) (iblk m c 3 t) (iblk m c 4 t) (kept m c t) 4864 (by omega) r q) ?_
  refine View.allAt_cons_unit _ _ _ _ _ (tileC (iblk m c 0 t) (iblk m c 1 t) (iblk m c 2 t) (iblk m c 3 t) (iblk m c 4 t) (kept m c t) 2048 (by omega) r q) ?_
  refine View.allAt_cons_unit _ _ _ _ _ (tileC (iblk m c 0 t) (iblk m c 1 t) (iblk m c 2 t) (iblk m c 3 t) (iblk m c 4 t) (kept m c t) 4608 (by omega) r q) ?_
  refine View.allAt_cons_unit _ _ _ _ _ (tileC (iblk m c 0 t) (iblk m c 1 t) (iblk m c 2 t) (iblk m c 3 t) (iblk m c 4 t) (kept m c t) 1792 (by omega) r q) ?_
  refine View.allAt_cons_unit _ _ _ _ _ (tileC (iblk m c 0 t) (iblk m c 1 t) (iblk m c 2 t) (iblk m c 3 t) (iblk m c 4 t) (kept m c t) 4352 (by omega) r q) ?_
  refine View.allAt_cons_unit _ _ _ _ _ (tileC (iblk m c 0 t) (iblk m c 1 t) (iblk m c 2 t) (iblk m c 3 t) (iblk m c 4 t) (kept m c t) 1536 (by omega) r q) ?_
  refine View.allAt_cons_unit _ _ _ _ _ (tileC (iblk m c 0 t) (iblk m c 1 t) (iblk m c 2 t) (iblk m c 3 t) (iblk m c 4 t) (kept m c t) 4096 (by omega) r q) ?_
  refine View.allAt_cons_unit _ _ _ _ _ (tileC (iblk m c 0 t) (iblk m c 1 t) (iblk m c 2 t) (iblk m c 3 t) (iblk m c 4 t) (kept m c t) 1280 (by omega) r q) ?_
  refine View.allAt_cons_unit _ _ _ _ _ (tileC (iblk m c 0 t) (iblk m c 1 t) (iblk m c 2 t) (iblk m c 3 t) (iblk m c 4 t) (kept m c t) 3840 (by omega) r q) ?_
  refine View.allAt_cons_unit _ _ _ _ _ (tileC (iblk m c 0 t) (iblk m c 1 t) (iblk m c 2 t) (iblk m c 3 t) (iblk m c 4 t) (kept m c t) 1024 (by omega) r q) ?_
  refine View.allAt_cons_unit _ _ _ _ _ (tileC (iblk m c 0 t) (iblk m c 1 t) (iblk m c 2 t) (iblk m c 3 t) (iblk m c 4 t) (kept m c t) 3584 (by omega) r q) ?_
  refine View.allAt_cons_unit _ _ _ _ _ (tileC (iblk m c 0 t) (iblk m c 1 t) (iblk m c 2 t) (iblk m c 3 t) (iblk m c 4 t) (kept m c t) 768 (by omega) r q) ?_
  refine View.allAt_cons_unit _ _ _ _ _ (tileC (iblk m c 0 t) (iblk m c 1 t) (iblk m c 2 t) (iblk m c 3 t) (iblk m c 4 t) (kept m c t) 3328 (by omega) r q) ?_
  refine View.allAt_cons_unit _ _ _ _ _ (tileC (iblk m c 0 t) (iblk m c 1 t) (iblk m c 2 t) (iblk m c 3 t) (iblk m c 4 t) (kept m c t) 512 (by omega) r q) ?_
  refine View.allAt_cons_unit _ _ _ _ _ (tileC (iblk m c 0 t) (iblk m c 1 t) (iblk m c 2 t) (iblk m c 3 t) (iblk m c 4 t) (kept m c t) 3072 (by omega) r q) ?_
  refine View.allAt_cons_unit _ _ _ _ _ (tileC (iblk m c 0 t) (iblk m c 1 t) (iblk m c 2 t) (iblk m c 3 t) (iblk m c 4 t) (kept m c t) 256 (by omega) r q) ?_
  refine View.allAt_cons_unit _ _ _ _ _ (tileC (iblk m c 0 t) (iblk m c 1 t) (iblk m c 2 t) (iblk m c 3 t) (iblk m c 4 t) (kept m c t) 2816 (by omega) r q) ?_
  refine View.allAt_cons_unit _ _ _ _ _ (tileC (iblk m c 0 t) (iblk m c 1 t) (iblk m c 2 t) (iblk m c 3 t) (iblk m c 4 t) (kept m c t) 0 (by omega) r q) ?_
  exact View.allAt_nil _ _

set_option maxHeartbeats 2000000 in
theorem out9_A (h : t.val % 32 = 0) (r : Fin 512) (q : Fin 5632) :
    (outsAt0 m c t.val t.isLt).2.2.2.1 (ix2 r q) = cE (iblk m c 0 t) (iblk m c 1 t) (iblk m c 2 t) (iblk m c 3 t) (iblk m c 4 t) (k0_pay1 (F := Ideal)) r q := by
  rw [outsAt0_A m c t h]; dsimp only
  unfold out0_A_9
  rw [View.read_writes_junk_eq_canon]
  unfold kernelRun0_A
  dsimp only
  simp only [kept_27, kept_28, kept_76, kept_77, kept_139, kept_140, kept_188, kept_189, kept_251, kept_252, kept_300, kept_301, kept_363, kept_364, kept_412, kept_413, kept_475, kept_476, kept_524, kept_525, kept_587, kept_588, kept_636, kept_637, kept_699, kept_700, kept_748, kept_749, kept_811, kept_812, kept_860, kept_861, kept_923, kept_924, kept_972, kept_973, kept_1035, kept_1036, kept_1084, kept_1085, kept_1141, kept_1142, kept_1190, kept_1191, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.cst_638, kernelRun0_A.sl.v479, View.readAt_eq_ld, Memref.IsWhole.read_unread, ldX, ldG]
  refine View.canon_eq_of_allAt _ _ _ (View.cover_of_tiled_head _ _ _ rfl _) ?_
  refine View.allAt_cons_unit _ _ _ _ _ (tileC (iblk m c 0 t) (iblk m c 1 t) (iblk m c 2 t) (iblk m c 3 t) (iblk m c 4 t) (k0_pay1 (F := Ideal)) 5376 (by omega) r q) ?_
  refine View.allAt_cons_unit _ _ _ _ _ (tileC (iblk m c 0 t) (iblk m c 1 t) (iblk m c 2 t) (iblk m c 3 t) (iblk m c 4 t) (k0_pay1 (F := Ideal)) 2560 (by omega) r q) ?_
  refine View.allAt_cons_unit _ _ _ _ _ (tileC (iblk m c 0 t) (iblk m c 1 t) (iblk m c 2 t) (iblk m c 3 t) (iblk m c 4 t) (k0_pay1 (F := Ideal)) 5120 (by omega) r q) ?_
  refine View.allAt_cons_unit _ _ _ _ _ (tileC (iblk m c 0 t) (iblk m c 1 t) (iblk m c 2 t) (iblk m c 3 t) (iblk m c 4 t) (k0_pay1 (F := Ideal)) 2304 (by omega) r q) ?_
  refine View.allAt_cons_unit _ _ _ _ _ (tileC (iblk m c 0 t) (iblk m c 1 t) (iblk m c 2 t) (iblk m c 3 t) (iblk m c 4 t) (k0_pay1 (F := Ideal)) 4864 (by omega) r q) ?_
  refine View.allAt_cons_unit _ _ _ _ _ (tileC (iblk m c 0 t) (iblk m c 1 t) (iblk m c 2 t) (iblk m c 3 t) (iblk m c 4 t) (k0_pay1 (F := Ideal)) 2048 (by omega) r q) ?_
  refine View.allAt_cons_unit _ _ _ _ _ (tileC (iblk m c 0 t) (iblk m c 1 t) (iblk m c 2 t) (iblk m c 3 t) (iblk m c 4 t) (k0_pay1 (F := Ideal)) 4608 (by omega) r q) ?_
  refine View.allAt_cons_unit _ _ _ _ _ (tileC (iblk m c 0 t) (iblk m c 1 t) (iblk m c 2 t) (iblk m c 3 t) (iblk m c 4 t) (k0_pay1 (F := Ideal)) 1792 (by omega) r q) ?_
  refine View.allAt_cons_unit _ _ _ _ _ (tileC (iblk m c 0 t) (iblk m c 1 t) (iblk m c 2 t) (iblk m c 3 t) (iblk m c 4 t) (k0_pay1 (F := Ideal)) 4352 (by omega) r q) ?_
  refine View.allAt_cons_unit _ _ _ _ _ (tileC (iblk m c 0 t) (iblk m c 1 t) (iblk m c 2 t) (iblk m c 3 t) (iblk m c 4 t) (k0_pay1 (F := Ideal)) 1536 (by omega) r q) ?_
  refine View.allAt_cons_unit _ _ _ _ _ (tileC (iblk m c 0 t) (iblk m c 1 t) (iblk m c 2 t) (iblk m c 3 t) (iblk m c 4 t) (k0_pay1 (F := Ideal)) 4096 (by omega) r q) ?_
  refine View.allAt_cons_unit _ _ _ _ _ (tileC (iblk m c 0 t) (iblk m c 1 t) (iblk m c 2 t) (iblk m c 3 t) (iblk m c 4 t) (k0_pay1 (F := Ideal)) 1280 (by omega) r q) ?_
  refine View.allAt_cons_unit _ _ _ _ _ (tileC (iblk m c 0 t) (iblk m c 1 t) (iblk m c 2 t) (iblk m c 3 t) (iblk m c 4 t) (k0_pay1 (F := Ideal)) 3840 (by omega) r q) ?_
  refine View.allAt_cons_unit _ _ _ _ _ (tileC (iblk m c 0 t) (iblk m c 1 t) (iblk m c 2 t) (iblk m c 3 t) (iblk m c 4 t) (k0_pay1 (F := Ideal)) 1024 (by omega) r q) ?_
  refine View.allAt_cons_unit _ _ _ _ _ (tileC (iblk m c 0 t) (iblk m c 1 t) (iblk m c 2 t) (iblk m c 3 t) (iblk m c 4 t) (k0_pay1 (F := Ideal)) 3584 (by omega) r q) ?_
  refine View.allAt_cons_unit _ _ _ _ _ (tileC (iblk m c 0 t) (iblk m c 1 t) (iblk m c 2 t) (iblk m c 3 t) (iblk m c 4 t) (k0_pay1 (F := Ideal)) 768 (by omega) r q) ?_
  refine View.allAt_cons_unit _ _ _ _ _ (tileC (iblk m c 0 t) (iblk m c 1 t) (iblk m c 2 t) (iblk m c 3 t) (iblk m c 4 t) (k0_pay1 (F := Ideal)) 3328 (by omega) r q) ?_
  refine View.allAt_cons_unit _ _ _ _ _ (tileC (iblk m c 0 t) (iblk m c 1 t) (iblk m c 2 t) (iblk m c 3 t) (iblk m c 4 t) (k0_pay1 (F := Ideal)) 512 (by omega) r q) ?_
  refine View.allAt_cons_unit _ _ _ _ _ (tileC (iblk m c 0 t) (iblk m c 1 t) (iblk m c 2 t) (iblk m c 3 t) (iblk m c 4 t) (k0_pay1 (F := Ideal)) 3072 (by omega) r q) ?_
  refine View.allAt_cons_unit _ _ _ _ _ (tileC (iblk m c 0 t) (iblk m c 1 t) (iblk m c 2 t) (iblk m c 3 t) (iblk m c 4 t) (k0_pay1 (F := Ideal)) 256 (by omega) r q) ?_
  refine View.allAt_cons_unit _ _ _ _ _ (tileC (iblk m c 0 t) (iblk m c 1 t) (iblk m c 2 t) (iblk m c 3 t) (iblk m c 4 t) (k0_pay1 (F := Ideal)) 2816 (by omega) r q) ?_
  refine View.allAt_cons_unit _ _ _ _ _ (tileC (iblk m c 0 t) (iblk m c 1 t) (iblk m c 2 t) (iblk m c 3 t) (iblk m c 4 t) (k0_pay1 (F := Ideal)) 0 (by omega) r q) ?_
  exact View.allAt_nil _ _

theorem out10_B (h : ¬ t.val % 32 = 0) (i : Fin 8) (q : Fin 5632) :
    (outsAt0 m c t.val t.isLt).2.2.2.2 (ix2 i q) = kE (iblk m c 0 t) (iblk m c 1 t) (iblk m c 2 t) (iblk m c 3 t) i q := by
  rw [outsAt0_B m c t h]; frame_out
  refine View.canon_eq_of_allAt _ _ _ (View.cover_of_tiled_head _ _ _ rfl _) ?_
  refine View.allAt_cons_unit _ _ _ _ _ (tileK (iblk m c 0 t) (iblk m c 1 t) (iblk m c 2 t) (iblk m c 3 t) 5376 (by omega) i q) ?_
  refine View.allAt_cons_unit _ _ _ _ _ (tileK (iblk m c 0 t) (iblk m c 1 t) (iblk m c 2 t) (iblk m c 3 t) 2560 (by omega) i q) ?_
  refine View.allAt_cons_unit _ _ _ _ _ (tileK (iblk m c 0 t) (iblk m c 1 t) (iblk m c 2 t) (iblk m c 3 t) 5120 (by omega) i q) ?_
  refine View.allAt_cons_unit _ _ _ _ _ (tileK (iblk m c 0 t) (iblk m c 1 t) (iblk m c 2 t) (iblk m c 3 t) 2304 (by omega) i q) ?_
  refine View.allAt_cons_unit _ _ _ _ _ (tileK (iblk m c 0 t) (iblk m c 1 t) (iblk m c 2 t) (iblk m c 3 t) 4864 (by omega) i q) ?_
  refine View.allAt_cons_unit _ _ _ _ _ (tileK (iblk m c 0 t) (iblk m c 1 t) (iblk m c 2 t) (iblk m c 3 t) 2048 (by omega) i q) ?_
  refine View.allAt_cons_unit _ _ _ _ _ (tileK (iblk m c 0 t) (iblk m c 1 t) (iblk m c 2 t) (iblk m c 3 t) 4608 (by omega) i q) ?_
  refine View.allAt_cons_unit _ _ _ _ _ (tileK (iblk m c 0 t) (iblk m c 1 t) (iblk m c 2 t) (iblk m c 3 t) 1792 (by omega) i q) ?_
  refine View.allAt_cons_unit _ _ _ _ _ (tileK (iblk m c 0 t) (iblk m c 1 t) (iblk m c 2 t) (iblk m c 3 t) 4352 (by omega) i q) ?_
  refine View.allAt_cons_unit _ _ _ _ _ (tileK (iblk m c 0 t) (iblk m c 1 t) (iblk m c 2 t) (iblk m c 3 t) 1536 (by omega) i q) ?_
  refine View.allAt_cons_unit _ _ _ _ _ (tileK (iblk m c 0 t) (iblk m c 1 t) (iblk m c 2 t) (iblk m c 3 t) 4096 (by omega) i q) ?_
  refine View.allAt_cons_unit _ _ _ _ _ (tileK (iblk m c 0 t) (iblk m c 1 t) (iblk m c 2 t) (iblk m c 3 t) 1280 (by omega) i q) ?_
  refine View.allAt_cons_unit _ _ _ _ _ (tileK (iblk m c 0 t) (iblk m c 1 t) (iblk m c 2 t) (iblk m c 3 t) 3840 (by omega) i q) ?_
  refine View.allAt_cons_unit _ _ _ _ _ (tileK (iblk m c 0 t) (iblk m c 1 t) (iblk m c 2 t) (iblk m c 3 t) 1024 (by omega) i q) ?_
  refine View.allAt_cons_unit _ _ _ _ _ (tileK (iblk m c 0 t) (iblk m c 1 t) (iblk m c 2 t) (iblk m c 3 t) 3584 (by omega) i q) ?_
  refine View.allAt_cons_unit _ _ _ _ _ (tileK (iblk m c 0 t) (iblk m c 1 t) (iblk m c 2 t) (iblk m c 3 t) 768 (by omega) i q) ?_
  refine View.allAt_cons_unit _ _ _ _ _ (tileK (iblk m c 0 t) (iblk m c 1 t) (iblk m c 2 t) (iblk m c 3 t) 3328 (by omega) i q) ?_
  refine View.allAt_cons_unit _ _ _ _ _ (tileK (iblk m c 0 t) (iblk m c 1 t) (iblk m c 2 t) (iblk m c 3 t) 512 (by omega) i q) ?_
  refine View.allAt_cons_unit _ _ _ _ _ (tileK (iblk m c 0 t) (iblk m c 1 t) (iblk m c 2 t) (iblk m c 3 t) 3072 (by omega) i q) ?_
  refine View.allAt_cons_unit _ _ _ _ _ (tileK (iblk m c 0 t) (iblk m c 1 t) (iblk m c 2 t) (iblk m c 3 t) 256 (by omega) i q) ?_
  refine View.allAt_cons_unit _ _ _ _ _ (tileK (iblk m c 0 t) (iblk m c 1 t) (iblk m c 2 t) (iblk m c 3 t) 2816 (by omega) i q) ?_
  refine View.allAt_cons_unit _ _ _ _ _ (tileK (iblk m c 0 t) (iblk m c 1 t) (iblk m c 2 t) (iblk m c 3 t) 0 (by omega) i q) ?_
  exact View.allAt_nil _ _

theorem out10_A (h : t.val % 32 = 0) (i : Fin 8) (q : Fin 5632) :
    (outsAt0 m c t.val t.isLt).2.2.2.2 (ix2 i q) = kE (iblk m c 0 t) (iblk m c 1 t) (iblk m c 2 t) (iblk m c 3 t) i q := by
  rw [outsAt0_A m c t h]; dsimp only
  unfold sout0_A_0
  rw [View.read_writes_junk_eq_canon]
  have hlt : place q.val < 21 + 1 := by
    have := q.isLt
    unfold place; split <;> omega
  refine ((after_step (after_21 c (ms0_0 t) (hs0_0 t) (ms0_1 t) (hs0_1 t) (ms0_2 t) (hs0_2 t) (ms0_3 t) (hs0_3 t) (iblk m c 0 t) (iblk m c 1 t) (iblk m c 2 t) (iblk m c 3 t)) 5376 (by omega) (by intro q; unfold place; split <;> omega) _ _ fun i k => ?_).2 i q).trans (if_pos hlt)
  simp only [kernelRun0_A.sl.r_82, kernelRun0_A.sl.r_1, View.readAt_eq_ld, Memref.IsWhole.read_unread, ldX, ldG]
  exact kept_apply (iblk m c 0 t) (iblk m c 1 t) (iblk m c 2 t) (iblk m c 3 t) 5376 (by omega) i k

end Cert.Kernel4Ideal.Mlp
end
-- ==== Proof.MlpFinal.lean ====
module

public import proofs.«01_k».proof.Proof.MlpOuts
public import Idealize.ShloMosaic.Lib.Claim

/-! The arrays the host hands to the gated block's kernel, the kernel's input blocks by their coordinates, and the four arrays
the kernel leaves, each read at one entry. -/

@[expose] public section

set_option maxRecDepth 16384

noncomputable section
open Idealize.ShloMosaic Idealize.ShloMosaic.TcCoe Idealize.SL.Sem
open Idealize.ShloMosaic.Pipeline (Dat)
namespace Cert.Kernel4Ideal.Mlp
open Cert.Kernel4Ideal Cert.Kernel4Ideal.Gen
variable (m : (ℓ : Loc nD τ sig) → Buf (Elt Ideal) ℓ) (c : Dev nD)

/-- The argument arrays, typed. -/
abbrev A0 : FVec Ideal S16384x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x1024x5632 .f32 := m ((c : Thread nD τ).loc main_arg3)
abbrev A4 : FVec Ideal S4x3x5632 .f32 := m ((c : Thread nD τ).loc main_arg4)
abbrev A5 : FVec Ideal S1x2816x1024 .f32 := m ((c : Thread nD τ).loc main_arg5)

/-- The arrays by their coordinates. -/
abbrev R : Fin 16384 → Fin 1024 → EReal := fun t j => A0 m c (ix2 t j)
abbrev G : Fin 1024 → EReal := fun j => A1 m c (ix2 0 j)
abbrev B : Fin 1024 → EReal := fun j => A2 m c (ix2 0 j)
abbrev W : Fin 1024 → Fin 5632 → EReal := fun j q => A3 m c (ix3 0 j q)
abbrev K : Fin 3 → Fin 5632 → EReal := fun k q => A4 m c (ix3 3 k q)
abbrev D : Fin 2816 → Fin 1024 → EReal := fun q j => A5 m c (ix3 0 q j)
/-- The convolution's input and output, and the rows handed on. -/
abbrev H : Fin 16384 → Fin 5632 → EReal := Spec.hid (R m c) (G m c) (B m c) (W m c)
abbrev C : Fin 16384 → Fin 5632 → EReal := Spec.conv (H m c) (K m c)
abbrev M : Fin 16384 → Fin 1024 → EReal := Spec.mlp (R m c) (G m c) (B m c) (W m c) (K m c) (D m c)

theorem V17_apply (t : Fin 16384) (j : Fin 1024) : (V m c main_v17 : FVec Ideal S16384x1024 .f32) (ix2 t j) = Norm.xhat (R m c t) j := by
  entry_read
  pointwise
  rfl

theorem V18_apply (j : Fin 1024) (q : Fin 5632) : (V m c main_v18 : FVec Ideal S1x1024x5632 .bf16) (ix3 0 j q) = W m c j q := by
  entry_read
  pointwise

theorem V19_apply (q : Fin 2816) (j : Fin 1024) : (V m c main_v19 : FVec Ideal S1x2816x1024 .bf16) (ix3 0 q j) = D m c q j := by
  entry_read
  pointwise

theorem idx : ∀ t : Fin cfg0.N, win0_0.index t = ![t.val, 0] ∧ win0_1.index t = ![0, 0] ∧ win0_2.index t = ![0, 0]
    ∧ win0_3.index t = ![0, 0, 0] ∧ win0_4.index t = ![3, 0, 0] ∧ win0_5.index t = ![0, 0, 0]
    ∧ win0_6.index t = ![t.val, 0] ∧ win0_7.index t = ![t.val, 0] ∧ win0_8.index t = ![t.val, 0] ∧ win0_9.index t = ![t.val, 0]
    ∧ t.val < 32 :=
  (by decide +kernel : ∀ t : Fin grid0.N, _)

theorem lt32 (t : Fin cfg0.N) : t.val < 32 := lt_of_lt_of_eq t.isLt (show cfg0.N = 32 from N_0)

/-- The row of the array at row `r` of point `t`'s block. -/
abbrev row (t : Fin cfg0.N) (r : Fin 512) : Fin 16384 := ⟨512 * t.val + r.val, by have := lt32 t; omega⟩

section
variable (t : Fin cfg0.N)

theorem i0 (r : Fin 512) (j : Fin 1024) : (iblk m c 0 t : Vec Ideal S512x1024 .f32) (ix2 r j) = Norm.xhat (R m c (row t r)) j := by
  refine Eq.trans ?_ (V17_apply m c (row t r) j)
  blk_simp [iblk]
  refine congrArg (V m c main_v17) ?_
  blk_ext [idx t]

theorem i1 (j : Fin 1024) : (iblk m c 1 t : Vec Ideal S1x1024 .f32) (ix2 0 j) = G m c j := by
  blk_ext [iblk, V, idx t]

theorem i2 (j : Fin 1024) : (iblk m c 2 t : Vec Ideal S1x1024 .f32) (ix2 0 j) = B m c j := by
  blk_ext [iblk, V, idx t]

theorem i3 (j : Fin 1024) (q : Fin 5632) : (iblk m c 3 t : Vec Ideal S1x1024x5632 .bf16) (ix3 0 j q) = W m c j q := by
  refine Eq.trans ?_ (V18_apply m c j q)
  blk_simp [iblk]
  refine congrArg (V m c main_v18) ?_
  blk_ext [idx t]

theorem i4 (k : Fin 3) (q : Fin 5632) : (iblk m c 4 t : Vec Ideal S1x3x5632 .f32) (ix3 0 k q) = K m c k q := by
  blk_ext [iblk, V, idx t]

theorem i5 (q : Fin 2816) (j : Fin 1024) : (iblk m c 5 t : Vec Ideal S1x2816x1024 .bf16) (ix3 0 q j) = D m c q j := by
  refine Eq.trans ?_ (V19_apply m c q j)
  blk_simp [iblk]
  refine congrArg (V m c main_v19) ?_
  blk_ext [idx t]

theorem x_eq (r : Fin 512) (l : Fin 1024) :
    xE (iblk m c 0 t) (iblk m c 1 t) (iblk m c 2 t) r l = Spec.normed (R m c) (G m c) (B m c) (row t r) l := by
  unfold xE Spec.normed
  rw [i0, i1, i2]

theorem h_eq (r : Fin 512) (q : Fin 5632) :
    hE (iblk m c 0 t) (iblk m c 1 t) (iblk m c 2 t) (iblk m c 3 t) r q = H m c (row t r) q := by
  unfold hE
  simp only [x_eq, i3]
  rfl

theorem kept_eq (i : Fin 8) (q : Fin 5632) :
    (outsAt0 m c t.val t.isLt).2.2.2.2 (ix2 i q) = H m c (row t ⟨504 + i.val, by omega⟩) q := by
  refine Eq.trans ?_ (h_eq m c t _ q)
  by_cases h : t.val % 32 = 0
  · exact out10_A m c t h i q
  · exact out10_B m c t h i q

theorem past_before (h : Fin 16384 → Fin 5632 → EReal) (s : ℕ) (u : Fin 16384) (q : Fin 5632) (e : ¬ s ≤ u.val) :
    Spec.past h s u q = 0 := by
  unfold Spec.past
  exact dif_neg e

/-- What the point's block finds of the rows before it. -/
def Before (P : Vec Ideal S8x5632 .f32) : Prop :=
  ∀ (i : Fin 8) (q : Fin 5632), P (ix2 i q) = Spec.past (H m c) (8 - i.val) (row t 0) q

theorem before_first (h : t.val % 32 = 0) : Before m c t (k0_pay1 (F := Ideal)) := by
  intro i q
  have h0 : k0_pay1 (F := Ideal) (ix2 i q) = 0 := by pointwise [k0_pay1]
  have hl := lt32 t
  rw [h0]
  exact (past_before _ _ _ _ (show ¬ 8 - i.val ≤ 512 * t.val + 0 by omega)).symm

theorem before_next (h : ¬ t.val % 32 = 0) : Before m c t (kept m c t) := by
  intro i q
  have hl := lt32 t
  refine (kept_eq m c ⟨t.val - 1, Nat.lt_of_le_of_lt (Nat.sub_le _ _) t.isLt⟩ i q).trans ?_
  refine Eq.trans ?_ (dif_pos (show 8 - i.val ≤ 512 * t.val + 0 by omega)).symm
  refine congrArg (fun u => H m c u q) (Fin.ext ?_)
  show 512 * (t.val - 1) + (504 + i.val) = 512 * t.val + 0 - (8 - i.val)
  omega

variable {m c t}

theorem p1_eq {P : Vec Ideal S8x5632 .f32} (hP : Before m c t P) (r : Fin 512) (q : Fin 5632) :
    pE1 (iblk m c 0 t) (iblk m c 1 t) (iblk m c 2 t) (iblk m c 3 t) P r q = Spec.past (H m c) 1 (row t r) q := by
  unfold pE1
  by_cases h : 1 ≤ r.val
  · rw [dif_pos h, h_eq]
    refine Eq.trans ?_ (dif_pos (show 1 ≤ 512 * t.val + r.val by omega)).symm
    refine congrArg (fun u => H m c u q) (Fin.ext ?_)
    show 512 * t.val + (r.val - 1) = 512 * t.val + r.val - 1
    omega
  · obtain rfl : r = 0 := Fin.ext (by show r.val = 0; omega)
    rw [dif_neg h]
    exact hP 7 q

theorem p2_eq {P : Vec Ideal S8x5632 .f32} (hP : Before m c t P) (r : Fin 512) (q : Fin 5632) :
    pE2 (iblk m c 0 t) (iblk m c 1 t) (iblk m c 2 t) (iblk m c 3 t) P r q = Spec.past (H m c) 2 (row t r) q := by
  unfold pE2
  by_cases h : 2 ≤ r.val
  · rw [dif_pos h, h_eq]
    refine Eq.trans ?_ (dif_pos (show 2 ≤ 512 * t.val + r.val by omega)).symm
    refine congrArg (fun u => H m c u q) (Fin.ext ?_)
    show 512 * t.val + (r.val - 2) = 512 * t.val + r.val - 2
    omega
  · rw [dif_neg h]
    by_cases h0 : r.val = 0
    · obtain rfl : r = 0 := Fin.ext h0
      rw [if_pos h0]
      exact hP 6 q
    · obtain rfl : r = 1 := Fin.ext (by show r.val = 1; omega)
      rw [if_neg h0]
      refine (hP 7 q).trans ?_
      by_cases ht : t.val = 0
      · exact (past_before _ _ _ _ (show ¬ 1 ≤ 512 * t.val + 0 by omega)).trans
          (past_before _ _ _ _ (show ¬ 2 ≤ 512 * t.val + 1 by omega)).symm
      · refine (dif_pos (show 1 ≤ 512 * t.val + 0 by omega)).trans (Eq.trans ?_ (dif_pos (show 2 ≤ 512 * t.val + 1 by omega)).symm)
        refine congrArg (fun u => H m c u q) (Fin.ext ?_)
        show 512 * t.val + 0 - 1 = 512 * t.val + 1 - 2
        omega

theorem c_eq {P : Vec Ideal S8x5632 .f32} (hP : Before m c t P) (r : Fin 512) (q : Fin 5632) :
    cE (iblk m c 0 t) (iblk m c 1 t) (iblk m c 2 t) (iblk m c 3 t) (iblk m c 4 t) P r q = C m c (row t r) q := by
  unfold cE
  rw [p1_eq hP, p2_eq hP, h_eq, i4, i4, i4]
  rfl

theorem z_eq {P : Vec Ideal S8x5632 .f32} (hP : Before m c t P) (r : Fin 512) :
    zE (iblk m c 0 t) (iblk m c 1 t) (iblk m c 2 t) (iblk m c 3 t) (iblk m c 4 t) (iblk m c 5 t) P r = M m c (row t r) := by
  funext l
  unfold zE aE
  simp only [x_eq, c_eq hP, i5]
  rfl
end

def res6 : FVec Ideal S16384x1024 .f32 := fun i => Norm.xhat (M m c (i 0)) (i 1)
def res7 : FVec Ideal S16384x1 .f32 := fun i => Norm.rstd (M m c (i 0))
def res8 : FVec Ideal S16384x5632 .bf16 := fun i => H m c (i 0) (i 1)
def res9 : FVec Ideal S16384x5632 .bf16 := fun i => C m c (i 0) (i 1)

theorem step6 (t : Fin cfg0.N) (r : Fin 512) (j : Fin 1024) :
    (outsAt0 m c t.val t.isLt).1 (ix2 r j) = Norm.xhat (M m c (row t r)) j := by
  by_cases h : t.val % 32 = 0
  · exact (congrFun (out6_A m c t h) _).trans ((xhB_apply ..).trans (congrArg (Norm.xhat · j) (z_eq (before_first m c t h) r)))
  · exact (congrFun (out6_B m c t h) _).trans ((xhB_apply ..).trans (congrArg (Norm.xhat · j) (z_eq (before_next m c t h) r)))

theorem step7 (t : Fin cfg0.N) (r : Fin 512) :
    (outsAt0 m c t.val t.isLt).2.1 (ix2 r 0) = Norm.rstd (M m c (row t r)) := by
  by_cases h : t.val % 32 = 0
  · exact (congrFun (out7_A m c t h) _).trans ((rsB_apply ..).trans (congrArg Norm.rstd (z_eq (before_first m c t h) r)))
  · exact (congrFun (out7_B m c t h) _).trans ((rsB_apply ..).trans (congrArg Norm.rstd (z_eq (before_next m c t h) r)))

theorem step8 (t : Fin cfg0.N) (r : Fin 512) (j : Fin 5632) :
    (outsAt0 m c t.val t.isLt).2.2.1 (ix2 r j) = H m c (row t r) j := by
  refine Eq.trans ?_ (h_eq m c t r j)
  by_cases h : t.val % 32 = 0
  · exact out8_A m c t h r j
  · exact out8_B m c t h r j

theorem step9 (t : Fin cfg0.N) (r : Fin 512) (j : Fin 5632) :
    (outsAt0 m c t.val t.isLt).2.2.2.1 (ix2 r j) = C m c (row t r) j := by
  by_cases h : t.val % 32 = 0
  · exact (out9_A m c t h r j).trans (c_eq (before_first m c t h) r j)
  · exact (out9_B m c t h r j).trans (c_eq (before_next m c t h) r j)

theorem final6 : (dats m 0 c).arrAt 6 (cfgs 0).N = res6 m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, by blk_ext⟩
  refine (step6 m c t r j).trans ?_
  refine congrArg (res6 m c) (a₁ := ix2 (row t r) j) ?_
  blk_ext [idx t]

theorem final7 : (dats m 0 c).arrAt 7 (cfgs 0).N = res7 m c := by
  refine (dats m 0 c).arrAt_eq_of_covers 7 _ (by decide +kernel) fun t hf y => ?_
  blk_simp
  rw [after0_7]
  obtain ⟨r, rfl⟩ : ∃ (r : Fin 512), y = ix2 r 0 := ⟨y 0, by blk_ext⟩
  refine (step7 m c t r).trans ?_
  refine congrArg (res7 m c) (a₁ := ix2 (row t r) 0) ?_
  blk_ext [idx t]

theorem final8 : (dats m 0 c).arrAt 8 (cfgs 0).N = res8 m c := by
  refine (dats m 0 c).arrAt_eq_of_covers 8 _ (by decide +kernel) fun t hf y => ?_
  blk_simp
  rw [after0_8]
  obtain ⟨r, j, rfl⟩ : ∃ (r : Fin 512) (j : Fin 5632), y = ix2 r j := ⟨y 0, y 1, by blk_ext⟩
  refine (step8 m c t r j).trans ?_
  refine congrArg (res8 m c) (a₁ := ix2 (row t r) j) ?_
  blk_ext [idx t]

theorem final9 : (dats m 0 c).arrAt 9 (cfgs 0).N = res9 m c := by
  refine (dats m 0 c).arrAt_eq_of_covers 9 _ (by decide +kernel) fun t hf y => ?_
  blk_simp
  rw [after0_9]
  obtain ⟨r, j, rfl⟩ : ∃ (r : Fin 512) (j : Fin 5632), y = ix2 r j := ⟨y 0, y 1, by blk_ext⟩
  refine (step9 m c t r j).trans ?_
  refine congrArg (res9 m c) (a₁ := ix2 (row t r) j) ?_
  blk_ext [idx t]

end Cert.Kernel4Ideal.Mlp
end
-- ==== Proof.MlpRef.lean ====
module

public import proofs.«01_k».proof.Proof.MlpSpec
public import proofs.«01_k».proof.Proof.Gen.Reference4Ideal.Read
public import Idealize.ShloMosaic.Lib.Pointwise

/-! The four results of the gated block's reference, each read at one entry. -/

@[expose] public section

set_option maxRecDepth 16384

noncomputable section
open Idealize.ShloMosaic Idealize.ShloMosaic.TcCoe Idealize.SL.Sem
namespace Cert.Reference4Ideal.Mlp
open Cert.Reference4Ideal Cert.Reference4Ideal.Gen Cert.Reference4Ideal.Read Cert.Spec
variable (a0 : FVec Ideal S16384x1024 .f32) (a1 a2 : FVec Ideal S1x1024 .f32) (a3 : FVec Ideal S1x1024x5632 .f32)
  (a4 : FVec Ideal S4x3x5632 .f32) (a5 : FVec Ideal S1x2816x1024 .f32)

/-- The arrays by their coordinates. -/
abbrev R : Fin 16384 → Fin 1024 → EReal := fun t j => a0 (ix2 t j)
abbrev G : Fin 1024 → EReal := fun j => a1 (ix2 0 j)
abbrev W : Fin 1024 → Fin 5632 → EReal := fun j q => a3 (ix3 0 j q)
abbrev K : Fin 3 → Fin 5632 → EReal := fun k q => a4 (ix3 3 k q)
abbrev D : Fin 2816 → Fin 1024 → EReal := fun q j => a5 (ix3 0 q j)
/-- The convolution's input and output, and the rows handed on. -/
abbrev H : Fin 16384 → Fin 5632 → EReal := hid (R a0) (G a1) (G a2) (W a3)
abbrev C : Fin 16384 → Fin 5632 → EReal := conv (H a0 a1 a2 a3) (K a4)
abbrev M : Fin 16384 → Fin 1024 → EReal := mlp (R a0) (G a1) (G a2) (W a3) (K a4) (D a5)

theorem normed_apply (t : Fin 16384) (j : Fin 1024) :
    val_main_v21 (F := Ideal) a0 a1 a2 (ix2 t j) = normed (R a0) (G a1) (G a2) t j := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3]
  rfl

theorem hid_apply (t : Fin 16384) (q : Fin 5632) : val_main_v23 (F := Ideal) a0 a1 a2 a3 (ix2 t q) = H a0 a1 a2 a3 t q := by
  have hx := normed_apply a0 a1 a2
  pointwise [val_main_v23, val_main_v22]
  simp only [hx]
  rfl

/-- The convolution's input with two rows of zeros before it. -/
theorem pad_apply (t : Fin 16386) (q : Fin 5632) : val_main_v27 (F := Ideal) a0 a1 a2 a3 (ix2 t q) =
    if e : 2 ≤ t.val then H a0 a1 a2 a3 ⟨t.val - 2, by omega⟩ q else 0 := by
  have hh := hid_apply a0 a1 a2 a3
  pointwise [val_main_v27, val_main_v26, val_main_cst_4]
  simp only [hh]
  by_cases e : 2 ≤ t.val
  · rw [dif_pos e, dif_neg (by omega)]
  · rw [dif_neg e, dif_pos (by omega)]

theorem conv_apply (t : Fin 16384) (q : Fin 5632) : val_main_v49 (F := Ideal) a0 a1 a2 a3 a4 (ix2 t q) = C a0 a1 a2 a3 a4 t q := by
  have hp := pad_apply a0 a1 a2 a3
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v25, val_main_v24, val_main_cst_5]
  simp only [hp]
  have e1 : (if h : 2 ≤ 1 + t.val then H a0 a1 a2 a3 ⟨1 + t.val - 2, by omega⟩ q else 0) = past (H a0 a1 a2 a3) 1 t q := by
    unfold past
    by_cases h : 1 ≤ t.val
    · rw [dif_pos h, dif_pos (by omega)]; exact congrArg (fun u => H a0 a1 a2 a3 u q) (Fin.ext (by dsimp only; omega))
    · rw [dif_neg h, dif_neg (by omega)]
  have e2 : (if h : 2 ≤ 2 + t.val then H a0 a1 a2 a3 ⟨2 + t.val - 2, by omega⟩ q else 0) = H a0 a1 a2 a3 t q := by
    rw [dif_pos (by omega)]; exact congrArg (fun u => H a0 a1 a2 a3 u q) (Fin.ext (by dsimp only; omega))
  rw [e1, e2]
  show past (H a0 a1 a2 a3) 2 t q * K a4 0 q + past (H a0 a1 a2 a3) 1 t q * K a4 1 q + H a0 a1 a2 a3 t q * K a4 2 q = _
  unfold C conv
  rw [add_comm, add_comm (_ * K a4 0 q), ← add_assoc, mul_comm _ (K a4 0 q), mul_comm _ (K a4 1 q), mul_comm _ (K a4 2 q)]

set_option maxHeartbeats 2000000 in
theorem act_apply (t : Fin 16384) (q : Fin 2816) : val_main_v55 (F := Ideal) a0 a1 a2 a3 a4 (ix2 t q) = act (C a0 a1 a2 a3 a4) t q := by
  have hc := conv_apply a0 a1 a2 a3 a4
  have hg : ∀ t q, val_main_v50 (F := Ideal) a0 a1 a2 a3 a4 (ix2 t q) = C a0 a1 a2 a3 a4 t (gcol q) := by
    intro t q
    pointwise [val_main_v50]
    rw [hc]
    exact congrArg (C a0 a1 a2 a3 a4 t) (Fin.ext (by dsimp only [gcol]))
  have hv : ∀ t q, val_main_v51 (F := Ideal) a0 a1 a2 a3 a4 (ix2 t q) = C a0 a1 a2 a3 a4 t (vcol q) := by
    intro t q
    pointwise [val_main_v51]
    rw [hc]
    exact congrArg (C a0 a1 a2 a3 a4 t) (Fin.ext (by dsimp only [vcol]))
  pointwise [val_main_v55, val_main_v54, val_main_call0_v5, val_main_call0_v4, val_main_call0_v3, val_main_call0_v2, val_main_call0_v1,
    val_main_call0_v0, val_main_call0_cst, val_main_call0_cst_0]
  simp only [hg, hv]
  rfl

theorem mlp_apply (t : Fin 16384) (j : Fin 1024) :
    val_main_v58 (F := Ideal) a0 a1 a2 a3 a4 a5 (ix2 t j) = M a0 a1 a2 a3 a4 a5 t j := by
  have ha := act_apply a0 a1 a2 a3 a4
  have hx := normed_apply a0 a1 a2
  pointwise [val_main_v58, val_main_v57, val_main_v56, val_main_v53, val_main_v52, val_main_cst_6]
  simp only [ha, hx]
  rfl

theorem rstd_apply (t : Fin 16384) : val_main_v72 (F := Ideal) a0 a1 a2 a3 a4 a5 (ix2 t 0) = Norm.rstd (M a0 a1 a2 a3 a4 a5 t) := by
  have hm := mlp_apply a0 a1 a2 a3 a4 a5
  pointwise [val_main_v72, val_main_v71, val_main_v70, val_main_v69, val_main_v68, val_main_v67, val_main_v66, val_main_v65, val_main_v64,
    val_main_v63, val_main_v62, val_main_v61, val_main_v60, val_main_v59, val_main_cst_7, val_main_cst_8, val_main_cst_9,
    val_main_cst_10, val_main_cst_11]
  simp only [hm]
  rfl

theorem xhat_apply (t : Fin 16384) (j : Fin 1024) :
    val_main_v76 (F := Ideal) a0 a1 a2 a3 a4 a5 (ix2 t j) = Norm.xhat (M a0 a1 a2 a3 a4 a5 t) j := by
  have hm := mlp_apply a0 a1 a2 a3 a4 a5
  have hr := rstd_apply a0 a1 a2 a3 a4 a5
  pointwise [val_main_v76, val_main_v75, val_main_v74, val_main_v73, val_main_v62, val_main_v61, val_main_v60, val_main_v59, val_main_cst_7,
    val_main_cst_8]
  simp only [hm, hr]
  rfl

end Cert.Reference4Ideal.Mlp
end
-- ==== Proof.MlpClaim.lean ====
module

public import proofs.«01_k».proof.Defs
public import proofs.«01_k».proof.Proof.MlpFinal
public import proofs.«01_k».proof.Proof.MlpRef
public import proofs.«01_k».proof.Proof.Gen.Kernel4

/-! The claims about the gated block forwards: the frames, and that kernel and reference leave the same arrays. -/

@[expose] public section

set_option maxRecDepth 16384

noncomputable section
open Idealize.ShloMosaic Idealize.ShloMosaic.TcCoe Idealize.SL.Sem
namespace Cert.Mlp

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2,
    Idealize.ShloMosaic.sem_eq_zero_of_no_sems (by decide) r.2⟩) (Cert.Reference4Ideal.Value.run (F := Ideal) m ρ)

section
open Cert.Kernel4Ideal Cert.Kernel4Ideal.Mlp
variable (m : (ℓ : Loc nD τ sig) → Buf (Elt Ideal) ℓ) (c : Dev nD)

theorem xhat_eq :
    Cert.Reference4Ideal.Read.val_main_v76 (F := Ideal) (A0 m c) (A1 m c) (A2 m c) (A3 m c) (A4 m c) (A5 m c) = res6 m c := by
  funext i
  obtain ⟨t, j, rfl⟩ : ∃ (t : Fin 16384) (j : Fin 1024), i = ix2 t j := ⟨i 0, i 1, by blk_ext⟩
  exact Cert.Reference4Ideal.Mlp.xhat_apply _ _ _ _ _ _ t j

theorem rstd_eq :
    Cert.Reference4Ideal.Read.val_main_v72 (F := Ideal) (A0 m c) (A1 m c) (A2 m c) (A3 m c) (A4 m c) (A5 m c) = res7 m c := by
  funext i
  obtain ⟨t, rfl⟩ : ∃ (t : Fin 16384), i = ix2 t 0 := ⟨i 0, by blk_ext⟩
  exact Cert.Reference4Ideal.Mlp.rstd_apply _ _ _ _ _ _ t

theorem hid_eq : Cert.Reference4Ideal.Read.val_main_v77 (F := Ideal) (A0 m c) (A1 m c) (A2 m c) (A3 m c) = res8 m c := by
  funext i
  obtain ⟨t, q, rfl⟩ : ∃ (t : Fin 16384) (q : Fin 5632), i = ix2 t q := ⟨i 0, i 1, by blk_ext⟩
  exact Cert.Reference4Ideal.Mlp.hid_apply _ _ _ _ t q

theorem conv_eq : Cert.Reference4Ideal.Read.val_main_v78 (F := Ideal) (A0 m c) (A1 m c) (A2 m c) (A3 m c) (A4 m c) = res9 m c := by
  funext i
  obtain ⟨t, q, rfl⟩ : ∃ (t : Fin 16384) (q : Fin 5632), i = ix2 t q := ⟨i 0, i 1, by blk_ext⟩
  exact Cert.Reference4Ideal.Mlp.conv_apply _ _ _ _ _ t q

end

theorem algebraic : Cert.algebraic_Kernel4Ideal_Reference4Ideal := by
  intro m g m' g' hpre hagree
  refine ⟨Cert.Kernel4Ideal.Mlp.res6 m, Cert.Kernel4Ideal.Mlp.res7 m, Cert.Kernel4Ideal.Mlp.res8 m, Cert.Kernel4Ideal.Mlp.res9 m, ?_, ?_⟩
  · refine (θ_run Cert.Kernel4Ideal.defs _ _).mono (fun r h c => ?_) (Cert.Kernel4Ideal.Value.run_blocks (F := Ideal) m g)
    obtain ⟨h0, h1, h2, h3, hk⟩ := h c
    exact ⟨h0.trans (Cert.Kernel4Ideal.Mlp.final6 m c), h1.trans (Cert.Kernel4Ideal.Mlp.final7 m c),
      h2.trans (Cert.Kernel4Ideal.Mlp.final8 m c), h3.trans (Cert.Kernel4Ideal.Mlp.final9 m c), hk⟩
  · refine (θ_run Cert.Reference4Ideal.defs _ _).mono (fun r h c => ?_) (Cert.Reference4Ideal.Value.run (F := Ideal) m' g')
    obtain ⟨h0, h1, h2, h3, hk⟩ := h c
    obtain ⟨b0, b1, b2, b3, b4, b5⟩ := hagree c
    have a0 : StableHlo.launchContents m' c (Proc.devRef .tc Cert.Reference4Ideal.main_arg0) = _ := b0
    have a1 : StableHlo.launchContents m' c (Proc.devRef .tc Cert.Reference4Ideal.main_arg1) = _ := b1
    have a2 : StableHlo.launchContents m' c (Proc.devRef .tc Cert.Reference4Ideal.main_arg2) = _ := b2
    have a3 : StableHlo.launchContents m' c (Proc.devRef .tc Cert.Reference4Ideal.main_arg3) = _ := b3
    have a4 : StableHlo.launchContents m' c (Proc.devRef .tc Cert.Reference4Ideal.main_arg4) = _ := b4
    have a5 : StableHlo.launchContents m' c (Proc.devRef .tc Cert.Reference4Ideal.main_arg5) = _ := b5
    have e0 := (h0.trans (Cert.Reference4Ideal.Read.val_main_v76_eq _))
    have e1 := (h1.trans (Cert.Reference4Ideal.Read.val_main_v72_eq _))
    have e2 := (h2.trans (Cert.Reference4Ideal.Read.val_main_v77_eq _))
    have e3 := (h3.trans (Cert.Reference4Ideal.Read.val_main_v78_eq _))
    rw [a0, a1, a2, a3, a4, a5] at e0 e1
    rw [a0, a1, a2, a3] at e2
    rw [a0, a1, a2, a3, a4] at e3
    exact ⟨e0.trans (xhat_eq m c), e1.trans (rstd_eq m c), e2.trans (hid_eq m c), e3.trans (conv_eq m c), hk⟩

end Cert.Mlp
end
-- ==== Proof.Stack.lean ====
module

public import proofs.«01_k».proof.Defs
public import proofs.«01_k».proof.Proof.Norm
public import proofs.«01_k».proof.Proof.Gen.Kernel5
public import proofs.«01_k».proof.Proof.Gen.Kernel5Ideal.Frame
import all proofs.«01_k».proof.Proof.Gen.Kernel5Ideal.Frame
public import Idealize.ShloMosaic.Lib.Pipeline.ValueKit
public import Idealize.ShloMosaic.Lib.Pointwise
public import Idealize.ShloMosaic.Lib.Claim

/-! Three gradients of the up-projection's weight, written one after another into one stack of three layers: what each
    call leaves in the stack, over whatever its arrays hold when it starts. A call writes its own layer, each entry a sum
    over the rows, and leaves the other two layers as they were. -/

@[expose] public section

set_option maxRecDepth 16384

noncomputable section
open Idealize.ShloMosaic Idealize.ShloMosaic.TcCoe Idealize.SL.Sem
open Idealize.ShloMosaic.Pipeline (Dat)
namespace Cert.Kernel5Ideal.Stack
open Cert.Kernel5Ideal Cert.Kernel5Ideal.Gen

/-! ## One call's sum, whatever the call -/

/-- The weight's gradient from the normalised rows, the scale, the shift and the incoming gradient, all as arrays. -/
def grad (x : FVec Ideal S16384x1024 .f32) (g b : FVec Ideal S1x1024 .f32) (d : FVec Ideal S16384x5632 .bf16) (k : Fin 1024) (q : Fin 5632) : EReal :=
  ∑ u : Fin 16384, (x (ix2 u k) * g (ix2 0 k) + b (ix2 0 k)) * d (ix2 u q)

/-- What a block of rows adds to an entry. -/
theorem add_apply (x : Vec Ideal S2048x1024 .f32) (g b : Vec Ideal S1x1024 .f32) (acc : Vec Ideal S1x1024x1408 .f32)
    (d : Vec Ideal S2048x1408 .bf16) (k : Fin 1024) (l : Fin 1408) :
    k0_pay2 (F := Ideal) x g b acc d (ix3 0 k l)
      = acc (ix3 0 k l) + ∑ r : Fin 2048, (x (ix2 r k) * g (ix2 0 k) + b (ix2 0 k)) * d (ix2 r l) := by
  pointwise [k0_pay2]

/-- A sum over the array's rows, block by block. -/
theorem sum_rows (f : Fin 16384 → EReal) :
    (∑ s : Fin 8, ∑ r : Fin 2048, f ⟨2048 * s.val + r.val, by omega⟩) = ∑ t : Fin 16384, f t := by
  refine Eq.trans ?_ (Fin.sum_univ_tiles 8 2048 rfl f).symm
  refine Finset.sum_congr rfl fun s _ => Finset.sum_congr rfl fun r _ => congrArg f (Fin.ext ?_)
  simp; omega

/-- The row and the column of the arrays at row `r` and column `l` of point `n`'s block. -/
abbrev row (n : ℕ) (r : Fin 2048) : Fin 16384 := ⟨2048 * (n % 8) + r.val, by omega⟩
abbrev col (n : ℕ) (h : n < 32) (l : Fin 1408) : Fin 5632 := ⟨1408 * (n / 8) + l.val, by omega⟩

/-- A block that is started anew at every eighth point and added to at the others holds, at the eighth point of its run,
    the whole sum. -/
theorem acc {N : ℕ} (hN : N = 32) (f : (n : ℕ) → n < N → Vec Ideal S1x1024x1408 .f32)
    (xb : Fin N → Vec Ideal S2048x1024 .f32) (gb bb : Fin N → Vec Ideal S1x1024 .f32) (db : Fin N → Vec Ideal S2048x1408 .bf16)
    (hA : ∀ t : Fin N, t.val % 8 = 0 → f t.val t.isLt = k0_pay2 (F := Ideal) (xb t) (gb t) (bb t) (k0_pay1 (F := Ideal)) (db t))
    (hB : ∀ t : Fin N, ¬ t.val % 8 = 0 → f t.val t.isLt = k0_pay2 (F := Ideal) (xb t) (gb t) (bb t)
      (f (t.val - 1) (Nat.lt_of_le_of_lt (Nat.sub_le _ _) t.isLt)) (db t))
    (x : FVec Ideal S16384x1024 .f32) (g b : FVec Ideal S1x1024 .f32) (d : FVec Ideal S16384x5632 .bf16)
    (hx : ∀ t r j, xb t (ix2 r j) = x (ix2 (row t.val r) j)) (hg : ∀ t j, gb t (ix2 0 j) = g (ix2 0 j))
    (hb : ∀ t j, bb t (ix2 0 j) = b (ix2 0 j)) (hd : ∀ (t : Fin N) r l, db t (ix2 r l) = d (ix2 (row t.val r) (col t.val (hN ▸ t.isLt) l)))
    (t : Fin N) (h7 : t.val % 8 = 8 - 1) (k : Fin 1024) (l : Fin 1408) :
    f t.val t.isLt (ix3 0 k l) = grad x g b d k (col t.val (hN ▸ t.isLt) l) := by
  subst hN
  rw [Pipeline.eq_sum_fin_of_reset_step_apply_of_flush f 8 (fun _ => (0 : EReal))
    (fun p y => ∑ r : Fin 2048, (x (ix2 (row p.val r) (y 1)) * g (ix2 0 (y 1)) + b (ix2 0 (y 1))) * d (ix2 (row p.val r) (col p.val p.isLt (y 2))))
    (fun t h y => by
      obtain ⟨k, l, rfl⟩ : ∃ (k : Fin 1024) (l : Fin 1408), y = ix3 0 k l := ⟨y 1, y 2, by blk_ext⟩
      refine (congrFun (hA t h) (ix3 0 k l)).trans ((add_apply _ _ _ _ _ k l).trans ?_)
      simp only [hx, hg, hb, hd]
      refine congrArg₂ (· + ·) ?_ rfl
      pointwise [k0_pay1])
    (fun t h y => by
      obtain ⟨k, l, rfl⟩ : ∃ (k : Fin 1024) (l : Fin 1408), y = ix3 0 k l := ⟨y 1, y 2, by blk_ext⟩
      refine (congrFun (hB t h) (ix3 0 k l)).trans ((add_apply _ _ _ _ _ k l).trans ?_)
      simp only [hx, hg, hb, hd]
      rfl)
    t h7 _]
  refine (zero_add (M := EReal) _).trans ?_
  refine Eq.trans ?_ (sum_rows fun u => (x (ix2 u k) * g (ix2 0 k) + b (ix2 0 k)) * d (ix2 u (col t.val t.isLt l)))
  refine Finset.sum_congr rfl fun s _ => Finset.sum_congr rfl fun r _ => ?_
  have e : row (8 * (t.val / 8) + s.val) r = ⟨2048 * s.val + r.val, by omega⟩ := Fin.ext (by dsimp only [row]; omega)
  have e' : col (8 * (t.val / 8) + s.val) (Pipeline.run_point_lt_of_flush t h7 s) l = col t.val t.isLt l := Fin.ext (by dsimp only [col]; omega)
  exact congrArg₂ (fun q u => (x (ix2 u k) * g (ix2 0 k) + b (ix2 0 k)) * d (ix2 u q)) e' e

/-! ## The three calls -/

/-- The three calls do the same arithmetic. -/
theorem pay1_1 : k1_pay1 (F := Ideal) = k0_pay1 := rfl
theorem pay2_1 : k1_pay2 (F := Ideal) = k0_pay2 := rfl
theorem pay1_2 : k2_pay1 (F := Ideal) = k0_pay1 := rfl
theorem pay2_2 : k2_pay2 (F := Ideal) = k0_pay2 := rfl

section
variable (V : (c : Dev nD) → (b : Ref sig .tc) → Buf (Elt Ideal) ((c : Thread nD τ).loc b)) (c : Dev nD)

/-- What the three calls leave in the stack. -/
def res0 : FVec Ideal S3x1024x5632 .f32 := fun i =>
  if (i 0).val = 2 then grad (V c main_v21) (V c main_v22) (V c main_v23) (V c main_v25) (i 1) (i 2) else (V c main_v26 : FVec Ideal S3x1024x5632 .f32) i
def res1 : FVec Ideal S3x1024x5632 .f32 := fun i =>
  if (i 0).val = 1 then grad (V c main_v28) (V c main_v29) (V c main_v30) (V c main_v32) (i 1) (i 2) else (V c main_v33 : FVec Ideal S3x1024x5632 .f32) i
def res2 : FVec Ideal S3x1024x5632 .f32 := fun i =>
  if (i 0).val = 0 then grad (V c main_v35) (V c main_v36) (V c main_v37) (V c main_v39) (i 1) (i 2) else (V c main_v40 : FVec Ideal S3x1024x5632 .f32) i

theorem idx0 : ∀ t : Fin cfg0.N, win0_0.index t = ![t.val % 8, 0] ∧ win0_1.index t = ![0, 0] ∧ win0_2.index t = ![0, 0]
    ∧ win0_3.index t = ![t.val % 8, t.val / 8] ∧ win0_4.index t = ![2, 0, t.val / 8] ∧ t.val < 32 :=
  (by decide +kernel : ∀ t : Fin grid0.N, _)
theorem idx1 : ∀ t : Fin cfg1.N, win1_0.index t = ![t.val % 8, 0] ∧ win1_1.index t = ![0, 0] ∧ win1_2.index t = ![0, 0]
    ∧ win1_3.index t = ![t.val % 8, t.val / 8] ∧ win1_4.index t = ![1, 0, t.val / 8] ∧ t.val < 32 :=
  (by decide +kernel : ∀ t : Fin grid1.N, _)
theorem idx2 : ∀ t : Fin cfg2.N, win2_0.index t = ![t.val % 8, 0] ∧ win2_1.index t = ![0, 0] ∧ win2_2.index t = ![0, 0]
    ∧ win2_3.index t = ![t.val % 8, t.val / 8] ∧ win2_4.index t = ![0, 0, t.val / 8] ∧ t.val < 32 :=
  (by decide +kernel : ∀ t : Fin grid2.N, _)

theorem out0 (t : Fin cfg0.N) (h7 : t.val % 8 = 8 - 1) (k : Fin 1024) (l : Fin 1408) :
    outsAt0 V c t.val t.isLt (ix3 0 k l) = grad (V c main_v21) (V c main_v22) (V c main_v23) (V c main_v25) k (col t.val (N_0 ▸ t.isLt) l) :=
  acc (N := cfg0.N) N_0 (fun n h => outsAt0 V c n h) (fun t => iblk0 V c 0 t) (fun t => iblk0 V c 1 t) (fun t => iblk0 V c 2 t) (fun t => iblk0 V c 3 t)
    (fun t h => by rw [outsAt0_A V c t h]; frame_out) (fun t h => by rw [outsAt0_B V c t h]; frame_out)
    (V c main_v21) (V c main_v22) (V c main_v23) (V c main_v25)
    (fun t r j => by blk_simp [iblk0]; refine congrArg (V c main_v21) ?_; blk_ext [idx0 t])
    (fun t j => by blk_simp [iblk0]; refine congrArg (V c main_v22) ?_; blk_ext [idx0 t])
    (fun t j => by blk_simp [iblk0]; refine congrArg (V c main_v23) ?_; blk_ext [idx0 t])
    (fun t r l => by blk_simp [iblk0]; refine congrArg (V c main_v25) ?_; blk_ext [idx0 t])
    t h7 k l

theorem final0 : (dat0 V c).arrAt 4 cfg0.N = res0 V c := by
  refine (dat0 V c).arrAt_eq_of_coversWhere_of_agree 4 _ (fun β => 2 ≤ β (0 : Fin 3)) (by decide +kernel) (fun t hf y => ?_)
    (fun j hj => ?_)
  · blk_simp
    obtain ⟨k, l, rfl⟩ : ∃ (k : Fin 1024) (l : Fin 1408), y = ix3 0 k l := ⟨y 1, y 2, by blk_ext⟩
    rw [after0_4]
    refine (out0 V c t ((flush0_4 t).mp hf) k l).trans (congrArg (res0 V c) (a₁ := ix3 2 k (col t.val (N_0 ▸ t.isLt) l)) ?_)
    blk_ext [idx0 t]
  · rw [A_eq0]
    blk_simp [Pipeline.Window.cell_apply] at hj
    exact (if_neg (show ¬ (j 0).val = 2 by omega)).symm
theorem out1 (t : Fin cfg1.N) (h7 : t.val % 8 = 8 - 1) (k : Fin 1024) (l : Fin 1408) :
    outsAt1 V c t.val t.isLt (ix3 0 k l) = grad (V c main_v28) (V c main_v29) (V c main_v30) (V c main_v32) k (col t.val (N_1 ▸ t.isLt) l) :=
  acc (N := cfg1.N) N_1 (fun n h => outsAt1 V c n h) (fun t => iblk1 V c 0 t) (fun t => iblk1 V c 1 t) (fun t => iblk1 V c 2 t) (fun t => iblk1 V c 3 t)
    (fun t h => by rw [outsAt1_A V c t h, ← pay1_1, ← pay2_1]; frame_out) (fun t h => by rw [outsAt1_B V c t h, ← pay2_1]; frame_out)
    (V c main_v28) (V c main_v29) (V c main_v30) (V c main_v32)
    (fun t r j => by blk_simp [iblk1]; refine congrArg (V c main_v28) ?_; blk_ext [idx1 t])
    (fun t j => by blk_simp [iblk1]; refine congrArg (V c main_v29) ?_; blk_ext [idx1 t])
    (fun t j => by blk_simp [iblk1]; refine congrArg (V c main_v30) ?_; blk_ext [idx1 t])
    (fun t r l => by blk_simp [iblk1]; refine congrArg (V c main_v32) ?_; blk_ext [idx1 t])
    t h7 k l

theorem final1 : (dat1 V c).arrAt 4 cfg1.N = res1 V c := by
  refine (dat1 V c).arrAt_eq_of_coversWhere_of_agree 4 _ (fun β => β (0 : Fin 3) = 1) (by decide +kernel) (fun t hf y => ?_)
    (fun j hj => ?_)
  · blk_simp
    obtain ⟨k, l, rfl⟩ : ∃ (k : Fin 1024) (l : Fin 1408), y = ix3 0 k l := ⟨y 1, y 2, by blk_ext⟩
    rw [after1_4]
    refine (out1 V c t ((flush1_4 t).mp hf) k l).trans (congrArg (res1 V c) (a₁ := ix3 1 k (col t.val (N_1 ▸ t.isLt) l)) ?_)
    blk_ext [idx1 t]
  · rw [A_eq1]
    blk_simp [Pipeline.Window.cell_apply] at hj
    exact (if_neg (show ¬ (j 0).val = 1 by omega)).symm
theorem out2 (t : Fin cfg2.N) (h7 : t.val % 8 = 8 - 1) (k : Fin 1024) (l : Fin 1408) :
    outsAt2 V c t.val t.isLt (ix3 0 k l) = grad (V c main_v35) (V c main_v36) (V c main_v37) (V c main_v39) k (col t.val (N_2 ▸ t.isLt) l) :=
  acc (N := cfg2.N) N_2 (fun n h => outsAt2 V c n h) (fun t => iblk2 V c 0 t) (fun t => iblk2 V c 1 t) (fun t => iblk2 V c 2 t) (fun t => iblk2 V c 3 t)
    (fun t h => by rw [outsAt2_A V c t h, ← pay1_2, ← pay2_2]; frame_out) (fun t h => by rw [outsAt2_B V c t h, ← pay2_2]; frame_out)
    (V c main_v35) (V c main_v36) (V c main_v37) (V c main_v39)
    (fun t r j => by blk_simp [iblk2]; refine congrArg (V c main_v35) ?_; blk_ext [idx2 t])
    (fun t j => by blk_simp [iblk2]; refine congrArg (V c main_v36) ?_; blk_ext [idx2 t])
    (fun t j => by blk_simp [iblk2]; refine congrArg (V c main_v37) ?_; blk_ext [idx2 t])
    (fun t r l => by blk_simp [iblk2]; refine congrArg (V c main_v39) ?_; blk_ext [idx2 t])
    t h7 k l

theorem final2 : (dat2 V c).arrAt 4 cfg2.N = res2 V c := by
  refine (dat2 V c).arrAt_eq_of_coversWhere_of_agree 4 _ (fun β => β (0 : Fin 3) = 0) (by decide +kernel) (fun t hf y => ?_)
    (fun j hj => ?_)
  · blk_simp
    obtain ⟨k, l, rfl⟩ : ∃ (k : Fin 1024) (l : Fin 1408), y = ix3 0 k l := ⟨y 1, y 2, by blk_ext⟩
    rw [after2_4]
    refine (out2 V c t ((flush2_4 t).mp hf) k l).trans (congrArg (res2 V c) (a₁ := ix3 0 k (col t.val (N_2 ▸ t.isLt) l)) ?_)
    blk_ext [idx2 t]
  · rw [A_eq2]
    blk_simp [Pipeline.Window.cell_apply] at hj
    exact (if_neg (show ¬ (j 0).val = 0 by omega)).symm
end

end Cert.Kernel5Ideal.Stack
end
-- ==== Proof.StackRun.lean ====
module

public import proofs.«01_k».proof.Proof.Stack
import all proofs.«01_k».proof.Proof.Gen.Kernel5Ideal.Frame
public import proofs.«01_k».proof.Proof.Gen.Reference5Ideal.Read
public import proofs.«01_k».proof.Proof.Gen.Reference5Ideal.Run

/-! The three gradients in one stack, from the launch memory: what the host code hands each call, what the program ends
    with, and that the reference ends with the same. -/

@[expose] public section

set_option maxRecDepth 16384

noncomputable section
open Idealize.ShloMosaic Idealize.ShloMosaic.TcCoe Idealize.SL.Sem
open Idealize.ShloMosaic.Pipeline (Dat)
namespace Cert.Kernel5Ideal.Stack
open Cert.Kernel5Ideal Cert.Kernel5Ideal.Gen
variable (m : (ℓ : Loc nD τ sig) → Buf (Elt Ideal) ℓ) (ρ : Dev nD → PrngReg) (c : Dev nD)

/-- The argument arrays, typed and by their coordinates; layer `l` of the stack takes scale and shift `l + 1`. -/
abbrev A0 : FVec Ideal S3x16384x1024 .f32 := m ((c : Thread nD τ).loc main_arg0)
abbrev A1 : FVec Ideal S4x1024 .f32 := m ((c : Thread nD τ).loc main_arg1)
abbrev A2 : FVec Ideal S4x1024 .f32 := m ((c : Thread nD τ).loc main_arg2)
abbrev A3 : FVec Ideal S3x16384x5632 .f32 := m ((c : Thread nD τ).loc main_arg3)
abbrev R (l : Fin 3) : Fin 16384 → Fin 1024 → EReal := fun t j => A0 m c (ix3 l t j)
abbrev G (l : Fin 3) : Fin 1024 → EReal := fun j => A1 m c (ix2 l.succ j)
abbrev B (l : Fin 3) : Fin 1024 → EReal := fun j => A2 m c (ix2 l.succ j)
abbrev X (l : Fin 3) : Fin 16384 → Fin 5632 → EReal := fun t q => A3 m c (ix3 l t q)

/-- One row's share of an entry of layer `l`. -/
abbrev term (l : Fin 3) (k : Fin 1024) (q : Fin 5632) (t : Fin 16384) : EReal :=
  (Norm.xhat (R m c l t) k * G m c l k + B m c l k) * X m c l t q

def res : FVec Ideal S3x1024x5632 .f32 := fun i => ∑ t : Fin 16384, term m c (i 0) (i 1) (i 2) t

/-! ## What the host code hands the calls -/

theorem v17 (l : Fin 3) (t : Fin 16384) (j : Fin 1024) :
    (StableHlo.after hostOps0 (W0 m ρ c) (Proc.devRef .tc main_v17) : FVec Ideal S3x16384x1024 .f32) (ix3 l t j) = Norm.xhat (R m c l t) j := by
  entry_read
  pointwise
  rfl

theorem v18 (l : Fin 3) (t : Fin 16384) (q : Fin 5632) :
    (StableHlo.after hostOps0 (W0 m ρ c) (Proc.devRef .tc main_v18) : FVec Ideal S3x16384x5632 .bf16) (ix3 l t q) = X m c l t q := by
  entry_read
  pointwise

/-- The normalised rows, the gradients and the arguments pass the calls unchanged. -/
theorem W2_17 : W2 m ρ c (Proc.devRef .tc main_v17) = W1 m ρ c (Proc.devRef .tc main_v17) := W2_of_ne m ρ c main_v17 (by decide)
theorem W2_18 : W2 m ρ c (Proc.devRef .tc main_v18) = W1 m ρ c (Proc.devRef .tc main_v18) := W2_of_ne m ρ c main_v18 (by decide)
theorem W4_17 : W4 m ρ c (Proc.devRef .tc main_v17) = W1 m ρ c (Proc.devRef .tc main_v17) :=
  (W4_of_ne m ρ c main_v17 (by decide)).trans ((W3_of m ρ c main_v17 (by decide)).trans (W2_17 m ρ c))
theorem W4_18 : W4 m ρ c (Proc.devRef .tc main_v18) = W1 m ρ c (Proc.devRef .tc main_v18) :=
  (W4_of_ne m ρ c main_v18 (by decide)).trans ((W3_of m ρ c main_v18 (by decide)).trans (W2_18 m ρ c))

theorem grad0 (k : Fin 1024) (q : Fin 5632) :
    grad (V1 m ρ c main_v21) (V1 m ρ c main_v22) (V1 m ρ c main_v23) (V1 m ρ c main_v25) k q = ∑ t : Fin 16384, term m c 2 k q t := by
  have h0 (t : Fin 16384) (j : Fin 1024) : (StableHlo.after hostOps0 (W0 m ρ c) (Proc.devRef .tc main_v21) : FVec Ideal S16384x1024 .f32) (ix2 t j)
      = Norm.xhat (R m c 2 t) j := by
    entry_read
    pointwise
    rfl
  have h1 (j : Fin 1024) : (StableHlo.after hostOps0 (W0 m ρ c) (Proc.devRef .tc main_v22) : FVec Ideal S1x1024 .f32) (ix2 0 j) = G m c 2 j := by
    entry_read
    pointwise
    rfl
  have h2 (j : Fin 1024) : (StableHlo.after hostOps0 (W0 m ρ c) (Proc.devRef .tc main_v23) : FVec Ideal S1x1024 .f32) (ix2 0 j) = B m c 2 j := by
    entry_read
    pointwise
    rfl
  have h3 (t : Fin 16384) (q : Fin 5632) : (StableHlo.after hostOps0 (W0 m ρ c) (Proc.devRef .tc main_v25) : FVec Ideal S16384x5632 .bf16) (ix2 t q)
      = X m c 2 t q := by
    entry_read
    pointwise
  unfold grad
  exact Finset.sum_congr rfl fun t _ => congrArg₂ (· * ·) (congrArg₂ (· + ·) (congrArg₂ (· * ·) (h0 t k) (h1 k)) (h2 k)) (h3 t q)

theorem grad1 (k : Fin 1024) (q : Fin 5632) :
    grad (V3 m ρ c main_v28) (V3 m ρ c main_v29) (V3 m ρ c main_v30) (V3 m ρ c main_v32) k q = ∑ t : Fin 16384, term m c 1 k q t := by
  have h0 (t : Fin 16384) (j : Fin 1024) : (StableHlo.after hostOps1 (W2 m ρ c) (Proc.devRef .tc main_v28) : FVec Ideal S16384x1024 .f32) (ix2 t j)
      = Norm.xhat (R m c 1 t) j := by
    entry_read
    pointwise
    exact (congrFun (W2_17 m ρ c) (ix3 1 t j)).trans (v17 m ρ c 1 t j)
  have h1 (j : Fin 1024) : (StableHlo.after hostOps1 (W2 m ρ c) (Proc.devRef .tc main_v29) : FVec Ideal S1x1024 .f32) (ix2 0 j) = G m c 1 j := by
    entry_read
    pointwise
    exact congrFun (W2_args m ρ c main_arg1 (by decide)) (ix2 2 j)
  have h2 (j : Fin 1024) : (StableHlo.after hostOps1 (W2 m ρ c) (Proc.devRef .tc main_v30) : FVec Ideal S1x1024 .f32) (ix2 0 j) = B m c 1 j := by
    entry_read
    pointwise
    exact congrFun (W2_args m ρ c main_arg2 (by decide)) (ix2 2 j)
  have h3 (t : Fin 16384) (q : Fin 5632) : (StableHlo.after hostOps1 (W2 m ρ c) (Proc.devRef .tc main_v32) : FVec Ideal S16384x5632 .bf16) (ix2 t q)
      = X m c 1 t q := by
    entry_read
    pointwise
    exact (congrFun (W2_18 m ρ c) (ix3 1 t q)).trans (v18 m ρ c 1 t q)
  unfold grad
  exact Finset.sum_congr rfl fun t _ => congrArg₂ (· * ·) (congrArg₂ (· + ·) (congrArg₂ (· * ·) (h0 t k) (h1 k)) (h2 k)) (h3 t q)

theorem grad2 (k : Fin 1024) (q : Fin 5632) :
    grad (V5 m ρ c main_v35) (V5 m ρ c main_v36) (V5 m ρ c main_v37) (V5 m ρ c main_v39) k q = ∑ t : Fin 16384, term m c 0 k q t := by
  have h0 (t : Fin 16384) (j : Fin 1024) : (StableHlo.after hostOps2 (W4 m ρ c) (Proc.devRef .tc main_v35) : FVec Ideal S16384x1024 .f32) (ix2 t j)
      = Norm.xhat (R m c 0 t) j := by
    entry_read
    pointwise
    exact (congrFun (W4_17 m ρ c) (ix3 0 t j)).trans (v17 m ρ c 0 t j)
  have h1 (j : Fin 1024) : (StableHlo.after hostOps2 (W4 m ρ c) (Proc.devRef .tc main_v36) : FVec Ideal S1x1024 .f32) (ix2 0 j) = G m c 0 j := by
    entry_read
    pointwise
    exact congrFun (W4_args m ρ c main_arg1 (by decide)) (ix2 1 j)
  have h2 (j : Fin 1024) : (StableHlo.after hostOps2 (W4 m ρ c) (Proc.devRef .tc main_v37) : FVec Ideal S1x1024 .f32) (ix2 0 j) = B m c 0 j := by
    entry_read
    pointwise
    exact congrFun (W4_args m ρ c main_arg2 (by decide)) (ix2 1 j)
  have h3 (t : Fin 16384) (q : Fin 5632) : (StableHlo.after hostOps2 (W4 m ρ c) (Proc.devRef .tc main_v39) : FVec Ideal S16384x5632 .bf16) (ix2 t q)
      = X m c 0 t q := by
    entry_read
    pointwise
    exact (congrFun (W4_18 m ρ c) (ix3 0 t q)).trans (v18 m ρ c 0 t q)
  unfold grad
  exact Finset.sum_congr rfl fun t _ => congrArg₂ (· * ·) (congrArg₂ (· + ·) (congrArg₂ (· * ·) (h0 t k) (h1 k)) (h2 k)) (h3 t q)

/-- Each call's stack starts as the one before left it. -/
theorem v33 : (V3 m ρ c main_v33 : FVec Ideal S3x1024x5632 .f32) = res0 (V1 m ρ) c := by
  refine Eq.trans (b := (W2 m ρ c (Proc.devRef .tc main_v26) : FVec Ideal S3x1024x5632 .f32)) ?_ ((W2_arr m ρ c 4).trans (final0 (V1 m ρ) c))
  show (StableHlo.after hostOps1 (W2 m ρ c) (Proc.devRef .tc main_v33) : FVec Ideal S3x1024x5632 .f32) = _
  entry_read
  rfl
theorem v40 : (V5 m ρ c main_v40 : FVec Ideal S3x1024x5632 .f32) = res1 (V3 m ρ) c := by
  refine Eq.trans (b := (W4 m ρ c (Proc.devRef .tc main_v33) : FVec Ideal S3x1024x5632 .f32)) ?_ ((W4_arr m ρ c 4).trans (final1 (V3 m ρ) c))
  show (StableHlo.after hostOps2 (W4 m ρ c) (Proc.devRef .tc main_v40) : FVec Ideal S3x1024x5632 .f32) = _
  entry_read
  rfl

theorem final : (W6 m ρ c (Proc.devRef .tc main_v40) : FVec Ideal S3x1024x5632 .f32) = res m c := by
  refine ((W6_arr m ρ c 4).trans (final2 (V5 m ρ) c)).trans (funext fun i => ?_)
  obtain ⟨l, k, q, rfl⟩ : ∃ (l : Fin 3) (k : Fin 1024) (q : Fin 5632), i = ix3 l k q := ⟨i 0, i 1, i 2, by blk_ext⟩
  unfold res2
  rw [v40]
  unfold res1
  rw [v33]
  unfold res0
  match l with
  | 0 => exact (if_pos rfl).trans (grad2 m ρ c k q)
  | 1 => exact (if_neg (show ¬ (1 : ℕ) = 0 by decide)).trans ((if_pos rfl).trans (grad1 m ρ c k q))
  | 2 => exact (if_neg (show ¬ (2 : ℕ) = 0 by decide)).trans ((if_neg (show ¬ (2 : ℕ) = 1 by decide)).trans ((if_pos rfl).trans (grad0 m ρ c k q)))

/-! ## The run: the launch of the frame, read at the result too -/

section
open Idealize.SL Idealize.SL.RA Idealize.SL.BI
open scoped Idealize.SL.BI
open Idealize.SL.BI.BIBase Idealize.SL.BI.Laws Idealize.SL.ProofMode Idealize.ShloMosaic.Tactic
open Idealize.ShloMosaic.Rounds
local notation "𝕄" => MT nD τ sig Unit (Elt Ideal) ℕ (UR sig nD τ) ℕ

set_option backward.isDefEq.respectTransparency.types false in
theorem run : θ_run defs (onTc (τ := τ) (main (F := Ideal))) ⟨m, fun _ => 0, ρ⟩ (fun r => ∀ c : Dev nD,
      r.2.mem ((c.tc : Thread nD τ).loc main_v40) = W6 m ρ c (Proc.devRef .tc main_v40) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Gen.R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v40 (by decide)), (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end

end Cert.Kernel5Ideal.Stack

namespace Cert.Stack

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run (F := Ideal) m ρ)

section
open Cert.Kernel5Ideal Cert.Kernel5Ideal.Stack
variable (m : (ℓ : Loc nD τ sig) → Buf (Elt Ideal) ℓ) (c : Dev nD)

section
open Cert.Reference5Ideal.Read

/-- Layer by layer, the reference's product of gradient and normalised rows. -/
theorem ref0 (k : Fin 1024) (q : Fin 5632) :
    val_main_v105 (F := Ideal) (A0 m c) (A1 m c) (A2 m c) (A3 m c) (ix3 0 k q) = ∑ t : Fin 16384, term m c 0 k q t := by
  pointwise [val_main_v105, val_main_v104, val_main_v103, val_main_v89, val_main_v88, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_cst_0, val_main_cst_1, val_main_cst_2, val_main_cst_3, val_main_cst_4]
  exact Finset.sum_congr rfl fun t _ => mul_comm _ _

theorem ref1 (k : Fin 1024) (q : Fin 5632) :
    val_main_v100 (F := Ideal) (A0 m c) (A1 m c) (A2 m c) (A3 m c) (ix3 0 k q) = ∑ t : Fin 16384, term m c 1 k q t := by
  pointwise [val_main_v100, val_main_v99, val_main_v98, val_main_v91, val_main_v90, val_main_v55, val_main_v54, val_main_v53, val_main_v52, val_main_v51,
    val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_cst_5, val_main_cst_6, val_main_cst_7, val_main_cst_8, val_main_cst_9]
  exact Finset.sum_congr rfl fun t _ => mul_comm _ _

theorem ref2 (k : Fin 1024) (q : Fin 5632) :
    val_main_v96 (F := Ideal) (A0 m c) (A1 m c) (A2 m c) (A3 m c) (ix3 0 k q) = ∑ t : Fin 16384, term m c 2 k q t := by
  pointwise [val_main_v96, val_main_v95, val_main_v94, val_main_v93, val_main_v92, val_main_v84, val_main_v83, val_main_v82, val_main_v81, val_main_v80,
    val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61, val_main_v60,
    val_main_v59, val_main_cst_10, val_main_cst_11, val_main_cst_12, val_main_cst_13, val_main_cst_14]
  exact Finset.sum_congr rfl fun t _ => mul_comm _ _

/-- A layer beside zeros, added to the others' zeros, is the layer. -/
theorem ref_eq : val_main_v107 (F := Ideal) (A0 m c) (A1 m c) (A2 m c) (A3 m c) = res m c := by
  funext i
  obtain ⟨l, k, q, rfl⟩ : ∃ (l : Fin 3) (k : Fin 1024) (q : Fin 5632), i = ix3 l k q := ⟨i 0, i 1, i 2, by blk_ext⟩
  have h0 := ref0 m c k q
  have h1 := ref1 m c k q
  have h2 := ref2 m c k q
  match l with
  | 0 =>
    pointwise [val_main_v107, val_main_v106, val_main_v102, val_main_v101, val_main_v97, val_main_cst_15, val_main_cst_16, val_main_cst_17]
    exact h0
  | 1 =>
    pointwise [val_main_v107, val_main_v106, val_main_v102, val_main_v101, val_main_v97, val_main_cst_15, val_main_cst_16, val_main_cst_17]
    exact h1
  | 2 =>
    pointwise [val_main_v107, val_main_v106, val_main_v102, val_main_v101, val_main_v97, val_main_cst_15, val_main_cst_16, val_main_cst_17]
    exact h2
end
end

theorem algebraic : Cert.algebraic_Kernel5Ideal_Reference5Ideal := by
  intro m g m' g' hpre hagree
  refine ⟨Cert.Kernel5Ideal.Stack.res m, ?_, ?_⟩
  · refine (θ_run Cert.Kernel5Ideal.defs _ _).mono (fun r h c => ?_) (Cert.Kernel5Ideal.Stack.run m g)
    obtain ⟨h0, hk⟩ := h c
    exact ⟨h0.trans (Cert.Kernel5Ideal.Stack.final m g c), hk⟩
  · refine (θ_run Cert.Reference5Ideal.defs _ _).mono (fun r h c => ?_) (Cert.Reference5Ideal.Value.run (F := Ideal) m' g')
    obtain ⟨h0, hk⟩ := h c
    obtain ⟨a0, a1, a2, a3⟩ := hagree c
    have e0 := (h0.trans (Cert.Reference5Ideal.Read.val_main_v107_eq _ _))
    rw [a0, a1, a2, a3] at e0
    exact ⟨e0.trans (ref_eq m c), hk⟩

end Cert.Stack
end
-- ==== Proof.Mixer.lean ====
module

public import proofs.«01_k».proof.Defs
public import proofs.«01_k».proof.Proof.Gen.Kernel6
public import proofs.«01_k».proof.Proof.Gen.Kernel6Ideal.Value
import all proofs.«01_k».proof.Proof.Gen.Kernel6Ideal.Frame
public import proofs.«01_k».proof.Proof.Gen.Reference6Ideal.Read
public import proofs.«01_k».proof.Proof.Gen.Reference6Ideal.Run
public import Idealize.ShloMosaic.Lib.Pipeline.ValueKit
public import Idealize.ShloMosaic.Lib.Pointwise
public import Idealize.ShloMosaic.Lib.Claim

/-! The gradient of a mixer's input: the incoming gradient times the transposed input projection, and the residual's
    gradient scaled. The kernel goes through the rows in 32 blocks of 512 and holds the whole weight. -/

@[expose] public section

set_option maxRecDepth 16384

noncomputable section
open Idealize.ShloMosaic Idealize.ShloMosaic.TcCoe Idealize.SL.Sem
open Idealize.ShloMosaic.Pipeline (Dat)
namespace Cert.Kernel6Ideal.Mixer
open Cert.Kernel6Ideal Cert.Kernel6Ideal.Gen
variable (m : (ℓ : Loc nD τ sig) → Buf (Elt Ideal) ℓ) (c : Dev nD)

/-- The argument arrays, typed. -/
abbrev A0 : FVec Ideal S16384x2048 .f32 := m ((c : Thread nD τ).loc main_arg0)
abbrev A1 : FVec Ideal S16384x1024 .f32 := m ((c : Thread nD τ).loc main_arg1)
abbrev A2 : FVec Ideal S2x1024x2048 .f32 := m ((c : Thread nD τ).loc main_arg2)

/-- The residual's scale, as both programs hold it. -/
abbrev alpha : EReal := FloatOps.ofBits (F := Ideal) .f32 0x3FD744FD#32

def res : FVec Ideal S16384x1024 .f32 := fun i =>
  alpha * A1 m c i + ∑ q : Fin 2048, A0 m c (ix2 (i 0) q) * A2 m c (ix3 1 (i 1) q)

theorem V0_apply (t : Fin 16384) (q : Fin 2048) : (V m c main_v0 : FVec Ideal S16384x2048 .bf16) (ix2 t q) = A0 m c (ix2 t q) := by
  entry_read
  pointwise

theorem V1_apply (k : Fin 1024) (q : Fin 2048) : (V m c main_v1 : FVec Ideal S2x1024x2048 .bf16) (ix3 1 k q) = A2 m c (ix3 1 k q) := by
  entry_read
  pointwise

theorem idx : ∀ t : Fin cfg0.N, win0_0.index t = ![t.val, 0] ∧ win0_1.index t = ![t.val, 0] ∧ win0_2.index t = ![1, 0, 0]
    ∧ win0_3.index t = ![t.val, 0] ∧ t.val < 32 :=
  (by decide +kernel : ∀ t : Fin grid0.N, _)

/-- The row of the arrays at row `r` of point `t`'s block. -/
abbrev row (t : Fin cfg0.N) (r : Fin 512) : Fin 16384 := ⟨512 * t.val + r.val, by have := (idx t).2.2.2.2; omega⟩

variable (t : Fin cfg0.N)

theorem i0 (r : Fin 512) (q : Fin 2048) : (iblk m c 0 t : Vec Ideal S512x2048 .bf16) (ix2 r q) = A0 m c (ix2 (row t r) q) := by
  refine Eq.trans ?_ (V0_apply m c (row t r) q)
  blk_simp [iblk]
  refine congrArg (V m c main_v0) ?_
  blk_ext [idx t]

theorem i1 (r : Fin 512) (k : Fin 1024) : (iblk m c 1 t : Vec Ideal S512x1024 .f32) (ix2 r k) = A1 m c (ix2 (row t r) k) := by
  blk_ext [iblk, V, idx t]

theorem i2 (k : Fin 1024) (q : Fin 2048) : (iblk m c 2 t : Vec Ideal S1x1024x2048 .bf16) (ix3 0 k q) = A2 m c (ix3 1 k q) := by
  refine Eq.trans ?_ (V1_apply m c k q)
  blk_simp [iblk]
  refine congrArg (V m c main_v1) ?_
  blk_ext [idx t]

/-- What one block of rows comes to. -/
theorem block_apply (r : Fin 512) (k : Fin 1024) :
    k0_pay1 (F := Ideal) (iblk m c 1 t) (iblk m c 0 t) (iblk m c 2 t) (ix2 r k) = res m c (ix2 (row t r) k) := by
  have h0 := i0 m c t
  have h1 := i1 m c t
  have h2 := i2 m c t
  pointwise [k0_pay1]
  simp only [h0, h1, h2]
  rfl

theorem final : (dats m 0 c).arrAt 3 (cfgs 0).N = res m c := by
  refine (dats m 0 c).arrAt_eq_of_covers 3 _ (by decide +kernel) fun t hf y => ?_
  blk_simp
  obtain ⟨r, k, rfl⟩ : ∃ (r : Fin 512) (k : Fin 1024), y = ix2 r k := ⟨y 0, y 1, by blk_ext⟩
  rw [after0_3]
  have e : out0_3 (iblk m c 0 t) (iblk m c 1 t) (iblk m c 2 t) = k0_pay1 (F := Ideal) (iblk m c 1 t) (iblk m c 0 t) (iblk m c 2 t) := by
    frame_out
  refine (congrFun e (ix2 r k)).trans ((block_apply m c t r k).trans (congrArg (res m c) (a₁ := ix2 (row t r) k) ?_))
  blk_ext [idx t]

end Cert.Kernel6Ideal.Mixer

namespace Cert.Mixer

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2,
    Idealize.ShloMosaic.sem_eq_zero_of_no_sems (by decide) r.2⟩) (Cert.Reference6Ideal.Value.run (F := Ideal) m ρ)

section
open Cert.Kernel6Ideal Cert.Kernel6Ideal.Mixer
variable (m : (ℓ : Loc nD τ sig) → Buf (Elt Ideal) ℓ) (c : Dev nD)
open Cert.Reference6Ideal.Read in
theorem ref_eq : val_main_v9 (F := Ideal) (A0 m c) (A1 m c) (A2 m c) = res m c := by
  funext i
  obtain ⟨t, k, rfl⟩ : ∃ (t : Fin 16384) (k : Fin 1024), i = ix2 t k := ⟨i 0, i 1, by blk_ext⟩
  pointwise [val_main_v9, val_main_v8, val_main_v7, val_main_v6, val_main_v2, val_main_v1, val_main_cst_0]
  rfl
end

theorem algebraic : Cert.algebraic_Kernel6Ideal_Reference6Ideal := by
  intro m g m' g' hpre hagree
  refine ⟨Cert.Kernel6Ideal.Mixer.res m, ?_, ?_⟩
  · refine (θ_run Cert.Kernel6Ideal.defs _ _).mono (fun r h c => ?_) (Cert.Kernel6Ideal.Value.run_blocks (F := Ideal) m g)
    obtain ⟨h0, hk⟩ := h c
    exact ⟨h0.trans (Cert.Kernel6Ideal.Mixer.final m c), hk⟩
  · refine (θ_run Cert.Reference6Ideal.defs _ _).mono (fun r h c => ?_) (Cert.Reference6Ideal.Value.run (F := Ideal) m' g')
    obtain ⟨h0, hk⟩ := h c
    obtain ⟨a0, a1, a2⟩ := hagree c
    have e0 := (h0.trans (Cert.Reference6Ideal.Read.val_main_v9_eq _ _ _))
    rw [a0, a1, a2] at e0
    exact ⟨e0.trans (ref_eq m c), hk⟩

end Cert.Mixer
end
-- ==== Proof.MlpMove.lean ====
module

public import proofs.«01_k».proof.Proof.MlpClaim

/-! The gated block of another layer: its kernel is that of the last layer but for the layer of the taps that its window takes, so
it does what the last layer's kernel does where the taps of that layer stand in the last one's place. -/

@[expose] public section

set_option maxRecDepth 16384

noncomputable section
open Idealize.ShloMosaic Idealize.ShloMosaic.TcCoe Idealize.SL.Sem
namespace Cert.Kernel4Ideal.Mlp
open Cert.Kernel4Ideal Cert.Kernel4Ideal.Gen

/-- The stack of taps with layer `l`'s taps in every place. -/
def take (l : Fin 4) (a : FVec Ideal S4x3x5632 .f32) : FVec Ideal S4x3x5632 .f32 := fun i => a (ix3 l (i 1) (i 2))

theorem loc_ne : ∀ c : Dev nD, (c : Thread nD τ).loc main_arg0 ≠ (c : Thread nD τ).loc main_arg4
    ∧ (c : Thread nD τ).loc main_arg1 ≠ (c : Thread nD τ).loc main_arg4 ∧ (c : Thread nD τ).loc main_arg2 ≠ (c : Thread nD τ).loc main_arg4
    ∧ (c : Thread nD τ).loc main_arg3 ≠ (c : Thread nD τ).loc main_arg4 ∧ (c : Thread nD τ).loc main_arg5 ≠ (c : Thread nD τ).loc main_arg4 := by
  decide

variable (l : Fin 4) (m : (ℓ : Loc nD τ sig) → Buf (Elt Ideal) ℓ) (c : Dev nD)

/-- The memory with layer `l`'s taps in every place. -/
def moved : (ℓ : Loc nD τ sig) → Buf (Elt Ideal) ℓ := Function.update m ((c : Thread nD τ).loc main_arg4) (take l (A4 m c))

theorem moved_A0 : A0 (moved l m c) c = A0 m c := Function.update_of_ne (loc_ne c).1 _ _
theorem moved_A1 : A1 (moved l m c) c = A1 m c := Function.update_of_ne (loc_ne c).2.1 _ _
theorem moved_A2 : A2 (moved l m c) c = A2 m c := Function.update_of_ne (loc_ne c).2.2.1 _ _
theorem moved_A3 : A3 (moved l m c) c = A3 m c := Function.update_of_ne (loc_ne c).2.2.2.1 _ _
theorem moved_A4 : A4 (moved l m c) c = take l (A4 m c) := Function.update_self _ _ _
theorem moved_A5 : A5 (moved l m c) c = A5 m c := Function.update_of_ne (loc_ne c).2.2.2.2 _ _

variable (t : Fin cfg0.N)

theorem moved_i0 : (iblk m c 0 t : Vec Ideal S512x1024 .f32) = iblk (moved l m c) c 0 t := by
  funext y
  obtain ⟨r, j, rfl⟩ : ∃ (r : Fin 512) (j : Fin 1024), y = ix2 r j := ⟨y 0, y 1, by blk_ext⟩
  refine (i0 m c t r j).trans (Eq.trans ?_ (i0 (moved l m c) c t r j).symm)
  unfold R
  rw [moved_A0]

theorem moved_i1 : (iblk m c 1 t : Vec Ideal S1x1024 .f32) = iblk (moved l m c) c 1 t := by
  funext y
  obtain ⟨j, rfl⟩ : ∃ (j : Fin 1024), y = ix2 0 j := ⟨y 1, by blk_ext⟩
  refine (i1 m c t j).trans (Eq.trans ?_ (i1 (moved l m c) c t j).symm)
  unfold G
  rw [moved_A1]

theorem moved_i2 : (iblk m c 2 t : Vec Ideal S1x1024 .f32) = iblk (moved l m c) c 2 t := by
  funext y
  obtain ⟨j, rfl⟩ : ∃ (j : Fin 1024), y = ix2 0 j := ⟨y 1, by blk_ext⟩
  refine (i2 m c t j).trans (Eq.trans ?_ (i2 (moved l m c) c t j).symm)
  unfold B
  rw [moved_A2]

theorem moved_i3 : (iblk m c 3 t : Vec Ideal S1x1024x5632 .bf16) = iblk (moved l m c) c 3 t := by
  funext y
  obtain ⟨j, q, rfl⟩ : ∃ (j : Fin 1024) (q : Fin 5632), y = ix3 0 j q := ⟨y 1, y 2, by blk_ext⟩
  refine (i3 m c t j q).trans (Eq.trans ?_ (i3 (moved l m c) c t j q).symm)
  unfold W
  rw [moved_A3]

theorem moved_i4 (k : Fin 3) (q : Fin 5632) :
    (iblk (moved l m c) c 4 t : Vec Ideal S1x3x5632 .f32) (ix3 0 k q) = A4 m c (ix3 l k q) := by
  refine (i4 (moved l m c) c t k q).trans ?_
  unfold K
  rw [moved_A4]
  rfl

theorem moved_i5 : (iblk m c 5 t : Vec Ideal S1x2816x1024 .bf16) = iblk (moved l m c) c 5 t := by
  funext y
  obtain ⟨q, j, rfl⟩ : ∃ (q : Fin 2816) (j : Fin 1024), y = ix3 0 q j := ⟨y 1, y 2, by blk_ext⟩
  refine (i5 m c t q j).trans (Eq.trans ?_ (i5 (moved l m c) c t q j).symm)
  unfold D
  rw [moved_A5]

/-- The last layer's reference, with the taps of layer `l`, leaves what the kernel does where they are moved. -/
theorem moved_xhat : Cert.Reference4Ideal.Read.val_main_v76 (F := Ideal) (A0 m c) (A1 m c) (A2 m c) (A3 m c) (take l (A4 m c)) (A5 m c)
    = res6 (moved l m c) c := by
  have h := Cert.Mlp.xhat_eq (moved l m c) c
  rwa [moved_A0, moved_A1, moved_A2, moved_A3, moved_A4, moved_A5] at h

theorem moved_rstd : Cert.Reference4Ideal.Read.val_main_v72 (F := Ideal) (A0 m c) (A1 m c) (A2 m c) (A3 m c) (take l (A4 m c)) (A5 m c)
    = res7 (moved l m c) c := by
  have h := Cert.Mlp.rstd_eq (moved l m c) c
  rwa [moved_A0, moved_A1, moved_A2, moved_A3, moved_A4, moved_A5] at h

theorem moved_hid : Cert.Reference4Ideal.Read.val_main_v77 (F := Ideal) (A0 m c) (A1 m c) (A2 m c) (A3 m c) = res8 (moved l m c) c := by
  have h := Cert.Mlp.hid_eq (moved l m c) c
  rwa [moved_A0, moved_A1, moved_A2, moved_A3] at h

theorem moved_conv : Cert.Reference4Ideal.Read.val_main_v78 (F := Ideal) (A0 m c) (A1 m c) (A2 m c) (A3 m c) (take l (A4 m c))
    = res9 (moved l m c) c := by
  have h := Cert.Mlp.conv_eq (moved l m c) c
  rwa [moved_A0, moved_A1, moved_A2, moved_A3, moved_A4] at h

end Cert.Kernel4Ideal.Mlp
end
-- ==== Proof.MlpLayer0.lean ====
module

public import proofs.«01_k».proof.Proof.MlpMove
public import proofs.«01_k».proof.Proof.Gen.Kernel7
public import proofs.«01_k».proof.Proof.Gen.Kernel7Ideal.Value
public import proofs.«01_k».proof.Proof.Gen.Reference7Ideal.Read

/-! The gated block of layer 0 forwards: its kernel and its reference are those of the last layer with layer 0's taps. -/

@[expose] public section

set_option maxRecDepth 100000

noncomputable section
open Idealize.ShloMosaic Idealize.ShloMosaic.TcCoe Idealize.ShloMosaic.Tactic Idealize.SL.Sem
namespace Cert.Kernel7Ideal.Mlp
open Cert.Kernel7Ideal Cert.Kernel7Ideal.Gen
open Cert.Kernel4Ideal.Mlp (A0 A1 A2 A3 A4 A5 take moved moved_i0 moved_i1 moved_i2 moved_i3 moved_i4 moved_i5 res6 res7 res8 res9
  step6 step7 step8 step9 row)
variable (m : (ℓ : Loc nD τ sig) → Buf (Elt Ideal) ℓ) (c : Dev nD)

/-- The memory of the last layer's kernel that this layer's is compared with. -/
abbrev mem : (ℓ : Loc Cert.Kernel4Ideal.nD Cert.Kernel4Ideal.τ Cert.Kernel4Ideal.sig) → Buf (Elt Ideal) ℓ := moved 0 m c

theorem idx : ∀ t : Fin cfg0.N, win0_4.index t = ![0, 0, 0] ∧ win0_6.index t = ![t.val, 0] ∧ win0_7.index t = ![t.val, 0]
    ∧ win0_8.index t = ![t.val, 0] ∧ win0_9.index t = ![t.val, 0] ∧ t.val < 32 :=
  (by decide +kernel : ∀ t : Fin grid0.N, _)

section
variable (t : Fin cfg0.N)

theorem b0 : (iblk m c 0 t : Vec Ideal S512x1024 .f32) = Cert.Kernel4Ideal.Gen.iblk (mem m c) c 0 t := by
  refine Eq.trans ?_ (moved_i0 0 m c t)
  sl_kernel_rfl

theorem b1 : (iblk m c 1 t : Vec Ideal S1x1024 .f32) = Cert.Kernel4Ideal.Gen.iblk (mem m c) c 1 t := by
  refine Eq.trans ?_ (moved_i1 0 m c t)
  sl_kernel_rfl

theorem b2 : (iblk m c 2 t : Vec Ideal S1x1024 .f32) = Cert.Kernel4Ideal.Gen.iblk (mem m c) c 2 t := by
  refine Eq.trans ?_ (moved_i2 0 m c t)
  sl_kernel_rfl

theorem b3 : (iblk m c 3 t : Vec Ideal S1x1024x5632 .bf16) = Cert.Kernel4Ideal.Gen.iblk (mem m c) c 3 t := by
  refine Eq.trans ?_ (moved_i3 0 m c t)
  sl_kernel_rfl

theorem b4 : (iblk m c 4 t : Vec Ideal S1x3x5632 .f32) = Cert.Kernel4Ideal.Gen.iblk (mem m c) c 4 t := by
  funext y
  obtain ⟨k, q, rfl⟩ : ∃ (k : Fin 3) (q : Fin 5632), y = ix3 0 k q := ⟨y 1, y 2, by blk_ext⟩
  refine Eq.trans ?_ (moved_i4 0 m c t k q).symm
  blk_ext [iblk, V, idx t]

theorem b5 : (iblk m c 5 t : Vec Ideal S1x2816x1024 .bf16) = Cert.Kernel4Ideal.Gen.iblk (mem m c) c 5 t := by
  refine Eq.trans ?_ (moved_i5 0 m c t)
  sl_kernel_rfl
end

/-- Every grid point leaves what the last layer's kernel leaves there. -/
theorem outs (n : ℕ) : ∀ hn : n < cfg0.N, outsAt0 m c n hn = Cert.Kernel4Ideal.Gen.outsAt0 (mem m c) c n hn := by
  induction n with
  | zero =>
    intro hn
    rw [outsAt0_A m c ⟨0, hn⟩ (Nat.zero_mod _), Cert.Kernel4Ideal.Gen.outsAt0_A (mem m c) c ⟨0, hn⟩ (Nat.zero_mod _), b0, b1, b2, b3, b4, b5]
    sl_kernel_rfl
  | succ n ih =>
    intro hn
    by_cases e : (n + 1) % 32 = 0
    · rw [outsAt0_A m c ⟨n + 1, hn⟩ e, Cert.Kernel4Ideal.Gen.outsAt0_A (mem m c) c ⟨n + 1, hn⟩ e, b0, b1, b2, b3, b4, b5]
      sl_kernel_rfl
    · have hk := ih (Nat.lt_of_succ_lt hn)
      have hp : outsAt0 m c ((⟨n + 1, hn⟩ : Fin cfg0.N).val - 1) (Nat.lt_of_le_of_lt (Nat.sub_le _ _) (⟨n + 1, hn⟩ : Fin cfg0.N).isLt)
        = Cert.Kernel4Ideal.Gen.outsAt0 (mem m c) c n (Nat.lt_of_succ_lt hn) := hk
      rw [outsAt0_B m c ⟨n + 1, hn⟩ e, Cert.Kernel4Ideal.Gen.outsAt0_B (mem m c) c ⟨n + 1, hn⟩ e, b0, b1, b2, b3, b4, b5, hp]
      sl_kernel_rfl

/-- What the kernel leaves in its four arrays. -/
def out6 : FVec Ideal S16384x1024 .f32 := res6 (mem m c) c
def out7 : FVec Ideal S16384x1 .f32 := res7 (mem m c) c
def out8 : FVec Ideal S16384x5632 .bf16 := res8 (mem m c) c
def out9 : FVec Ideal S16384x5632 .bf16 := res9 (mem m c) c

theorem final6 : (dats m 0 c).arrAt 6 (cfgs 0).N = out6 m c := by
  refine (dats m 0 c).arrAt_eq_of_covers 6 _ (by decide +kernel) fun t hf y => ?_
  blk_simp
  rw [after0_6, outs]
  obtain ⟨r, j, rfl⟩ : ∃ (r : Fin 512) (j : Fin 1024), y = ix2 r j := ⟨y 0, y 1, by blk_ext⟩
  refine (step6 (mem m c) c t r j).trans ?_
  refine congrArg (out6 m c) (a₁ := ix2 (row t r) j) ?_
  blk_ext [idx t]

theorem final7 : (dats m 0 c).arrAt 7 (cfgs 0).N = out7 m c := by
  refine (dats m 0 c).arrAt_eq_of_covers 7 _ (by decide +kernel) fun t hf y => ?_
  blk_simp
  rw [after0_7, outs]
  obtain ⟨r, rfl⟩ : ∃ (r : Fin 512), y = ix2 r 0 := ⟨y 0, by blk_ext⟩
  refine (step7 (mem m c) c t r).trans ?_
  refine congrArg (out7 m c) (a₁ := ix2 (row t r) 0) ?_
  blk_ext [idx t]

theorem final8 : (dats m 0 c).arrAt 8 (cfgs 0).N = out8 m c := by
  refine (dats m 0 c).arrAt_eq_of_covers 8 _ (by decide +kernel) fun t hf y => ?_
  blk_simp
  rw [after0_8, outs]
  obtain ⟨r, j, rfl⟩ : ∃ (r : Fin 512) (j : Fin 5632), y = ix2 r j := ⟨y 0, y 1, by blk_ext⟩
  refine (step8 (mem m c) c t r j).trans ?_
  refine congrArg (out8 m c) (a₁ := ix2 (row t r) j) ?_
  blk_ext [idx t]

theorem final9 : (dats m 0 c).arrAt 9 (cfgs 0).N = out9 m c := by
  refine (dats m 0 c).arrAt_eq_of_covers 9 _ (by decide +kernel) fun t hf y => ?_
  blk_simp
  rw [after0_9, outs]
  obtain ⟨r, j, rfl⟩ : ∃ (r : Fin 512) (j : Fin 5632), y = ix2 r j := ⟨y 0, y 1, by blk_ext⟩
  refine (step9 (mem m c) c t r j).trans ?_
  refine congrArg (out9 m c) (a₁ := ix2 (row t r) j) ?_
  blk_ext [idx t]

end Cert.Kernel7Ideal.Mlp

namespace Cert.Reference7Ideal.Mlp
open Cert.Reference7Ideal Cert.Reference7Ideal.Gen Cert.Reference7Ideal.Read
open Cert.Kernel4Ideal.Mlp (take)
variable (a0 : FVec Ideal S16384x1024 .f32) (a1 a2 : FVec Ideal S1x1024 .f32) (a3 : FVec Ideal S1x1024x5632 .f32)
  (a4 : FVec Ideal S4x3x5632 .f32) (a5 : FVec Ideal S1x2816x1024 .f32)

theorem taps_eq : val_main_v25 (F := Ideal) a4 = Cert.Reference4Ideal.Read.val_main_v25 (F := Ideal) (take 0 a4) := by
  funext i
  obtain ⟨k, q, rfl⟩ : ∃ (k : Fin 3) (q : Fin 5632), i = ix2 k q := ⟨i 0, i 1, by blk_ext⟩
  pointwise [val_main_v25, val_main_v24, Cert.Reference4Ideal.Read.val_main_v25, Cert.Reference4Ideal.Read.val_main_v24]
  rfl

theorem hid_eq : val_main_v77 (F := Ideal) a0 a1 a2 a3 = Cert.Reference4Ideal.Read.val_main_v77 (F := Ideal) a0 a1 a2 a3 := by
  sl_kernel_rfl

theorem sum_eq : val_main_v49 (F := Ideal) a0 a1 a2 a3 a4 = Cert.Reference4Ideal.Read.val_main_v49 (F := Ideal) a0 a1 a2 a3 (take 0 a4) := by
  unfold val_main_v49 val_main_v48 val_main_v42 val_main_v47 val_main_v46 val_main_v45 val_main_v44 val_main_v41 val_main_v40
    val_main_v39 val_main_v38 val_main_v37 val_main_v35 val_main_v33 val_main_v32 val_main_v31 val_main_v30 val_main_v29
  rw [taps_eq]
  sl_kernel_rfl

theorem conv_eq : val_main_v78 (F := Ideal) a0 a1 a2 a3 a4 = Cert.Reference4Ideal.Read.val_main_v78 (F := Ideal) a0 a1 a2 a3 (take 0 a4) := by
  unfold val_main_v78
  rw [sum_eq]
  sl_kernel_rfl

theorem mlp_eq :
    val_main_v58 (F := Ideal) a0 a1 a2 a3 a4 a5 = Cert.Reference4Ideal.Read.val_main_v58 (F := Ideal) a0 a1 a2 a3 (take 0 a4) a5 := by
  unfold val_main_v58 val_main_v57 val_main_v55 val_main_v54 val_main_call0_v5 val_main_call0_v4 val_main_call0_v3 val_main_call0_v2
    val_main_call0_v1 val_main_call0_v0 val_main_v51 val_main_v50
  rw [sum_eq]
  sl_kernel_rfl

theorem rstd_eq :
    val_main_v72 (F := Ideal) a0 a1 a2 a3 a4 a5 = Cert.Reference4Ideal.Read.val_main_v72 (F := Ideal) a0 a1 a2 a3 (take 0 a4) a5 := by
  unfold val_main_v72 val_main_v71 val_main_v69 val_main_v67 val_main_v66 val_main_v65 val_main_v64 val_main_v63 val_main_v62 val_main_v60 val_main_v59
  rw [mlp_eq]
  sl_kernel_rfl

theorem xhat_eq :
    val_main_v76 (F := Ideal) a0 a1 a2 a3 a4 a5 = Cert.Reference4Ideal.Read.val_main_v76 (F := Ideal) a0 a1 a2 a3 (take 0 a4) a5 := by
  unfold val_main_v76 val_main_v75 val_main_v74 val_main_v73 val_main_v62 val_main_v60 val_main_v59
  rw [mlp_eq, rstd_eq]
  sl_kernel_rfl

end Cert.Reference7Ideal.Mlp

namespace Cert.Mlp0
open Cert.Kernel7Ideal Cert.Kernel7Ideal.Mlp
open Cert.Kernel4Ideal.Mlp (moved_xhat moved_rstd moved_hid moved_conv)

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2.2.2,
    Idealize.ShloMosaic.sem_eq_zero_of_no_sems (by decide) r.2⟩) (Cert.Reference7Ideal.Value.run (F := Ideal) m ρ)

theorem algebraic : Cert.algebraic_Kernel7Ideal_Reference7Ideal := by
  intro m g m' g' hpre hagree
  refine ⟨out6 m, out7 m, out8 m, out9 m, ?_, ?_⟩
  · refine (θ_run Cert.Kernel7Ideal.defs _ _).mono (fun r h c => ?_) (Cert.Kernel7Ideal.Value.run_blocks (F := Ideal) m g)
    obtain ⟨h0, h1, h2, h3, hk⟩ := h c
    exact ⟨h0.trans (final6 m c), h1.trans (final7 m c), h2.trans (final8 m c), h3.trans (final9 m c), hk⟩
  · refine (θ_run Cert.Reference7Ideal.defs _ _).mono (fun r h c => ?_) (Cert.Reference7Ideal.Value.run (F := Ideal) m' g')
    obtain ⟨h0, h1, h2, h3, hk⟩ := h c
    obtain ⟨b0, b1, b2, b3, b4, b5⟩ := hagree c
    have a0 : StableHlo.launchContents m' c (Proc.devRef .tc Cert.Reference7Ideal.main_arg0) = _ := b0
    have a1 : StableHlo.launchContents m' c (Proc.devRef .tc Cert.Reference7Ideal.main_arg1) = _ := b1
    have a2 : StableHlo.launchContents m' c (Proc.devRef .tc Cert.Reference7Ideal.main_arg2) = _ := b2
    have a3 : StableHlo.launchContents m' c (Proc.devRef .tc Cert.Reference7Ideal.main_arg3) = _ := b3
    have a4 : StableHlo.launchContents m' c (Proc.devRef .tc Cert.Reference7Ideal.main_arg4) = _ := b4
    have a5 : StableHlo.launchContents m' c (Proc.devRef .tc Cert.Reference7Ideal.main_arg5) = _ := b5
    have e0 := (h0.trans (Cert.Reference7Ideal.Read.val_main_v76_eq _))
    have e1 := (h1.trans (Cert.Reference7Ideal.Read.val_main_v72_eq _))
    have e2 := (h2.trans (Cert.Reference7Ideal.Read.val_main_v77_eq _))
    have e3 := (h3.trans (Cert.Reference7Ideal.Read.val_main_v78_eq _))
    rw [a0, a1, a2, a3, a4, a5, Cert.Reference7Ideal.Mlp.xhat_eq] at e0
    rw [a0, a1, a2, a3, a4, a5, Cert.Reference7Ideal.Mlp.rstd_eq] at e1
    rw [a0, a1, a2, a3, Cert.Reference7Ideal.Mlp.hid_eq] at e2
    rw [a0, a1, a2, a3, a4, Cert.Reference7Ideal.Mlp.conv_eq] at e3
    exact ⟨e0.trans (moved_xhat 0 m c), e1.trans (moved_rstd 0 m c), e2.trans (moved_hid 0 m c), e3.trans (moved_conv 0 m c), hk⟩

end Cert.Mlp0
end
-- ==== Proof.MlpLayer1.lean ====
module

public import proofs.«01_k».proof.Proof.MlpMove
public import proofs.«01_k».proof.Proof.Gen.Kernel8
public import proofs.«01_k».proof.Proof.Gen.Kernel8Ideal.Value
public import proofs.«01_k».proof.Proof.Gen.Reference8Ideal.Read

/-! The gated block of layer 1 forwards: its kernel and its reference are those of the last layer with layer 1's taps. -/

@[expose] public section

set_option maxRecDepth 100000

noncomputable section
open Idealize.ShloMosaic Idealize.ShloMosaic.TcCoe Idealize.ShloMosaic.Tactic Idealize.SL.Sem
namespace Cert.Kernel8Ideal.Mlp
open Cert.Kernel8Ideal Cert.Kernel8Ideal.Gen
open Cert.Kernel4Ideal.Mlp (A0 A1 A2 A3 A4 A5 take moved moved_i0 moved_i1 moved_i2 moved_i3 moved_i4 moved_i5 res6 res7 res8 res9
  step6 step7 step8 step9 row)
variable (m : (ℓ : Loc nD τ sig) → Buf (Elt Ideal) ℓ) (c : Dev nD)

/-- The memory of the last layer's kernel that this layer's is compared with. -/
abbrev mem : (ℓ : Loc Cert.Kernel4Ideal.nD Cert.Kernel4Ideal.τ Cert.Kernel4Ideal.sig) → Buf (Elt Ideal) ℓ := moved 1 m c

theorem idx : ∀ t : Fin cfg0.N, win0_4.index t = ![1, 0, 0] ∧ win0_6.index t = ![t.val, 0] ∧ win0_7.index t = ![t.val, 0]
    ∧ win0_8.index t = ![t.val, 0] ∧ win0_9.index t = ![t.val, 0] ∧ t.val < 32 :=
  (by decide +kernel : ∀ t : Fin grid0.N, _)

section
variable (t : Fin cfg0.N)

theorem b0 : (iblk m c 0 t : Vec Ideal S512x1024 .f32) = Cert.Kernel4Ideal.Gen.iblk (mem m c) c 0 t := by
  refine Eq.trans ?_ (moved_i0 1 m c t)
  sl_kernel_rfl

theorem b1 : (iblk m c 1 t : Vec Ideal S1x1024 .f32) = Cert.Kernel4Ideal.Gen.iblk (mem m c) c 1 t := by
  refine Eq.trans ?_ (moved_i1 1 m c t)
  sl_kernel_rfl

theorem b2 : (iblk m c 2 t : Vec Ideal S1x1024 .f32) = Cert.Kernel4Ideal.Gen.iblk (mem m c) c 2 t := by
  refine Eq.trans ?_ (moved_i2 1 m c t)
  sl_kernel_rfl

theorem b3 : (iblk m c 3 t : Vec Ideal S1x1024x5632 .bf16) = Cert.Kernel4Ideal.Gen.iblk (mem m c) c 3 t := by
  refine Eq.trans ?_ (moved_i3 1 m c t)
  sl_kernel_rfl

theorem b4 : (iblk m c 4 t : Vec Ideal S1x3x5632 .f32) = Cert.Kernel4Ideal.Gen.iblk (mem m c) c 4 t := by
  funext y
  obtain ⟨k, q, rfl⟩ : ∃ (k : Fin 3) (q : Fin 5632), y = ix3 0 k q := ⟨y 1, y 2, by blk_ext⟩
  refine Eq.trans ?_ (moved_i4 1 m c t k q).symm
  blk_ext [iblk, V, idx t]

theorem b5 : (iblk m c 5 t : Vec Ideal S1x2816x1024 .bf16) = Cert.Kernel4Ideal.Gen.iblk (mem m c) c 5 t := by
  refine Eq.trans ?_ (moved_i5 1 m c t)
  sl_kernel_rfl
end

/-- Every grid point leaves what the last layer's kernel leaves there. -/
theorem outs (n : ℕ) : ∀ hn : n < cfg0.N, outsAt0 m c n hn = Cert.Kernel4Ideal.Gen.outsAt0 (mem m c) c n hn := by
  induction n with
  | zero =>
    intro hn
    rw [outsAt0_A m c ⟨0, hn⟩ (Nat.zero_mod _), Cert.Kernel4Ideal.Gen.outsAt0_A (mem m c) c ⟨0, hn⟩ (Nat.zero_mod _), b0, b1, b2, b3, b4, b5]
    sl_kernel_rfl
  | succ n ih =>
    intro hn
    by_cases e : (n + 1) % 32 = 0
    · rw [outsAt0_A m c ⟨n + 1, hn⟩ e, Cert.Kernel4Ideal.Gen.outsAt0_A (mem m c) c ⟨n + 1, hn⟩ e, b0, b1, b2, b3, b4, b5]
      sl_kernel_rfl
    · have hk := ih (Nat.lt_of_succ_lt hn)
      have hp : outsAt0 m c ((⟨n + 1, hn⟩ : Fin cfg0.N).val - 1) (Nat.lt_of_le_of_lt (Nat.sub_le _ _) (⟨n + 1, hn⟩ : Fin cfg0.N).isLt)
        = Cert.Kernel4Ideal.Gen.outsAt0 (mem m c) c n (Nat.lt_of_succ_lt hn) := hk
      rw [outsAt0_B m c ⟨n + 1, hn⟩ e, Cert.Kernel4Ideal.Gen.outsAt0_B (mem m c) c ⟨n + 1, hn⟩ e, b0, b1, b2, b3, b4, b5, hp]
      sl_kernel_rfl

/-- What the kernel leaves in its four arrays. -/
def out6 : FVec Ideal S16384x1024 .f32 := res6 (mem m c) c
def out7 : FVec Ideal S16384x1 .f32 := res7 (mem m c) c
def out8 : FVec Ideal S16384x5632 .bf16 := res8 (mem m c) c
def out9 : FVec Ideal S16384x5632 .bf16 := res9 (mem m c) c

theorem final6 : (dats m 0 c).arrAt 6 (cfgs 0).N = out6 m c := by
  refine (dats m 0 c).arrAt_eq_of_covers 6 _ (by decide +kernel) fun t hf y => ?_
  blk_simp
  rw [after0_6, outs]
  obtain ⟨r, j, rfl⟩ : ∃ (r : Fin 512) (j : Fin 1024), y = ix2 r j := ⟨y 0, y 1, by blk_ext⟩
  refine (step6 (mem m c) c t r j).trans ?_
  refine congrArg (out6 m c) (a₁ := ix2 (row t r) j) ?_
  blk_ext [idx t]

theorem final7 : (dats m 0 c).arrAt 7 (cfgs 0).N = out7 m c := by
  refine (dats m 0 c).arrAt_eq_of_covers 7 _ (by decide +kernel) fun t hf y => ?_
  blk_simp
  rw [after0_7, outs]
  obtain ⟨r, rfl⟩ : ∃ (r : Fin 512), y = ix2 r 0 := ⟨y 0, by blk_ext⟩
  refine (step7 (mem m c) c t r).trans ?_
  refine congrArg (out7 m c) (a₁ := ix2 (row t r) 0) ?_
  blk_ext [idx t]

theorem final8 : (dats m 0 c).arrAt 8 (cfgs 0).N = out8 m c := by
  refine (dats m 0 c).arrAt_eq_of_covers 8 _ (by decide +kernel) fun t hf y => ?_
  blk_simp
  rw [after0_8, outs]
  obtain ⟨r, j, rfl⟩ : ∃ (r : Fin 512) (j : Fin 5632), y = ix2 r j := ⟨y 0, y 1, by blk_ext⟩
  refine (step8 (mem m c) c t r j).trans ?_
  refine congrArg (out8 m c) (a₁ := ix2 (row t r) j) ?_
  blk_ext [idx t]

theorem final9 : (dats m 0 c).arrAt 9 (cfgs 0).N = out9 m c := by
  refine (dats m 0 c).arrAt_eq_of_covers 9 _ (by decide +kernel) fun t hf y => ?_
  blk_simp
  rw [after0_9, outs]
  obtain ⟨r, j, rfl⟩ : ∃ (r : Fin 512) (j : Fin 5632), y = ix2 r j := ⟨y 0, y 1, by blk_ext⟩
  refine (step9 (mem m c) c t r j).trans ?_
  refine congrArg (out9 m c) (a₁ := ix2 (row t r) j) ?_
  blk_ext [idx t]

end Cert.Kernel8Ideal.Mlp

namespace Cert.Reference8Ideal.Mlp
open Cert.Reference8Ideal Cert.Reference8Ideal.Gen Cert.Reference8Ideal.Read
open Cert.Kernel4Ideal.Mlp (take)
variable (a0 : FVec Ideal S16384x1024 .f32) (a1 a2 : FVec Ideal S1x1024 .f32) (a3 : FVec Ideal S1x1024x5632 .f32)
  (a4 : FVec Ideal S4x3x5632 .f32) (a5 : FVec Ideal S1x2816x1024 .f32)

theorem taps_eq : val_main_v25 (F := Ideal) a4 = Cert.Reference4Ideal.Read.val_main_v25 (F := Ideal) (take 1 a4) := by
  funext i
  obtain ⟨k, q, rfl⟩ : ∃ (k : Fin 3) (q : Fin 5632), i = ix2 k q := ⟨i 0, i 1, by blk_ext⟩
  pointwise [val_main_v25, val_main_v24, Cert.Reference4Ideal.Read.val_main_v25, Cert.Reference4Ideal.Read.val_main_v24]
  rfl

theorem hid_eq : val_main_v77 (F := Ideal) a0 a1 a2 a3 = Cert.Reference4Ideal.Read.val_main_v77 (F := Ideal) a0 a1 a2 a3 := by
  sl_kernel_rfl

theorem sum_eq : val_main_v49 (F := Ideal) a0 a1 a2 a3 a4 = Cert.Reference4Ideal.Read.val_main_v49 (F := Ideal) a0 a1 a2 a3 (take 1 a4) := by
  unfold val_main_v49 val_main_v48 val_main_v42 val_main_v47 val_main_v46 val_main_v45 val_main_v44 val_main_v41 val_main_v40
    val_main_v39 val_main_v38 val_main_v37 val_main_v35 val_main_v33 val_main_v32 val_main_v31 val_main_v30 val_main_v29
  rw [taps_eq]
  sl_kernel_rfl

theorem conv_eq : val_main_v78 (F := Ideal) a0 a1 a2 a3 a4 = Cert.Reference4Ideal.Read.val_main_v78 (F := Ideal) a0 a1 a2 a3 (take 1 a4) := by
  unfold val_main_v78
  rw [sum_eq]
  sl_kernel_rfl

theorem mlp_eq :
    val_main_v58 (F := Ideal) a0 a1 a2 a3 a4 a5 = Cert.Reference4Ideal.Read.val_main_v58 (F := Ideal) a0 a1 a2 a3 (take 1 a4) a5 := by
  unfold val_main_v58 val_main_v57 val_main_v55 val_main_v54 val_main_call0_v5 val_main_call0_v4 val_main_call0_v3 val_main_call0_v2
    val_main_call0_v1 val_main_call0_v0 val_main_v51 val_main_v50
  rw [sum_eq]
  sl_kernel_rfl

theorem rstd_eq :
    val_main_v72 (F := Ideal) a0 a1 a2 a3 a4 a5 = Cert.Reference4Ideal.Read.val_main_v72 (F := Ideal) a0 a1 a2 a3 (take 1 a4) a5 := by
  unfold val_main_v72 val_main_v71 val_main_v69 val_main_v67 val_main_v66 val_main_v65 val_main_v64 val_main_v63 val_main_v62 val_main_v60 val_main_v59
  rw [mlp_eq]
  sl_kernel_rfl

theorem xhat_eq :
    val_main_v76 (F := Ideal) a0 a1 a2 a3 a4 a5 = Cert.Reference4Ideal.Read.val_main_v76 (F := Ideal) a0 a1 a2 a3 (take 1 a4) a5 := by
  unfold val_main_v76 val_main_v75 val_main_v74 val_main_v73 val_main_v62 val_main_v60 val_main_v59
  rw [mlp_eq, rstd_eq]
  sl_kernel_rfl

end Cert.Reference8Ideal.Mlp

namespace Cert.Mlp1
open Cert.Kernel8Ideal Cert.Kernel8Ideal.Mlp
open Cert.Kernel4Ideal.Mlp (moved_xhat moved_rstd moved_hid moved_conv)

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2.2.2.2,
    Idealize.ShloMosaic.sem_eq_zero_of_no_sems (by decide) r.2⟩) (Cert.Reference8Ideal.Value.run (F := Ideal) m ρ)

theorem algebraic : Cert.algebraic_Kernel8Ideal_Reference8Ideal := by
  intro m g m' g' hpre hagree
  refine ⟨out6 m, out7 m, out8 m, out9 m, ?_, ?_⟩
  · refine (θ_run Cert.Kernel8Ideal.defs _ _).mono (fun r h c => ?_) (Cert.Kernel8Ideal.Value.run_blocks (F := Ideal) m g)
    obtain ⟨h0, h1, h2, h3, hk⟩ := h c
    exact ⟨h0.trans (final6 m c), h1.trans (final7 m c), h2.trans (final8 m c), h3.trans (final9 m c), hk⟩
  · refine (θ_run Cert.Reference8Ideal.defs _ _).mono (fun r h c => ?_) (Cert.Reference8Ideal.Value.run (F := Ideal) m' g')
    obtain ⟨h0, h1, h2, h3, hk⟩ := h c
    obtain ⟨b0, b1, b2, b3, b4, b5⟩ := hagree c
    have a0 : StableHlo.launchContents m' c (Proc.devRef .tc Cert.Reference8Ideal.main_arg0) = _ := b0
    have a1 : StableHlo.launchContents m' c (Proc.devRef .tc Cert.Reference8Ideal.main_arg1) = _ := b1
    have a2 : StableHlo.launchContents m' c (Proc.devRef .tc Cert.Reference8Ideal.main_arg2) = _ := b2
    have a3 : StableHlo.launchContents m' c (Proc.devRef .tc Cert.Reference8Ideal.main_arg3) = _ := b3
    have a4 : StableHlo.launchContents m' c (Proc.devRef .tc Cert.Reference8Ideal.main_arg4) = _ := b4
    have a5 : StableHlo.launchContents m' c (Proc.devRef .tc Cert.Reference8Ideal.main_arg5) = _ := b5
    have e0 := (h0.trans (Cert.Reference8Ideal.Read.val_main_v76_eq _))
    have e1 := (h1.trans (Cert.Reference8Ideal.Read.val_main_v72_eq _))
    have e2 := (h2.trans (Cert.Reference8Ideal.Read.val_main_v77_eq _))
    have e3 := (h3.trans (Cert.Reference8Ideal.Read.val_main_v78_eq _))
    rw [a0, a1, a2, a3, a4, a5, Cert.Reference8Ideal.Mlp.xhat_eq] at e0
    rw [a0, a1, a2, a3, a4, a5, Cert.Reference8Ideal.Mlp.rstd_eq] at e1
    rw [a0, a1, a2, a3, Cert.Reference8Ideal.Mlp.hid_eq] at e2
    rw [a0, a1, a2, a3, a4, Cert.Reference8Ideal.Mlp.conv_eq] at e3
    exact ⟨e0.trans (moved_xhat 1 m c), e1.trans (moved_rstd 1 m c), e2.trans (moved_hid 1 m c), e3.trans (moved_conv 1 m c), hk⟩

end Cert.Mlp1
end
-- ==== Proof.MlpLayer2.lean ====
module

public import proofs.«01_k».proof.Proof.MlpMove
public import proofs.«01_k».proof.Proof.Gen.Kernel9
public import proofs.«01_k».proof.Proof.Gen.Kernel9Ideal.Value
public import proofs.«01_k».proof.Proof.Gen.Reference9Ideal.Read

/-! The gated block of layer 2 forwards: its kernel and its reference are those of the last layer with layer 2's taps. -/

@[expose] public section

set_option maxRecDepth 100000

noncomputable section
open Idealize.ShloMosaic Idealize.ShloMosaic.TcCoe Idealize.ShloMosaic.Tactic Idealize.SL.Sem
namespace Cert.Kernel9Ideal.Mlp
open Cert.Kernel9Ideal Cert.Kernel9Ideal.Gen
open Cert.Kernel4Ideal.Mlp (A0 A1 A2 A3 A4 A5 take moved moved_i0 moved_i1 moved_i2 moved_i3 moved_i4 moved_i5 res6 res7 res8 res9
  step6 step7 step8 step9 row)
variable (m : (ℓ : Loc nD τ sig) → Buf (Elt Ideal) ℓ) (c : Dev nD)

/-- The memory of the last layer's kernel that this layer's is compared with. -/
abbrev mem : (ℓ : Loc Cert.Kernel4Ideal.nD Cert.Kernel4Ideal.τ Cert.Kernel4Ideal.sig) → Buf (Elt Ideal) ℓ := moved 2 m c

theorem idx : ∀ t : Fin cfg0.N, win0_4.index t = ![2, 0, 0] ∧ win0_6.index t = ![t.val, 0] ∧ win0_7.index t = ![t.val, 0]
    ∧ win0_8.index t = ![t.val, 0] ∧ win0_9.index t = ![t.val, 0] ∧ t.val < 32 :=
  (by decide +kernel : ∀ t : Fin grid0.N, _)

section
variable (t : Fin cfg0.N)

theorem b0 : (iblk m c 0 t : Vec Ideal S512x1024 .f32) = Cert.Kernel4Ideal.Gen.iblk (mem m c) c 0 t := by
  refine Eq.trans ?_ (moved_i0 2 m c t)
  sl_kernel_rfl

theorem b1 : (iblk m c 1 t : Vec Ideal S1x1024 .f32) = Cert.Kernel4Ideal.Gen.iblk (mem m c) c 1 t := by
  refine Eq.trans ?_ (moved_i1 2 m c t)
  sl_kernel_rfl

theorem b2 : (iblk m c 2 t : Vec Ideal S1x1024 .f32) = Cert.Kernel4Ideal.Gen.iblk (mem m c) c 2 t := by
  refine Eq.trans ?_ (moved_i2 2 m c t)
  sl_kernel_rfl

theorem b3 : (iblk m c 3 t : Vec Ideal S1x1024x5632 .bf16) = Cert.Kernel4Ideal.Gen.iblk (mem m c) c 3 t := by
  refine Eq.trans ?_ (moved_i3 2 m c t)
  sl_kernel_rfl

theorem b4 : (iblk m c 4 t : Vec Ideal S1x3x5632 .f32) = Cert.Kernel4Ideal.Gen.iblk (mem m c) c 4 t := by
  funext y
  obtain ⟨k, q, rfl⟩ : ∃ (k : Fin 3) (q : Fin 5632), y = ix3 0 k q := ⟨y 1, y 2, by blk_ext⟩
  refine Eq.trans ?_ (moved_i4 2 m c t k q).symm
  blk_ext [iblk, V, idx t]

theorem b5 : (iblk m c 5 t : Vec Ideal S1x2816x1024 .bf16) = Cert.Kernel4Ideal.Gen.iblk (mem m c) c 5 t := by
  refine Eq.trans ?_ (moved_i5 2 m c t)
  sl_kernel_rfl
end

/-- Every grid point leaves what the last layer's kernel leaves there. -/
theorem outs (n : ℕ) : ∀ hn : n < cfg0.N, outsAt0 m c n hn = Cert.Kernel4Ideal.Gen.outsAt0 (mem m c) c n hn := by
  induction n with
  | zero =>
    intro hn
    rw [outsAt0_A m c ⟨0, hn⟩ (Nat.zero_mod _), Cert.Kernel4Ideal.Gen.outsAt0_A (mem m c) c ⟨0, hn⟩ (Nat.zero_mod _), b0, b1, b2, b3, b4, b5]
    sl_kernel_rfl
  | succ n ih =>
    intro hn
    by_cases e : (n + 1) % 32 = 0
    · rw [outsAt0_A m c ⟨n + 1, hn⟩ e, Cert.Kernel4Ideal.Gen.outsAt0_A (mem m c) c ⟨n + 1, hn⟩ e, b0, b1, b2, b3, b4, b5]
      sl_kernel_rfl
    · have hk := ih (Nat.lt_of_succ_lt hn)
      have hp : outsAt0 m c ((⟨n + 1, hn⟩ : Fin cfg0.N).val - 1) (Nat.lt_of_le_of_lt (Nat.sub_le _ _) (⟨n + 1, hn⟩ : Fin cfg0.N).isLt)
        = Cert.Kernel4Ideal.Gen.outsAt0 (mem m c) c n (Nat.lt_of_succ_lt hn) := hk
      rw [outsAt0_B m c ⟨n + 1, hn⟩ e, Cert.Kernel4Ideal.Gen.outsAt0_B (mem m c) c ⟨n + 1, hn⟩ e, b0, b1, b2, b3, b4, b5, hp]
      sl_kernel_rfl

/-- What the kernel leaves in its four arrays. -/
def out6 : FVec Ideal S16384x1024 .f32 := res6 (mem m c) c
def out7 : FVec Ideal S16384x1 .f32 := res7 (mem m c) c
def out8 : FVec Ideal S16384x5632 .bf16 := res8 (mem m c) c
def out9 : FVec Ideal S16384x5632 .bf16 := res9 (mem m c) c

theorem final6 : (dats m 0 c).arrAt 6 (cfgs 0).N = out6 m c := by
  refine (dats m 0 c).arrAt_eq_of_covers 6 _ (by decide +kernel) fun t hf y => ?_
  blk_simp
  rw [after0_6, outs]
  obtain ⟨r, j, rfl⟩ : ∃ (r : Fin 512) (j : Fin 1024), y = ix2 r j := ⟨y 0, y 1, by blk_ext⟩
  refine (step6 (mem m c) c t r j).trans ?_
  refine congrArg (out6 m c) (a₁ := ix2 (row t r) j) ?_
  blk_ext [idx t]

theorem final7 : (dats m 0 c).arrAt 7 (cfgs 0).N = out7 m c := by
  refine (dats m 0 c).arrAt_eq_of_covers 7 _ (by decide +kernel) fun t hf y => ?_
  blk_simp
  rw [after0_7, outs]
  obtain ⟨r, rfl⟩ : ∃ (r : Fin 512), y = ix2 r 0 := ⟨y 0, by blk_ext⟩
  refine (step7 (mem m c) c t r).trans ?_
  refine congrArg (out7 m c) (a₁ := ix2 (row t r) 0) ?_
  blk_ext [idx t]

theorem final8 : (dats m 0 c).arrAt 8 (cfgs 0).N = out8 m c := by
  refine (dats m 0 c).arrAt_eq_of_covers 8 _ (by decide +kernel) fun t hf y => ?_
  blk_simp
  rw [after0_8, outs]
  obtain ⟨r, j, rfl⟩ : ∃ (r : Fin 512) (j : Fin 5632), y = ix2 r j := ⟨y 0, y 1, by blk_ext⟩
  refine (step8 (mem m c) c t r j).trans ?_
  refine congrArg (out8 m c) (a₁ := ix2 (row t r) j) ?_
  blk_ext [idx t]

theorem final9 : (dats m 0 c).arrAt 9 (cfgs 0).N = out9 m c := by
  refine (dats m 0 c).arrAt_eq_of_covers 9 _ (by decide +kernel) fun t hf y => ?_
  blk_simp
  rw [after0_9, outs]
  obtain ⟨r, j, rfl⟩ : ∃ (r : Fin 512) (j : Fin 5632), y = ix2 r j := ⟨y 0, y 1, by blk_ext⟩
  refine (step9 (mem m c) c t r j).trans ?_
  refine congrArg (out9 m c) (a₁ := ix2 (row t r) j) ?_
  blk_ext [idx t]

end Cert.Kernel9Ideal.Mlp

namespace Cert.Reference9Ideal.Mlp
open Cert.Reference9Ideal Cert.Reference9Ideal.Gen Cert.Reference9Ideal.Read
open Cert.Kernel4Ideal.Mlp (take)
variable (a0 : FVec Ideal S16384x1024 .f32) (a1 a2 : FVec Ideal S1x1024 .f32) (a3 : FVec Ideal S1x1024x5632 .f32)
  (a4 : FVec Ideal S4x3x5632 .f32) (a5 : FVec Ideal S1x2816x1024 .f32)

theorem taps_eq : val_main_v25 (F := Ideal) a4 = Cert.Reference4Ideal.Read.val_main_v25 (F := Ideal) (take 2 a4) := by
  funext i
  obtain ⟨k, q, rfl⟩ : ∃ (k : Fin 3) (q : Fin 5632), i = ix2 k q := ⟨i 0, i 1, by blk_ext⟩
  pointwise [val_main_v25, val_main_v24, Cert.Reference4Ideal.Read.val_main_v25, Cert.Reference4Ideal.Read.val_main_v24]
  rfl

theorem hid_eq : val_main_v77 (F := Ideal) a0 a1 a2 a3 = Cert.Reference4Ideal.Read.val_main_v77 (F := Ideal) a0 a1 a2 a3 := by
  sl_kernel_rfl

theorem sum_eq : val_main_v49 (F := Ideal) a0 a1 a2 a3 a4 = Cert.Reference4Ideal.Read.val_main_v49 (F := Ideal) a0 a1 a2 a3 (take 2 a4) := by
  unfold val_main_v49 val_main_v48 val_main_v42 val_main_v47 val_main_v46 val_main_v45 val_main_v44 val_main_v41 val_main_v40
    val_main_v39 val_main_v38 val_main_v37 val_main_v35 val_main_v33 val_main_v32 val_main_v31 val_main_v30 val_main_v29
  rw [taps_eq]
  sl_kernel_rfl

theorem conv_eq : val_main_v78 (F := Ideal) a0 a1 a2 a3 a4 = Cert.Reference4Ideal.Read.val_main_v78 (F := Ideal) a0 a1 a2 a3 (take 2 a4) := by
  unfold val_main_v78
  rw [sum_eq]
  sl_kernel_rfl

theorem mlp_eq :
    val_main_v58 (F := Ideal) a0 a1 a2 a3 a4 a5 = Cert.Reference4Ideal.Read.val_main_v58 (F := Ideal) a0 a1 a2 a3 (take 2 a4) a5 := by
  unfold val_main_v58 val_main_v57 val_main_v55 val_main_v54 val_main_call0_v5 val_main_call0_v4 val_main_call0_v3 val_main_call0_v2
    val_main_call0_v1 val_main_call0_v0 val_main_v51 val_main_v50
  rw [sum_eq]
  sl_kernel_rfl

theorem rstd_eq :
    val_main_v72 (F := Ideal) a0 a1 a2 a3 a4 a5 = Cert.Reference4Ideal.Read.val_main_v72 (F := Ideal) a0 a1 a2 a3 (take 2 a4) a5 := by
  unfold val_main_v72 val_main_v71 val_main_v69 val_main_v67 val_main_v66 val_main_v65 val_main_v64 val_main_v63 val_main_v62 val_main_v60 val_main_v59
  rw [mlp_eq]
  sl_kernel_rfl

theorem xhat_eq :
    val_main_v76 (F := Ideal) a0 a1 a2 a3 a4 a5 = Cert.Reference4Ideal.Read.val_main_v76 (F := Ideal) a0 a1 a2 a3 (take 2 a4) a5 := by
  unfold val_main_v76 val_main_v75 val_main_v74 val_main_v73 val_main_v62 val_main_v60 val_main_v59
  rw [mlp_eq, rstd_eq]
  sl_kernel_rfl

end Cert.Reference9Ideal.Mlp

namespace Cert.Mlp2
open Cert.Kernel9Ideal Cert.Kernel9Ideal.Mlp
open Cert.Kernel4Ideal.Mlp (moved_xhat moved_rstd moved_hid moved_conv)

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2.2.2.2,
    Idealize.ShloMosaic.sem_eq_zero_of_no_sems (by decide) r.2⟩) (Cert.Reference9Ideal.Value.run (F := Ideal) m ρ)

theorem algebraic : Cert.algebraic_Kernel9Ideal_Reference9Ideal := by
  intro m g m' g' hpre hagree
  refine ⟨out6 m, out7 m, out8 m, out9 m, ?_, ?_⟩
  · refine (θ_run Cert.Kernel9Ideal.defs _ _).mono (fun r h c => ?_) (Cert.Kernel9Ideal.Value.run_blocks (F := Ideal) m g)
    obtain ⟨h0, h1, h2, h3, hk⟩ := h c
    exact ⟨h0.trans (final6 m c), h1.trans (final7 m c), h2.trans (final8 m c), h3.trans (final9 m c), hk⟩
  · refine (θ_run Cert.Reference9Ideal.defs _ _).mono (fun r h c => ?_) (Cert.Reference9Ideal.Value.run (F := Ideal) m' g')
    obtain ⟨h0, h1, h2, h3, hk⟩ := h c
    obtain ⟨b0, b1, b2, b3, b4, b5⟩ := hagree c
    have a0 : StableHlo.launchContents m' c (Proc.devRef .tc Cert.Reference9Ideal.main_arg0) = _ := b0
    have a1 : StableHlo.launchContents m' c (Proc.devRef .tc Cert.Reference9Ideal.main_arg1) = _ := b1
    have a2 : StableHlo.launchContents m' c (Proc.devRef .tc Cert.Reference9Ideal.main_arg2) = _ := b2
    have a3 : StableHlo.launchContents m' c (Proc.devRef .tc Cert.Reference9Ideal.main_arg3) = _ := b3
    have a4 : StableHlo.launchContents m' c (Proc.devRef .tc Cert.Reference9Ideal.main_arg4) = _ := b4
    have a5 : StableHlo.launchContents m' c (Proc.devRef .tc Cert.Reference9Ideal.main_arg5) = _ := b5
    have e0 := (h0.trans (Cert.Reference9Ideal.Read.val_main_v76_eq _))
    have e1 := (h1.trans (Cert.Reference9Ideal.Read.val_main_v72_eq _))
    have e2 := (h2.trans (Cert.Reference9Ideal.Read.val_main_v77_eq _))
    have e3 := (h3.trans (Cert.Reference9Ideal.Read.val_main_v78_eq _))
    rw [a0, a1, a2, a3, a4, a5, Cert.Reference9Ideal.Mlp.xhat_eq] at e0
    rw [a0, a1, a2, a3, a4, a5, Cert.Reference9Ideal.Mlp.rstd_eq] at e1
    rw [a0, a1, a2, a3, Cert.Reference9Ideal.Mlp.hid_eq] at e2
    rw [a0, a1, a2, a3, a4, Cert.Reference9Ideal.Mlp.conv_eq] at e3
    exact ⟨e0.trans (moved_xhat 2 m c), e1.trans (moved_rstd 2 m c), e2.trans (moved_hid 2 m c), e3.trans (moved_conv 2 m c), hk⟩

end Cert.Mlp2
end
-- ==== Proof.UpMove.lean ====
module

public import proofs.«01_k».proof.Proof.UpClaim

/-! The gradient of the up-projection's part of another layer: its kernel is that of the last layer but for the layer of the taps
that its window takes, so it does what the last layer's kernel does where the taps of that layer stand in the last one's place. -/

@[expose] public section

set_option maxRecDepth 16384

noncomputable section
open Idealize.ShloMosaic Idealize.ShloMosaic.TcCoe Idealize.SL.Sem
namespace Cert.KernelIdeal.Up
open Cert.KernelIdeal Cert.KernelIdeal.Gen

/-- The stack of taps with layer `l`'s taps in every place. -/
def take (l : Fin 4) (a : FVec Ideal S4x3x5632 .f32) : FVec Ideal S4x3x5632 .f32 := fun i => a (ix3 l (i 1) (i 2))

theorem loc_ne : ∀ c : Dev nD, (c : Thread nD τ).loc main_arg0 ≠ (c : Thread nD τ).loc main_arg6
    ∧ (c : Thread nD τ).loc main_arg1 ≠ (c : Thread nD τ).loc main_arg6 ∧ (c : Thread nD τ).loc main_arg2 ≠ (c : Thread nD τ).loc main_arg6
    ∧ (c : Thread nD τ).loc main_arg3 ≠ (c : Thread nD τ).loc main_arg6 ∧ (c : Thread nD τ).loc main_arg4 ≠ (c : Thread nD τ).loc main_arg6
    ∧ (c : Thread nD τ).loc main_arg5 ≠ (c : Thread nD τ).loc main_arg6 := by
  decide

variable (l : Fin 4) (m : (ℓ : Loc nD τ sig) → Buf (Elt Ideal) ℓ) (c : Dev nD)

/-- The memory with layer `l`'s taps in every place. -/
def moved : (ℓ : Loc nD τ sig) → Buf (Elt Ideal) ℓ := Function.update m ((c : Thread nD τ).loc main_arg6) (take l (A6 m c))

theorem moved_A0 : A0 (moved l m c) c = A0 m c := Function.update_of_ne (loc_ne c).1 _ _
theorem moved_A1 : A1 (moved l m c) c = A1 m c := Function.update_of_ne (loc_ne c).2.1 _ _
theorem moved_A2 : A2 (moved l m c) c = A2 m c := Function.update_of_ne (loc_ne c).2.2.1 _ _
theorem moved_A3 : A3 (moved l m c) c = A3 m c := Function.update_of_ne (loc_ne c).2.2.2.1 _ _
theorem moved_A4 : A4 (moved l m c) c = A4 m c := Function.update_of_ne (loc_ne c).2.2.2.2.1 _ _
theorem moved_A5 : A5 (moved l m c) c = A5 m c := Function.update_of_ne (loc_ne c).2.2.2.2.2 _ _
theorem moved_A6 : A6 (moved l m c) c = take l (A6 m c) := Function.update_self _ _ _

theorem moved_X : X (moved l m c) c = X m c := by unfold X; rw [moved_A0]
theorem moved_Y : Y (moved l m c) c = Y m c := by unfold Y; rw [moved_A1]
theorem moved_R : R (moved l m c) c = R m c := by unfold R; rw [moved_A2]
theorem moved_G : G (moved l m c) c = G m c := by unfold G; rw [moved_A3]
theorem moved_B : B (moved l m c) c = B m c := by unfold B; rw [moved_A4]
theorem moved_W : W (moved l m c) c = W m c := by unfold W; rw [moved_A5]
theorem moved_K (k : Fin 3) (q : Fin 5632) : K (moved l m c) c k q = A6 m c (ix3 l k q) := by unfold K; rw [moved_A6]; rfl

variable (t : Fin cfg0.N)

theorem moved_i0 : (iblk m c 0 t : Vec Ideal S512x5632 .bf16) = iblk (moved l m c) c 0 t := by
  funext y
  obtain ⟨r, q, rfl⟩ : ∃ (r : Fin 512) (q : Fin 5632), y = ix2 r q := ⟨y 0, y 1, by blk_ext⟩
  refine (i0 m c t r q).trans (Eq.trans ?_ (i0 (moved l m c) c t r q).symm)
  rw [moved_X]

/-- The rows after the block, also at the last point, where they are not used. -/
theorem i1_any (r : Fin 16) (q : Fin 5632) : (iblk m c 1 t : Vec Ideal S16x5632 .bf16) (ix2 r q)
    = X m c ⟨(if t.val = 31 then 1023 else (t.val + 1) * 32) * 16 + r.val, by have := lt32 t; split <;> omega⟩ q := by
  refine Eq.trans ?_ (V24_apply m c _ q)
  blk_simp [iblk]
  refine congrArg (V m c main_v24) ?_
  blk_ext [idx t]

theorem moved_i1 : (iblk m c 1 t : Vec Ideal S16x5632 .bf16) = iblk (moved l m c) c 1 t := by
  funext y
  obtain ⟨r, q, rfl⟩ : ∃ (r : Fin 16) (q : Fin 5632), y = ix2 r q := ⟨y 0, y 1, by blk_ext⟩
  refine (i1_any m c t r q).trans (Eq.trans ?_ (i1_any (moved l m c) c t r q).symm)
  rw [moved_X]

theorem moved_i2 : (iblk m c 2 t : Vec Ideal S512x5632 .bf16) = iblk (moved l m c) c 2 t := by
  funext y
  obtain ⟨r, q, rfl⟩ : ∃ (r : Fin 512) (q : Fin 5632), y = ix2 r q := ⟨y 0, y 1, by blk_ext⟩
  refine (i2 m c t r q).trans (Eq.trans ?_ (i2 (moved l m c) c t r q).symm)
  rw [moved_R, moved_G, moved_B, moved_W]

theorem moved_i3 : (iblk m c 3 t : Vec Ideal S512x1024 .f32) = iblk (moved l m c) c 3 t := by
  funext y
  obtain ⟨r, j, rfl⟩ : ∃ (r : Fin 512) (j : Fin 1024), y = ix2 r j := ⟨y 0, y 1, by blk_ext⟩
  refine (i3 m c t r j).trans (Eq.trans ?_ (i3 (moved l m c) c t r j).symm)
  rw [moved_Y]

theorem moved_i4 : (iblk m c 4 t : Vec Ideal S1x1024x5632 .bf16) = iblk (moved l m c) c 4 t := by
  funext y
  obtain ⟨j, q, rfl⟩ : ∃ (j : Fin 1024) (q : Fin 5632), y = ix3 0 j q := ⟨y 1, y 2, by blk_ext⟩
  refine (i4 m c t j q).trans (Eq.trans ?_ (i4 (moved l m c) c t j q).symm)
  rw [moved_W]

theorem moved_i5 (k : Fin 3) (q : Fin 5632) :
    (iblk (moved l m c) c 5 t : Vec Ideal S1x3x5632 .f32) (ix3 0 k q) = A6 m c (ix3 l k q) :=
  (i5 (moved l m c) c t k q).trans (moved_K l m c k q)

theorem moved_i6 : (iblk m c 6 t : Vec Ideal S512x1024 .f32) = iblk (moved l m c) c 6 t := by
  funext y
  obtain ⟨r, j, rfl⟩ : ∃ (r : Fin 512) (j : Fin 1024), y = ix2 r j := ⟨y 0, y 1, by blk_ext⟩
  refine (i6 m c t r j).trans (Eq.trans ?_ (i6 (moved l m c) c t r j).symm)
  rw [moved_R]

theorem moved_i7 : (iblk m c 7 t : Vec Ideal S512x1 .f32) = iblk (moved l m c) c 7 t := by
  funext y
  obtain ⟨r, rfl⟩ : ∃ (r : Fin 512), y = ix2 r 0 := ⟨y 0, by blk_ext⟩
  refine (i7 m c t r).trans (Eq.trans ?_ (i7 (moved l m c) c t r).symm)
  rw [moved_R]

theorem moved_i8 : (iblk m c 8 t : Vec Ideal S1x1024 .f32) = iblk (moved l m c) c 8 t := by
  funext y
  obtain ⟨j, rfl⟩ : ∃ (j : Fin 1024), y = ix2 0 j := ⟨y 1, by blk_ext⟩
  refine (i8 m c t j).trans (Eq.trans ?_ (i8 (moved l m c) c t j).symm)
  rw [moved_G]

/-! The last layer's reference, with the taps of layer `l`, leaves what the kernel does where they are moved. -/

theorem moved_dr (h : Cert.Pre_KernelIdeal_finite m) :
    Cert.ReferenceIdeal.Read.val_main_v125 (F := Ideal) (A0 m c) (A1 m c) (A2 m c) (A3 m c) (A5 m c) (take l (A6 m c))
      = res9 (moved l m c) c := by
  obtain ⟨hX, hY, hR, hG, hW, hK⟩ := Cert.Up.real m c h
  have e := Cert.Up.dr_eq_of (moved l m c) c (by rw [moved_X]; exact hX) (by rw [moved_Y]; exact hY) (by rw [moved_R]; exact hR)
    (by rw [moved_G]; exact hG) (by rw [moved_W]; exact hW) (fun k q => by rw [moved_K]; exact hK l k q)
  rwa [moved_A0, moved_A1, moved_A2, moved_A3, moved_A5, moved_A6] at e

theorem moved_dh : Cert.ReferenceIdeal.Read.val_main_v126 (F := Ideal) (A0 m c) (take l (A6 m c)) = res10 (moved l m c) c := by
  have e := Cert.Up.dh_eq' (moved l m c) c
  rwa [moved_A0, moved_A6] at e

theorem moved_gdw : Cert.ReferenceIdeal.Read.val_main_v86 (F := Ideal) (A0 m c) (A2 m c) (A3 m c) (A4 m c) (A5 m c)
    = res11 (moved l m c) c := by
  have e := Cert.Up.gdw_eq' (moved l m c) c
  rwa [moved_A0, moved_A2, moved_A3, moved_A4, moved_A5] at e

theorem moved_gg : Cert.ReferenceIdeal.Read.val_main_v99 (F := Ideal) (A0 m c) (A1 m c) (A2 m c) (A5 m c) (take l (A6 m c))
    = res12 (moved l m c) c := by
  have e := Cert.Up.gg_eq' (moved l m c) c
  rwa [moved_A0, moved_A1, moved_A2, moved_A5, moved_A6] at e

theorem moved_gb : Cert.ReferenceIdeal.Read.val_main_v96 (F := Ideal) (A0 m c) (A1 m c) (A5 m c) (take l (A6 m c))
    = res13 (moved l m c) c := by
  have e := Cert.Up.gb_eq' (moved l m c) c
  rwa [moved_A0, moved_A1, moved_A5, moved_A6] at e

end Cert.KernelIdeal.Up
end
-- ==== Proof.UpLayer0.lean ====
module

public import proofs.«01_k».proof.Proof.UpMove
public import proofs.«01_k».proof.Proof.Gen.Kernel10
public import proofs.«01_k».proof.Proof.Gen.Kernel10Ideal.Value
public import proofs.«01_k».proof.Proof.Gen.Reference10Ideal.Read

/-! The up-projection's part of layer 0's gradient: its kernel and its reference are those of the last layer with layer 0's taps. -/

@[expose] public section

set_option maxRecDepth 100000

noncomputable section
open Idealize.ShloMosaic Idealize.ShloMosaic.TcCoe Idealize.ShloMosaic.Tactic Idealize.SL.Sem
namespace Cert.Kernel10Ideal.Up
open Cert.Kernel10Ideal Cert.Kernel10Ideal.Gen
open Cert.KernelIdeal.Up (take moved moved_i0 moved_i1 moved_i2 moved_i3 moved_i4 moved_i5 moved_i6 moved_i7 moved_i8
  res9 res10 res11 res12 res13 step9 step10 step11 step12 step13 row)
variable (m : (ℓ : Loc nD τ sig) → Buf (Elt Ideal) ℓ) (c : Dev nD)

/-- The memory of the last layer's kernel that this layer's is compared with. -/
abbrev mem : (ℓ : Loc Cert.KernelIdeal.nD Cert.KernelIdeal.τ Cert.KernelIdeal.sig) → Buf (Elt Ideal) ℓ := moved 0 m c

theorem idx : ∀ t : Fin cfg0.N, win0_5.index t = ![0, 0, 0] ∧ win0_9.index t = ![t.val, 0] ∧ win0_10.index t = ![t.val, 0]
    ∧ win0_11.index t = ![0, 0] ∧ win0_12.index t = ![0, 0] ∧ win0_13.index t = ![0, 0] ∧ t.val < 32 :=
  (by decide +kernel : ∀ t : Fin grid0.N, _)

section
variable (t : Fin cfg0.N)

theorem b0 : (iblk m c 0 t : Vec Ideal S512x5632 .bf16) = Cert.KernelIdeal.Gen.iblk (mem m c) c 0 t := by
  refine Eq.trans ?_ (moved_i0 0 m c t)
  sl_kernel_rfl

theorem b1 : (iblk m c 1 t : Vec Ideal S16x5632 .bf16) = Cert.KernelIdeal.Gen.iblk (mem m c) c 1 t := by
  refine Eq.trans ?_ (moved_i1 0 m c t)
  sl_kernel_rfl

theorem b2 : (iblk m c 2 t : Vec Ideal S512x5632 .bf16) = Cert.KernelIdeal.Gen.iblk (mem m c) c 2 t := by
  refine Eq.trans ?_ (moved_i2 0 m c t)
  sl_kernel_rfl

theorem b3 : (iblk m c 3 t : Vec Ideal S512x1024 .f32) = Cert.KernelIdeal.Gen.iblk (mem m c) c 3 t := by
  refine Eq.trans ?_ (moved_i3 0 m c t)
  sl_kernel_rfl

theorem b4 : (iblk m c 4 t : Vec Ideal S1x1024x5632 .bf16) = Cert.KernelIdeal.Gen.iblk (mem m c) c 4 t := by
  refine Eq.trans ?_ (moved_i4 0 m c t)
  sl_kernel_rfl

theorem b5 : (iblk m c 5 t : Vec Ideal S1x3x5632 .f32) = Cert.KernelIdeal.Gen.iblk (mem m c) c 5 t := by
  funext y
  obtain ⟨k, q, rfl⟩ : ∃ (k : Fin 3) (q : Fin 5632), y = ix3 0 k q := ⟨y 1, y 2, by blk_ext⟩
  refine Eq.trans ?_ (moved_i5 0 m c t k q).symm
  blk_ext [iblk, V, idx t]

theorem b6 : (iblk m c 6 t : Vec Ideal S512x1024 .f32) = Cert.KernelIdeal.Gen.iblk (mem m c) c 6 t := by
  refine Eq.trans ?_ (moved_i6 0 m c t)
  sl_kernel_rfl

theorem b7 : (iblk m c 7 t : Vec Ideal S512x1 .f32) = Cert.KernelIdeal.Gen.iblk (mem m c) c 7 t := by
  refine Eq.trans ?_ (moved_i7 0 m c t)
  sl_kernel_rfl

theorem b8 : (iblk m c 8 t : Vec Ideal S1x1024 .f32) = Cert.KernelIdeal.Gen.iblk (mem m c) c 8 t := by
  refine Eq.trans ?_ (moved_i8 0 m c t)
  sl_kernel_rfl
end

/-- Every grid point leaves what the last layer's kernel leaves there. -/
theorem outs (n : ℕ) : ∀ hn : n < cfg0.N, outsAt0 m c n hn = Cert.KernelIdeal.Gen.outsAt0 (mem m c) c n hn := by
  induction n with
  | zero =>
    intro hn
    rw [outsAt0_A m c ⟨0, hn⟩ (Nat.zero_mod _), Cert.KernelIdeal.Gen.outsAt0_A (mem m c) c ⟨0, hn⟩ (Nat.zero_mod _), b0, b1, b2, b3, b4, b5, b6, b7, b8]
    sl_kernel_rfl
  | succ n ih =>
    intro hn
    by_cases e : (n + 1) % 32 = 0
    · rw [outsAt0_A m c ⟨n + 1, hn⟩ e, Cert.KernelIdeal.Gen.outsAt0_A (mem m c) c ⟨n + 1, hn⟩ e, b0, b1, b2, b3, b4, b5, b6, b7, b8]
      sl_kernel_rfl
    · have hk := ih (Nat.lt_of_succ_lt hn)
      have hp : outsAt0 m c ((⟨n + 1, hn⟩ : Fin cfg0.N).val - 1) (Nat.lt_of_le_of_lt (Nat.sub_le _ _) (⟨n + 1, hn⟩ : Fin cfg0.N).isLt)
        = Cert.KernelIdeal.Gen.outsAt0 (mem m c) c n (Nat.lt_of_succ_lt hn) := hk
      rw [outsAt0_B m c ⟨n + 1, hn⟩ e, Cert.KernelIdeal.Gen.outsAt0_B (mem m c) c ⟨n + 1, hn⟩ e, b0, b1, b2, b3, b4, b5, b6, b7, b8, hp]
      sl_kernel_rfl

/-- What the kernel leaves in its five arrays. -/
def out9 : FVec Ideal S16384x1024 .f32 := res9 (mem m c) c
def out10 : FVec Ideal S16384x5632 .bf16 := res10 (mem m c) c
def out11 : FVec Ideal S3x5632 .f32 := res11 (mem m c) c
def out12 : FVec Ideal S1x1024 .f32 := res12 (mem m c) c
def out13 : FVec Ideal S1x1024 .f32 := res13 (mem m c) c

theorem final9 : (dats m 0 c).arrAt 9 (cfgs 0).N = out9 m c := by
  refine (dats m 0 c).arrAt_eq_of_covers 9 _ (by decide +kernel) fun t hf y => ?_
  blk_simp
  rw [after0_9, outs]
  obtain ⟨r, j, rfl⟩ : ∃ (r : Fin 512) (j : Fin 1024), y = ix2 r j := ⟨y 0, y 1, by blk_ext⟩
  refine (step9 (mem m c) c t r j).trans ?_
  refine congrArg (out9 m c) (a₁ := ix2 (row t r) j) ?_
  blk_ext [idx t]

theorem final10 : (dats m 0 c).arrAt 10 (cfgs 0).N = out10 m c := by
  refine (dats m 0 c).arrAt_eq_of_covers 10 _ (by decide +kernel) fun t hf y => ?_
  blk_simp
  rw [after0_10, outs]
  obtain ⟨r, j, rfl⟩ : ∃ (r : Fin 512) (j : Fin 5632), y = ix2 r j := ⟨y 0, y 1, by blk_ext⟩
  refine (step10 (mem m c) c t r j).trans ?_
  refine congrArg (out10 m c) (a₁ := ix2 (row t r) j) ?_
  blk_ext [idx t]

theorem final11 : (dats m 0 c).arrAt 11 (cfgs 0).N = out11 m c := by
  refine (dats m 0 c).arrAt_eq_of_covers 11 _ (by decide +kernel) fun t hf y => ?_
  blk_simp
  rw [after0_11, outs]
  obtain ⟨k, j, rfl⟩ : ∃ (k : Fin 3) (j : Fin 5632), y = ix2 k j := ⟨y 0, y 1, by blk_ext⟩
  refine (step11 (mem m c) c t ((flush0_11 t).mp hf) k j).trans ?_
  refine congrArg (out11 m c) (a₁ := ix2 k j) ?_
  blk_ext [idx t]

theorem final12 : (dats m 0 c).arrAt 12 (cfgs 0).N = out12 m c := by
  refine (dats m 0 c).arrAt_eq_of_covers 12 _ (by decide +kernel) fun t hf y => ?_
  blk_simp
  rw [after0_12, outs]
  obtain ⟨j, rfl⟩ : ∃ (j : Fin 1024), y = ix2 0 j := ⟨y 1, by blk_ext⟩
  refine (step12 (mem m c) c t ((flush0_12 t).mp hf) j).trans ?_
  refine congrArg (out12 m c) (a₁ := ix2 0 j) ?_
  blk_ext [idx t]

theorem final13 : (dats m 0 c).arrAt 13 (cfgs 0).N = out13 m c := by
  refine (dats m 0 c).arrAt_eq_of_covers 13 _ (by decide +kernel) fun t hf y => ?_
  blk_simp
  rw [after0_13, outs]
  obtain ⟨j, rfl⟩ : ∃ (j : Fin 1024), y = ix2 0 j := ⟨y 1, by blk_ext⟩
  refine (step13 (mem m c) c t ((flush0_13 t).mp hf) j).trans ?_
  refine congrArg (out13 m c) (a₁ := ix2 0 j) ?_
  blk_ext [idx t]

end Cert.Kernel10Ideal.Up

namespace Cert.Reference10Ideal.Up
open Cert.Reference10Ideal Cert.Reference10Ideal.Gen Cert.Reference10Ideal.Read
open Cert.KernelIdeal.Up (take)
variable (a0 : FVec Ideal S16384x5632 .f32) (a1 a2 : FVec Ideal S16384x1024 .f32) (a3 a4 : FVec Ideal S1x1024 .f32)
  (a5 : FVec Ideal S1x1024x5632 .f32) (a6 : FVec Ideal S4x3x5632 .f32)

theorem taps_eq : val_main_v30 (F := Ideal) a6 = Cert.ReferenceIdeal.Read.val_main_v30 (F := Ideal) (take 0 a6) := by
  funext i
  obtain ⟨k, q, rfl⟩ : ∃ (k : Fin 3) (q : Fin 5632), i = ix2 k q := ⟨i 0, i 1, by blk_ext⟩
  pointwise [val_main_v30, val_main_v29, Cert.ReferenceIdeal.Read.val_main_v30, Cert.ReferenceIdeal.Read.val_main_v29]
  rfl

theorem dh_eq : val_main_v90 (F := Ideal) a0 a6 = Cert.ReferenceIdeal.Read.val_main_v90 (F := Ideal) a0 (take 0 a6) := by
  unfold val_main_v90 val_main_v88 val_main_v87 val_main_v77 val_main_v66 val_main_v76 val_main_v62 val_main_v71 val_main_v82
    val_main_v61 val_main_v70 val_main_v81 val_main_v52 val_main_v45 val_main_v37 val_main_v36 val_main_v44 val_main_v51
    val_main_v35 val_main_v43 val_main_v50
  rw [taps_eq]
  sl_kernel_rfl

theorem dh_eq' : val_main_v126 (F := Ideal) a0 a6 = Cert.ReferenceIdeal.Read.val_main_v126 (F := Ideal) a0 (take 0 a6) := by
  unfold val_main_v126
  rw [dh_eq]
  sl_kernel_rfl

theorem gdw_eq : val_main_v86 (F := Ideal) a0 a2 a3 a4 a5 = Cert.ReferenceIdeal.Read.val_main_v86 (F := Ideal) a0 a2 a3 a4 a5 := by
  sl_kernel_rfl

theorem dx_eq : val_main_v94 (F := Ideal) a0 a1 a5 a6 = Cert.ReferenceIdeal.Read.val_main_v94 (F := Ideal) a0 a1 a5 (take 0 a6) := by
  unfold val_main_v94 val_main_v91
  rw [dh_eq]
  sl_kernel_rfl

theorem gg_eq : val_main_v99 (F := Ideal) a0 a1 a2 a5 a6 = Cert.ReferenceIdeal.Read.val_main_v99 (F := Ideal) a0 a1 a2 a5 (take 0 a6) := by
  unfold val_main_v99 val_main_v98 val_main_v97
  rw [dx_eq]
  sl_kernel_rfl

theorem gb_eq : val_main_v96 (F := Ideal) a0 a1 a5 a6 = Cert.ReferenceIdeal.Read.val_main_v96 (F := Ideal) a0 a1 a5 (take 0 a6) := by
  unfold val_main_v96 val_main_v95
  rw [dx_eq]
  sl_kernel_rfl

theorem ct_eq : val_main_v101 (F := Ideal) a0 a1 a3 a5 a6 = Cert.ReferenceIdeal.Read.val_main_v101 (F := Ideal) a0 a1 a3 a5 (take 0 a6) := by
  unfold val_main_v101
  rw [dx_eq]
  sl_kernel_rfl

theorem dr_eq :
    val_main_v125 (F := Ideal) a0 a1 a2 a3 a5 a6 = Cert.ReferenceIdeal.Read.val_main_v125 (F := Ideal) a0 a1 a2 a3 a5 (take 0 a6) := by
  unfold val_main_v125 val_main_v124 val_main_v123 val_main_v122 val_main_v121 val_main_v120 val_main_v119 val_main_v118 val_main_v117 val_main_v116
    val_main_v115 val_main_v114 val_main_v113 val_main_v112 val_main_v111 val_main_v110 val_main_v109 val_main_v108 val_main_v107 val_main_v106
    val_main_v105 val_main_v104 val_main_v103 val_main_v102
  rw [ct_eq]
  sl_kernel_rfl

end Cert.Reference10Ideal.Up

namespace Cert.Up0
open Cert.Kernel10Ideal Cert.Kernel10Ideal.Up
open Cert.KernelIdeal.Up (moved_dr moved_dh moved_gdw moved_gg moved_gb)

theorem frame_ideal : Cert.quiescent_Kernel10Ideal := fun m ρ _ => Cert.Kernel10Ideal.Gen.frame m ρ
theorem frame_ideal_finite : Cert.quiescent_Kernel10Ideal_pre_finite := fun m ρ _ => Cert.Kernel10Ideal.Gen.frame m ρ

theorem frame_reference : Cert.quiescent_Reference10Ideal := fun m ρ _ =>
  (θ_run Cert.Reference10Ideal.defs _ _).mono (fun r h => ⟨fun c => (h c).2.2.2.2.2,
    Idealize.ShloMosaic.sem_eq_zero_of_no_sems (by decide) r.2⟩) (Cert.Reference10Ideal.Value.run (F := Ideal) m ρ)
theorem frame_reference_finite : Cert.quiescent_Reference10Ideal_pre_finite := fun m ρ _ => frame_reference m ρ trivial

theorem algebraic : Cert.algebraic_Kernel10Ideal_Reference10Ideal_pre_finite := by
  intro m g m' g' hpre hagree
  have hp : Cert.Pre_KernelIdeal_finite m := hpre
  refine ⟨out9 m, out10 m, out11 m, out12 m, out13 m, ?_, ?_⟩
  · refine (θ_run Cert.Kernel10Ideal.defs _ _).mono (fun r h c => ?_) (Cert.Kernel10Ideal.Value.run_blocks (F := Ideal) m g)
    obtain ⟨h0, h1, h2, h3, h4, hk⟩ := h c
    exact ⟨h0.trans (final9 m c), h1.trans (final10 m c), h2.trans (final11 m c), h3.trans (final12 m c), h4.trans (final13 m c), hk⟩
  · refine (θ_run Cert.Reference10Ideal.defs _ _).mono (fun r h c => ?_) (Cert.Reference10Ideal.Value.run (F := Ideal) m' g')
    obtain ⟨h0, h1, h2, h3, h4, hk⟩ := h c
    obtain ⟨a0, a1, a2, a3, a4, a5, a6⟩ := hagree c
    have e0 := (h0.trans (Cert.Reference10Ideal.Read.val_main_v125_eq m' c))
    have e1 := (h1.trans (Cert.Reference10Ideal.Read.val_main_v126_eq _ _))
    have e2 := (h2.trans (Cert.Reference10Ideal.Read.val_main_v86_eq m' c))
    have e3 := (h3.trans (Cert.Reference10Ideal.Read.val_main_v99_eq _ _ _ _ _))
    have e4 := (h4.trans (Cert.Reference10Ideal.Read.val_main_v96_eq _ _ _ _))
    rw [a0, a1, a2, a3, a5, a6, Cert.Reference10Ideal.Up.dr_eq] at e0
    rw [a0, a6, Cert.Reference10Ideal.Up.dh_eq'] at e1
    rw [a0, a2, a3, a4, a5, Cert.Reference10Ideal.Up.gdw_eq] at e2
    rw [a0, a1, a2, a5, a6, Cert.Reference10Ideal.Up.gg_eq] at e3
    rw [a0, a1, a5, a6, Cert.Reference10Ideal.Up.gb_eq] at e4
    exact ⟨e0.trans (moved_dr 0 m c hp), e1.trans (moved_dh 0 m c), e2.trans (moved_gdw 0 m c), e3.trans (moved_gg 0 m c),
      e4.trans (moved_gb 0 m c), hk⟩

end Cert.Up0
end
-- ==== Proof.UpLayer1.lean ====
module

public import proofs.«01_k».proof.Proof.UpMove
public import proofs.«01_k».proof.Proof.Gen.Kernel11
public import proofs.«01_k».proof.Proof.Gen.Kernel11Ideal.Value
public import proofs.«01_k».proof.Proof.Gen.Reference11Ideal.Read

/-! The up-projection's part of layer 1's gradient: its kernel and its reference are those of the last layer with layer 1's taps. -/

@[expose] public section

set_option maxRecDepth 100000

noncomputable section
open Idealize.ShloMosaic Idealize.ShloMosaic.TcCoe Idealize.ShloMosaic.Tactic Idealize.SL.Sem
namespace Cert.Kernel11Ideal.Up
open Cert.Kernel11Ideal Cert.Kernel11Ideal.Gen
open Cert.KernelIdeal.Up (take moved moved_i0 moved_i1 moved_i2 moved_i3 moved_i4 moved_i5 moved_i6 moved_i7 moved_i8
  res9 res10 res11 res12 res13 step9 step10 step11 step12 step13 row)
variable (m : (ℓ : Loc nD τ sig) → Buf (Elt Ideal) ℓ) (c : Dev nD)

/-- The memory of the last layer's kernel that this layer's is compared with. -/
abbrev mem : (ℓ : Loc Cert.KernelIdeal.nD Cert.KernelIdeal.τ Cert.KernelIdeal.sig) → Buf (Elt Ideal) ℓ := moved 1 m c

theorem idx : ∀ t : Fin cfg0.N, win0_5.index t = ![1, 0, 0] ∧ win0_9.index t = ![t.val, 0] ∧ win0_10.index t = ![t.val, 0]
    ∧ win0_11.index t = ![0, 0] ∧ win0_12.index t = ![0, 0] ∧ win0_13.index t = ![0, 0] ∧ t.val < 32 :=
  (by decide +kernel : ∀ t : Fin grid0.N, _)

section
variable (t : Fin cfg0.N)

theorem b0 : (iblk m c 0 t : Vec Ideal S512x5632 .bf16) = Cert.KernelIdeal.Gen.iblk (mem m c) c 0 t := by
  refine Eq.trans ?_ (moved_i0 1 m c t)
  sl_kernel_rfl

theorem b1 : (iblk m c 1 t : Vec Ideal S16x5632 .bf16) = Cert.KernelIdeal.Gen.iblk (mem m c) c 1 t := by
  refine Eq.trans ?_ (moved_i1 1 m c t)
  sl_kernel_rfl

theorem b2 : (iblk m c 2 t : Vec Ideal S512x5632 .bf16) = Cert.KernelIdeal.Gen.iblk (mem m c) c 2 t := by
  refine Eq.trans ?_ (moved_i2 1 m c t)
  sl_kernel_rfl

theorem b3 : (iblk m c 3 t : Vec Ideal S512x1024 .f32) = Cert.KernelIdeal.Gen.iblk (mem m c) c 3 t := by
  refine Eq.trans ?_ (moved_i3 1 m c t)
  sl_kernel_rfl

theorem b4 : (iblk m c 4 t : Vec Ideal S1x1024x5632 .bf16) = Cert.KernelIdeal.Gen.iblk (mem m c) c 4 t := by
  refine Eq.trans ?_ (moved_i4 1 m c t)
  sl_kernel_rfl

theorem b5 : (iblk m c 5 t : Vec Ideal S1x3x5632 .f32) = Cert.KernelIdeal.Gen.iblk (mem m c) c 5 t := by
  funext y
  obtain ⟨k, q, rfl⟩ : ∃ (k : Fin 3) (q : Fin 5632), y = ix3 0 k q := ⟨y 1, y 2, by blk_ext⟩
  refine Eq.trans ?_ (moved_i5 1 m c t k q).symm
  blk_ext [iblk, V, idx t]

theorem b6 : (iblk m c 6 t : Vec Ideal S512x1024 .f32) = Cert.KernelIdeal.Gen.iblk (mem m c) c 6 t := by
  refine Eq.trans ?_ (moved_i6 1 m c t)
  sl_kernel_rfl

theorem b7 : (iblk m c 7 t : Vec Ideal S512x1 .f32) = Cert.KernelIdeal.Gen.iblk (mem m c) c 7 t := by
  refine Eq.trans ?_ (moved_i7 1 m c t)
  sl_kernel_rfl

theorem b8 : (iblk m c 8 t : Vec Ideal S1x1024 .f32) = Cert.KernelIdeal.Gen.iblk (mem m c) c 8 t := by
  refine Eq.trans ?_ (moved_i8 1 m c t)
  sl_kernel_rfl
end

/-- Every grid point leaves what the last layer's kernel leaves there. -/
theorem outs (n : ℕ) : ∀ hn : n < cfg0.N, outsAt0 m c n hn = Cert.KernelIdeal.Gen.outsAt0 (mem m c) c n hn := by
  induction n with
  | zero =>
    intro hn
    rw [outsAt0_A m c ⟨0, hn⟩ (Nat.zero_mod _), Cert.KernelIdeal.Gen.outsAt0_A (mem m c) c ⟨0, hn⟩ (Nat.zero_mod _), b0, b1, b2, b3, b4, b5, b6, b7, b8]
    sl_kernel_rfl
  | succ n ih =>
    intro hn
    by_cases e : (n + 1) % 32 = 0
    · rw [outsAt0_A m c ⟨n + 1, hn⟩ e, Cert.KernelIdeal.Gen.outsAt0_A (mem m c) c ⟨n + 1, hn⟩ e, b0, b1, b2, b3, b4, b5, b6, b7, b8]
      sl_kernel_rfl
    · have hk := ih (Nat.lt_of_succ_lt hn)
      have hp : outsAt0 m c ((⟨n + 1, hn⟩ : Fin cfg0.N).val - 1) (Nat.lt_of_le_of_lt (Nat.sub_le _ _) (⟨n + 1, hn⟩ : Fin cfg0.N).isLt)
        = Cert.KernelIdeal.Gen.outsAt0 (mem m c) c n (Nat.lt_of_succ_lt hn) := hk
      rw [outsAt0_B m c ⟨n + 1, hn⟩ e, Cert.KernelIdeal.Gen.outsAt0_B (mem m c) c ⟨n + 1, hn⟩ e, b0, b1, b2, b3, b4, b5, b6, b7, b8, hp]
      sl_kernel_rfl

/-- What the kernel leaves in its five arrays. -/
def out9 : FVec Ideal S16384x1024 .f32 := res9 (mem m c) c
def out10 : FVec Ideal S16384x5632 .bf16 := res10 (mem m c) c
def out11 : FVec Ideal S3x5632 .f32 := res11 (mem m c) c
def out12 : FVec Ideal S1x1024 .f32 := res12 (mem m c) c
def out13 : FVec Ideal S1x1024 .f32 := res13 (mem m c) c

theorem final9 : (dats m 0 c).arrAt 9 (cfgs 0).N = out9 m c := by
  refine (dats m 0 c).arrAt_eq_of_covers 9 _ (by decide +kernel) fun t hf y => ?_
  blk_simp
  rw [after0_9, outs]
  obtain ⟨r, j, rfl⟩ : ∃ (r : Fin 512) (j : Fin 1024), y = ix2 r j := ⟨y 0, y 1, by blk_ext⟩
  refine (step9 (mem m c) c t r j).trans ?_
  refine congrArg (out9 m c) (a₁ := ix2 (row t r) j) ?_
  blk_ext [idx t]

theorem final10 : (dats m 0 c).arrAt 10 (cfgs 0).N = out10 m c := by
  refine (dats m 0 c).arrAt_eq_of_covers 10 _ (by decide +kernel) fun t hf y => ?_
  blk_simp
  rw [after0_10, outs]
  obtain ⟨r, j, rfl⟩ : ∃ (r : Fin 512) (j : Fin 5632), y = ix2 r j := ⟨y 0, y 1, by blk_ext⟩
  refine (step10 (mem m c) c t r j).trans ?_
  refine congrArg (out10 m c) (a₁ := ix2 (row t r) j) ?_
  blk_ext [idx t]

theorem final11 : (dats m 0 c).arrAt 11 (cfgs 0).N = out11 m c := by
  refine (dats m 0 c).arrAt_eq_of_covers 11 _ (by decide +kernel) fun t hf y => ?_
  blk_simp
  rw [after0_11, outs]
  obtain ⟨k, j, rfl⟩ : ∃ (k : Fin 3) (j : Fin 5632), y = ix2 k j := ⟨y 0, y 1, by blk_ext⟩
  refine (step11 (mem m c) c t ((flush0_11 t).mp hf) k j).trans ?_
  refine congrArg (out11 m c) (a₁ := ix2 k j) ?_
  blk_ext [idx t]

theorem final12 : (dats m 0 c).arrAt 12 (cfgs 0).N = out12 m c := by
  refine (dats m 0 c).arrAt_eq_of_covers 12 _ (by decide +kernel) fun t hf y => ?_
  blk_simp
  rw [after0_12, outs]
  obtain ⟨j, rfl⟩ : ∃ (j : Fin 1024), y = ix2 0 j := ⟨y 1, by blk_ext⟩
  refine (step12 (mem m c) c t ((flush0_12 t).mp hf) j).trans ?_
  refine congrArg (out12 m c) (a₁ := ix2 0 j) ?_
  blk_ext [idx t]

theorem final13 : (dats m 0 c).arrAt 13 (cfgs 0).N = out13 m c := by
  refine (dats m 0 c).arrAt_eq_of_covers 13 _ (by decide +kernel) fun t hf y => ?_
  blk_simp
  rw [after0_13, outs]
  obtain ⟨j, rfl⟩ : ∃ (j : Fin 1024), y = ix2 0 j := ⟨y 1, by blk_ext⟩
  refine (step13 (mem m c) c t ((flush0_13 t).mp hf) j).trans ?_
  refine congrArg (out13 m c) (a₁ := ix2 0 j) ?_
  blk_ext [idx t]

end Cert.Kernel11Ideal.Up

namespace Cert.Reference11Ideal.Up
open Cert.Reference11Ideal Cert.Reference11Ideal.Gen Cert.Reference11Ideal.Read
open Cert.KernelIdeal.Up (take)
variable (a0 : FVec Ideal S16384x5632 .f32) (a1 a2 : FVec Ideal S16384x1024 .f32) (a3 a4 : FVec Ideal S1x1024 .f32)
  (a5 : FVec Ideal S1x1024x5632 .f32) (a6 : FVec Ideal S4x3x5632 .f32)

theorem taps_eq : val_main_v30 (F := Ideal) a6 = Cert.ReferenceIdeal.Read.val_main_v30 (F := Ideal) (take 1 a6) := by
  funext i
  obtain ⟨k, q, rfl⟩ : ∃ (k : Fin 3) (q : Fin 5632), i = ix2 k q := ⟨i 0, i 1, by blk_ext⟩
  pointwise [val_main_v30, val_main_v29, Cert.ReferenceIdeal.Read.val_main_v30, Cert.ReferenceIdeal.Read.val_main_v29]
  rfl

theorem dh_eq : val_main_v90 (F := Ideal) a0 a6 = Cert.ReferenceIdeal.Read.val_main_v90 (F := Ideal) a0 (take 1 a6) := by
  unfold val_main_v90 val_main_v88 val_main_v87 val_main_v77 val_main_v66 val_main_v76 val_main_v62 val_main_v71 val_main_v82
    val_main_v61 val_main_v70 val_main_v81 val_main_v52 val_main_v45 val_main_v37 val_main_v36 val_main_v44 val_main_v51
    val_main_v35 val_main_v43 val_main_v50
  rw [taps_eq]
  sl_kernel_rfl

theorem dh_eq' : val_main_v126 (F := Ideal) a0 a6 = Cert.ReferenceIdeal.Read.val_main_v126 (F := Ideal) a0 (take 1 a6) := by
  unfold val_main_v126
  rw [dh_eq]
  sl_kernel_rfl

theorem gdw_eq : val_main_v86 (F := Ideal) a0 a2 a3 a4 a5 = Cert.ReferenceIdeal.Read.val_main_v86 (F := Ideal) a0 a2 a3 a4 a5 := by
  sl_kernel_rfl

theorem dx_eq : val_main_v94 (F := Ideal) a0 a1 a5 a6 = Cert.ReferenceIdeal.Read.val_main_v94 (F := Ideal) a0 a1 a5 (take 1 a6) := by
  unfold val_main_v94 val_main_v91
  rw [dh_eq]
  sl_kernel_rfl

theorem gg_eq : val_main_v99 (F := Ideal) a0 a1 a2 a5 a6 = Cert.ReferenceIdeal.Read.val_main_v99 (F := Ideal) a0 a1 a2 a5 (take 1 a6) := by
  unfold val_main_v99 val_main_v98 val_main_v97
  rw [dx_eq]
  sl_kernel_rfl

theorem gb_eq : val_main_v96 (F := Ideal) a0 a1 a5 a6 = Cert.ReferenceIdeal.Read.val_main_v96 (F := Ideal) a0 a1 a5 (take 1 a6) := by
  unfold val_main_v96 val_main_v95
  rw [dx_eq]
  sl_kernel_rfl

theorem ct_eq : val_main_v101 (F := Ideal) a0 a1 a3 a5 a6 = Cert.ReferenceIdeal.Read.val_main_v101 (F := Ideal) a0 a1 a3 a5 (take 1 a6) := by
  unfold val_main_v101
  rw [dx_eq]
  sl_kernel_rfl

theorem dr_eq :
    val_main_v125 (F := Ideal) a0 a1 a2 a3 a5 a6 = Cert.ReferenceIdeal.Read.val_main_v125 (F := Ideal) a0 a1 a2 a3 a5 (take 1 a6) := by
  unfold val_main_v125 val_main_v124 val_main_v123 val_main_v122 val_main_v121 val_main_v120 val_main_v119 val_main_v118 val_main_v117 val_main_v116
    val_main_v115 val_main_v114 val_main_v113 val_main_v112 val_main_v111 val_main_v110 val_main_v109 val_main_v108 val_main_v107 val_main_v106
    val_main_v105 val_main_v104 val_main_v103 val_main_v102
  rw [ct_eq]
  sl_kernel_rfl

end Cert.Reference11Ideal.Up

namespace Cert.Up1
open Cert.Kernel11Ideal Cert.Kernel11Ideal.Up
open Cert.KernelIdeal.Up (moved_dr moved_dh moved_gdw moved_gg moved_gb)

theorem frame_ideal : Cert.quiescent_Kernel11Ideal := fun m ρ _ => Cert.Kernel11Ideal.Gen.frame m ρ
theorem frame_ideal_finite : Cert.quiescent_Kernel11Ideal_pre_finite := fun m ρ _ => Cert.Kernel11Ideal.Gen.frame m ρ

theorem frame_reference : Cert.quiescent_Reference11Ideal := fun m ρ _ =>
  (θ_run Cert.Reference11Ideal.defs _ _).mono (fun r h => ⟨fun c => (h c).2.2.2.2.2,
    Idealize.ShloMosaic.sem_eq_zero_of_no_sems (by decide) r.2⟩) (Cert.Reference11Ideal.Value.run (F := Ideal) m ρ)
theorem frame_reference_finite : Cert.quiescent_Reference11Ideal_pre_finite := fun m ρ _ => frame_reference m ρ trivial

theorem algebraic : Cert.algebraic_Kernel11Ideal_Reference11Ideal_pre_finite := by
  intro m g m' g' hpre hagree
  have hp : Cert.Pre_KernelIdeal_finite m := hpre
  refine ⟨out9 m, out10 m, out11 m, out12 m, out13 m, ?_, ?_⟩
  · refine (θ_run Cert.Kernel11Ideal.defs _ _).mono (fun r h c => ?_) (Cert.Kernel11Ideal.Value.run_blocks (F := Ideal) m g)
    obtain ⟨h0, h1, h2, h3, h4, hk⟩ := h c
    exact ⟨h0.trans (final9 m c), h1.trans (final10 m c), h2.trans (final11 m c), h3.trans (final12 m c), h4.trans (final13 m c), hk⟩
  · refine (θ_run Cert.Reference11Ideal.defs _ _).mono (fun r h c => ?_) (Cert.Reference11Ideal.Value.run (F := Ideal) m' g')
    obtain ⟨h0, h1, h2, h3, h4, hk⟩ := h c
    obtain ⟨a0, a1, a2, a3, a4, a5, a6⟩ := hagree c
    have e0 := (h0.trans (Cert.Reference11Ideal.Read.val_main_v125_eq m' c))
    have e1 := (h1.trans (Cert.Reference11Ideal.Read.val_main_v126_eq _ _))
    have e2 := (h2.trans (Cert.Reference11Ideal.Read.val_main_v86_eq m' c))
    have e3 := (h3.trans (Cert.Reference11Ideal.Read.val_main_v99_eq _ _ _ _ _))
    have e4 := (h4.trans (Cert.Reference11Ideal.Read.val_main_v96_eq _ _ _ _))
    rw [a0, a1, a2, a3, a5, a6, Cert.Reference11Ideal.Up.dr_eq] at e0
    rw [a0, a6, Cert.Reference11Ideal.Up.dh_eq'] at e1
    rw [a0, a2, a3, a4, a5, Cert.Reference11Ideal.Up.gdw_eq] at e2
    rw [a0, a1, a2, a5, a6, Cert.Reference11Ideal.Up.gg_eq] at e3
    rw [a0, a1, a5, a6, Cert.Reference11Ideal.Up.gb_eq] at e4
    exact ⟨e0.trans (moved_dr 1 m c hp), e1.trans (moved_dh 1 m c), e2.trans (moved_gdw 1 m c), e3.trans (moved_gg 1 m c),
      e4.trans (moved_gb 1 m c), hk⟩

end Cert.Up1
end
-- ==== Proof.UpLayer2.lean ====
module

public import proofs.«01_k».proof.Proof.UpMove
public import proofs.«01_k».proof.Proof.Gen.Kernel12
public import proofs.«01_k».proof.Proof.Gen.Kernel12Ideal.Value
public import proofs.«01_k».proof.Proof.Gen.Reference12Ideal.Read

/-! The up-projection's part of layer 2's gradient: its kernel and its reference are those of the last layer with layer 2's taps. -/

@[expose] public section

set_option maxRecDepth 100000

noncomputable section
open Idealize.ShloMosaic Idealize.ShloMosaic.TcCoe Idealize.ShloMosaic.Tactic Idealize.SL.Sem
namespace Cert.Kernel12Ideal.Up
open Cert.Kernel12Ideal Cert.Kernel12Ideal.Gen
open Cert.KernelIdeal.Up (take moved moved_i0 moved_i1 moved_i2 moved_i3 moved_i4 moved_i5 moved_i6 moved_i7 moved_i8
  res9 res10 res11 res12 res13 step9 step10 step11 step12 step13 row)
variable (m : (ℓ : Loc nD τ sig) → Buf (Elt Ideal) ℓ) (c : Dev nD)

/-- The memory of the last layer's kernel that this layer's is compared with. -/
abbrev mem : (ℓ : Loc Cert.KernelIdeal.nD Cert.KernelIdeal.τ Cert.KernelIdeal.sig) → Buf (Elt Ideal) ℓ := moved 2 m c

theorem idx : ∀ t : Fin cfg0.N, win0_5.index t = ![2, 0, 0] ∧ win0_9.index t = ![t.val, 0] ∧ win0_10.index t = ![t.val, 0]
    ∧ win0_11.index t = ![0, 0] ∧ win0_12.index t = ![0, 0] ∧ win0_13.index t = ![0, 0] ∧ t.val < 32 :=
  (by decide +kernel : ∀ t : Fin grid0.N, _)

section
variable (t : Fin cfg0.N)

theorem b0 : (iblk m c 0 t : Vec Ideal S512x5632 .bf16) = Cert.KernelIdeal.Gen.iblk (mem m c) c 0 t := by
  refine Eq.trans ?_ (moved_i0 2 m c t)
  sl_kernel_rfl

theorem b1 : (iblk m c 1 t : Vec Ideal S16x5632 .bf16) = Cert.KernelIdeal.Gen.iblk (mem m c) c 1 t := by
  refine Eq.trans ?_ (moved_i1 2 m c t)
  sl_kernel_rfl

theorem b2 : (iblk m c 2 t : Vec Ideal S512x5632 .bf16) = Cert.KernelIdeal.Gen.iblk (mem m c) c 2 t := by
  refine Eq.trans ?_ (moved_i2 2 m c t)
  sl_kernel_rfl

theorem b3 : (iblk m c 3 t : Vec Ideal S512x1024 .f32) = Cert.KernelIdeal.Gen.iblk (mem m c) c 3 t := by
  refine Eq.trans ?_ (moved_i3 2 m c t)
  sl_kernel_rfl

theorem b4 : (iblk m c 4 t : Vec Ideal S1x1024x5632 .bf16) = Cert.KernelIdeal.Gen.iblk (mem m c) c 4 t := by
  refine Eq.trans ?_ (moved_i4 2 m c t)
  sl_kernel_rfl

theorem b5 : (iblk m c 5 t : Vec Ideal S1x3x5632 .f32) = Cert.KernelIdeal.Gen.iblk (mem m c) c 5 t := by
  funext y
  obtain ⟨k, q, rfl⟩ : ∃ (k : Fin 3) (q : Fin 5632), y = ix3 0 k q := ⟨y 1, y 2, by blk_ext⟩
  refine Eq.trans ?_ (moved_i5 2 m c t k q).symm
  blk_ext [iblk, V, idx t]

theorem b6 : (iblk m c 6 t : Vec Ideal S512x1024 .f32) = Cert.KernelIdeal.Gen.iblk (mem m c) c 6 t := by
  refine Eq.trans ?_ (moved_i6 2 m c t)
  sl_kernel_rfl

theorem b7 : (iblk m c 7 t : Vec Ideal S512x1 .f32) = Cert.KernelIdeal.Gen.iblk (mem m c) c 7 t := by
  refine Eq.trans ?_ (moved_i7 2 m c t)
  sl_kernel_rfl

theorem b8 : (iblk m c 8 t : Vec Ideal S1x1024 .f32) = Cert.KernelIdeal.Gen.iblk (mem m c) c 8 t := by
  refine Eq.trans ?_ (moved_i8 2 m c t)
  sl_kernel_rfl
end

/-- Every grid point leaves what the last layer's kernel leaves there. -/
theorem outs (n : ℕ) : ∀ hn : n < cfg0.N, outsAt0 m c n hn = Cert.KernelIdeal.Gen.outsAt0 (mem m c) c n hn := by
  induction n with
  | zero =>
    intro hn
    rw [outsAt0_A m c ⟨0, hn⟩ (Nat.zero_mod _), Cert.KernelIdeal.Gen.outsAt0_A (mem m c) c ⟨0, hn⟩ (Nat.zero_mod _), b0, b1, b2, b3, b4, b5, b6, b7, b8]
    sl_kernel_rfl
  | succ n ih =>
    intro hn
    by_cases e : (n + 1) % 32 = 0
    · rw [outsAt0_A m c ⟨n + 1, hn⟩ e, Cert.KernelIdeal.Gen.outsAt0_A (mem m c) c ⟨n + 1, hn⟩ e, b0, b1, b2, b3, b4, b5, b6, b7, b8]
      sl_kernel_rfl
    · have hk := ih (Nat.lt_of_succ_lt hn)
      have hp : outsAt0 m c ((⟨n + 1, hn⟩ : Fin cfg0.N).val - 1) (Nat.lt_of_le_of_lt (Nat.sub_le _ _) (⟨n + 1, hn⟩ : Fin cfg0.N).isLt)
        = Cert.KernelIdeal.Gen.outsAt0 (mem m c) c n (Nat.lt_of_succ_lt hn) := hk
      rw [outsAt0_B m c ⟨n + 1, hn⟩ e, Cert.KernelIdeal.Gen.outsAt0_B (mem m c) c ⟨n + 1, hn⟩ e, b0, b1, b2, b3, b4, b5, b6, b7, b8, hp]
      sl_kernel_rfl

/-- What the kernel leaves in its five arrays. -/
def out9 : FVec Ideal S16384x1024 .f32 := res9 (mem m c) c
def out10 : FVec Ideal S16384x5632 .bf16 := res10 (mem m c) c
def out11 : FVec Ideal S3x5632 .f32 := res11 (mem m c) c
def out12 : FVec Ideal S1x1024 .f32 := res12 (mem m c) c
def out13 : FVec Ideal S1x1024 .f32 := res13 (mem m c) c

theorem final9 : (dats m 0 c).arrAt 9 (cfgs 0).N = out9 m c := by
  refine (dats m 0 c).arrAt_eq_of_covers 9 _ (by decide +kernel) fun t hf y => ?_
  blk_simp
  rw [after0_9, outs]
  obtain ⟨r, j, rfl⟩ : ∃ (r : Fin 512) (j : Fin 1024), y = ix2 r j := ⟨y 0, y 1, by blk_ext⟩
  refine (step9 (mem m c) c t r j).trans ?_
  refine congrArg (out9 m c) (a₁ := ix2 (row t r) j) ?_
  blk_ext [idx t]

theorem final10 : (dats m 0 c).arrAt 10 (cfgs 0).N = out10 m c := by
  refine (dats m 0 c).arrAt_eq_of_covers 10 _ (by decide +kernel) fun t hf y => ?_
  blk_simp
  rw [after0_10, outs]
  obtain ⟨r, j, rfl⟩ : ∃ (r : Fin 512) (j : Fin 5632), y = ix2 r j := ⟨y 0, y 1, by blk_ext⟩
  refine (step10 (mem m c) c t r j).trans ?_
  refine congrArg (out10 m c) (a₁ := ix2 (row t r) j) ?_
  blk_ext [idx t]

theorem final11 : (dats m 0 c).arrAt 11 (cfgs 0).N = out11 m c := by
  refine (dats m 0 c).arrAt_eq_of_covers 11 _ (by decide +kernel) fun t hf y => ?_
  blk_simp
  rw [after0_11, outs]
  obtain ⟨k, j, rfl⟩ : ∃ (k : Fin 3) (j : Fin 5632), y = ix2 k j := ⟨y 0, y 1, by blk_ext⟩
  refine (step11 (mem m c) c t ((flush0_11 t).mp hf) k j).trans ?_
  refine congrArg (out11 m c) (a₁ := ix2 k j) ?_
  blk_ext [idx t]

theorem final12 : (dats m 0 c).arrAt 12 (cfgs 0).N = out12 m c := by
  refine (dats m 0 c).arrAt_eq_of_covers 12 _ (by decide +kernel) fun t hf y => ?_
  blk_simp
  rw [after0_12, outs]
  obtain ⟨j, rfl⟩ : ∃ (j : Fin 1024), y = ix2 0 j := ⟨y 1, by blk_ext⟩
  refine (step12 (mem m c) c t ((flush0_12 t).mp hf) j).trans ?_
  refine congrArg (out12 m c) (a₁ := ix2 0 j) ?_
  blk_ext [idx t]

theorem final13 : (dats m 0 c).arrAt 13 (cfgs 0).N = out13 m c := by
  refine (dats m 0 c).arrAt_eq_of_covers 13 _ (by decide +kernel) fun t hf y => ?_
  blk_simp
  rw [after0_13, outs]
  obtain ⟨j, rfl⟩ : ∃ (j : Fin 1024), y = ix2 0 j := ⟨y 1, by blk_ext⟩
  refine (step13 (mem m c) c t ((flush0_13 t).mp hf) j).trans ?_
  refine congrArg (out13 m c) (a₁ := ix2 0 j) ?_
  blk_ext [idx t]

end Cert.Kernel12Ideal.Up

namespace Cert.Reference12Ideal.Up
open Cert.Reference12Ideal Cert.Reference12Ideal.Gen Cert.Reference12Ideal.Read
open Cert.KernelIdeal.Up (take)
variable (a0 : FVec Ideal S16384x5632 .f32) (a1 a2 : FVec Ideal S16384x1024 .f32) (a3 a4 : FVec Ideal S1x1024 .f32)
  (a5 : FVec Ideal S1x1024x5632 .f32) (a6 : FVec Ideal S4x3x5632 .f32)

theorem taps_eq : val_main_v30 (F := Ideal) a6 = Cert.ReferenceIdeal.Read.val_main_v30 (F := Ideal) (take 2 a6) := by
  funext i
  obtain ⟨k, q, rfl⟩ : ∃ (k : Fin 3) (q : Fin 5632), i = ix2 k q := ⟨i 0, i 1, by blk_ext⟩
  pointwise [val_main_v30, val_main_v29, Cert.ReferenceIdeal.Read.val_main_v30, Cert.ReferenceIdeal.Read.val_main_v29]
  rfl

theorem dh_eq : val_main_v90 (F := Ideal) a0 a6 = Cert.ReferenceIdeal.Read.val_main_v90 (F := Ideal) a0 (take 2 a6) := by
  unfold val_main_v90 val_main_v88 val_main_v87 val_main_v77 val_main_v66 val_main_v76 val_main_v62 val_main_v71 val_main_v82
    val_main_v61 val_main_v70 val_main_v81 val_main_v52 val_main_v45 val_main_v37 val_main_v36 val_main_v44 val_main_v51
    val_main_v35 val_main_v43 val_main_v50
  rw [taps_eq]
  sl_kernel_rfl

theorem dh_eq' : val_main_v126 (F := Ideal) a0 a6 = Cert.ReferenceIdeal.Read.val_main_v126 (F := Ideal) a0 (take 2 a6) := by
  unfold val_main_v126
  rw [dh_eq]
  sl_kernel_rfl

theorem gdw_eq : val_main_v86 (F := Ideal) a0 a2 a3 a4 a5 = Cert.ReferenceIdeal.Read.val_main_v86 (F := Ideal) a0 a2 a3 a4 a5 := by
  sl_kernel_rfl

theorem dx_eq : val_main_v94 (F := Ideal) a0 a1 a5 a6 = Cert.ReferenceIdeal.Read.val_main_v94 (F := Ideal) a0 a1 a5 (take 2 a6) := by
  unfold val_main_v94 val_main_v91
  rw [dh_eq]
  sl_kernel_rfl

theorem gg_eq : val_main_v99 (F := Ideal) a0 a1 a2 a5 a6 = Cert.ReferenceIdeal.Read.val_main_v99 (F := Ideal) a0 a1 a2 a5 (take 2 a6) := by
  unfold val_main_v99 val_main_v98 val_main_v97
  rw [dx_eq]
  sl_kernel_rfl

theorem gb_eq : val_main_v96 (F := Ideal) a0 a1 a5 a6 = Cert.ReferenceIdeal.Read.val_main_v96 (F := Ideal) a0 a1 a5 (take 2 a6) := by
  unfold val_main_v96 val_main_v95
  rw [dx_eq]
  sl_kernel_rfl

theorem ct_eq : val_main_v101 (F := Ideal) a0 a1 a3 a5 a6 = Cert.ReferenceIdeal.Read.val_main_v101 (F := Ideal) a0 a1 a3 a5 (take 2 a6) := by
  unfold val_main_v101
  rw [dx_eq]
  sl_kernel_rfl

theorem dr_eq :
    val_main_v125 (F := Ideal) a0 a1 a2 a3 a5 a6 = Cert.ReferenceIdeal.Read.val_main_v125 (F := Ideal) a0 a1 a2 a3 a5 (take 2 a6) := by
  unfold val_main_v125 val_main_v124 val_main_v123 val_main_v122 val_main_v121 val_main_v120 val_main_v119 val_main_v118 val_main_v117 val_main_v116
    val_main_v115 val_main_v114 val_main_v113 val_main_v112 val_main_v111 val_main_v110 val_main_v109 val_main_v108 val_main_v107 val_main_v106
    val_main_v105 val_main_v104 val_main_v103 val_main_v102
  rw [ct_eq]
  sl_kernel_rfl

end Cert.Reference12Ideal.Up

namespace Cert.Up2
open Cert.Kernel12Ideal Cert.Kernel12Ideal.Up
open Cert.KernelIdeal.Up (moved_dr moved_dh moved_gdw moved_gg moved_gb)

theorem frame_ideal : Cert.quiescent_Kernel12Ideal := fun m ρ _ => Cert.Kernel12Ideal.Gen.frame m ρ
theorem frame_ideal_finite : Cert.quiescent_Kernel12Ideal_pre_finite := fun m ρ _ => Cert.Kernel12Ideal.Gen.frame m ρ

theorem frame_reference : Cert.quiescent_Reference12Ideal := fun m ρ _ =>
  (θ_run Cert.Reference12Ideal.defs _ _).mono (fun r h => ⟨fun c => (h c).2.2.2.2.2,
    Idealize.ShloMosaic.sem_eq_zero_of_no_sems (by decide) r.2⟩) (Cert.Reference12Ideal.Value.run (F := Ideal) m ρ)
theorem frame_reference_finite : Cert.quiescent_Reference12Ideal_pre_finite := fun m ρ _ => frame_reference m ρ trivial

theorem algebraic : Cert.algebraic_Kernel12Ideal_Reference12Ideal_pre_finite := by
  intro m g m' g' hpre hagree
  have hp : Cert.Pre_KernelIdeal_finite m := hpre
  refine ⟨out9 m, out10 m, out11 m, out12 m, out13 m, ?_, ?_⟩
  · refine (θ_run Cert.Kernel12Ideal.defs _ _).mono (fun r h c => ?_) (Cert.Kernel12Ideal.Value.run_blocks (F := Ideal) m g)
    obtain ⟨h0, h1, h2, h3, h4, hk⟩ := h c
    exact ⟨h0.trans (final9 m c), h1.trans (final10 m c), h2.trans (final11 m c), h3.trans (final12 m c), h4.trans (final13 m c), hk⟩
  · refine (θ_run Cert.Reference12Ideal.defs _ _).mono (fun r h c => ?_) (Cert.Reference12Ideal.Value.run (F := Ideal) m' g')
    obtain ⟨h0, h1, h2, h3, h4, hk⟩ := h c
    obtain ⟨a0, a1, a2, a3, a4, a5, a6⟩ := hagree c
    have e0 := (h0.trans (Cert.Reference12Ideal.Read.val_main_v125_eq m' c))
    have e1 := (h1.trans (Cert.Reference12Ideal.Read.val_main_v126_eq _ _))
    have e2 := (h2.trans (Cert.Reference12Ideal.Read.val_main_v86_eq m' c))
    have e3 := (h3.trans (Cert.Reference12Ideal.Read.val_main_v99_eq _ _ _ _ _))
    have e4 := (h4.trans (Cert.Reference12Ideal.Read.val_main_v96_eq _ _ _ _))
    rw [a0, a1, a2, a3, a5, a6, Cert.Reference12Ideal.Up.dr_eq] at e0
    rw [a0, a6, Cert.Reference12Ideal.Up.dh_eq'] at e1
    rw [a0, a2, a3, a4, a5, Cert.Reference12Ideal.Up.gdw_eq] at e2
    rw [a0, a1, a2, a5, a6, Cert.Reference12Ideal.Up.gg_eq] at e3
    rw [a0, a1, a5, a6, Cert.Reference12Ideal.Up.gb_eq] at e4
    exact ⟨e0.trans (moved_dr 2 m c hp), e1.trans (moved_dh 2 m c), e2.trans (moved_gdw 2 m c), e3.trans (moved_gg 2 m c),
      e4.trans (moved_gb 2 m c), hk⟩

end Cert.Up2
end
-- ==== Proof.Mixer0.lean ====
module

public import proofs.«01_k».proof.Defs
public import proofs.«01_k».proof.Proof.Gen.Kernel13
public import proofs.«01_k».proof.Proof.Gen.Kernel13Ideal.Value
import all proofs.«01_k».proof.Proof.Gen.Kernel13Ideal.Frame
public import proofs.«01_k».proof.Proof.Gen.Reference13Ideal.Read
public import proofs.«01_k».proof.Proof.Gen.Reference13Ideal.Run
public import Idealize.ShloMosaic.Lib.Pipeline.ValueKit
public import Idealize.ShloMosaic.Lib.Pointwise
public import Idealize.ShloMosaic.Lib.Claim

/-! The gradient of the first mixer's input (the Conformer convolution of layer 0): as in `Mixer`, with the first of the two
    input projections. -/

@[expose] public section

set_option maxRecDepth 16384

noncomputable section
open Idealize.ShloMosaic Idealize.ShloMosaic.TcCoe Idealize.SL.Sem
open Idealize.ShloMosaic.Pipeline (Dat)
namespace Cert.Kernel13Ideal.Mixer
open Cert.Kernel13Ideal Cert.Kernel13Ideal.Gen
variable (m : (ℓ : Loc nD τ sig) → Buf (Elt Ideal) ℓ) (c : Dev nD)

/-- The argument arrays, typed. -/
abbrev A0 : FVec Ideal S16384x2048 .f32 := m ((c : Thread nD τ).loc main_arg0)
abbrev A1 : FVec Ideal S16384x1024 .f32 := m ((c : Thread nD τ).loc main_arg1)
abbrev A2 : FVec Ideal S2x1024x2048 .f32 := m ((c : Thread nD τ).loc main_arg2)

/-- The residual's scale, as both programs hold it. -/
abbrev alpha : EReal := FloatOps.ofBits (F := Ideal) .f32 0x3FD744FD#32

def res : FVec Ideal S16384x1024 .f32 := fun i =>
  alpha * A1 m c i + ∑ q : Fin 2048, A0 m c (ix2 (i 0) q) * A2 m c (ix3 0 (i 1) q)

theorem V0_apply (t : Fin 16384) (q : Fin 2048) : (V m c main_v0 : FVec Ideal S16384x2048 .bf16) (ix2 t q) = A0 m c (ix2 t q) := by
  entry_read
  pointwise

theorem V1_apply (k : Fin 1024) (q : Fin 2048) : (V m c main_v1 : FVec Ideal S2x1024x2048 .bf16) (ix3 0 k q) = A2 m c (ix3 0 k q) := by
  entry_read
  pointwise

theorem idx : ∀ t : Fin cfg0.N, win0_0.index t = ![t.val, 0] ∧ win0_1.index t = ![t.val, 0] ∧ win0_2.index t = ![0, 0, 0]
    ∧ win0_3.index t = ![t.val, 0] ∧ t.val < 32 :=
  (by decide +kernel : ∀ t : Fin grid0.N, _)

/-- The row of the arrays at row `r` of point `t`'s block. -/
abbrev row (t : Fin cfg0.N) (r : Fin 512) : Fin 16384 := ⟨512 * t.val + r.val, by have := (idx t).2.2.2.2; omega⟩

variable (t : Fin cfg0.N)

theorem i0 (r : Fin 512) (q : Fin 2048) : (iblk m c 0 t : Vec Ideal S512x2048 .bf16) (ix2 r q) = A0 m c (ix2 (row t r) q) := by
  refine Eq.trans ?_ (V0_apply m c (row t r) q)
  blk_simp [iblk]
  refine congrArg (V m c main_v0) ?_
  blk_ext [idx t]

theorem i1 (r : Fin 512) (k : Fin 1024) : (iblk m c 1 t : Vec Ideal S512x1024 .f32) (ix2 r k) = A1 m c (ix2 (row t r) k) := by
  blk_ext [iblk, V, idx t]

theorem i2 (k : Fin 1024) (q : Fin 2048) : (iblk m c 2 t : Vec Ideal S1x1024x2048 .bf16) (ix3 0 k q) = A2 m c (ix3 0 k q) := by
  refine Eq.trans ?_ (V1_apply m c k q)
  blk_simp [iblk]
  refine congrArg (V m c main_v1) ?_
  blk_ext [idx t]

/-- What one block of rows comes to. -/
theorem block_apply (r : Fin 512) (k : Fin 1024) :
    k0_pay1 (F := Ideal) (iblk m c 1 t) (iblk m c 0 t) (iblk m c 2 t) (ix2 r k) = res m c (ix2 (row t r) k) := by
  have h0 := i0 m c t
  have h1 := i1 m c t
  have h2 := i2 m c t
  pointwise [k0_pay1]
  simp only [h0, h1, h2]
  rfl

theorem final : (dats m 0 c).arrAt 3 (cfgs 0).N = res m c := by
  refine (dats m 0 c).arrAt_eq_of_covers 3 _ (by decide +kernel) fun t hf y => ?_
  blk_simp
  obtain ⟨r, k, rfl⟩ : ∃ (r : Fin 512) (k : Fin 1024), y = ix2 r k := ⟨y 0, y 1, by blk_ext⟩
  rw [after0_3]
  have e : out0_3 (iblk m c 0 t) (iblk m c 1 t) (iblk m c 2 t) = k0_pay1 (F := Ideal) (iblk m c 1 t) (iblk m c 0 t) (iblk m c 2 t) := by
    frame_out
  refine (congrFun e (ix2 r k)).trans ((block_apply m c t r k).trans (congrArg (res m c) (a₁ := ix2 (row t r) k) ?_))
  blk_ext [idx t]

end Cert.Kernel13Ideal.Mixer

namespace Cert.Mixer0

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2,
    Idealize.ShloMosaic.sem_eq_zero_of_no_sems (by decide) r.2⟩) (Cert.Reference13Ideal.Value.run (F := Ideal) m ρ)

section
open Cert.Kernel13Ideal Cert.Kernel13Ideal.Mixer
variable (m : (ℓ : Loc nD τ sig) → Buf (Elt Ideal) ℓ) (c : Dev nD)
open Cert.Reference13Ideal.Read in
theorem ref_eq : val_main_v9 (F := Ideal) (A0 m c) (A1 m c) (A2 m c) = res m c := by
  funext i
  obtain ⟨t, k, rfl⟩ : ∃ (t : Fin 16384) (k : Fin 1024), i = ix2 t k := ⟨i 0, i 1, by blk_ext⟩
  pointwise [val_main_v9, val_main_v8, val_main_v7, val_main_v6, val_main_v2, val_main_v1, val_main_cst_0]
  rfl
end

theorem algebraic : Cert.algebraic_Kernel13Ideal_Reference13Ideal := by
  intro m g m' g' hpre hagree
  refine ⟨Cert.Kernel13Ideal.Mixer.res m, ?_, ?_⟩
  · refine (θ_run Cert.Kernel13Ideal.defs _ _).mono (fun r h c => ?_) (Cert.Kernel13Ideal.Value.run_blocks (F := Ideal) m g)
    obtain ⟨h0, hk⟩ := h c
    exact ⟨h0.trans (Cert.Kernel13Ideal.Mixer.final m c), hk⟩
  · refine (θ_run Cert.Reference13Ideal.defs _ _).mono (fun r h c => ?_) (Cert.Reference13Ideal.Value.run (F := Ideal) m' g')
    obtain ⟨h0, hk⟩ := h c
    obtain ⟨a0, a1, a2⟩ := hagree c
    have e0 := (h0.trans (Cert.Reference13Ideal.Read.val_main_v9_eq _ _ _))
    rw [a0, a1, a2] at e0
    exact ⟨e0.trans (ref_eq m c), hk⟩

end Cert.Mixer0
end
-- ==== Proof.Mixer1.lean ====
module

public import proofs.«01_k».proof.Defs
public import proofs.«01_k».proof.Proof.Gen.Kernel14
public import proofs.«01_k».proof.Proof.Gen.Kernel14Ideal.Value
import all proofs.«01_k».proof.Proof.Gen.Kernel14Ideal.Frame
public import proofs.«01_k».proof.Proof.Gen.Reference14Ideal.Read
public import proofs.«01_k».proof.Proof.Gen.Reference14Ideal.Run
public import Idealize.ShloMosaic.Lib.Pipeline.ValueKit
public import Idealize.ShloMosaic.Lib.Pointwise
public import Idealize.ShloMosaic.Lib.Claim

/-! The gradient of the second mixer's input (the spatial gating unit): as in `Mixer`, with the one input projection of its
    kind. -/

@[expose] public section

set_option maxRecDepth 16384

noncomputable section
open Idealize.ShloMosaic Idealize.ShloMosaic.TcCoe Idealize.SL.Sem
open Idealize.ShloMosaic.Pipeline (Dat)
namespace Cert.Kernel14Ideal.Mixer
open Cert.Kernel14Ideal Cert.Kernel14Ideal.Gen
variable (m : (ℓ : Loc nD τ sig) → Buf (Elt Ideal) ℓ) (c : Dev nD)

/-- The argument arrays, typed. -/
abbrev A0 : FVec Ideal S16384x2048 .f32 := m ((c : Thread nD τ).loc main_arg0)
abbrev A1 : FVec Ideal S16384x1024 .f32 := m ((c : Thread nD τ).loc main_arg1)
abbrev A2 : FVec Ideal S1x1024x2048 .f32 := m ((c : Thread nD τ).loc main_arg2)

/-- The residual's scale, as both programs hold it. -/
abbrev alpha : EReal := FloatOps.ofBits (F := Ideal) .f32 0x3FD744FD#32

def res : FVec Ideal S16384x1024 .f32 := fun i =>
  alpha * A1 m c i + ∑ q : Fin 2048, A0 m c (ix2 (i 0) q) * A2 m c (ix3 0 (i 1) q)

theorem V0_apply (t : Fin 16384) (q : Fin 2048) : (V m c main_v0 : FVec Ideal S16384x2048 .bf16) (ix2 t q) = A0 m c (ix2 t q) := by
  entry_read
  pointwise

theorem V1_apply (k : Fin 1024) (q : Fin 2048) : (V m c main_v1 : FVec Ideal S1x1024x2048 .bf16) (ix3 0 k q) = A2 m c (ix3 0 k q) := by
  entry_read
  pointwise

theorem idx : ∀ t : Fin cfg0.N, win0_0.index t = ![t.val, 0] ∧ win0_1.index t = ![t.val, 0] ∧ win0_2.index t = ![0, 0, 0]
    ∧ win0_3.index t = ![t.val, 0] ∧ t.val < 32 :=
  (by decide +kernel : ∀ t : Fin grid0.N, _)

/-- The row of the arrays at row `r` of point `t`'s block. -/
abbrev row (t : Fin cfg0.N) (r : Fin 512) : Fin 16384 := ⟨512 * t.val + r.val, by have := (idx t).2.2.2.2; omega⟩

variable (t : Fin cfg0.N)

theorem i0 (r : Fin 512) (q : Fin 2048) : (iblk m c 0 t : Vec Ideal S512x2048 .bf16) (ix2 r q) = A0 m c (ix2 (row t r) q) := by
  refine Eq.trans ?_ (V0_apply m c (row t r) q)
  blk_simp [iblk]
  refine congrArg (V m c main_v0) ?_
  blk_ext [idx t]

theorem i1 (r : Fin 512) (k : Fin 1024) : (iblk m c 1 t : Vec Ideal S512x1024 .f32) (ix2 r k) = A1 m c (ix2 (row t r) k) := by
  blk_ext [iblk, V, idx t]

theorem i2 (k : Fin 1024) (q : Fin 2048) : (iblk m c 2 t : Vec Ideal S1x1024x2048 .bf16) (ix3 0 k q) = A2 m c (ix3 0 k q) := by
  refine Eq.trans ?_ (V1_apply m c k q)
  blk_simp [iblk]
  refine congrArg (V m c main_v1) ?_
  blk_ext [idx t]

/-- What one block of rows comes to. -/
theorem block_apply (r : Fin 512) (k : Fin 1024) :
    k0_pay1 (F := Ideal) (iblk m c 1 t) (iblk m c 0 t) (iblk m c 2 t) (ix2 r k) = res m c (ix2 (row t r) k) := by
  have h0 := i0 m c t
  have h1 := i1 m c t
  have h2 := i2 m c t
  pointwise [k0_pay1]
  simp only [h0, h1, h2]
  rfl

theorem final : (dats m 0 c).arrAt 3 (cfgs 0).N = res m c := by
  refine (dats m 0 c).arrAt_eq_of_covers 3 _ (by decide +kernel) fun t hf y => ?_
  blk_simp
  obtain ⟨r, k, rfl⟩ : ∃ (r : Fin 512) (k : Fin 1024), y = ix2 r k := ⟨y 0, y 1, by blk_ext⟩
  rw [after0_3]
  have e : out0_3 (iblk m c 0 t) (iblk m c 1 t) (iblk m c 2 t) = k0_pay1 (F := Ideal) (iblk m c 1 t) (iblk m c 0 t) (iblk m c 2 t) := by
    frame_out
  refine (congrFun e (ix2 r k)).trans ((block_apply m c t r k).trans (congrArg (res m c) (a₁ := ix2 (row t r) k) ?_))
  blk_ext [idx t]

end Cert.Kernel14Ideal.Mixer

namespace Cert.Mixer1

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2,
    Idealize.ShloMosaic.sem_eq_zero_of_no_sems (by decide) r.2⟩) (Cert.Reference14Ideal.Value.run (F := Ideal) m ρ)

section
open Cert.Kernel14Ideal Cert.Kernel14Ideal.Mixer
variable (m : (ℓ : Loc nD τ sig) → Buf (Elt Ideal) ℓ) (c : Dev nD)
open Cert.Reference14Ideal.Read in
theorem ref_eq : val_main_v8 (F := Ideal) (A0 m c) (A1 m c) (A2 m c) = res m c := by
  funext i
  obtain ⟨t, k, rfl⟩ : ∃ (t : Fin 16384) (k : Fin 1024), i = ix2 t k := ⟨i 0, i 1, by blk_ext⟩
  pointwise [val_main_v8, val_main_v7, val_main_v6, val_main_v5, val_main_v1, val_main_cst_0]
  rfl
end

theorem algebraic : Cert.algebraic_Kernel14Ideal_Reference14Ideal := by
  intro m g m' g' hpre hagree
  refine ⟨Cert.Kernel14Ideal.Mixer.res m, ?_, ?_⟩
  · refine (θ_run Cert.Kernel14Ideal.defs _ _).mono (fun r h c => ?_) (Cert.Kernel14Ideal.Value.run_blocks (F := Ideal) m g)
    obtain ⟨h0, hk⟩ := h c
    exact ⟨h0.trans (Cert.Kernel14Ideal.Mixer.final m c), hk⟩
  · refine (θ_run Cert.Reference14Ideal.defs _ _).mono (fun r h c => ?_) (Cert.Reference14Ideal.Value.run (F := Ideal) m' g')
    obtain ⟨h0, hk⟩ := h c
    obtain ⟨a0, a1, a2⟩ := hagree c
    have e0 := (h0.trans (Cert.Reference14Ideal.Read.val_main_v8_eq _ _ _))
    rw [a0, a1, a2] at e0
    exact ⟨e0.trans (ref_eq m c), hk⟩

end Cert.Mixer1
end
-- ==== Proof.Mixer2.lean ====
module

public import proofs.«01_k».proof.Defs
public import proofs.«01_k».proof.Proof.Gen.Kernel15
public import proofs.«01_k».proof.Proof.Gen.Kernel15Ideal.Value
import all proofs.«01_k».proof.Proof.Gen.Kernel15Ideal.Frame
public import proofs.«01_k».proof.Proof.Gen.Reference15Ideal.Read
public import proofs.«01_k».proof.Proof.Gen.Reference15Ideal.Run
public import Idealize.ShloMosaic.Lib.Pipeline.ValueKit
public import Idealize.ShloMosaic.Lib.Pointwise
public import Idealize.ShloMosaic.Lib.Claim

/-! The gradient of the third mixer's input (the multi-scale pooling): as in `Mixer`, with the one input projection of its
    kind, which is square. -/

@[expose] public section

set_option maxRecDepth 16384

noncomputable section
open Idealize.ShloMosaic Idealize.ShloMosaic.TcCoe Idealize.SL.Sem
open Idealize.ShloMosaic.Pipeline (Dat)
namespace Cert.Kernel15Ideal.Mixer
open Cert.Kernel15Ideal Cert.Kernel15Ideal.Gen
variable (m : (ℓ : Loc nD τ sig) → Buf (Elt Ideal) ℓ) (c : Dev nD)

/-- The argument arrays, typed. -/
abbrev A0 : FVec Ideal S16384x1024 .f32 := m ((c : Thread nD τ).loc main_arg0)
abbrev A1 : FVec Ideal S16384x1024 .f32 := m ((c : Thread nD τ).loc main_arg1)
abbrev A2 : FVec Ideal S1x1024x1024 .f32 := m ((c : Thread nD τ).loc main_arg2)

/-- The residual's scale, as both programs hold it. -/
abbrev alpha : EReal := FloatOps.ofBits (F := Ideal) .f32 0x3FD744FD#32

def res : FVec Ideal S16384x1024 .f32 := fun i =>
  alpha * A1 m c i + ∑ q : Fin 1024, A0 m c (ix2 (i 0) q) * A2 m c (ix3 0 (i 1) q)

theorem V0_apply (t : Fin 16384) (q : Fin 1024) : (V m c main_v0 : FVec Ideal S16384x1024 .bf16) (ix2 t q) = A0 m c (ix2 t q) := by
  entry_read
  pointwise

theorem V1_apply (k : Fin 1024) (q : Fin 1024) : (V m c main_v1 : FVec Ideal S1x1024x1024 .bf16) (ix3 0 k q) = A2 m c (ix3 0 k q) := by
  entry_read
  pointwise

theorem idx : ∀ t : Fin cfg0.N, win0_0.index t = ![t.val, 0] ∧ win0_1.index t = ![t.val, 0] ∧ win0_2.index t = ![0, 0, 0]
    ∧ win0_3.index t = ![t.val, 0] ∧ t.val < 32 :=
  (by decide +kernel : ∀ t : Fin grid0.N, _)

/-- The row of the arrays at row `r` of point `t`'s block. -/
abbrev row (t : Fin cfg0.N) (r : Fin 512) : Fin 16384 := ⟨512 * t.val + r.val, by have := (idx t).2.2.2.2; omega⟩

variable (t : Fin cfg0.N)

theorem i0 (r : Fin 512) (q : Fin 1024) : (iblk m c 0 t : Vec Ideal S512x1024 .bf16) (ix2 r q) = A0 m c (ix2 (row t r) q) := by
  refine Eq.trans ?_ (V0_apply m c (row t r) q)
  blk_simp [iblk]
  refine congrArg (V m c main_v0) ?_
  blk_ext [idx t]

theorem i1 (r : Fin 512) (k : Fin 1024) : (iblk m c 1 t : Vec Ideal S512x1024 .f32) (ix2 r k) = A1 m c (ix2 (row t r) k) := by
  blk_ext [iblk, V, idx t]

theorem i2 (k : Fin 1024) (q : Fin 1024) : (iblk m c 2 t : Vec Ideal S1x1024x1024 .bf16) (ix3 0 k q) = A2 m c (ix3 0 k q) := by
  refine Eq.trans ?_ (V1_apply m c k q)
  blk_simp [iblk]
  refine congrArg (V m c main_v1) ?_
  blk_ext [idx t]

/-- What one block of rows comes to. -/
theorem block_apply (r : Fin 512) (k : Fin 1024) :
    k0_pay1 (F := Ideal) (iblk m c 1 t) (iblk m c 0 t) (iblk m c 2 t) (ix2 r k) = res m c (ix2 (row t r) k) := by
  have h0 := i0 m c t
  have h1 := i1 m c t
  have h2 := i2 m c t
  pointwise [k0_pay1]
  simp only [h0, h1, h2]
  rfl

theorem final : (dats m 0 c).arrAt 3 (cfgs 0).N = res m c := by
  refine (dats m 0 c).arrAt_eq_of_covers 3 _ (by decide +kernel) fun t hf y => ?_
  blk_simp
  obtain ⟨r, k, rfl⟩ : ∃ (r : Fin 512) (k : Fin 1024), y = ix2 r k := ⟨y 0, y 1, by blk_ext⟩
  rw [after0_3]
  have e : out0_3 (iblk m c 0 t) (iblk m c 1 t) (iblk m c 2 t) = k0_pay1 (F := Ideal) (iblk m c 1 t) (iblk m c 0 t) (iblk m c 2 t) := by
    frame_out
  refine (congrFun e (ix2 r k)).trans ((block_apply m c t r k).trans (congrArg (res m c) (a₁ := ix2 (row t r) k) ?_))
  blk_ext [idx t]

end Cert.Kernel15Ideal.Mixer

namespace Cert.Mixer2

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2,
    Idealize.ShloMosaic.sem_eq_zero_of_no_sems (by decide) r.2⟩) (Cert.Reference15Ideal.Value.run (F := Ideal) m ρ)

section
open Cert.Kernel15Ideal Cert.Kernel15Ideal.Mixer
variable (m : (ℓ : Loc nD τ sig) → Buf (Elt Ideal) ℓ) (c : Dev nD)
open Cert.Reference15Ideal.Read in
theorem ref_eq : val_main_v8 (F := Ideal) (A0 m c) (A1 m c) (A2 m c) = res m c := by
  funext i
  obtain ⟨t, k, rfl⟩ : ∃ (t : Fin 16384) (k : Fin 1024), i = ix2 t k := ⟨i 0, i 1, by blk_ext⟩
  pointwise [val_main_v8, val_main_v7, val_main_v6, val_main_v5, val_main_v1, val_main_cst_0]
  rfl
end

theorem algebraic : Cert.algebraic_Kernel15Ideal_Reference15Ideal := by
  intro m g m' g' hpre hagree
  refine ⟨Cert.Kernel15Ideal.Mixer.res m, ?_, ?_⟩
  · refine (θ_run Cert.Kernel15Ideal.defs _ _).mono (fun r h c => ?_) (Cert.Kernel15Ideal.Value.run_blocks (F := Ideal) m g)
    obtain ⟨h0, hk⟩ := h c
    exact ⟨h0.trans (Cert.Kernel15Ideal.Mixer.final m c), hk⟩
  · refine (θ_run Cert.Reference15Ideal.defs _ _).mono (fun r h c => ?_) (Cert.Reference15Ideal.Value.run (F := Ideal) m' g')
    obtain ⟨h0, hk⟩ := h c
    obtain ⟨a0, a1, a2⟩ := hagree c
    have e0 := (h0.trans (Cert.Reference15Ideal.Read.val_main_v8_eq _ _ _))
    rw [a0, a1, a2] at e0
    exact ⟨e0.trans (ref_eq m c), hk⟩

end Cert.Mixer2
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite2
public import proofs.«01_k».proof.Proof.UpClaim
public import proofs.«01_k».proof.Proof.DownClaim
public import proofs.«01_k».proof.Proof.Grad
public import proofs.«01_k».proof.Proof.MlpClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.StackRun
public import proofs.«01_k».proof.Proof.Mixer
public import proofs.«01_k».proof.Proof.MlpLayer0
public import proofs.«01_k».proof.Proof.MlpLayer1
public import proofs.«01_k».proof.Proof.MlpLayer2
public import proofs.«01_k».proof.Proof.UpLayer0
public import proofs.«01_k».proof.Proof.UpLayer1
public import proofs.«01_k».proof.Proof.UpLayer2
public import proofs.«01_k».proof.Proof.Mixer0
public import proofs.«01_k».proof.Proof.Mixer1
public import proofs.«01_k».proof.Proof.Mixer2
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite2.Gen.facts,
  fun m ρ _ => Cert.Kernel.Gen.frame m ρ, Cert.Up.frame_ideal, Cert.Up.frame_ideal_finite, Cert.Up.frame_reference,
  Cert.Up.frame_reference_finite,
  fun m ρ _ => Cert.Kernel2.Gen.frame m ρ, Cert.Down.frame_ideal, Cert.Down.frame_ideal_finite, Cert.Down.frame_reference,
  Cert.Down.frame_reference_finite,
  fun m ρ _ => Cert.Kernel3.Gen.frame m ρ, Cert.Grad.frame_ideal, Cert.Grad.frame_reference,
  fun m ρ _ => Cert.Kernel4.Gen.frame m ρ, Cert.Mlp.frame_ideal, Cert.Mlp.frame_reference,
  fun m ρ _ => Cert.Kernel5.Gen.frame m ρ, Cert.Stack.frame_ideal, Cert.Stack.frame_reference,
  fun m ρ _ => Cert.Kernel6.Gen.frame m ρ, Cert.Mixer.frame_ideal, Cert.Mixer.frame_reference,
  fun m ρ _ => Cert.Kernel7.Gen.frame m ρ, Cert.Mlp0.frame_ideal, Cert.Mlp0.frame_reference,
  fun m ρ _ => Cert.Kernel8.Gen.frame m ρ, Cert.Mlp1.frame_ideal, Cert.Mlp1.frame_reference,
  fun m ρ _ => Cert.Kernel9.Gen.frame m ρ, Cert.Mlp2.frame_ideal, Cert.Mlp2.frame_reference,
  fun m ρ _ => Cert.Kernel10.Gen.frame m ρ, Cert.Up0.frame_ideal, Cert.Up0.frame_ideal_finite, Cert.Up0.frame_reference,
  Cert.Up0.frame_reference_finite,
  fun m ρ _ => Cert.Kernel11.Gen.frame m ρ, Cert.Up1.frame_ideal, Cert.Up1.frame_ideal_finite, Cert.Up1.frame_reference,
  Cert.Up1.frame_reference_finite,
  fun m ρ _ => Cert.Kernel12.Gen.frame m ρ, Cert.Up2.frame_ideal, Cert.Up2.frame_ideal_finite, Cert.Up2.frame_reference,
  Cert.Up2.frame_reference_finite,
  fun m ρ _ => Cert.Kernel13.Gen.frame m ρ, Cert.Mixer0.frame_ideal, Cert.Mixer0.frame_reference,
  fun m ρ _ => Cert.Kernel14.Gen.frame m ρ, Cert.Mixer1.frame_ideal, Cert.Mixer1.frame_reference,
  fun m ρ _ => Cert.Kernel15.Gen.frame m ρ, Cert.Mixer2.frame_ideal, Cert.Mixer2.frame_reference,
  trivial, Cert.Up.algebraic, trivial, Cert.Down.algebraic, trivial, Cert.Grad.algebraic,
  trivial, Cert.Mlp.algebraic, trivial, Cert.Stack.algebraic, trivial, Cert.Mixer.algebraic,
  trivial, Cert.Mlp0.algebraic, trivial, Cert.Mlp1.algebraic, trivial, Cert.Mlp2.algebraic,
  trivial, Cert.Up0.algebraic, trivial, Cert.Up1.algebraic, trivial, Cert.Up2.algebraic,
  trivial, Cert.Mixer0.algebraic, trivial, Cert.Mixer1.algebraic, trivial, Cert.Mixer2.algebraic⟩

end Cert.Proof

end
